-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleReferenceIdeal (m : (ℓ : Loc Cert.MlpSampleReferenceIdeal.nD Cert.MlpSampleReferenceIdeal.τ Cert.MlpSampleReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_KeysSample (m : (ℓ : Loc Cert.KeysSample.nD Cert.KeysSample.τ Cert.KeysSample.sig) → Buf (Elt Bits) ℓ) : Prop :=
  True

def Pre_KeysSampleIdeal (m : (ℓ : Loc Cert.KeysSampleIdeal.nD Cert.KeysSampleIdeal.τ Cert.KeysSampleIdeal.sig) → Buf (Elt Ideal) ℓ) : Prop :=
  True

def Pre_KeysSampleReferenceIdeal (m : (ℓ : Loc Cert.KeysSampleReferenceIdeal.nD Cert.KeysSampleReferenceIdeal.τ Cert.KeysSampleReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_ValuesSample (m : (ℓ : Loc Cert.ValuesSample.nD Cert.ValuesSample.τ Cert.ValuesSample.sig) → Buf (Elt Bits) ℓ) : Prop :=
  True

def Pre_ValuesSampleIdeal (m : (ℓ : Loc Cert.ValuesSampleIdeal.nD Cert.ValuesSampleIdeal.τ Cert.ValuesSampleIdeal.sig) → Buf (Elt Ideal) ℓ) : Prop :=
  True

def Pre_ValuesSampleReferenceIdeal (m : (ℓ : Loc Cert.ValuesSampleReferenceIdeal.nD Cert.ValuesSampleReferenceIdeal.τ Cert.ValuesSampleReferenceIdeal.sig) → Buf (Elt Ideal) ℓ) : Prop :=
  True

def Pre_HeadWeights (m : (ℓ : Loc Cert.HeadWeights.nD Cert.HeadWeights.τ Cert.HeadWeights.sig) → Buf (Elt Bits) ℓ) : Prop :=
  True

def Pre_HeadWeightsIdeal (m : (ℓ : Loc Cert.HeadWeightsIdeal.nD Cert.HeadWeightsIdeal.τ Cert.HeadWeightsIdeal.sig) → Buf (Elt Ideal) ℓ) : Prop :=
  True

def Pre_HeadWeightsReferenceIdeal (m : (ℓ : Loc Cert.HeadWeightsReferenceIdeal.nD Cert.HeadWeightsReferenceIdeal.τ Cert.HeadWeightsReferenceIdeal.sig) → Buf (Elt Ideal) ℓ) : Prop :=
  True

def Pre_HgrnSample (m : (ℓ : Loc Cert.HgrnSample.nD Cert.HgrnSample.τ Cert.HgrnSample.sig) → Buf (Elt Bits) ℓ) : Prop :=
  True

def Pre_HgrnSampleIdeal (m : (ℓ : Loc Cert.HgrnSampleIdeal.nD Cert.HgrnSampleIdeal.τ Cert.HgrnSampleIdeal.sig) → Buf (Elt Ideal) ℓ) : Prop :=
  True

def Pre_HgrnSampleIdeal_logarithms_below [hPre_logarithms_below : Cert.Pre_logarithms_below.Facts] (m : (ℓ : Loc Cert.HgrnSampleIdeal.nD Cert.HgrnSampleIdeal.τ Cert.HgrnSampleIdeal.sig) → Buf (Elt Ideal) ℓ) : Prop :=
  ∀ c : Dev Cert.HgrnSampleIdeal.nD,
    (Cert.Pre_logarithms_below.fn (F := Ideal) (m ((c.tc : Thread Cert.HgrnSampleIdeal.nD Cert.HgrnSampleIdeal.τ).loc Cert.HgrnSampleIdeal.main_arg0)) (m ((c.tc : Thread Cert.HgrnSampleIdeal.nD Cert.HgrnSampleIdeal.τ).loc Cert.HgrnSampleIdeal.main_arg1)) (m ((c.tc : Thread Cert.HgrnSampleIdeal.nD Cert.HgrnSampleIdeal.τ).loc Cert.HgrnSampleIdeal.main_arg2)) (m ((c.tc : Thread Cert.HgrnSampleIdeal.nD Cert.HgrnSampleIdeal.τ).loc Cert.HgrnSampleIdeal.main_arg3)) (m ((c.tc : Thread Cert.HgrnSampleIdeal.nD Cert.HgrnSampleIdeal.τ).loc Cert.HgrnSampleIdeal.main_arg4)) (m ((c.tc : Thread Cert.HgrnSampleIdeal.nD Cert.HgrnSampleIdeal.τ).loc Cert.HgrnSampleIdeal.main_arg5)) (m ((c.tc : Thread Cert.HgrnSampleIdeal.nD Cert.HgrnSampleIdeal.τ).loc Cert.HgrnSampleIdeal.main_arg6))) = (fun _ => 1#1)

def Pre_HgrnSampleReferenceIdeal (m : (ℓ : Loc Cert.HgrnSampleReferenceIdeal.nD Cert.HgrnSampleReferenceIdeal.τ Cert.HgrnSampleReferenceIdeal.sig) → Buf (Elt Ideal) ℓ) : Prop :=
  True

def Pre_HgrnSampleReferenceIdeal_logarithms_below [hPre_logarithms_below : Cert.Pre_logarithms_below.Facts] (m : (ℓ : Loc Cert.HgrnSampleReferenceIdeal.nD Cert.HgrnSampleReferenceIdeal.τ Cert.HgrnSampleReferenceIdeal.sig) → Buf (Elt Ideal) ℓ) : Prop :=
  ∀ c : Dev Cert.HgrnSampleReferenceIdeal.nD,
    (Cert.Pre_logarithms_below.fn (F := Ideal) (m ((c.tc : Thread Cert.HgrnSampleReferenceIdeal.nD Cert.HgrnSampleReferenceIdeal.τ).loc Cert.HgrnSampleReferenceIdeal.main_arg0)) (m ((c.tc : Thread Cert.HgrnSampleReferenceIdeal.nD Cert.HgrnSampleReferenceIdeal.τ).loc Cert.HgrnSampleReferenceIdeal.main_arg1)) (m ((c.tc : Thread Cert.HgrnSampleReferenceIdeal.nD Cert.HgrnSampleReferenceIdeal.τ).loc Cert.HgrnSampleReferenceIdeal.main_arg2)) (m ((c.tc : Thread Cert.HgrnSampleReferenceIdeal.nD Cert.HgrnSampleReferenceIdeal.τ).loc Cert.HgrnSampleReferenceIdeal.main_arg3)) (m ((c.tc : Thread Cert.HgrnSampleReferenceIdeal.nD Cert.HgrnSampleReferenceIdeal.τ).loc Cert.HgrnSampleReferenceIdeal.main_arg4)) (m ((c.tc : Thread Cert.HgrnSampleReferenceIdeal.nD Cert.HgrnSampleReferenceIdeal.τ).loc Cert.HgrnSampleReferenceIdeal.main_arg5)) (m ((c.tc : Thread Cert.HgrnSampleReferenceIdeal.nD Cert.HgrnSampleReferenceIdeal.τ).loc Cert.HgrnSampleReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4)
      ∧ r.2.mem ((c.tc : Thread Cert.MlpSample.nD Cert.MlpSample.τ).loc Cert.MlpSample.main_arg5) = m ((c.tc : Thread Cert.MlpSample.nD Cert.MlpSample.τ).loc Cert.MlpSample.main_arg5))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
      ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5))
      ∧ r.2.sem = fun _ => 0)

def quiescent_MlpSampleReferenceIdeal [hMlpSampleReferenceIdeal : Cert.MlpSampleReferenceIdeal.Facts] : Prop :=
  ∀ (m : (ℓ : Loc Cert.MlpSampleReferenceIdeal.nD Cert.MlpSampleReferenceIdeal.τ Cert.MlpSampleReferenceIdeal.sig) → Buf (Elt Ideal) ℓ) (g : Dev Cert.MlpSampleReferenceIdeal.nD → PrngReg), Pre_MlpSampleReferenceIdeal m →
    θ_run (Cert.MlpSampleReferenceIdeal.defs (F := Ideal)) (onTc (τ := Cert.MlpSampleReferenceIdeal.τ) (Cert.MlpSampleReferenceIdeal.main (F := Ideal))) ⟨m, fun _ => 0, g⟩ (fun r => (∀ c : Dev Cert.MlpSampleReferenceIdeal.nD,
      r.2.mem ((c.tc : Thread Cert.MlpSampleReferenceIdeal.nD Cert.MlpSampleReferenceIdeal.τ).loc Cert.MlpSampleReferenceIdeal.main_arg0) = m ((c.tc : Thread Cert.MlpSampleReferenceIdeal.nD Cert.MlpSampleReferenceIdeal.τ).loc Cert.MlpSampleReferenceIdeal.main_arg0)
      ∧ r.2.mem ((c.tc : Thread Cert.MlpSampleReferenceIdeal.nD Cert.MlpSampleReferenceIdeal.τ).loc Cert.MlpSampleReferenceIdeal.main_arg1) = m ((c.tc : Thread Cert.MlpSampleReferenceIdeal.nD Cert.MlpSampleReferenceIdeal.τ).loc Cert.MlpSampleReferenceIdeal.main_arg1)
      ∧ r.2.mem ((c.tc : Thread Cert.MlpSampleReferenceIdeal.nD Cert.MlpSampleReferenceIdeal.τ).loc Cert.MlpSampleReferenceIdeal.main_arg2) = m ((c.tc : Thread Cert.MlpSampleReferenceIdeal.nD Cert.MlpSampleReferenceIdeal.τ).loc Cert.MlpSampleReferenceIdeal.main_arg2)
      ∧ r.2.mem ((c.tc : Thread Cert.MlpSampleReferenceIdeal.nD Cert.MlpSampleReferenceIdeal.τ).loc Cert.MlpSampleReferenceIdeal.main_arg3) = m ((c.tc : Thread Cert.MlpSampleReferenceIdeal.nD Cert.MlpSampleReferenceIdeal.τ).loc Cert.MlpSampleReferenceIdeal.main_arg3)
      ∧ r.2.mem ((c.tc : Thread Cert.MlpSampleReferenceIdeal.nD Cert.MlpSampleReferenceIdeal.τ).loc Cert.MlpSampleReferenceIdeal.main_arg4) = m ((c.tc : Thread Cert.MlpSampleReferenceIdeal.nD Cert.MlpSampleReferenceIdeal.τ).loc Cert.MlpSampleReferenceIdeal.main_arg4)
      ∧ r.2.mem ((c.tc : Thread Cert.MlpSampleReferenceIdeal.nD Cert.MlpSampleReferenceIdeal.τ).loc Cert.MlpSampleReferenceIdeal.main_arg5) = m ((c.tc : Thread Cert.MlpSampleReferenceIdeal.nD Cert.MlpSampleReferenceIdeal.τ).loc Cert.MlpSampleReferenceIdeal.main_arg5))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1))
      ∧ r.2.sem = fun _ => 0)

def quiescent_KeysSample [hKeysSample : Cert.KeysSample.Facts] : Prop :=
  ∀ (m : (ℓ : Loc Cert.KeysSample.nD Cert.KeysSample.τ Cert.KeysSample.sig) → Buf (Elt Bits) ℓ) (g : Dev Cert.KeysSample.nD → PrngReg), Pre_KeysSample m →
    θ_run (Cert.KeysSample.defs (F := Bits)) (onTc (τ := Cert.KeysSample.τ) (Cert.KeysSample.main (F := Bits))) ⟨m, fun _ => 0, g⟩ (fun r => (∀ c : Dev Cert.KeysSample.nD,
      r.2.mem ((c.tc : Thread Cert.KeysSample.nD Cert.KeysSample.τ).loc Cert.KeysSample.main_arg0) = m ((c.tc : Thread Cert.KeysSample.nD Cert.KeysSample.τ).loc Cert.KeysSample.main_arg0)
      ∧ r.2.mem ((c.tc : Thread Cert.KeysSample.nD Cert.KeysSample.τ).loc Cert.KeysSample.main_arg1) = m ((c.tc : Thread Cert.KeysSample.nD Cert.KeysSample.τ).loc Cert.KeysSample.main_arg1))
      ∧ r.2.sem = fun _ => 0)

def quiescent_KeysSampleIdeal [hKeysSampleIdeal : Cert.KeysSampleIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg), Pre_KeysSampleIdeal m →
    θ_run (Cert.KeysSampleIdeal.defs (F := Ideal)) (onTc (τ := Cert.KeysSampleIdeal.τ) (Cert.KeysSampleIdeal.main (F := Ideal))) ⟨m, fun _ => 0, g⟩ (fun r => (∀ c : Dev Cert.KeysSampleIdeal.nD,
      r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
      ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1))
      ∧ r.2.sem = fun _ => 0)

def quiescent_KeysSampleReferenceIdeal [hKeysSampleReferenceIdeal : Cert.KeysSampleReferenceIdeal.Facts] : Prop :=
  ∀ (m : (ℓ : Loc Cert.KeysSampleReferenceIdeal.nD Cert.KeysSampleReferenceIdeal.τ Cert.KeysSampleReferenceIdeal.sig) → Buf (Elt Ideal) ℓ) (g : Dev Cert.KeysSampleReferenceIdeal.nD → PrngReg), Pre_KeysSampleReferenceIdeal m →
    θ_run (Cert.KeysSampleReferenceIdeal.defs (F := Ideal)) (onTc (τ := Cert.KeysSampleReferenceIdeal.τ) (Cert.KeysSampleReferenceIdeal.main (F := Ideal))) ⟨m, fun _ => 0, g⟩ (fun r => (∀ c : Dev Cert.KeysSampleReferenceIdeal.nD,
      r.2.mem ((c.tc : Thread Cert.KeysSampleReferenceIdeal.nD Cert.KeysSampleReferenceIdeal.τ).loc Cert.KeysSampleReferenceIdeal.main_arg0) = m ((c.tc : Thread Cert.KeysSampleReferenceIdeal.nD Cert.KeysSampleReferenceIdeal.τ).loc Cert.KeysSampleReferenceIdeal.main_arg0)
      ∧ r.2.mem ((c.tc : Thread Cert.KeysSampleReferenceIdeal.nD Cert.KeysSampleReferenceIdeal.τ).loc Cert.KeysSampleReferenceIdeal.main_arg1) = m ((c.tc : Thread Cert.KeysSampleReferenceIdeal.nD Cert.KeysSampleReferenceIdeal.τ).loc Cert.KeysSampleReferenceIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1))
      ∧ r.2.sem = fun _ => 0)

def quiescent_ValuesSample [hValuesSample : Cert.ValuesSample.Facts] : Prop :=
  ∀ (m : (ℓ : Loc Cert.ValuesSample.nD Cert.ValuesSample.τ Cert.ValuesSample.sig) → Buf (Elt Bits) ℓ) (g : Dev Cert.ValuesSample.nD → PrngReg), Pre_ValuesSample m →
    θ_run (Cert.ValuesSample.defs (F := Bits)) (onTc (τ := Cert.ValuesSample.τ) (Cert.ValuesSample.main (F := Bits))) ⟨m, fun _ => 0, g⟩ (fun r => (∀ c : Dev Cert.ValuesSample.nD,
      r.2.mem ((c.tc : Thread Cert.ValuesSample.nD Cert.ValuesSample.τ).loc Cert.ValuesSample.main_arg0) = m ((c.tc : Thread Cert.ValuesSample.nD Cert.ValuesSample.τ).loc Cert.ValuesSample.main_arg0)
      ∧ r.2.mem ((c.tc : Thread Cert.ValuesSample.nD Cert.ValuesSample.τ).loc Cert.ValuesSample.main_arg1) = m ((c.tc : Thread Cert.ValuesSample.nD Cert.ValuesSample.τ).loc Cert.ValuesSample.main_arg1))
      ∧ r.2.sem = fun _ => 0)

def quiescent_ValuesSampleIdeal [hValuesSampleIdeal : Cert.ValuesSampleIdeal.Facts] : Prop :=
  ∀ (m : (ℓ : Loc Cert.ValuesSampleIdeal.nD Cert.ValuesSampleIdeal.τ Cert.ValuesSampleIdeal.sig) → Buf (Elt Ideal) ℓ) (g : Dev Cert.ValuesSampleIdeal.nD → PrngReg), Pre_ValuesSampleIdeal m →
    θ_run (Cert.ValuesSampleIdeal.defs (F := Ideal)) (onTc (τ := Cert.ValuesSampleIdeal.τ) (Cert.ValuesSampleIdeal.main (F := Ideal))) ⟨m, fun _ => 0, g⟩ (fun r => (∀ c : Dev Cert.ValuesSampleIdeal.nD,
      r.2.mem ((c.tc : Thread Cert.ValuesSampleIdeal.nD Cert.ValuesSampleIdeal.τ).loc Cert.ValuesSampleIdeal.main_arg0) = m ((c.tc : Thread Cert.ValuesSampleIdeal.nD Cert.ValuesSampleIdeal.τ).loc Cert.ValuesSampleIdeal.main_arg0)
      ∧ r.2.mem ((c.tc : Thread Cert.ValuesSampleIdeal.nD Cert.ValuesSampleIdeal.τ).loc Cert.ValuesSampleIdeal.main_arg1) = m ((c.tc : Thread Cert.ValuesSampleIdeal.nD Cert.ValuesSampleIdeal.τ).loc Cert.ValuesSampleIdeal.main_arg1))
      ∧ r.2.sem = fun _ => 0)

def quiescent_ValuesSampleReferenceIdeal [hValuesSampleReferenceIdeal : Cert.ValuesSampleReferenceIdeal.Facts] : Prop :=
  ∀ (m : (ℓ : Loc Cert.ValuesSampleReferenceIdeal.nD Cert.ValuesSampleReferenceIdeal.τ Cert.ValuesSampleReferenceIdeal.sig) → Buf (Elt Ideal) ℓ) (g : Dev Cert.ValuesSampleReferenceIdeal.nD → PrngReg), Pre_ValuesSampleReferenceIdeal m →
    θ_run (Cert.ValuesSampleReferenceIdeal.defs (F := Ideal)) (onTc (τ := Cert.ValuesSampleReferenceIdeal.τ) (Cert.ValuesSampleReferenceIdeal.main (F := Ideal))) ⟨m, fun _ => 0, g⟩ (fun r => (∀ c : Dev Cert.ValuesSampleReferenceIdeal.nD,
      r.2.mem ((c.tc : Thread Cert.ValuesSampleReferenceIdeal.nD Cert.ValuesSampleReferenceIdeal.τ).loc Cert.ValuesSampleReferenceIdeal.main_arg0) = m ((c.tc : Thread Cert.ValuesSampleReferenceIdeal.nD Cert.ValuesSampleReferenceIdeal.τ).loc Cert.ValuesSampleReferenceIdeal.main_arg0)
      ∧ r.2.mem ((c.tc : Thread Cert.ValuesSampleReferenceIdeal.nD Cert.ValuesSampleReferenceIdeal.τ).loc Cert.ValuesSampleReferenceIdeal.main_arg1) = m ((c.tc : Thread Cert.ValuesSampleReferenceIdeal.nD Cert.ValuesSampleReferenceIdeal.τ).loc Cert.ValuesSampleReferenceIdeal.main_arg1))
      ∧ r.2.sem = fun _ => 0)

def quiescent_HeadWeights [hHeadWeights : Cert.HeadWeights.Facts] : Prop :=
  ∀ (m : (ℓ : Loc Cert.HeadWeights.nD Cert.HeadWeights.τ Cert.HeadWeights.sig) → Buf (Elt Bits) ℓ) (g : Dev Cert.HeadWeights.nD → PrngReg), Pre_HeadWeights m →
    θ_run (Cert.HeadWeights.defs (F := Bits)) (onTc (τ := Cert.HeadWeights.τ) (Cert.HeadWeights.main (F := Bits))) ⟨m, fun _ => 0, g⟩ (fun r => (∀ c : Dev Cert.HeadWeights.nD,
      r.2.mem ((c.tc : Thread Cert.HeadWeights.nD Cert.HeadWeights.τ).loc Cert.HeadWeights.main_arg0) = m ((c.tc : Thread Cert.HeadWeights.nD Cert.HeadWeights.τ).loc Cert.HeadWeights.main_arg0)
      ∧ r.2.mem ((c.tc : Thread Cert.HeadWeights.nD Cert.HeadWeights.τ).loc Cert.HeadWeights.main_arg1) = m ((c.tc : Thread Cert.HeadWeights.nD Cert.HeadWeights.τ).loc Cert.HeadWeights.main_arg1))
      ∧ r.2.sem = fun _ => 0)

def quiescent_HeadWeightsIdeal [hHeadWeightsIdeal : Cert.HeadWeightsIdeal.Facts] : Prop :=
  ∀ (m : (ℓ : Loc Cert.HeadWeightsIdeal.nD Cert.HeadWeightsIdeal.τ Cert.HeadWeightsIdeal.sig) → Buf (Elt Ideal) ℓ) (g : Dev Cert.HeadWeightsIdeal.nD → PrngReg), Pre_HeadWeightsIdeal m →
    θ_run (Cert.HeadWeightsIdeal.defs (F := Ideal)) (onTc (τ := Cert.HeadWeightsIdeal.τ) (Cert.HeadWeightsIdeal.main (F := Ideal))) ⟨m, fun _ => 0, g⟩ (fun r => (∀ c : Dev Cert.HeadWeightsIdeal.nD,
      r.2.mem ((c.tc : Thread Cert.HeadWeightsIdeal.nD Cert.HeadWeightsIdeal.τ).loc Cert.HeadWeightsIdeal.main_arg0) = m ((c.tc : Thread Cert.HeadWeightsIdeal.nD Cert.HeadWeightsIdeal.τ).loc Cert.HeadWeightsIdeal.main_arg0)
      ∧ r.2.mem ((c.tc : Thread Cert.HeadWeightsIdeal.nD Cert.HeadWeightsIdeal.τ).loc Cert.HeadWeightsIdeal.main_arg1) = m ((c.tc : Thread Cert.HeadWeightsIdeal.nD Cert.HeadWeightsIdeal.τ).loc Cert.HeadWeightsIdeal.main_arg1))
      ∧ r.2.sem = fun _ => 0)

def quiescent_HeadWeightsReferenceIdeal [hHeadWeightsReferenceIdeal : Cert.HeadWeightsReferenceIdeal.Facts] : Prop :=
  ∀ (m : (ℓ : Loc Cert.HeadWeightsReferenceIdeal.nD Cert.HeadWeightsReferenceIdeal.τ Cert.HeadWeightsReferenceIdeal.sig) → Buf (Elt Ideal) ℓ) (g : Dev Cert.HeadWeightsReferenceIdeal.nD → PrngReg), Pre_HeadWeightsReferenceIdeal m →
    θ_run (Cert.HeadWeightsReferenceIdeal.defs (F := Ideal)) (onTc (τ := Cert.HeadWeightsReferenceIdeal.τ) (Cert.HeadWeightsReferenceIdeal.main (F := Ideal))) ⟨m, fun _ => 0, g⟩ (fun r => (∀ c : Dev Cert.HeadWeightsReferenceIdeal.nD,
      r.2.mem ((c.tc : Thread Cert.HeadWeightsReferenceIdeal.nD Cert.HeadWeightsReferenceIdeal.τ).loc Cert.HeadWeightsReferenceIdeal.main_arg0) = m ((c.tc : Thread Cert.HeadWeightsReferenceIdeal.nD Cert.HeadWeightsReferenceIdeal.τ).loc Cert.HeadWeightsReferenceIdeal.main_arg0)
      ∧ r.2.mem ((c.tc : Thread Cert.HeadWeightsReferenceIdeal.nD Cert.HeadWeightsReferenceIdeal.τ).loc Cert.HeadWeightsReferenceIdeal.main_arg1) = m ((c.tc : Thread Cert.HeadWeightsReferenceIdeal.nD Cert.HeadWeightsReferenceIdeal.τ).loc Cert.HeadWeightsReferenceIdeal.main_arg1))
      ∧ r.2.sem = fun _ => 0)

def quiescent_HgrnSample [hHgrnSample : Cert.HgrnSample.Facts] : Prop :=
  ∀ (m : (ℓ : Loc Cert.HgrnSample.nD Cert.HgrnSample.τ Cert.HgrnSample.sig) → Buf (Elt Bits) ℓ) (g : Dev Cert.HgrnSample.nD → PrngReg), Pre_HgrnSample m →
    θ_run (Cert.HgrnSample.defs (F := Bits)) (onTc (τ := Cert.HgrnSample.τ) (Cert.HgrnSample.main (F := Bits))) ⟨m, fun _ => 0, g⟩ (fun r => (∀ c : Dev Cert.HgrnSample.nD,
      r.2.mem ((c.tc : Thread Cert.HgrnSample.nD Cert.HgrnSample.τ).loc Cert.HgrnSample.main_arg0) = m ((c.tc : Thread Cert.HgrnSample.nD Cert.HgrnSample.τ).loc Cert.HgrnSample.main_arg0)
      ∧ r.2.mem ((c.tc : Thread Cert.HgrnSample.nD Cert.HgrnSample.τ).loc Cert.HgrnSample.main_arg1) = m ((c.tc : Thread Cert.HgrnSample.nD Cert.HgrnSample.τ).loc Cert.HgrnSample.main_arg1)
      ∧ r.2.mem ((c.tc : Thread Cert.HgrnSample.nD Cert.HgrnSample.τ).loc Cert.HgrnSample.main_arg2) = m ((c.tc : Thread Cert.HgrnSample.nD Cert.HgrnSample.τ).loc Cert.HgrnSample.main_arg2)
      ∧ r.2.mem ((c.tc : Thread Cert.HgrnSample.nD Cert.HgrnSample.τ).loc Cert.HgrnSample.main_arg3) = m ((c.tc : Thread Cert.HgrnSample.nD Cert.HgrnSample.τ).loc Cert.HgrnSample.main_arg3)
      ∧ r.2.mem ((c.tc : Thread Cert.HgrnSample.nD Cert.HgrnSample.τ).loc Cert.HgrnSample.main_arg4) = m ((c.tc : Thread Cert.HgrnSample.nD Cert.HgrnSample.τ).loc Cert.HgrnSample.main_arg4)
      ∧ r.2.mem ((c.tc : Thread Cert.HgrnSample.nD Cert.HgrnSample.τ).loc Cert.HgrnSample.main_arg5) = m ((c.tc : Thread Cert.HgrnSample.nD Cert.HgrnSample.τ).loc Cert.HgrnSample.main_arg5)
      ∧ r.2.mem ((c.tc : Thread Cert.HgrnSample.nD Cert.HgrnSample.τ).loc Cert.HgrnSample.main_arg6) = m ((c.tc : Thread Cert.HgrnSample.nD Cert.HgrnSample.τ).loc Cert.HgrnSample.main_arg6))
      ∧ r.2.sem = fun _ => 0)

def quiescent_HgrnSampleIdeal [hHgrnSampleIdeal : Cert.HgrnSampleIdeal.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg), Pre_HgrnSampleIdeal m →
    θ_run (Cert.HgrnSampleIdeal.defs (F := Ideal)) (onTc (τ := Cert.HgrnSampleIdeal.τ) (Cert.HgrnSampleIdeal.main (F := Ideal))) ⟨m, fun _ => 0, g⟩ (fun r => (∀ c : Dev Cert.HgrnSampleIdeal.nD,
      r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
      ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
      ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
      ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3)
      ∧ r.2.mem ((c.tc : Thread Cert.HgrnSampleIdeal.nD Cert.HgrnSampleIdeal.τ).loc Cert.HgrnSampleIdeal.main_arg4) = m ((c.tc : Thread Cert.HgrnSampleIdeal.nD Cert.HgrnSampleIdeal.τ).loc Cert.HgrnSampleIdeal.main_arg4)
      ∧ r.2.mem ((c.tc : Thread Cert.HgrnSampleIdeal.nD Cert.HgrnSampleIdeal.τ).loc Cert.HgrnSampleIdeal.main_arg5) = m ((c.tc : Thread Cert.HgrnSampleIdeal.nD Cert.HgrnSampleIdeal.τ).loc Cert.HgrnSampleIdeal.main_arg5)
      ∧ r.2.mem ((c.tc : Thread Cert.HgrnSampleIdeal.nD Cert.HgrnSampleIdeal.τ).loc Cert.HgrnSampleIdeal.main_arg6) = m ((c.tc : Thread Cert.HgrnSampleIdeal.nD Cert.HgrnSampleIdeal.τ).loc Cert.HgrnSampleIdeal.main_arg6))
      ∧ r.2.sem = fun _ => 0)

def quiescent_HgrnSampleIdeal_pre_logarithms_below [hHgrnSampleIdeal : Cert.HgrnSampleIdeal.Facts] [hPre_logarithms_below : Cert.Pre_logarithms_below.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg), Pre_HgrnSampleIdeal_logarithms_below m →
    θ_run (Cert.HgrnSampleIdeal.defs (F := Ideal)) (onTc (τ := Cert.HgrnSampleIdeal.τ) (Cert.HgrnSampleIdeal.main (F := Ideal))) ⟨m, fun _ => 0, g⟩ (fun r => (∀ c : Dev Cert.HgrnSampleIdeal.nD,
      r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
      ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
      ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
      ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3)
      ∧ r.2.mem ((c.tc : Thread Cert.HgrnSampleIdeal.nD Cert.HgrnSampleIdeal.τ).loc Cert.HgrnSampleIdeal.main_arg4) = m ((c.tc : Thread Cert.HgrnSampleIdeal.nD Cert.HgrnSampleIdeal.τ).loc Cert.HgrnSampleIdeal.main_arg4)
      ∧ r.2.mem ((c.tc : Thread Cert.HgrnSampleIdeal.nD Cert.HgrnSampleIdeal.τ).loc Cert.HgrnSampleIdeal.main_arg5) = m ((c.tc : Thread Cert.HgrnSampleIdeal.nD Cert.HgrnSampleIdeal.τ).loc Cert.HgrnSampleIdeal.main_arg5)
      ∧ r.2.mem ((c.tc : Thread Cert.HgrnSampleIdeal.nD Cert.HgrnSampleIdeal.τ).loc Cert.HgrnSampleIdeal.main_arg6) = m ((c.tc : Thread Cert.HgrnSampleIdeal.nD Cert.HgrnSampleIdeal.τ).loc Cert.HgrnSampleIdeal.main_arg6))
      ∧ r.2.sem = fun _ => 0)

def quiescent_HgrnSampleReferenceIdeal [hHgrnSampleReferenceIdeal : Cert.HgrnSampleReferenceIdeal.Facts] : Prop :=
  ∀ (m : (ℓ : Loc Cert.HgrnSampleReferenceIdeal.nD Cert.HgrnSampleReferenceIdeal.τ Cert.HgrnSampleReferenceIdeal.sig) → Buf (Elt Ideal) ℓ) (g : Dev Cert.HgrnSampleReferenceIdeal.nD → PrngReg), Pre_HgrnSampleReferenceIdeal m →
    θ_run (Cert.HgrnSampleReferenceIdeal.defs (F := Ideal)) (onTc (τ := Cert.HgrnSampleReferenceIdeal.τ) (Cert.HgrnSampleReferenceIdeal.main (F := Ideal))) ⟨m, fun _ => 0, g⟩ (fun r => (∀ c : Dev Cert.HgrnSampleReferenceIdeal.nD,
      r.2.mem ((c.tc : Thread Cert.HgrnSampleReferenceIdeal.nD Cert.HgrnSampleReferenceIdeal.τ).loc Cert.HgrnSampleReferenceIdeal.main_arg0) = m ((c.tc : Thread Cert.HgrnSampleReferenceIdeal.nD Cert.HgrnSampleReferenceIdeal.τ).loc Cert.HgrnSampleReferenceIdeal.main_arg0)
      ∧ r.2.mem ((c.tc : Thread Cert.HgrnSampleReferenceIdeal.nD Cert.HgrnSampleReferenceIdeal.τ).loc Cert.HgrnSampleReferenceIdeal.main_arg1) = m ((c.tc : Thread Cert.HgrnSampleReferenceIdeal.nD Cert.HgrnSampleReferenceIdeal.τ).loc Cert.HgrnSampleReferenceIdeal.main_arg1)
      ∧ r.2.mem ((c.tc : Thread Cert.HgrnSampleReferenceIdeal.nD Cert.HgrnSampleReferenceIdeal.τ).loc Cert.HgrnSampleReferenceIdeal.main_arg2) = m ((c.tc : Thread Cert.HgrnSampleReferenceIdeal.nD Cert.HgrnSampleReferenceIdeal.τ).loc Cert.HgrnSampleReferenceIdeal.main_arg2)
      ∧ r.2.mem ((c.tc : Thread Cert.HgrnSampleReferenceIdeal.nD Cert.HgrnSampleReferenceIdeal.τ).loc Cert.HgrnSampleReferenceIdeal.main_arg3) = m ((c.tc : Thread Cert.HgrnSampleReferenceIdeal.nD Cert.HgrnSampleReferenceIdeal.τ).loc Cert.HgrnSampleReferenceIdeal.main_arg3)
      ∧ r.2.mem ((c.tc : Thread Cert.HgrnSampleReferenceIdeal.nD Cert.HgrnSampleReferenceIdeal.τ).loc Cert.HgrnSampleReferenceIdeal.main_arg4) = m ((c.tc : Thread Cert.HgrnSampleReferenceIdeal.nD Cert.HgrnSampleReferenceIdeal.τ).loc Cert.HgrnSampleReferenceIdeal.main_arg4)
      ∧ r.2.mem ((c.tc : Thread Cert.HgrnSampleReferenceIdeal.nD Cert.HgrnSampleReferenceIdeal.τ).loc Cert.HgrnSampleReferenceIdeal.main_arg5) = m ((c.tc : Thread Cert.HgrnSampleReferenceIdeal.nD Cert.HgrnSampleReferenceIdeal.τ).loc Cert.HgrnSampleReferenceIdeal.main_arg5)
      ∧ r.2.mem ((c.tc : Thread Cert.HgrnSampleReferenceIdeal.nD Cert.HgrnSampleReferenceIdeal.τ).loc Cert.HgrnSampleReferenceIdeal.main_arg6) = m ((c.tc : Thread Cert.HgrnSampleReferenceIdeal.nD Cert.HgrnSampleReferenceIdeal.τ).loc Cert.HgrnSampleReferenceIdeal.main_arg6))
      ∧ r.2.sem = fun _ => 0)

def quiescent_HgrnSampleReferenceIdeal_pre_logarithms_below [hHgrnSampleReferenceIdeal : Cert.HgrnSampleReferenceIdeal.Facts] [hPre_logarithms_below : Cert.Pre_logarithms_below.Facts] : Prop :=
  ∀ (m : (ℓ : Loc Cert.HgrnSampleReferenceIdeal.nD Cert.HgrnSampleReferenceIdeal.τ Cert.HgrnSampleReferenceIdeal.sig) → Buf (Elt Ideal) ℓ) (g : Dev Cert.HgrnSampleReferenceIdeal.nD → PrngReg), Pre_HgrnSampleReferenceIdeal_logarithms_below m →
    θ_run (Cert.HgrnSampleReferenceIdeal.defs (F := Ideal)) (onTc (τ := Cert.HgrnSampleReferenceIdeal.τ) (Cert.HgrnSampleReferenceIdeal.main (F := Ideal))) ⟨m, fun _ => 0, g⟩ (fun r => (∀ c : Dev Cert.HgrnSampleReferenceIdeal.nD,
      r.2.mem ((c.tc : Thread Cert.HgrnSampleReferenceIdeal.nD Cert.HgrnSampleReferenceIdeal.τ).loc Cert.HgrnSampleReferenceIdeal.main_arg0) = m ((c.tc : Thread Cert.HgrnSampleReferenceIdeal.nD Cert.HgrnSampleReferenceIdeal.τ).loc Cert.HgrnSampleReferenceIdeal.main_arg0)
      ∧ r.2.mem ((c.tc : Thread Cert.HgrnSampleReferenceIdeal.nD Cert.HgrnSampleReferenceIdeal.τ).loc Cert.HgrnSampleReferenceIdeal.main_arg1) = m ((c.tc : Thread Cert.HgrnSampleReferenceIdeal.nD Cert.HgrnSampleReferenceIdeal.τ).loc Cert.HgrnSampleReferenceIdeal.main_arg1)
      ∧ r.2.mem ((c.tc : Thread Cert.HgrnSampleReferenceIdeal.nD Cert.HgrnSampleReferenceIdeal.τ).loc Cert.HgrnSampleReferenceIdeal.main_arg2) = m ((c.tc : Thread Cert.HgrnSampleReferenceIdeal.nD Cert.HgrnSampleReferenceIdeal.τ).loc Cert.HgrnSampleReferenceIdeal.main_arg2)
      ∧ r.2.mem ((c.tc : Thread Cert.HgrnSampleReferenceIdeal.nD Cert.HgrnSampleReferenceIdeal.τ).loc Cert.HgrnSampleReferenceIdeal.main_arg3) = m ((c.tc : Thread Cert.HgrnSampleReferenceIdeal.nD Cert.HgrnSampleReferenceIdeal.τ).loc Cert.HgrnSampleReferenceIdeal.main_arg3)
      ∧ r.2.mem ((c.tc : Thread Cert.HgrnSampleReferenceIdeal.nD Cert.HgrnSampleReferenceIdeal.τ).loc Cert.HgrnSampleReferenceIdeal.main_arg4) = m ((c.tc : Thread Cert.HgrnSampleReferenceIdeal.nD Cert.HgrnSampleReferenceIdeal.τ).loc Cert.HgrnSampleReferenceIdeal.main_arg4)
      ∧ r.2.mem ((c.tc : Thread Cert.HgrnSampleReferenceIdeal.nD Cert.HgrnSampleReferenceIdeal.τ).loc Cert.HgrnSampleReferenceIdeal.main_arg5) = m ((c.tc : Thread Cert.HgrnSampleReferenceIdeal.nD Cert.HgrnSampleReferenceIdeal.τ).loc Cert.HgrnSampleReferenceIdeal.main_arg5)
      ∧ r.2.mem ((c.tc : Thread Cert.HgrnSampleReferenceIdeal.nD Cert.HgrnSampleReferenceIdeal.τ).loc Cert.HgrnSampleReferenceIdeal.main_arg6) = m ((c.tc : Thread Cert.HgrnSampleReferenceIdeal.nD Cert.HgrnSampleReferenceIdeal.τ).loc Cert.HgrnSampleReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v51_0)) (v3 : (c : Dev Cert.KernelIdeal.nD) → Buf (Elt Ideal) ((c.tc : Thread Cert.KernelIdeal.nD Cert.KernelIdeal.τ).loc Cert.KernelIdeal.main_v51_1)) (v4 : (c : Dev Cert.KernelIdeal.nD) → Buf (Elt Ideal) ((c.tc : Thread Cert.KernelIdeal.nD Cert.KernelIdeal.τ).loc Cert.KernelIdeal.main_v52)) (v5 : (c : Dev Cert.KernelIdeal.nD) → Buf (Elt Ideal) ((c.tc : Thread Cert.KernelIdeal.nD Cert.KernelIdeal.τ).loc Cert.KernelIdeal.main_v53_0)) (v6 : (c : Dev Cert.KernelIdeal.nD) → Buf (Elt Ideal) ((c.tc : Thread Cert.KernelIdeal.nD Cert.KernelIdeal.τ).loc Cert.KernelIdeal.main_v53_1)) (v7 : (c : Dev Cert.KernelIdeal.nD) → Buf (Elt Ideal) ((c.tc : Thread Cert.KernelIdeal.nD Cert.KernelIdeal.τ).loc Cert.KernelIdeal.main_v54)) (v8 : (c : Dev Cert.KernelIdeal.nD) → Buf (Elt Ideal) ((c.tc : Thread Cert.KernelIdeal.nD Cert.KernelIdeal.τ).loc Cert.KernelIdeal.main_v55)) (v9 : (c : Dev Cert.KernelIdeal.nD) → Buf (Elt Ideal) ((c.tc : Thread Cert.KernelIdeal.nD Cert.KernelIdeal.τ).loc Cert.KernelIdeal.main_v56)) (v10 : (c : Dev Cert.KernelIdeal.nD) → Buf (Elt Ideal) ((c.tc : Thread Cert.KernelIdeal.nD Cert.KernelIdeal.τ).loc Cert.KernelIdeal.main_v57)) (v11 : (c : Dev Cert.KernelIdeal.nD) → Buf (Elt Ideal) ((c.tc : Thread Cert.KernelIdeal.nD Cert.KernelIdeal.τ).loc Cert.KernelIdeal.main_v98_0)) (v12 : (c : Dev Cert.KernelIdeal.nD) → Buf (Elt Ideal) ((c.tc : Thread Cert.KernelIdeal.nD Cert.KernelIdeal.τ).loc Cert.KernelIdeal.main_v98_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v51_0) = v2 c
          ∧ r.2.mem ((c.tc : Thread Cert.KernelIdeal.nD Cert.KernelIdeal.τ).loc Cert.KernelIdeal.main_v51_1) = v3 c
          ∧ r.2.mem ((c.tc : Thread Cert.KernelIdeal.nD Cert.KernelIdeal.τ).loc Cert.KernelIdeal.main_v52) = v4 c
          ∧ r.2.mem ((c.tc : Thread Cert.KernelIdeal.nD Cert.KernelIdeal.τ).loc Cert.KernelIdeal.main_v53_0) = v5 c
          ∧ r.2.mem ((c.tc : Thread Cert.KernelIdeal.nD Cert.KernelIdeal.τ).loc Cert.KernelIdeal.main_v53_1) = v6 c
          ∧ r.2.mem ((c.tc : Thread Cert.KernelIdeal.nD Cert.KernelIdeal.τ).loc Cert.KernelIdeal.main_v54) = v7 c
          ∧ r.2.mem ((c.tc : Thread Cert.KernelIdeal.nD Cert.KernelIdeal.τ).loc Cert.KernelIdeal.main_v55) = v8 c
          ∧ r.2.mem ((c.tc : Thread Cert.KernelIdeal.nD Cert.KernelIdeal.τ).loc Cert.KernelIdeal.main_v56) = v9 c
          ∧ r.2.mem ((c.tc : Thread Cert.KernelIdeal.nD Cert.KernelIdeal.τ).loc Cert.KernelIdeal.main_v57) = v10 c
          ∧ r.2.mem ((c.tc : Thread Cert.KernelIdeal.nD Cert.KernelIdeal.τ).loc Cert.KernelIdeal.main_v98_0) = v11 c
          ∧ r.2.mem ((c.tc : Thread Cert.KernelIdeal.nD Cert.KernelIdeal.τ).loc Cert.KernelIdeal.main_v98_1) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v257) = v3 c
          ∧ r.2.mem ((c.tc : Thread Cert.ReferenceIdeal.nD Cert.ReferenceIdeal.τ).loc Cert.ReferenceIdeal.main_v260) = v4 c
          ∧ r.2.mem ((c.tc : Thread Cert.ReferenceIdeal.nD Cert.ReferenceIdeal.τ).loc Cert.ReferenceIdeal.main_v264) = v5 c
          ∧ r.2.mem ((c.tc : Thread Cert.ReferenceIdeal.nD Cert.ReferenceIdeal.τ).loc Cert.ReferenceIdeal.main_v267) = v6 c
          ∧ r.2.mem ((c.tc : Thread Cert.ReferenceIdeal.nD Cert.ReferenceIdeal.τ).loc Cert.ReferenceIdeal.main_v270) = v7 c
          ∧ r.2.mem ((c.tc : Thread Cert.ReferenceIdeal.nD Cert.ReferenceIdeal.τ).loc Cert.ReferenceIdeal.main_v273) = v8 c
          ∧ r.2.mem ((c.tc : Thread Cert.ReferenceIdeal.nD Cert.ReferenceIdeal.τ).loc Cert.ReferenceIdeal.main_v276) = v9 c
          ∧ r.2.mem ((c.tc : Thread Cert.ReferenceIdeal.nD Cert.ReferenceIdeal.τ).loc Cert.ReferenceIdeal.main_v279) = v10 c
          ∧ r.2.mem ((c.tc : Thread Cert.ReferenceIdeal.nD Cert.ReferenceIdeal.τ).loc Cert.ReferenceIdeal.main_v249) = v11 c
          ∧ r.2.mem ((c.tc : Thread Cert.ReferenceIdeal.nD Cert.ReferenceIdeal.τ).loc Cert.ReferenceIdeal.main_v280) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7_0)) (v1 : (c : Dev Cert.MergeIdeal.nD) → Buf (Elt Ideal) ((c.tc : Thread Cert.MergeIdeal.nD Cert.MergeIdeal.τ).loc Cert.MergeIdeal.main_v7_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_0) = v0 c
          ∧ r.2.mem ((c.tc : Thread Cert.MergeIdeal.nD Cert.MergeIdeal.τ).loc Cert.MergeIdeal.main_v7_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_v58) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v26) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_MlpSample_MlpSampleIdeal : Prop :=
  True

def algebraic_MlpSampleIdeal_MlpSampleReferenceIdeal [hMlpSampleIdeal : Cert.MlpSampleIdeal.Facts] [hMlpSampleReferenceIdeal : Cert.MlpSampleReferenceIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleReferenceIdeal.nD Cert.MlpSampleReferenceIdeal.τ Cert.MlpSampleReferenceIdeal.sig) → Buf (Elt Ideal) ℓ) (g' : Dev Cert.MlpSampleReferenceIdeal.nD → PrngReg), Pre_MlpSampleIdeal m →
    (∀ c : Dev Cert.MlpSampleIdeal.nD,
      m' ((c.tc : Thread Cert.MlpSampleReferenceIdeal.nD Cert.MlpSampleReferenceIdeal.τ).loc Cert.MlpSampleReferenceIdeal.main_arg0) = m ((c.tc : Thread Cert.MlpSampleIdeal.nD Cert.MlpSampleIdeal.τ).loc Cert.MlpSampleIdeal.main_arg0)
      ∧ m' ((c.tc : Thread Cert.MlpSampleReferenceIdeal.nD Cert.MlpSampleReferenceIdeal.τ).loc Cert.MlpSampleReferenceIdeal.main_arg1) = m ((c.tc : Thread Cert.MlpSampleIdeal.nD Cert.MlpSampleIdeal.τ).loc Cert.MlpSampleIdeal.main_arg1)
      ∧ m' ((c.tc : Thread Cert.MlpSampleReferenceIdeal.nD Cert.MlpSampleReferenceIdeal.τ).loc Cert.MlpSampleReferenceIdeal.main_arg2) = m ((c.tc : Thread Cert.MlpSampleIdeal.nD Cert.MlpSampleIdeal.τ).loc Cert.MlpSampleIdeal.main_arg2)
      ∧ m' ((c.tc : Thread Cert.MlpSampleReferenceIdeal.nD Cert.MlpSampleReferenceIdeal.τ).loc Cert.MlpSampleReferenceIdeal.main_arg3) = m ((c.tc : Thread Cert.MlpSampleIdeal.nD Cert.MlpSampleIdeal.τ).loc Cert.MlpSampleIdeal.main_arg3)
      ∧ m' ((c.tc : Thread Cert.MlpSampleReferenceIdeal.nD Cert.MlpSampleReferenceIdeal.τ).loc Cert.MlpSampleReferenceIdeal.main_arg4) = m ((c.tc : Thread Cert.MlpSampleIdeal.nD Cert.MlpSampleIdeal.τ).loc Cert.MlpSampleIdeal.main_arg4)
      ∧ m' ((c.tc : Thread Cert.MlpSampleReferenceIdeal.nD Cert.MlpSampleReferenceIdeal.τ).loc Cert.MlpSampleReferenceIdeal.main_arg5) = m ((c.tc : Thread Cert.MlpSampleIdeal.nD Cert.MlpSampleIdeal.τ).loc Cert.MlpSampleIdeal.main_arg5)) →
    ∃ (v0 : (c : Dev Cert.MlpSampleIdeal.nD) → Buf (Elt Ideal) ((c.tc : Thread Cert.MlpSampleIdeal.nD Cert.MlpSampleIdeal.τ).loc Cert.MlpSampleIdeal.main_v6)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v6) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
          ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5))
      ∧ θ_run (Cert.MlpSampleReferenceIdeal.defs (F := Ideal)) (onTc (τ := Cert.MlpSampleReferenceIdeal.τ) (Cert.MlpSampleReferenceIdeal.main (F := Ideal))) ⟨m', fun _ => 0, g'⟩ (fun r => ∀ c : Dev Cert.MlpSampleReferenceIdeal.nD,
          r.2.mem ((c.tc : Thread Cert.MlpSampleReferenceIdeal.nD Cert.MlpSampleReferenceIdeal.τ).loc Cert.MlpSampleReferenceIdeal.main_v26) = v0 c
          ∧ r.2.mem ((c.tc : Thread Cert.MlpSampleReferenceIdeal.nD Cert.MlpSampleReferenceIdeal.τ).loc Cert.MlpSampleReferenceIdeal.main_arg0) = m' ((c.tc : Thread Cert.MlpSampleReferenceIdeal.nD Cert.MlpSampleReferenceIdeal.τ).loc Cert.MlpSampleReferenceIdeal.main_arg0)
          ∧ r.2.mem ((c.tc : Thread Cert.MlpSampleReferenceIdeal.nD Cert.MlpSampleReferenceIdeal.τ).loc Cert.MlpSampleReferenceIdeal.main_arg1) = m' ((c.tc : Thread Cert.MlpSampleReferenceIdeal.nD Cert.MlpSampleReferenceIdeal.τ).loc Cert.MlpSampleReferenceIdeal.main_arg1)
          ∧ r.2.mem ((c.tc : Thread Cert.MlpSampleReferenceIdeal.nD Cert.MlpSampleReferenceIdeal.τ).loc Cert.MlpSampleReferenceIdeal.main_arg2) = m' ((c.tc : Thread Cert.MlpSampleReferenceIdeal.nD Cert.MlpSampleReferenceIdeal.τ).loc Cert.MlpSampleReferenceIdeal.main_arg2)
          ∧ r.2.mem ((c.tc : Thread Cert.MlpSampleReferenceIdeal.nD Cert.MlpSampleReferenceIdeal.τ).loc Cert.MlpSampleReferenceIdeal.main_arg3) = m' ((c.tc : Thread Cert.MlpSampleReferenceIdeal.nD Cert.MlpSampleReferenceIdeal.τ).loc Cert.MlpSampleReferenceIdeal.main_arg3)
          ∧ r.2.mem ((c.tc : Thread Cert.MlpSampleReferenceIdeal.nD Cert.MlpSampleReferenceIdeal.τ).loc Cert.MlpSampleReferenceIdeal.main_arg4) = m' ((c.tc : Thread Cert.MlpSampleReferenceIdeal.nD Cert.MlpSampleReferenceIdeal.τ).loc Cert.MlpSampleReferenceIdeal.main_arg4)
          ∧ r.2.mem ((c.tc : Thread Cert.MlpSampleReferenceIdeal.nD Cert.MlpSampleReferenceIdeal.τ).loc Cert.MlpSampleReferenceIdeal.main_arg5) = m' ((c.tc : Thread Cert.MlpSampleReferenceIdeal.nD Cert.MlpSampleReferenceIdeal.τ).loc Cert.MlpSampleReferenceIdeal.main_arg5))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v24_0)) (v1 : (c : Dev Cert.KeysIdeal.nD) → Buf (Elt Ideal) ((c.tc : Thread Cert.KeysIdeal.nD Cert.KeysIdeal.τ).loc Cert.KeysIdeal.main_v24_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v24_0) = v0 c
          ∧ r.2.mem ((c.tc : Thread Cert.KeysIdeal.nD Cert.KeysIdeal.τ).loc Cert.KeysIdeal.main_v24_1) = v1 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v42) = v0 c
          ∧ r.2.mem ((c.tc : Thread Cert.KeysReferenceIdeal.nD Cert.KeysReferenceIdeal.τ).loc Cert.KeysReferenceIdeal.main_v44) = v1 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1))

def preserves_KeysSample_KeysSampleIdeal : Prop :=
  True

def algebraic_KeysSampleIdeal_KeysSampleReferenceIdeal [hKeysSampleIdeal : Cert.KeysSampleIdeal.Facts] [hKeysSampleReferenceIdeal : Cert.KeysSampleReferenceIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg)
    (m' : (ℓ : Loc Cert.KeysSampleReferenceIdeal.nD Cert.KeysSampleReferenceIdeal.τ Cert.KeysSampleReferenceIdeal.sig) → Buf (Elt Ideal) ℓ) (g' : Dev Cert.KeysSampleReferenceIdeal.nD → PrngReg), Pre_KeysSampleIdeal m →
    (∀ c : Dev Cert.KeysSampleIdeal.nD,
      m' ((c.tc : Thread Cert.KeysSampleReferenceIdeal.nD Cert.KeysSampleReferenceIdeal.τ).loc Cert.KeysSampleReferenceIdeal.main_arg0) = m ((c.tc : Thread Cert.KeysSampleIdeal.nD Cert.KeysSampleIdeal.τ).loc Cert.KeysSampleIdeal.main_arg0)
      ∧ m' ((c.tc : Thread Cert.KeysSampleReferenceIdeal.nD Cert.KeysSampleReferenceIdeal.τ).loc Cert.KeysSampleReferenceIdeal.main_arg1) = m ((c.tc : Thread Cert.KeysSampleIdeal.nD Cert.KeysSampleIdeal.τ).loc Cert.KeysSampleIdeal.main_arg1)) →
    ∃ (v0 : (c : Dev Cert.KeysSampleIdeal.nD) → Buf (Elt Ideal) ((c.tc : Thread Cert.KeysSampleIdeal.nD Cert.KeysSampleIdeal.τ).loc Cert.KeysSampleIdeal.main_v35_0)) (v1 : (c : Dev Cert.KeysSampleIdeal.nD) → Buf (Elt Ideal) ((c.tc : Thread Cert.KeysSampleIdeal.nD Cert.KeysSampleIdeal.τ).loc Cert.KeysSampleIdeal.main_v35_1)),
      θ_run (Cert.KeysSampleIdeal.defs (F := Ideal)) (onTc (τ := Cert.KeysSampleIdeal.τ) (Cert.KeysSampleIdeal.main (F := Ideal))) ⟨m, fun _ => 0, g⟩ (fun r => ∀ c : Dev Cert.KeysSampleIdeal.nD,
          r.2.mem ((c.tc : Thread Cert.KeysSampleIdeal.nD Cert.KeysSampleIdeal.τ).loc Cert.KeysSampleIdeal.main_v35_0) = v0 c
          ∧ r.2.mem ((c.tc : Thread Cert.KeysSampleIdeal.nD Cert.KeysSampleIdeal.τ).loc Cert.KeysSampleIdeal.main_v35_1) = v1 c
          ∧ r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
          ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1))
      ∧ θ_run (Cert.KeysSampleReferenceIdeal.defs (F := Ideal)) (onTc (τ := Cert.KeysSampleReferenceIdeal.τ) (Cert.KeysSampleReferenceIdeal.main (F := Ideal))) ⟨m', fun _ => 0, g'⟩ (fun r => ∀ c : Dev Cert.KeysSampleReferenceIdeal.nD,
          r.2.mem ((c.tc : Thread Cert.KeysSampleReferenceIdeal.nD Cert.KeysSampleReferenceIdeal.τ).loc Cert.KeysSampleReferenceIdeal.main_v44) = v0 c
          ∧ r.2.mem ((c.tc : Thread Cert.KeysSampleReferenceIdeal.nD Cert.KeysSampleReferenceIdeal.τ).loc Cert.KeysSampleReferenceIdeal.main_v46) = v1 c
          ∧ r.2.mem ((c.tc : Thread Cert.KeysSampleReferenceIdeal.nD Cert.KeysSampleReferenceIdeal.τ).loc Cert.KeysSampleReferenceIdeal.main_arg0) = m' ((c.tc : Thread Cert.KeysSampleReferenceIdeal.nD Cert.KeysSampleReferenceIdeal.τ).loc Cert.KeysSampleReferenceIdeal.main_arg0)
          ∧ r.2.mem ((c.tc : Thread Cert.KeysSampleReferenceIdeal.nD Cert.KeysSampleReferenceIdeal.τ).loc Cert.KeysSampleReferenceIdeal.main_arg1) = m' ((c.tc : Thread Cert.KeysSampleReferenceIdeal.nD Cert.KeysSampleReferenceIdeal.τ).loc Cert.KeysSampleReferenceIdeal.main_arg1))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v2_0)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v2_0) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v4) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1))

def preserves_ValuesSample_ValuesSampleIdeal : Prop :=
  True

def algebraic_ValuesSampleIdeal_ValuesSampleReferenceIdeal [hValuesSampleIdeal : Cert.ValuesSampleIdeal.Facts] [hValuesSampleReferenceIdeal : Cert.ValuesSampleReferenceIdeal.Facts] : Prop :=
  ∀ (m : (ℓ : Loc Cert.ValuesSampleIdeal.nD Cert.ValuesSampleIdeal.τ Cert.ValuesSampleIdeal.sig) → Buf (Elt Ideal) ℓ) (g : Dev Cert.ValuesSampleIdeal.nD → PrngReg)
    (m' : (ℓ : Loc Cert.ValuesSampleReferenceIdeal.nD Cert.ValuesSampleReferenceIdeal.τ Cert.ValuesSampleReferenceIdeal.sig) → Buf (Elt Ideal) ℓ) (g' : Dev Cert.ValuesSampleReferenceIdeal.nD → PrngReg), Pre_ValuesSampleIdeal m →
    (∀ c : Dev Cert.ValuesSampleIdeal.nD,
      m' ((c.tc : Thread Cert.ValuesSampleReferenceIdeal.nD Cert.ValuesSampleReferenceIdeal.τ).loc Cert.ValuesSampleReferenceIdeal.main_arg0) = m ((c.tc : Thread Cert.ValuesSampleIdeal.nD Cert.ValuesSampleIdeal.τ).loc Cert.ValuesSampleIdeal.main_arg0)
      ∧ m' ((c.tc : Thread Cert.ValuesSampleReferenceIdeal.nD Cert.ValuesSampleReferenceIdeal.τ).loc Cert.ValuesSampleReferenceIdeal.main_arg1) = m ((c.tc : Thread Cert.ValuesSampleIdeal.nD Cert.ValuesSampleIdeal.τ).loc Cert.ValuesSampleIdeal.main_arg1)) →
    ∃ (v0 : (c : Dev Cert.ValuesSampleIdeal.nD) → Buf (Elt Ideal) ((c.tc : Thread Cert.ValuesSampleIdeal.nD Cert.ValuesSampleIdeal.τ).loc Cert.ValuesSampleIdeal.main_v2_0)),
      θ_run (Cert.ValuesSampleIdeal.defs (F := Ideal)) (onTc (τ := Cert.ValuesSampleIdeal.τ) (Cert.ValuesSampleIdeal.main (F := Ideal))) ⟨m, fun _ => 0, g⟩ (fun r => ∀ c : Dev Cert.ValuesSampleIdeal.nD,
          r.2.mem ((c.tc : Thread Cert.ValuesSampleIdeal.nD Cert.ValuesSampleIdeal.τ).loc Cert.ValuesSampleIdeal.main_v2_0) = v0 c
          ∧ r.2.mem ((c.tc : Thread Cert.ValuesSampleIdeal.nD Cert.ValuesSampleIdeal.τ).loc Cert.ValuesSampleIdeal.main_arg0) = m ((c.tc : Thread Cert.ValuesSampleIdeal.nD Cert.ValuesSampleIdeal.τ).loc Cert.ValuesSampleIdeal.main_arg0)
          ∧ r.2.mem ((c.tc : Thread Cert.ValuesSampleIdeal.nD Cert.ValuesSampleIdeal.τ).loc Cert.ValuesSampleIdeal.main_arg1) = m ((c.tc : Thread Cert.ValuesSampleIdeal.nD Cert.ValuesSampleIdeal.τ).loc Cert.ValuesSampleIdeal.main_arg1))
      ∧ θ_run (Cert.ValuesSampleReferenceIdeal.defs (F := Ideal)) (onTc (τ := Cert.ValuesSampleReferenceIdeal.τ) (Cert.ValuesSampleReferenceIdeal.main (F := Ideal))) ⟨m', fun _ => 0, g'⟩ (fun r => ∀ c : Dev Cert.ValuesSampleReferenceIdeal.nD,
          r.2.mem ((c.tc : Thread Cert.ValuesSampleReferenceIdeal.nD Cert.ValuesSampleReferenceIdeal.τ).loc Cert.ValuesSampleReferenceIdeal.main_v4) = v0 c
          ∧ r.2.mem ((c.tc : Thread Cert.ValuesSampleReferenceIdeal.nD Cert.ValuesSampleReferenceIdeal.τ).loc Cert.ValuesSampleReferenceIdeal.main_arg0) = m' ((c.tc : Thread Cert.ValuesSampleReferenceIdeal.nD Cert.ValuesSampleReferenceIdeal.τ).loc Cert.ValuesSampleReferenceIdeal.main_arg0)
          ∧ r.2.mem ((c.tc : Thread Cert.ValuesSampleReferenceIdeal.nD Cert.ValuesSampleReferenceIdeal.τ).loc Cert.ValuesSampleReferenceIdeal.main_arg1) = m' ((c.tc : Thread Cert.ValuesSampleReferenceIdeal.nD Cert.ValuesSampleReferenceIdeal.τ).loc Cert.ValuesSampleReferenceIdeal.main_arg1))

def preserves_HeadWeights_HeadWeightsIdeal : Prop :=
  True

def algebraic_HeadWeightsIdeal_HeadWeightsReferenceIdeal [hHeadWeightsIdeal : Cert.HeadWeightsIdeal.Facts] [hHeadWeightsReferenceIdeal : Cert.HeadWeightsReferenceIdeal.Facts] : Prop :=
  ∀ (m : (ℓ : Loc Cert.HeadWeightsIdeal.nD Cert.HeadWeightsIdeal.τ Cert.HeadWeightsIdeal.sig) → Buf (Elt Ideal) ℓ) (g : Dev Cert.HeadWeightsIdeal.nD → PrngReg)
    (m' : (ℓ : Loc Cert.HeadWeightsReferenceIdeal.nD Cert.HeadWeightsReferenceIdeal.τ Cert.HeadWeightsReferenceIdeal.sig) → Buf (Elt Ideal) ℓ) (g' : Dev Cert.HeadWeightsReferenceIdeal.nD → PrngReg), Pre_HeadWeightsIdeal m →
    (∀ c : Dev Cert.HeadWeightsIdeal.nD,
      m' ((c.tc : Thread Cert.HeadWeightsReferenceIdeal.nD Cert.HeadWeightsReferenceIdeal.τ).loc Cert.HeadWeightsReferenceIdeal.main_arg0) = m ((c.tc : Thread Cert.HeadWeightsIdeal.nD Cert.HeadWeightsIdeal.τ).loc Cert.HeadWeightsIdeal.main_arg0)
      ∧ m' ((c.tc : Thread Cert.HeadWeightsReferenceIdeal.nD Cert.HeadWeightsReferenceIdeal.τ).loc Cert.HeadWeightsReferenceIdeal.main_arg1) = m ((c.tc : Thread Cert.HeadWeightsIdeal.nD Cert.HeadWeightsIdeal.τ).loc Cert.HeadWeightsIdeal.main_arg1)) →
    ∃ (v0 : (c : Dev Cert.HeadWeightsIdeal.nD) → Buf (Elt Ideal) ((c.tc : Thread Cert.HeadWeightsIdeal.nD Cert.HeadWeightsIdeal.τ).loc Cert.HeadWeightsIdeal.main_v2)),
      θ_run (Cert.HeadWeightsIdeal.defs (F := Ideal)) (onTc (τ := Cert.HeadWeightsIdeal.τ) (Cert.HeadWeightsIdeal.main (F := Ideal))) ⟨m, fun _ => 0, g⟩ (fun r => ∀ c : Dev Cert.HeadWeightsIdeal.nD,
          r.2.mem ((c.tc : Thread Cert.HeadWeightsIdeal.nD Cert.HeadWeightsIdeal.τ).loc Cert.HeadWeightsIdeal.main_v2) = v0 c
          ∧ r.2.mem ((c.tc : Thread Cert.HeadWeightsIdeal.nD Cert.HeadWeightsIdeal.τ).loc Cert.HeadWeightsIdeal.main_arg0) = m ((c.tc : Thread Cert.HeadWeightsIdeal.nD Cert.HeadWeightsIdeal.τ).loc Cert.HeadWeightsIdeal.main_arg0)
          ∧ r.2.mem ((c.tc : Thread Cert.HeadWeightsIdeal.nD Cert.HeadWeightsIdeal.τ).loc Cert.HeadWeightsIdeal.main_arg1) = m ((c.tc : Thread Cert.HeadWeightsIdeal.nD Cert.HeadWeightsIdeal.τ).loc Cert.HeadWeightsIdeal.main_arg1))
      ∧ θ_run (Cert.HeadWeightsReferenceIdeal.defs (F := Ideal)) (onTc (τ := Cert.HeadWeightsReferenceIdeal.τ) (Cert.HeadWeightsReferenceIdeal.main (F := Ideal))) ⟨m', fun _ => 0, g'⟩ (fun r => ∀ c : Dev Cert.HeadWeightsReferenceIdeal.nD,
          r.2.mem ((c.tc : Thread Cert.HeadWeightsReferenceIdeal.nD Cert.HeadWeightsReferenceIdeal.τ).loc Cert.HeadWeightsReferenceIdeal.main_v5) = v0 c
          ∧ r.2.mem ((c.tc : Thread Cert.HeadWeightsReferenceIdeal.nD Cert.HeadWeightsReferenceIdeal.τ).loc Cert.HeadWeightsReferenceIdeal.main_arg0) = m' ((c.tc : Thread Cert.HeadWeightsReferenceIdeal.nD Cert.HeadWeightsReferenceIdeal.τ).loc Cert.HeadWeightsReferenceIdeal.main_arg0)
          ∧ r.2.mem ((c.tc : Thread Cert.HeadWeightsReferenceIdeal.nD Cert.HeadWeightsReferenceIdeal.τ).loc Cert.HeadWeightsReferenceIdeal.main_arg1) = m' ((c.tc : Thread Cert.HeadWeightsReferenceIdeal.nD Cert.HeadWeightsReferenceIdeal.τ).loc Cert.HeadWeightsReferenceIdeal.main_arg1))

def preserves_HgrnSample_HgrnSampleIdeal : Prop :=
  True

def algebraic_HgrnSampleIdeal_HgrnSampleReferenceIdeal_pre_logarithms_below [hHgrnSampleIdeal : Cert.HgrnSampleIdeal.Facts] [hHgrnSampleReferenceIdeal : Cert.HgrnSampleReferenceIdeal.Facts] [hPre_logarithms_below : Cert.Pre_logarithms_below.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg)
    (m' : (ℓ : Loc Cert.HgrnSampleReferenceIdeal.nD Cert.HgrnSampleReferenceIdeal.τ Cert.HgrnSampleReferenceIdeal.sig) → Buf (Elt Ideal) ℓ) (g' : Dev Cert.HgrnSampleReferenceIdeal.nD → PrngReg), Pre_HgrnSampleIdeal_logarithms_below m →
    (∀ c : Dev Cert.HgrnSampleIdeal.nD,
      m' ((c.tc : Thread Cert.HgrnSampleReferenceIdeal.nD Cert.HgrnSampleReferenceIdeal.τ).loc Cert.HgrnSampleReferenceIdeal.main_arg0) = m ((c.tc : Thread Cert.HgrnSampleIdeal.nD Cert.HgrnSampleIdeal.τ).loc Cert.HgrnSampleIdeal.main_arg0)
      ∧ m' ((c.tc : Thread Cert.HgrnSampleReferenceIdeal.nD Cert.HgrnSampleReferenceIdeal.τ).loc Cert.HgrnSampleReferenceIdeal.main_arg1) = m ((c.tc : Thread Cert.HgrnSampleIdeal.nD Cert.HgrnSampleIdeal.τ).loc Cert.HgrnSampleIdeal.main_arg1)
      ∧ m' ((c.tc : Thread Cert.HgrnSampleReferenceIdeal.nD Cert.HgrnSampleReferenceIdeal.τ).loc Cert.HgrnSampleReferenceIdeal.main_arg2) = m ((c.tc : Thread Cert.HgrnSampleIdeal.nD Cert.HgrnSampleIdeal.τ).loc Cert.HgrnSampleIdeal.main_arg2)
      ∧ m' ((c.tc : Thread Cert.HgrnSampleReferenceIdeal.nD Cert.HgrnSampleReferenceIdeal.τ).loc Cert.HgrnSampleReferenceIdeal.main_arg3) = m ((c.tc : Thread Cert.HgrnSampleIdeal.nD Cert.HgrnSampleIdeal.τ).loc Cert.HgrnSampleIdeal.main_arg3)
      ∧ m' ((c.tc : Thread Cert.HgrnSampleReferenceIdeal.nD Cert.HgrnSampleReferenceIdeal.τ).loc Cert.HgrnSampleReferenceIdeal.main_arg4) = m ((c.tc : Thread Cert.HgrnSampleIdeal.nD Cert.HgrnSampleIdeal.τ).loc Cert.HgrnSampleIdeal.main_arg4)
      ∧ m' ((c.tc : Thread Cert.HgrnSampleReferenceIdeal.nD Cert.HgrnSampleReferenceIdeal.τ).loc Cert.HgrnSampleReferenceIdeal.main_arg5) = m ((c.tc : Thread Cert.HgrnSampleIdeal.nD Cert.HgrnSampleIdeal.τ).loc Cert.HgrnSampleIdeal.main_arg5)
      ∧ m' ((c.tc : Thread Cert.HgrnSampleReferenceIdeal.nD Cert.HgrnSampleReferenceIdeal.τ).loc Cert.HgrnSampleReferenceIdeal.main_arg6) = m ((c.tc : Thread Cert.HgrnSampleIdeal.nD Cert.HgrnSampleIdeal.τ).loc Cert.HgrnSampleIdeal.main_arg6)) →
    ∃ (v0 : (c : Dev Cert.HgrnSampleIdeal.nD) → Buf (Elt Ideal) ((c.tc : Thread Cert.HgrnSampleIdeal.nD Cert.HgrnSampleIdeal.τ).loc Cert.HgrnSampleIdeal.main_v3_1)),
      θ_run (Cert.HgrnSampleIdeal.defs (F := Ideal)) (onTc (τ := Cert.HgrnSampleIdeal.τ) (Cert.HgrnSampleIdeal.main (F := Ideal))) ⟨m, fun _ => 0, g⟩ (fun r => ∀ c : Dev Cert.HgrnSampleIdeal.nD,
          r.2.mem ((c.tc : Thread Cert.HgrnSampleIdeal.nD Cert.HgrnSampleIdeal.τ).loc Cert.HgrnSampleIdeal.main_v3_1) = v0 c
          ∧ r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
          ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
          ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
          ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3)
          ∧ r.2.mem ((c.tc : Thread Cert.HgrnSampleIdeal.nD Cert.HgrnSampleIdeal.τ).loc Cert.HgrnSampleIdeal.main_arg4) = m ((c.tc : Thread Cert.HgrnSampleIdeal.nD Cert.HgrnSampleIdeal.τ).loc Cert.HgrnSampleIdeal.main_arg4)
          ∧ r.2.mem ((c.tc : Thread Cert.HgrnSampleIdeal.nD Cert.HgrnSampleIdeal.τ).loc Cert.HgrnSampleIdeal.main_arg5) = m ((c.tc : Thread Cert.HgrnSampleIdeal.nD Cert.HgrnSampleIdeal.τ).loc Cert.HgrnSampleIdeal.main_arg5)
          ∧ r.2.mem ((c.tc : Thread Cert.HgrnSampleIdeal.nD Cert.HgrnSampleIdeal.τ).loc Cert.HgrnSampleIdeal.main_arg6) = m ((c.tc : Thread Cert.HgrnSampleIdeal.nD Cert.HgrnSampleIdeal.τ).loc Cert.HgrnSampleIdeal.main_arg6))
      ∧ θ_run (Cert.HgrnSampleReferenceIdeal.defs (F := Ideal)) (onTc (τ := Cert.HgrnSampleReferenceIdeal.τ) (Cert.HgrnSampleReferenceIdeal.main (F := Ideal))) ⟨m', fun _ => 0, g'⟩ (fun r => ∀ c : Dev Cert.HgrnSampleReferenceIdeal.nD,
          r.2.mem ((c.tc : Thread Cert.HgrnSampleReferenceIdeal.nD Cert.HgrnSampleReferenceIdeal.τ).loc Cert.HgrnSampleReferenceIdeal.main_v22) = v0 c
          ∧ r.2.mem ((c.tc : Thread Cert.HgrnSampleReferenceIdeal.nD Cert.HgrnSampleReferenceIdeal.τ).loc Cert.HgrnSampleReferenceIdeal.main_arg0) = m' ((c.tc : Thread Cert.HgrnSampleReferenceIdeal.nD Cert.HgrnSampleReferenceIdeal.τ).loc Cert.HgrnSampleReferenceIdeal.main_arg0)
          ∧ r.2.mem ((c.tc : Thread Cert.HgrnSampleReferenceIdeal.nD Cert.HgrnSampleReferenceIdeal.τ).loc Cert.HgrnSampleReferenceIdeal.main_arg1) = m' ((c.tc : Thread Cert.HgrnSampleReferenceIdeal.nD Cert.HgrnSampleReferenceIdeal.τ).loc Cert.HgrnSampleReferenceIdeal.main_arg1)
          ∧ r.2.mem ((c.tc : Thread Cert.HgrnSampleReferenceIdeal.nD Cert.HgrnSampleReferenceIdeal.τ).loc Cert.HgrnSampleReferenceIdeal.main_arg2) = m' ((c.tc : Thread Cert.HgrnSampleReferenceIdeal.nD Cert.HgrnSampleReferenceIdeal.τ).loc Cert.HgrnSampleReferenceIdeal.main_arg2)
          ∧ r.2.mem ((c.tc : Thread Cert.HgrnSampleReferenceIdeal.nD Cert.HgrnSampleReferenceIdeal.τ).loc Cert.HgrnSampleReferenceIdeal.main_arg3) = m' ((c.tc : Thread Cert.HgrnSampleReferenceIdeal.nD Cert.HgrnSampleReferenceIdeal.τ).loc Cert.HgrnSampleReferenceIdeal.main_arg3)
          ∧ r.2.mem ((c.tc : Thread Cert.HgrnSampleReferenceIdeal.nD Cert.HgrnSampleReferenceIdeal.τ).loc Cert.HgrnSampleReferenceIdeal.main_arg4) = m' ((c.tc : Thread Cert.HgrnSampleReferenceIdeal.nD Cert.HgrnSampleReferenceIdeal.τ).loc Cert.HgrnSampleReferenceIdeal.main_arg4)
          ∧ r.2.mem ((c.tc : Thread Cert.HgrnSampleReferenceIdeal.nD Cert.HgrnSampleReferenceIdeal.τ).loc Cert.HgrnSampleReferenceIdeal.main_arg5) = m' ((c.tc : Thread Cert.HgrnSampleReferenceIdeal.nD Cert.HgrnSampleReferenceIdeal.τ).loc Cert.HgrnSampleReferenceIdeal.main_arg5)
          ∧ r.2.mem ((c.tc : Thread Cert.HgrnSampleReferenceIdeal.nD Cert.HgrnSampleReferenceIdeal.τ).loc Cert.HgrnSampleReferenceIdeal.main_arg6) = m' ((c.tc : Thread Cert.HgrnSampleReferenceIdeal.nD Cert.HgrnSampleReferenceIdeal.τ).loc Cert.HgrnSampleReferenceIdeal.main_arg6))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hMlp : Cert.Mlp.Facts) (hMlpIdeal : Cert.MlpIdeal.Facts) (hMlpReferenceIdeal : Cert.MlpReferenceIdeal.Facts) (hMlpSample : Cert.MlpSample.Facts) (hMlpSampleIdeal : Cert.MlpSampleIdeal.Facts) (hMlpSampleReferenceIdeal : Cert.MlpSampleReferenceIdeal.Facts) (hKeys : Cert.Keys.Facts) (hKeysIdeal : Cert.KeysIdeal.Facts) (hKeysReferenceIdeal : Cert.KeysReferenceIdeal.Facts) (hKeysSample : Cert.KeysSample.Facts) (hKeysSampleIdeal : Cert.KeysSampleIdeal.Facts) (hKeysSampleReferenceIdeal : Cert.KeysSampleReferenceIdeal.Facts) (hValues : Cert.Values.Facts) (hValuesIdeal : Cert.ValuesIdeal.Facts) (hValuesReferenceIdeal : Cert.ValuesReferenceIdeal.Facts) (hValuesSample : Cert.ValuesSample.Facts) (hValuesSampleIdeal : Cert.ValuesSampleIdeal.Facts) (hValuesSampleReferenceIdeal : Cert.ValuesSampleReferenceIdeal.Facts) (hHeadWeights : Cert.HeadWeights.Facts) (hHeadWeightsIdeal : Cert.HeadWeightsIdeal.Facts) (hHeadWeightsReferenceIdeal : Cert.HeadWeightsReferenceIdeal.Facts) (hHgrnSample : Cert.HgrnSample.Facts) (hHgrnSampleIdeal : Cert.HgrnSampleIdeal.Facts) (hHgrnSampleReferenceIdeal : Cert.HgrnSampleReferenceIdeal.Facts) (hPre_logarithms_below : Cert.Pre_logarithms_below.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_MlpSample (hMlpSample := hMlpSample)
    ∧ quiescent_MlpSampleIdeal (hMlpSampleIdeal := hMlpSampleIdeal)
    ∧ quiescent_MlpSampleReferenceIdeal (hMlpSampleReferenceIdeal := hMlpSampleReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_KeysSample (hKeysSample := hKeysSample)
    ∧ quiescent_KeysSampleIdeal (hKeysSampleIdeal := hKeysSampleIdeal)
    ∧ quiescent_KeysSampleReferenceIdeal (hKeysSampleReferenceIdeal := hKeysSampleReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_ValuesSample (hValuesSample := hValuesSample)
    ∧ quiescent_ValuesSampleIdeal (hValuesSampleIdeal := hValuesSampleIdeal)
    ∧ quiescent_ValuesSampleReferenceIdeal (hValuesSampleReferenceIdeal := hValuesSampleReferenceIdeal)
    ∧ quiescent_HeadWeights (hHeadWeights := hHeadWeights)
    ∧ quiescent_HeadWeightsIdeal (hHeadWeightsIdeal := hHeadWeightsIdeal)
    ∧ quiescent_HeadWeightsReferenceIdeal (hHeadWeightsReferenceIdeal := hHeadWeightsReferenceIdeal)
    ∧ quiescent_HgrnSample (hHgrnSample := hHgrnSample)
    ∧ quiescent_HgrnSampleIdeal (hHgrnSampleIdeal := hHgrnSampleIdeal)
    ∧ quiescent_HgrnSampleIdeal_pre_logarithms_below (hHgrnSampleIdeal := hHgrnSampleIdeal) (hPre_logarithms_below := hPre_logarithms_below)
    ∧ quiescent_HgrnSampleReferenceIdeal (hHgrnSampleReferenceIdeal := hHgrnSampleReferenceIdeal)
    ∧ quiescent_HgrnSampleReferenceIdeal_pre_logarithms_below (hHgrnSampleReferenceIdeal := hHgrnSampleReferenceIdeal) (hPre_logarithms_below := hPre_logarithms_below)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeReferenceIdeal (hMergeIdeal := hMergeIdeal) (hMergeReferenceIdeal := hMergeReferenceIdeal)
    ∧ preserves_Mlp_MlpIdeal
    ∧ algebraic_MlpIdeal_MlpReferenceIdeal (hMlpIdeal := hMlpIdeal) (hMlpReferenceIdeal := hMlpReferenceIdeal)
    ∧ preserves_MlpSample_MlpSampleIdeal
    ∧ algebraic_MlpSampleIdeal_MlpSampleReferenceIdeal (hMlpSampleIdeal := hMlpSampleIdeal) (hMlpSampleReferenceIdeal := hMlpSampleReferenceIdeal)
    ∧ preserves_Keys_KeysIdeal
    ∧ algebraic_KeysIdeal_KeysReferenceIdeal (hKeysIdeal := hKeysIdeal) (hKeysReferenceIdeal := hKeysReferenceIdeal)
    ∧ preserves_KeysSample_KeysSampleIdeal
    ∧ algebraic_KeysSampleIdeal_KeysSampleReferenceIdeal (hKeysSampleIdeal := hKeysSampleIdeal) (hKeysSampleReferenceIdeal := hKeysSampleReferenceIdeal)
    ∧ preserves_Values_ValuesIdeal
    ∧ algebraic_ValuesIdeal_ValuesReferenceIdeal (hValuesIdeal := hValuesIdeal) (hValuesReferenceIdeal := hValuesReferenceIdeal)
    ∧ preserves_ValuesSample_ValuesSampleIdeal
    ∧ algebraic_ValuesSampleIdeal_ValuesSampleReferenceIdeal (hValuesSampleIdeal := hValuesSampleIdeal) (hValuesSampleReferenceIdeal := hValuesSampleReferenceIdeal)
    ∧ preserves_HeadWeights_HeadWeightsIdeal
    ∧ algebraic_HeadWeightsIdeal_HeadWeightsReferenceIdeal (hHeadWeightsIdeal := hHeadWeightsIdeal) (hHeadWeightsReferenceIdeal := hHeadWeightsReferenceIdeal)
    ∧ preserves_HgrnSample_HgrnSampleIdeal
    ∧ algebraic_HgrnSampleIdeal_HgrnSampleReferenceIdeal_pre_logarithms_below (hHgrnSampleIdeal := hHgrnSampleIdeal) (hHgrnSampleReferenceIdeal := hHgrnSampleReferenceIdeal) (hPre_logarithms_below := hPre_logarithms_below)
-- ==== Pre_logarithms_below.lean ====
abbrev S512x2048 : Shape := ⟨2, ![512, 2048]⟩
abbrev S1x128 : Shape := ⟨2, ![1, 128]⟩
abbrev S1x16x16x128x128 : Shape := ⟨5, ![1, 16, 16, 128, 128]⟩
abbrev S_ : Shape := ⟨0, ![]⟩

class Facts : Prop where
  bcast_S_S512x2048 : S_.BroadcastsInDim S512x2048 (![] : Fin 0 → Fin S512x2048.rank)

variable [Facts]

def fn {F : FTy → Type} [FloatOps F] (main_arg0 : FVec F S512x2048 .bf16) (main_arg1 : FVec F S512x2048 .f32) (main_arg2 : FVec F S512x2048 .f32) (main_arg3 : FVec F S512x2048 .bf16) (main_arg4 : FVec F S512x2048 .bf16) (main_arg5 : FVec F S1x128 .f32) (main_arg6 : FVec F S1x16x16x128x128 .f32) : IVec S512x2048 1 :=
  let main_cst : FVec F S_ .f32 := constant S_ .f32 0x7F800000#32
  let main_v0 : FVec F S512x2048 .f32 := broadcastInDim S512x2048 ![] bcast_S_S512x2048 main_cst
  let main_v1 : IVec S512x2048 1 := cmpf .olt main_arg1 main_v0
  main_v1
-- ==== Kernel.lean ====
abbrev S1x8192x2048 : Shape := ⟨3, ![1, 8192, 2048]⟩
abbrev S16x32x2048 : Shape := ⟨3, ![16, 32, 2048]⟩
abbrev S1x2048 : Shape := ⟨2, ![1, 2048]⟩
abbrev S16x2048 : Shape := ⟨2, ![16, 2048]⟩
abbrev S1x2048x12288 : Shape := ⟨3, ![1, 2048, 12288]⟩
abbrev S1x12288 : Shape := ⟨2, ![1, 12288]⟩
abbrev S1x2048x17552 : Shape := ⟨3, ![1, 2048, 17552]⟩
abbrev S2x2048 : Shape := ⟨2, ![2, 2048]⟩
abbrev S17x2048 : Shape := ⟨2, ![17, 2048]⟩
abbrev S_ : Shape := ⟨0, ![]⟩
abbrev S24x2048 : Shape := ⟨2, ![24, 2048]⟩
abbrev S2048x12288 : Shape := ⟨2, ![2048, 12288]⟩
abbrev S12288 : Shape := ⟨1, ![12288]⟩
abbrev S24x12288 : Shape := ⟨2, ![24, 12288]⟩
abbrev S2048x1024 : Shape := ⟨2, ![2048, 1024]⟩
abbrev S1x1024 : Shape := ⟨2, ![1, 1024]⟩
abbrev S24x1024 : Shape := ⟨2, ![24, 1024]⟩
abbrev S24x6x2048 : Shape := ⟨3, ![24, 6, 2048]⟩
abbrev S2048x17552 : Shape := ⟨2, ![2048, 17552]⟩
abbrev S17552x2048 : Shape := ⟨2, ![17552, 2048]⟩
abbrev S1x6x2048 : Shape := ⟨3, ![1, 6, 2048]⟩
abbrev S1x1x2048 : Shape := ⟨3, ![1, 1, 2048]⟩
abbrev S2048 : Shape := ⟨1, ![2048]⟩
abbrev S1x256x2048 : Shape := ⟨3, ![1, 256, 2048]⟩
abbrev S1x256 : Shape := ⟨2, ![1, 256]⟩
abbrev S1x256x1 : Shape := ⟨3, ![1, 256, 1]⟩
abbrev S8192x2048 : Shape := ⟨2, ![8192, 2048]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S1x8192x1x128 : Shape := ⟨4, ![1, 8192, 1, 128]⟩
abbrev S2048x2048 : Shape := ⟨2, ![2048, 2048]⟩
abbrev S512x2048 : Shape := ⟨2, ![512, 2048]⟩
abbrev S2048x128 : Shape := ⟨2, ![2048, 128]⟩
abbrev S2048x512 : Shape := ⟨2, ![2048, 512]⟩
abbrev S128x2048 : Shape := ⟨2, ![128, 2048]⟩
abbrev S2x512 : Shape := ⟨2, ![2, 512]⟩
abbrev S512 : Shape := ⟨1, ![512]⟩
abbrev S1x512 : Shape := ⟨2, ![1, 512]⟩
abbrev S16x6x2048 : Shape := ⟨3, ![16, 6, 2048]⟩
abbrev S16x1x2048 : Shape := ⟨3, ![16, 1, 2048]⟩
abbrev S8x32x2048 : Shape := ⟨3, ![8, 32, 2048]⟩
abbrev S8x1x2048 : Shape := ⟨3, ![8, 1, 2048]⟩
abbrev S8x32 : Shape := ⟨2, ![8, 32]⟩
abbrev S8x32x1 : Shape := ⟨3, ![8, 32, 1]⟩
abbrev S32 : Shape := ⟨1, ![32]⟩
abbrev S32x1 : Shape := ⟨2, ![32, 1]⟩
abbrev S32x16 : Shape := ⟨2, ![32, 16]⟩
abbrev S32x96 : Shape := ⟨2, ![32, 96]⟩
abbrev S32x128 : Shape := ⟨2, ![32, 128]⟩
abbrev S1x32x1x128 : Shape := ⟨4, ![1, 32, 1, 128]⟩
abbrev S16x32x1x128 : Shape := ⟨4, ![16, 32, 1, 128]⟩
abbrev S512x128 : Shape := ⟨2, ![512, 128]⟩

abbrev nBuf : Space → Nat
  | .hbm => 125
  | .vmem => 107
  | .smem => 0
  | _ => 0

abbrev bufTy : (tb : Table) → Fin (tcTables nBuf tb) → BufTy
  | .hbm, ⟨0, _⟩ => ⟨S1x8192x2048, .f32⟩
  | .hbm, ⟨1, _⟩ => ⟨S16x32x2048, .f32⟩
  | .hbm, ⟨2, _⟩ => ⟨S1x2048, .f32⟩
  | .hbm, ⟨3, _⟩ => ⟨S16x2048, .f32⟩
  | .hbm, ⟨4, _⟩ => ⟨S1x2048x12288, .f32⟩
  | .hbm, ⟨5, _⟩ => ⟨S1x12288, .f32⟩
  | .hbm, ⟨6, _⟩ => ⟨S1x2048, .f32⟩
  | .hbm, ⟨7, _⟩ => ⟨S1x2048x17552, .f32⟩
  | .hbm, ⟨8, _⟩ => ⟨S2x2048, .f32⟩
  | .hbm, ⟨9, _⟩ => ⟨S17x2048, .f32⟩
  | .hbm, ⟨10, _⟩ => ⟨S_, .i32⟩
  | .hbm, ⟨11, _⟩ => ⟨S_, .f32⟩
  | .hbm, ⟨12, _⟩ => ⟨S24x2048, .f32⟩
  | .hbm, ⟨13, _⟩ => ⟨S2048x12288, .f32⟩
  | .hbm, ⟨14, _⟩ => ⟨S12288, .f32⟩
  | .hbm, ⟨15, _⟩ => ⟨S1x12288, .f32⟩
  | .hbm, ⟨16, _⟩ => ⟨S24x12288, .f32⟩
  | .hbm, ⟨17, _⟩ => ⟨S24x6x2048, .f32⟩
  | .hbm, ⟨18, _⟩ => ⟨S2048x17552, .f32⟩
  | .hbm, ⟨19, _⟩ => ⟨S17552x2048, .f32⟩
  | .hbm, ⟨20, _⟩ => ⟨S1x6x2048, .f32⟩
  | .hbm, ⟨21, _⟩ => ⟨S1x1x2048, .f32⟩
  | .hbm, ⟨22, _⟩ => ⟨S1x1x2048, .f32⟩
  | .hbm, ⟨23, _⟩ => ⟨S2048, .f32⟩
  | .hbm, ⟨24, _⟩ => ⟨S1x1x2048, .f32⟩
  | .hbm, ⟨25, _⟩ => ⟨S1x8192x2048, .bf16⟩
  | .hbm, ⟨26, _⟩ => ⟨S8192x2048, .bf16⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S8192, .f32⟩
  | .hbm, ⟨40, _⟩ => ⟨S8192x1, .f32⟩
  | .hbm, ⟨41, _⟩ => ⟨S1x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S_, .f32⟩
  | .hbm, ⟨48, _⟩ => ⟨S8192x96, .f32⟩
  | .hbm, ⟨49, _⟩ => ⟨S_, .f32⟩
  | .hbm, ⟨50, _⟩ => ⟨S8192x96, .f32⟩
  | .hbm, ⟨51, _⟩ => ⟨S_, .f32⟩
  | .hbm, ⟨52, _⟩ => ⟨S8192x16, .f32⟩
  | .hbm, ⟨53, _⟩ => ⟨S8192x128, .f32⟩
  | .hbm, ⟨54, _⟩ => ⟨S8192x16, .f32⟩
  | .hbm, ⟨55, _⟩ => ⟨S8192x128, .f32⟩
  | .hbm, ⟨56, _⟩ => ⟨S8192x128, .f32⟩
  | .hbm, ⟨57, _⟩ => ⟨S1x8192x1x128, .f32⟩
  | .hbm, ⟨58, _⟩ => ⟨S1x8192x1x128, .f32⟩
  | .hbm, ⟨59, _⟩ => ⟨S8192x128, .f32⟩
  | .hbm, ⟨60, _⟩ => ⟨S1x8192x1x128, .f32⟩
  | .hbm, ⟨61, _⟩ => ⟨S1x8192x1x128, .f32⟩
  | .hbm, ⟨62, _⟩ => ⟨S8192x128, .f32⟩
  | .hbm, ⟨63, _⟩ => ⟨S1x8192x1x128, .f32⟩
  | .hbm, ⟨64, _⟩ => ⟨S1x8192x1x128, .f32⟩
  | .hbm, ⟨65, _⟩ => ⟨S8192x128, .f32⟩
  | .hbm, ⟨66, _⟩ => ⟨S8192x2048, .bf16⟩
  | .hbm, ⟨67, _⟩ => ⟨S8192x2048, .bf16⟩
  | .hbm, ⟨68, _⟩ => ⟨S8192x128, .f32⟩
  | .hbm, ⟨69, _⟩ => ⟨S8192x128, .bf16⟩
  | .hbm, ⟨70, _⟩ => ⟨S8192x2048, .bf16⟩
  | .hbm, ⟨71, _⟩ => ⟨S8192x2048, .f32⟩
  | .hbm, ⟨72, _⟩ => ⟨S8192x2048, .f32⟩
  | .hbm, ⟨73, _⟩ => ⟨S8192x2048, .bf16⟩
  | .hbm, ⟨74, _⟩ => ⟨S8192x2048, .bf16⟩
  | .hbm, ⟨75, _⟩ => ⟨S8192x2048, .bf16⟩
  | .hbm, ⟨76, _⟩ => ⟨S8192x2048, .bf16⟩
  | .hbm, ⟨77, _⟩ => ⟨S16x6x2048, .f32⟩
  | .hbm, ⟨78, _⟩ => ⟨S16x1x2048, .f32⟩
  | .hbm, ⟨79, _⟩ => ⟨S16x1x2048, .f32⟩
  | .hbm, ⟨80, _⟩ => ⟨S2048, .f32⟩
  | .hbm, ⟨81, _⟩ => ⟨S1x1x2048, .f32⟩
  | .hbm, ⟨82, _⟩ => ⟨S16x32x2048, .bf16⟩
  | .hbm, ⟨83, _⟩ => ⟨S512x2048, .bf16⟩
  | .hbm, ⟨84, _⟩ => ⟨S32, .i32⟩
  | .hbm, ⟨85, _⟩ => ⟨S_, .i32⟩
  | .hbm, ⟨86, _⟩ => ⟨S32, .i32⟩
  | .hbm, ⟨87, _⟩ => ⟨S32, .i32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .f32⟩
  | .hbm, ⟨96, _⟩ => ⟨S32, .f32⟩
  | .hbm, ⟨97, _⟩ => ⟨S32x1, .f32⟩
  | .hbm, ⟨98, _⟩ => ⟨S1x16, .f32⟩
  | .hbm, ⟨99, _⟩ => ⟨S32x16, .f32⟩
  | .hbm, ⟨100, _⟩ => ⟨S32x16, .f32⟩
  | .hbm, ⟨101, _⟩ => ⟨S32x16, .f32⟩
  | .hbm, ⟨102, _⟩ => ⟨S32x16, .f32⟩
  | .hbm, ⟨103, _⟩ => ⟨S32x16, .f32⟩
  | .hbm, ⟨104, _⟩ => ⟨S_, .f32⟩
  | .hbm, ⟨105, _⟩ => ⟨S32x96, .f32⟩
  | .hbm, ⟨106, _⟩ => ⟨S_, .f32⟩
  | .hbm, ⟨107, _⟩ => ⟨S32x96, .f32⟩
  | .hbm, ⟨108, _⟩ => ⟨S_, .f32⟩
  | .hbm, ⟨109, _⟩ => ⟨S32x16, .f32⟩
  | .hbm, ⟨110, _⟩ => ⟨S32x128, .f32⟩
  | .hbm, ⟨111, _⟩ => ⟨S32x16, .f32⟩
  | .hbm, ⟨112, _⟩ => ⟨S32x128, .f32⟩
  | .hbm, ⟨113, _⟩ => ⟨S32x128, .f32⟩
  | .hbm, ⟨114, _⟩ => ⟨S1x32x1x128, .f32⟩
  | .hbm, ⟨115, _⟩ => ⟨S16x32x1x128, .f32⟩
  | .hbm, ⟨116, _⟩ => ⟨S512x128, .f32⟩
  | .hbm, ⟨117, _⟩ => ⟨S1x32x1x128, .f32⟩
  | .hbm, ⟨118, _⟩ => ⟨S16x32x1x128, .f32⟩
  | .hbm, ⟨119, _⟩ => ⟨S512x128, .f32⟩
  | .hbm, ⟨120, _⟩ => ⟨S1x32x1x128, .f32⟩
  | .hbm, ⟨121, _⟩ => ⟨S16x32x1x128, .f32⟩
  | .hbm, ⟨122, _⟩ => ⟨S512x128, .f32⟩
  | .hbm, ⟨123, _⟩ => ⟨S512x128, .f32⟩
  | .hbm, ⟨124, _⟩ => ⟨S512x128, .bf16⟩
  | .local _ .vmem, ⟨0, _⟩ => ⟨S24x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | .local _ .vmem, ⟨7, _⟩ => ⟨S1x256x2048, .f32⟩
  | .local _ .vmem, ⟨8, _⟩ => ⟨S1x256x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x256x2048, .bf16⟩
  | .local _ .vmem, ⟨13, _⟩ => ⟨S1x256x2048, .bf16⟩
  | .local _ .vmem, ⟨14, _⟩ => ⟨S2048x2048, .bf16⟩
  | .local _ .vmem, ⟨15, _⟩ => ⟨S2048x2048, .bf16⟩
  | .local _ .vmem, ⟨16, _⟩ => ⟨S512x2048, .f32⟩
  | .local _ .vmem, ⟨17, _⟩ => ⟨S512x2048, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x512, .bf16⟩
  | .local _ .vmem, ⟨25, _⟩ => ⟨S2048x512, .bf16⟩
  | .local _ .vmem, ⟨26, _⟩ => ⟨S2048x2048, .bf16⟩
  | .local _ .vmem, ⟨27, _⟩ => ⟨S2048x2048, .bf16⟩
  | .local _ .vmem, ⟨28, _⟩ => ⟨S512x2048, .f32⟩
  | .local _ .vmem, ⟨29, _⟩ => ⟨S512x2048, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x512, .bf16⟩
  | .local _ .vmem, ⟨37, _⟩ => ⟨S2048x512, .bf16⟩
  | .local _ .vmem, ⟨38, _⟩ => ⟨S2048x2048, .bf16⟩
  | .local _ .vmem, ⟨39, _⟩ => ⟨S2048x2048, .bf16⟩
  | .local _ .vmem, ⟨40, _⟩ => ⟨S128x2048, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S2048x128, .f32⟩
  | .local _ .vmem, ⟨49, _⟩ => ⟨S2048x128, .bf16⟩
  | .local _ .vmem, ⟨50, _⟩ => ⟨S2048x128, .bf16⟩
  | .local _ .vmem, ⟨51, _⟩ => ⟨S2048x2048, .bf16⟩
  | .local _ .vmem, ⟨52, _⟩ => ⟨S2048x2048, .bf16⟩
  | .local _ .vmem, ⟨53, _⟩ => ⟨S512x2048, .f32⟩
  | .local _ .vmem, ⟨54, _⟩ => ⟨S512x2048, .f32⟩
  | .local _ .vmem, ⟨55, _⟩ => ⟨S2048x512, .bf16⟩
  | .local _ .vmem, ⟨56, _⟩ => ⟨S2048x512, .bf16⟩
  | .local _ .vmem, ⟨57, _⟩ => ⟨S2048x2048, .bf16⟩
  | .local _ .vmem, ⟨58, _⟩ => ⟨S2048x2048, .bf16⟩
  | .local _ .vmem, ⟨59, _⟩ => ⟨S512x2048, .f32⟩
  | .local _ .vmem, ⟨60, _⟩ => ⟨S512x2048, .f32⟩
  | .local _ .vmem, ⟨61, _⟩ => ⟨S2x512, .f32⟩
  | .local _ .vmem, ⟨62, _⟩ => ⟨S2x512, .f32⟩
  | .local _ .vmem, ⟨63, _⟩ => ⟨S2048x512, .f32⟩
  | .local _ .vmem, ⟨64, _⟩ => ⟨S2048x512, .f32⟩
  | .local _ .vmem, ⟨65, _⟩ => ⟨S2048x512, .f32⟩
  | .local _ .vmem, ⟨66, _⟩ => ⟨S2048x512, .f32⟩
  | .local _ .vmem, ⟨67, _⟩ => ⟨S2048x2048, .bf16⟩
  | .local _ .vmem, ⟨68, _⟩ => ⟨S2048x2048, .bf16⟩
  | .local _ .vmem, ⟨69, _⟩ => ⟨S512x2048, .f32⟩
  | .local _ .vmem, ⟨70, _⟩ => ⟨S512x2048, .f32⟩
  | .local _ .vmem, ⟨71, _⟩ => ⟨S2048x512, .bf16⟩
  | .local _ .vmem, ⟨72, _⟩ => ⟨S2048x512, .bf16⟩
  | .local _ .vmem, ⟨73, _⟩ => ⟨S2048x2048, .bf16⟩
  | .local _ .vmem, ⟨74, _⟩ => ⟨S2048x2048, .bf16⟩
  | .local _ .vmem, ⟨75, _⟩ => ⟨S512x2048, .f32⟩
  | .local _ .vmem, ⟨76, _⟩ => ⟨S512x2048, .f32⟩
  | .local _ .vmem, ⟨77, _⟩ => ⟨S2048x512, .bf16⟩
  | .local _ .vmem, ⟨78, _⟩ => ⟨S2048x512, .bf16⟩
  | .local _ .vmem, ⟨79, _⟩ => ⟨S2048x2048, .bf16⟩
  | .local _ .vmem, ⟨80, _⟩ => ⟨S2048x2048, .bf16⟩
  | .local _ .vmem, ⟨81, _⟩ => ⟨S512x2048, .f32⟩
  | .local _ .vmem, ⟨82, _⟩ => ⟨S512x2048, .f32⟩
  | .local _ .vmem, ⟨83, _⟩ => ⟨S2048x512, .bf16⟩
  | .local _ .vmem, ⟨84, _⟩ => ⟨S2048x512, .bf16⟩
  | .local _ .vmem, ⟨85, _⟩ => ⟨S2048x2048, .bf16⟩
  | .local _ .vmem, ⟨86, _⟩ => ⟨S2048x2048, .bf16⟩
  | .local _ .vmem, ⟨87, _⟩ => ⟨S512x2048, .f32⟩
  | .local _ .vmem, ⟨88, _⟩ => ⟨S512x2048, .f32⟩
  | .local _ .vmem, ⟨89, _⟩ => ⟨S2048x512, .bf16⟩
  | .local _ .vmem, ⟨90, _⟩ => ⟨S2048x512, .bf16⟩
  | .local _ .vmem, ⟨91, _⟩ => ⟨S8x32x2048, .f32⟩
  | .local _ .vmem, ⟨92, _⟩ => ⟨S8x32x2048, .f32⟩
  | .local _ .vmem, ⟨93, _⟩ => ⟨S8x1x2048, .f32⟩
  | .local _ .vmem, ⟨94, _⟩ => ⟨S8x1x2048, .f32⟩
  | .local _ .vmem, ⟨95, _⟩ => ⟨S8x1x2048, .f32⟩
  | .local _ .vmem, ⟨96, _⟩ => ⟨S8x1x2048, .f32⟩
  | .local _ .vmem, ⟨97, _⟩ => ⟨S1x1x2048, .f32⟩
  | .local _ .vmem, ⟨98, _⟩ => ⟨S8x32x2048, .bf16⟩
  | .local _ .vmem, ⟨99, _⟩ => ⟨S8x32x2048, .bf16⟩
  | .local _ .vmem, ⟨100, _⟩ => ⟨S512x2048, .bf16⟩
  | .local _ .vmem, ⟨101, _⟩ => ⟨S128x2048, .f32⟩
  | .local _ .vmem, ⟨102, _⟩ => ⟨S512x128, .f32⟩
  | .local _ .vmem, ⟨103, _⟩ => ⟨S512x128, .f32⟩
  | .local _ .vmem, ⟨104, _⟩ => ⟨S512x128, .f32⟩
  | .local _ .vmem, ⟨105, _⟩ => ⟨S512x128, .f32⟩
  | .local _ .vmem, ⟨106, _⟩ => ⟨S512x128, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  ofTc nBuf bufTy 0 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_5 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_7 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_8 : Ref sig .tc := ⟨.hbm, 104, rfl⟩
abbrev main_v82 : Ref sig .tc := ⟨.hbm, 105, rfl⟩
abbrev main_cst_9 : Ref sig .tc := ⟨.hbm, 106, rfl⟩
abbrev main_v83 : Ref sig .tc := ⟨.hbm, 107, rfl⟩
abbrev main_cst_10 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98_0 : Ref sig .tc := ⟨.hbm, 123, rfl⟩
abbrev main_v98_1 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc4_stg6_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg4_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg2_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg2_1 : Ref sig .tc := ⟨.vmem, 78, rfl⟩
abbrev cc9_stg0_0 : Ref sig .tc := ⟨.vmem, 79, rfl⟩
abbrev cc9_stg0_1 : Ref sig .tc := ⟨.vmem, 80, rfl⟩
abbrev cc9_stg1_0 : Ref sig .tc := ⟨.vmem, 81, rfl⟩
abbrev cc9_stg1_1 : Ref sig .tc := ⟨.vmem, 82, rfl⟩
abbrev cc9_stg2_0 : Ref sig .tc := ⟨.vmem, 83, rfl⟩
abbrev cc9_stg2_1 : Ref sig .tc := ⟨.vmem, 84, rfl⟩
abbrev cc10_stg0_0 : Ref sig .tc := ⟨.vmem, 85, rfl⟩
abbrev cc10_stg0_1 : Ref sig .tc := ⟨.vmem, 86, rfl⟩
abbrev cc10_stg1_0 : Ref sig .tc := ⟨.vmem, 87, rfl⟩
abbrev cc10_stg1_1 : Ref sig .tc := ⟨.vmem, 88, rfl⟩
abbrev cc10_stg2_0 : Ref sig .tc := ⟨.vmem, 89, rfl⟩
abbrev cc10_stg2_1 : Ref sig .tc := ⟨.vmem, 90, rfl⟩
abbrev cc11_stg0_0 : Ref sig .tc := ⟨.vmem, 91, rfl⟩
abbrev cc11_stg0_1 : Ref sig .tc := ⟨.vmem, 92, rfl⟩
abbrev cc11_stg1_0 : Ref sig .tc := ⟨.vmem, 93, rfl⟩
abbrev cc11_stg1_1 : Ref sig .tc := ⟨.vmem, 94, rfl⟩
abbrev cc11_stg2_0 : Ref sig .tc := ⟨.vmem, 95, rfl⟩
abbrev cc11_stg2_1 : Ref sig .tc := ⟨.vmem, 96, rfl⟩
abbrev cc11_stg3_0 : Ref sig .tc := ⟨.vmem, 97, rfl⟩
abbrev cc11_stg4_0 : Ref sig .tc := ⟨.vmem, 98, rfl⟩
abbrev cc11_stg4_1 : Ref sig .tc := ⟨.vmem, 99, rfl⟩
abbrev cc12_stg0_0 : Ref sig .tc := ⟨.vmem, 100, rfl⟩
abbrev cc12_stg1_0 : Ref sig .tc := ⟨.vmem, 101, rfl⟩
abbrev cc12_stg2_0 : Ref sig .tc := ⟨.vmem, 102, rfl⟩
abbrev cc12_stg3_0 : Ref sig .tc := ⟨.vmem, 103, rfl⟩
abbrev cc12_stg4_0 : Ref sig .tc := ⟨.vmem, 104, rfl⟩
abbrev cc12_stg5_0 : Ref sig .tc := ⟨.vmem, 105, rfl⟩
abbrev cc12_stg6_0 : Ref sig .tc := ⟨.vmem, 106, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem5_1 : DmaSem sig := 48
abbrev cc4_sem6_0 : DmaSem sig := 49
abbrev cc4_sem6_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem3_1 : DmaSem sig := 64
abbrev cc6_sem4_0 : DmaSem sig := 65
abbrev cc6_sem4_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem2_1 : DmaSem sig := 72
abbrev cc8_sem0_0 : DmaSem sig := 73
abbrev cc8_sem0_1 : DmaSem sig := 74
abbrev cc8_sem1_0 : DmaSem sig := 75
abbrev cc8_sem1_1 : DmaSem sig := 76
abbrev cc8_sem2_0 : DmaSem sig := 77
abbrev cc8_sem2_1 : DmaSem sig := 78
abbrev cc9_sem0_0 : DmaSem sig := 79
abbrev cc9_sem0_1 : DmaSem sig := 80
abbrev cc9_sem1_0 : DmaSem sig := 81
abbrev cc9_sem1_1 : DmaSem sig := 82
abbrev cc9_sem2_0 : DmaSem sig := 83
abbrev cc9_sem2_1 : DmaSem sig := 84
abbrev cc10_sem0_0 : DmaSem sig := 85
abbrev cc10_sem0_1 : DmaSem sig := 86
abbrev cc10_sem1_0 : DmaSem sig := 87
abbrev cc10_sem1_1 : DmaSem sig := 88
abbrev cc10_sem2_0 : DmaSem sig := 89
abbrev cc10_sem2_1 : DmaSem sig := 90
abbrev cc11_sem0_0 : DmaSem sig := 91
abbrev cc11_sem0_1 : DmaSem sig := 92
abbrev cc11_sem1_0 : DmaSem sig := 93
abbrev cc11_sem1_1 : DmaSem sig := 94
abbrev cc11_sem2_0 : DmaSem sig := 95
abbrev cc11_sem2_1 : DmaSem sig := 96
abbrev cc11_sem3_0 : DmaSem sig := 97
abbrev cc11_sem4_0 : DmaSem sig := 98
abbrev cc11_sem4_1 : DmaSem sig := 99
abbrev cc12_sem0_0 : DmaSem sig := 100
abbrev cc12_sem1_0 : DmaSem sig := 101
abbrev cc12_sem2_0 : DmaSem sig := 102
abbrev cc12_sem3_0 : DmaSem sig := 103
abbrev cc12_sem4_0 : DmaSem sig := 104
abbrev cc12_sem5_0 : DmaSem sig := 105
abbrev cc12_sem6_0 : DmaSem sig := 106

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 4], ![false, false]⟩

def k2_mult1 (i : grid2.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2048x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 4], ![false, false]⟩

def k3_mult1 (i : grid3.Coords) : BitVec 32 :=
  let c3072_i32 : BitVec 32 := 3072#32
  let arg1 : BitVec 32 := BitVec.ofNat 32 (i 1).val
  let c512_i32 : BitVec 32 := 512#32
  let v0 : BitVec 32 := Scalar.muli arg1 c512_i32
  let v1 : BitVec 32 := Scalar.addi c3072_i32 v0
  v1
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c3072_i32 : BitVec 32 := 3072#32
  let v1 : BitVec 32 := Scalar.addi c3072_i32 v0
  let v2 : BitVec 32 := v1
  let c0_i32 : BitVec 32 := 0#32
  let c0_i32_0 : BitVec 32 := 0#32
  ![v2.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S2048x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![4, 1], ![false, false]⟩

def k4_mult1 (i : grid4.Coords) : BitVec 32 :=
  let c5120_i32 : BitVec 32 := 5120#32
  let arg1 : BitVec 32 := BitVec.ofNat 32 (i 1).val
  let c128_i32 : BitVec 32 := 128#32
  let v0 : BitVec 32 := Scalar.muli arg1 c128_i32
  let v1 : BitVec 32 := Scalar.addi c5120_i32 v0
  v1
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c5120_i32 : BitVec 32 := 5120#32
  let v1 : BitVec 32 := Scalar.addi c5120_i32 v0
  let v2 : BitVec 32 := v1
  let c0_i32 : BitVec 32 := 0#32
  let c0_i32_0 : BitVec 32 := 0#32
  ![v2.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S128x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S2048x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S2048x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S2048x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![4, 4], ![false, false]⟩

def k5_mult1 (i : grid5.Coords) : BitVec 32 :=
  let c5264_i32 : BitVec 32 := 5264#32
  let arg1 : BitVec 32 := BitVec.ofNat 32 (i 1).val
  let c512_i32 : BitVec 32 := 512#32
  let v0 : BitVec 32 := Scalar.muli arg1 c512_i32
  let v1 : BitVec 32 := Scalar.addi c5264_i32 v0
  v1
def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c5264_i32 : BitVec 32 := 5264#32
  let v1 : BitVec 32 := Scalar.addi c5264_i32 v0
  let v2 : BitVec 32 := v1
  let c0_i32 : BitVec 32 := 0#32
  let c0_i32_0 : BitVec 32 := 0#32
  ![v2.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 4], ![false, false]⟩

def k6_mult1 (i : grid6.Coords) : BitVec 32 :=
  let c7312_i32 : BitVec 32 := 7312#32
  let arg1 : BitVec 32 := BitVec.ofNat 32 (i 1).val
  let c512_i32 : BitVec 32 := 512#32
  let v0 : BitVec 32 := Scalar.muli arg1 c512_i32
  let v1 : BitVec 32 := Scalar.addi c7312_i32 v0
  v1
def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c7312_i32 : BitVec 32 := 7312#32
  let v1 : BitVec 32 := Scalar.addi c7312_i32 v0
  let v2 : BitVec 32 := v1
  let c0_i32 : BitVec 32 := 0#32
  let c0_i32_0 : BitVec 32 := 0#32
  ![v2.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S2048x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x2048 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S2048x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S2048x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![4, 4], ![false, false]⟩

def k7_mult1 (i : grid7.Coords) : BitVec 32 :=
  let c9360_i32 : BitVec 32 := 9360#32
  let arg1 : BitVec 32 := BitVec.ofNat 32 (i 1).val
  let c512_i32 : BitVec 32 := 512#32
  let v0 : BitVec 32 := Scalar.muli arg1 c512_i32
  let v1 : BitVec 32 := Scalar.addi c9360_i32 v0
  v1
def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c9360_i32 : BitVec 32 := 9360#32
  let v1 : BitVec 32 := Scalar.addi c9360_i32 v0
  let v2 : BitVec 32 := v1
  let c0_i32 : BitVec 32 := 0#32
  let c0_i32_0 : BitVec 32 := 0#32
  ![v2.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![4, 4], ![false, false]⟩

def k8_mult1 (i : grid8.Coords) : BitVec 32 :=
  let c11408_i32 : BitVec 32 := 11408#32
  let arg1 : BitVec 32 := BitVec.ofNat 32 (i 1).val
  let c512_i32 : BitVec 32 := 512#32
  let v0 : BitVec 32 := Scalar.muli arg1 c512_i32
  let v1 : BitVec 32 := Scalar.addi c11408_i32 v0
  v1
def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c11408_i32 : BitVec 32 := 11408#32
  let v1 : BitVec 32 := Scalar.addi c11408_i32 v0
  let v2 : BitVec 32 := v1
  let c0_i32 : BitVec 32 := 0#32
  let c0_i32_0 : BitVec 32 := 0#32
  ![v2.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S2048x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S512x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S2048x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 4], ![false, false]⟩

def k9_mult1 (i : grid9.Coords) : BitVec 32 :=
  let c13456_i32 : BitVec 32 := 13456#32
  let arg1 : BitVec 32 := BitVec.ofNat 32 (i 1).val
  let c512_i32 : BitVec 32 := 512#32
  let v0 : BitVec 32 := Scalar.muli arg1 c512_i32
  let v1 : BitVec 32 := Scalar.addi c13456_i32 v0
  v1
def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c13456_i32 : BitVec 32 := 13456#32
  let v1 : BitVec 32 := Scalar.addi c13456_i32 v0
  let v2 : BitVec 32 := v1
  let c0_i32 : BitVec 32 := 0#32
  let c0_i32_0 : BitVec 32 := 0#32
  ![v2.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S2048x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S512x2048 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S2048x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![4, 4], ![false, false]⟩

def k10_mult1 (i : grid10.Coords) : BitVec 32 :=
  let c15504_i32 : BitVec 32 := 15504#32
  let arg1 : BitVec 32 := BitVec.ofNat 32 (i 1).val
  let c512_i32 : BitVec 32 := 512#32
  let v0 : BitVec 32 := Scalar.muli arg1 c512_i32
  let v1 : BitVec 32 := Scalar.addi c15504_i32 v0
  v1
def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c15504_i32 : BitVec 32 := 15504#32
  let v1 : BitVec 32 := Scalar.addi c15504_i32 v0
  let v2 : BitVec 32 := v1
  let c0_i32 : BitVec 32 := 0#32
  let c0_i32_0 : BitVec 32 := 0#32
  ![v2.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S2048x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S512x2048 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![2, 1], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_3 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_4 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage11_0 : Fin 2 → Memref sig .tc .vmem S8x32x2048 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S8x1x2048 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S8x1x2048 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 1 → Memref sig .tc .vmem S1x1x2048 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false, false]

abbrev stage11_4 : Fin 2 → Memref sig .tc .vmem S8x32x2048 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, true]

abbrev grid12 : Pipeline.Grid := ⟨2, ![1, 1], ![false, false]⟩

def k12_mult1 (i : grid12.Coords) : BitVec 32 :=
  let c5120_i32 : BitVec 32 := 5120#32
  let arg1 : BitVec 32 := BitVec.ofNat 32 (i 1).val
  let c128_i32 : BitVec 32 := 128#32
  let v0 : BitVec 32 := Scalar.muli arg1 c128_i32
  let v1 : BitVec 32 := Scalar.addi c5120_i32 v0
  v1
def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c5120_i32 : BitVec 32 := 5120#32
  let v1 : BitVec 32 := Scalar.addi c5120_i32 v0
  let v2 : BitVec 32 := v1
  let c0_i32 : BitVec 32 := 0#32
  let c0_i32_0 : BitVec 32 := 0#32
  ![v2.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_6 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 1 → Memref sig .tc .vmem S512x2048 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false]

abbrev stage12_1 : Fin 1 → Memref sig .tc .vmem S128x2048 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 1 → Memref sig .tc .vmem S512x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true, false]

abbrev stage12_3 : Fin 1 → Memref sig .tc .vmem S512x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true, false]

abbrev stage12_4 : Fin 1 → Memref sig .tc .vmem S512x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![true, false]

abbrev stage12_5 : Fin 1 → Memref sig .tc .vmem S512x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![true, true]

abbrev stage12_6 : Fin 1 → Memref sig .tc .vmem S512x128 .bf16 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![true, true]
-- ==== ReferenceIdeal.lean ====
abbrev S1x8192x2048 : Shape := ⟨3, ![1, 8192, 2048]⟩
abbrev S16x32x2048 : Shape := ⟨3, ![16, 32, 2048]⟩
abbrev S1x2048 : Shape := ⟨2, ![1, 2048]⟩
abbrev S16x2048 : Shape := ⟨2, ![16, 2048]⟩
abbrev S1x2048x12288 : Shape := ⟨3, ![1, 2048, 12288]⟩
abbrev S1x12288 : Shape := ⟨2, ![1, 12288]⟩
abbrev S1x2048x17552 : Shape := ⟨3, ![1, 2048, 17552]⟩
abbrev S2x2048 : Shape := ⟨2, ![2, 2048]⟩
abbrev S2048x12288 : Shape := ⟨2, ![2048, 12288]⟩
abbrev S12288 : Shape := ⟨1, ![12288]⟩
abbrev S1x6x2048 : Shape := ⟨3, ![1, 6, 2048]⟩
abbrev S1x6x1x2048 : Shape := ⟨4, ![1, 6, 1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x1x1x2048 : Shape := ⟨4, ![1, 1, 1, 2048]⟩
abbrev S2048x17552 : Shape := ⟨2, ![2048, 17552]⟩
abbrev S1x8192x17552 : Shape := ⟨3, ![1, 8192, 17552]⟩
abbrev S8192 : Shape := ⟨1, ![8192]⟩
abbrev S1x8192x16x128 : Shape := ⟨4, ![1, 8192, 16, 128]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S1x8192x16x32 : Shape := ⟨4, ![1, 8192, 16, 32]⟩
abbrev S1x8192x16x16 : Shape := ⟨4, ![1, 8192, 16, 16]⟩
abbrev S1x8192x1x16 : Shape := ⟨4, ![1, 8192, 1, 16]⟩
abbrev S1x8192x16x96 : Shape := ⟨4, ![1, 8192, 16, 96]⟩
abbrev S1x8192x128 : Shape := ⟨3, ![1, 8192, 128]⟩
abbrev S1x8192x1x128 : Shape := ⟨4, ![1, 8192, 1, 128]⟩
abbrev S1x8192x1x32 : Shape := ⟨4, ![1, 8192, 1, 32]⟩
abbrev S1x8192x1x96 : Shape := ⟨4, ![1, 8192, 1, 96]⟩
abbrev S8192x128 : Shape := ⟨2, ![8192, 128]⟩
abbrev S16x12288 : Shape := ⟨2, ![16, 12288]⟩
abbrev S16x6x2048 : Shape := ⟨3, ![16, 6, 2048]⟩
abbrev S16x6x1x2048 : Shape := ⟨4, ![16, 6, 1, 2048]⟩
abbrev S16x32 : Shape := ⟨2, ![16, 32]⟩
abbrev S16x32x1 : Shape := ⟨3, ![16, 32, 1]⟩
abbrev S16x1x1x2048 : Shape := ⟨4, ![16, 1, 1, 2048]⟩
abbrev S16x1x2048 : Shape := ⟨3, ![16, 1, 2048]⟩
abbrev S16x32x17552 : Shape := ⟨3, ![16, 32, 17552]⟩
abbrev S32 : Shape := ⟨1, ![32]⟩
abbrev S16x32x128 : Shape := ⟨3, ![16, 32, 128]⟩
abbrev S16x32x1x128 : Shape := ⟨4, ![16, 32, 1, 128]⟩
abbrev S32x1 : Shape := ⟨2, ![32, 1]⟩
abbrev S32x16 : Shape := ⟨2, ![32, 16]⟩
abbrev S32x1x16 : Shape := ⟨3, ![32, 1, 16]⟩
abbrev S16x32x1x32 : Shape := ⟨4, ![16, 32, 1, 32]⟩
abbrev S16x32x1x16 : Shape := ⟨4, ![16, 32, 1, 16]⟩
abbrev S1x32x1x16 : Shape := ⟨4, ![1, 32, 1, 16]⟩
abbrev S16x32x1x96 : Shape := ⟨4, ![16, 32, 1, 96]⟩
abbrev S512x128 : Shape := ⟨2, ![512, 128]⟩
abbrev S8192x2048 : Shape := ⟨2, ![8192, 2048]⟩

abbrev nBuf : Space → Nat
  | .hbm => 318
  | .vmem => 0
  | .smem => 0
  | _ => 0

abbrev hbmTy0_0 (i : Nat) : BufTy := match i % 128 with
  | 0 => ⟨S1x8192x2048, .f32⟩
  | 1 => ⟨S16x32x2048, .f32⟩
  | 2 => ⟨S1x2048, .f32⟩
  | 3 => ⟨S16x2048, .f32⟩
  | 4 => ⟨S1x2048x12288, .f32⟩
  | 5 => ⟨S1x12288, .f32⟩
  | 6 => ⟨S1x2048, .f32⟩
  | 7 => ⟨S1x2048x17552, .f32⟩
  | 8 => ⟨S2x2048, .f32⟩
  | 9 => ⟨S2048x12288, .f32⟩
  | 10 => ⟨S1x12288, .f32⟩
  | 11 => ⟨S12288, .f32⟩
  | 12 => ⟨S1x12288, .f32⟩
  | 13 => ⟨S1x12288, .f32⟩
  | 14 => ⟨S1x6x2048, .f32⟩
  | 15 => ⟨S1x6x1x2048, .f32⟩
  | 16 => ⟨S2048, .f32⟩
  | 17 => ⟨S1x8192x2048, .f32⟩
  | 18 => ⟨S_, .f32⟩
  | 19 => ⟨S1x8192, .f32⟩
  | 20 => ⟨S1x8192x1, .f32⟩
  | 21 => ⟨S_, .f32⟩
  | 22 => ⟨S1x8192x1, .f32⟩
  | 23 => ⟨S1x8192x1, .f32⟩
  | 24 => ⟨S_, .f32⟩
  | 25 => ⟨S1x8192x1, .f32⟩
  | 26 => ⟨S1x8192x1, .f32⟩
  | 27 => ⟨S1x8192x1, .f32⟩
  | 28 => ⟨S1x8192x2048, .f32⟩
  | 29 => ⟨S1x8192x2048, .f32⟩
  | 30 => ⟨S1x1x2048, .f32⟩
  | 31 => ⟨S1x8192x2048, .f32⟩
  | 32 => ⟨S1x8192x2048, .f32⟩
  | 33 => ⟨S1x1x1x2048, .f32⟩
  | 34 => ⟨S1x1x2048, .f32⟩
  | 35 => ⟨S_, .f32⟩
  | 36 => ⟨S1x1x2048, .f32⟩
  | 37 => ⟨S1x1x2048, .f32⟩
  | 38 => ⟨S1x8192x2048, .f32⟩
  | 39 => ⟨S1x8192x2048, .f32⟩
  | 40 => ⟨S1x1x1x2048, .f32⟩
  | 41 => ⟨S1x1x2048, .f32⟩
  | 42 => ⟨S1x8192x2048, .f32⟩
  | 43 => ⟨S1x8192x2048, .f32⟩
  | 44 => ⟨S2048x17552, .f32⟩
  | 45 => ⟨S1x8192x17552, .f32⟩
  | 46 => ⟨S8192, .i32⟩
  | 47 => ⟨S1x8192x2048, .f32⟩
  | 48 => ⟨S1x8192x16x128, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S8192, .f32⟩
  | 58 => ⟨S8192x1, .f32⟩
  | 59 => ⟨S1x16, .f32⟩
  | 60 => ⟨S8192x16, .f32⟩
  | 61 => ⟨S8192x16, .f32⟩
  | 62 => ⟨S8192x16, .f32⟩
  | 63 => ⟨S8192x16, .f32⟩
  | 64 => ⟨S8192x1x16, .f32⟩
  | 65 => ⟨S8192x16, .f32⟩
  | 66 => ⟨S8192x1x16, .f32⟩
  | 67 => ⟨S1x8192x16x32, .f32⟩
  | 68 => ⟨S1x8192x16x16, .f32⟩
  | 69 => ⟨S1x8192x16x16, .f32⟩
  | 70 => ⟨S1x8192x1x16, .f32⟩
  | 71 => ⟨S1x8192x16x16, .f32⟩
  | 72 => ⟨S1x8192x16x16, .f32⟩
  | 73 => ⟨S1x8192x1x16, .f32⟩
  | 74 => ⟨S1x8192x16x16, .f32⟩
  | 75 => ⟨S1x8192x16x16, .f32⟩
  | 76 => ⟨S1x8192x16x16, .f32⟩
  | 77 => ⟨S1x8192x1x16, .f32⟩
  | 78 => ⟨S1x8192x16x16, .f32⟩
  | 79 => ⟨S1x8192x16x16, .f32⟩
  | 80 => ⟨S1x8192x1x16, .f32⟩
  | 81 => ⟨S1x8192x16x16, .f32⟩
  | 82 => ⟨S1x8192x16x16, .f32⟩
  | 83 => ⟨S1x8192x16x16, .f32⟩
  | 84 => ⟨S1x8192x16x32, .f32⟩
  | 85 => ⟨S1x8192x16x96, .f32⟩
  | 86 => ⟨S1x8192x16x128, .f32⟩
  | 87 => ⟨S1x8192x2048, .f32⟩
  | 88 => ⟨S1x8192x16x128, .f32⟩
  | 89 => ⟨S16, .f32⟩
  | 90 => ⟨S_, .f32⟩
  | 91 => ⟨S16, .f32⟩
  | 92 => ⟨S16, .f32⟩
  | 93 => ⟨S16, .f32⟩
  | 94 => ⟨S_, .f32⟩
  | 95 => ⟨S16, .f32⟩
  | 96 => ⟨S16, .f32⟩
  | 97 => ⟨S8192, .f32⟩
  | 98 => ⟨S8192x1, .f32⟩
  | 99 => ⟨S1x16, .f32⟩
  | 100 => ⟨S8192x16, .f32⟩
  | 101 => ⟨S8192x16, .f32⟩
  | 102 => ⟨S8192x16, .f32⟩
  | 103 => ⟨S8192x16, .f32⟩
  | 104 => ⟨S8192x1x16, .f32⟩
  | 105 => ⟨S8192x16, .f32⟩
  | 106 => ⟨S8192x1x16, .f32⟩
  | 107 => ⟨S1x8192x16x32, .f32⟩
  | 108 => ⟨S1x8192x16x16, .f32⟩
  | 109 => ⟨S1x8192x16x16, .f32⟩
  | 110 => ⟨S1x8192x1x16, .f32⟩
  | 111 => ⟨S1x8192x16x16, .f32⟩
  | 112 => ⟨S1x8192x16x16, .f32⟩
  | 113 => ⟨S1x8192x1x16, .f32⟩
  | 114 => ⟨S1x8192x16x16, .f32⟩
  | 115 => ⟨S1x8192x16x16, .f32⟩
  | 116 => ⟨S1x8192x16x16, .f32⟩
  | 117 => ⟨S1x8192x1x16, .f32⟩
  | 118 => ⟨S1x8192x16x16, .f32⟩
  | 119 => ⟨S1x8192x16x16, .f32⟩
  | 120 => ⟨S1x8192x1x16, .f32⟩
  | 121 => ⟨S1x8192x16x16, .f32⟩
  | 122 => ⟨S1x8192x16x16, .f32⟩
  | 123 => ⟨S1x8192x16x16, .f32⟩
  | 124 => ⟨S1x8192x16x32, .f32⟩
  | 125 => ⟨S1x8192x16x96, .f32⟩
  | 126 => ⟨S1x8192x16x128, .f32⟩
  | 127 => ⟨S1x8192x128, .f32⟩
  | _ => ⟨S1x8192x2048, .f32⟩

abbrev hbmTy0_1 (i : Nat) : BufTy := match i % 128 with
  | 0 => ⟨S1x8192x1x128, .f32⟩
  | 1 => ⟨S16, .f32⟩
  | 2 => ⟨S_, .f32⟩
  | 3 => ⟨S16, .f32⟩
  | 4 => ⟨S16, .f32⟩
  | 5 => ⟨S16, .f32⟩
  | 6 => ⟨S_, .f32⟩
  | 7 => ⟨S16, .f32⟩
  | 8 => ⟨S16, .f32⟩
  | 9 => ⟨S8192, .f32⟩
  | 10 => ⟨S8192x1, .f32⟩
  | 11 => ⟨S1x16, .f32⟩
  | 12 => ⟨S8192x16, .f32⟩
  | 13 => ⟨S8192x16, .f32⟩
  | 14 => ⟨S8192x16, .f32⟩
  | 15 => ⟨S8192x16, .f32⟩
  | 16 => ⟨S8192x1x16, .f32⟩
  | 17 => ⟨S8192x16, .f32⟩
  | 18 => ⟨S8192x1x16, .f32⟩
  | 19 => ⟨S1x8192x1x32, .f32⟩
  | 20 => ⟨S1x8192x1x16, .f32⟩
  | 21 => ⟨S1x8192x1x16, .f32⟩
  | 22 => ⟨S1x8192x1x16, .f32⟩
  | 23 => ⟨S1x8192x1x16, .f32⟩
  | 24 => ⟨S1x8192x1x16, .f32⟩
  | 25 => ⟨S1x8192x1x16, .f32⟩
  | 26 => ⟨S1x8192x1x16, .f32⟩
  | 27 => ⟨S1x8192x1x16, .f32⟩
  | 28 => ⟨S1x8192x1x16, .f32⟩
  | 29 => ⟨S1x8192x1x16, .f32⟩
  | 30 => ⟨S1x8192x1x16, .f32⟩
  | 31 => ⟨S1x8192x1x16, .f32⟩
  | 32 => ⟨S1x8192x1x32, .f32⟩
  | 33 => ⟨S1x8192x1x96, .f32⟩
  | 34 => ⟨S1x8192x1x128, .f32⟩
  | 35 => ⟨S8192x128, .f32⟩
  | 36 => ⟨S_, .f32⟩
  | 37 => ⟨S2048, .f32⟩
  | 38 => ⟨S_, .f32⟩
  | 39 => ⟨S2048, .f32⟩
  | 40 => ⟨S2048, .f32⟩
  | 41 => ⟨S1x2048, .f32⟩
  | 42 => ⟨S2x2048, .f32⟩
  | 43 => ⟨S2x2048, .f32⟩
  | 44 => ⟨S2x2048, .f32⟩
  | 45 => ⟨S_, .f32⟩
  | 46 => ⟨S2048, .f32⟩
  | 47 => ⟨S1x2048, .f32⟩
  | 48 => ⟨S2x2048, .f32⟩
  | 49 => ⟨S2x2048, .f32⟩
  | 50 => ⟨S_, .f32⟩
  | 51 => ⟨S_, .f32⟩
  | 52 => ⟨S2x2048, .f32⟩
  | 53 => ⟨S1x2048, .f32⟩
  | 54 => ⟨S2048, .f32⟩
  | 55 => ⟨S_, .f32⟩
  | 56 => ⟨S2048, .f32⟩
  | 57 => ⟨S2048, .f32⟩
  | 58 => ⟨S1x8192x2048, .f32⟩
  | 59 => ⟨S1x8192x2048, .f32⟩
  | 60 => ⟨S1x8192x2048, .f32⟩
  | 61 => ⟨S_, .f32⟩
  | 62 => ⟨S1x8192x2048, .f32⟩
  | 63 => ⟨S1x8192x2048, .f32⟩
  | 64 => ⟨S_, .f32⟩
  | 65 => ⟨S1x8192x2048, .f32⟩
  | 66 => ⟨S1x8192x2048, .f32⟩
  | 67 => ⟨S1x1x2048, .f32⟩
  | 68 => ⟨S1x8192x2048, .f32⟩
  | 69 => ⟨S1x8192x2048, .f32⟩
  | 70 => ⟨S1x1x2048, .f32⟩
  | 71 => ⟨S1x8192x2048, .f32⟩
  | 72 => ⟨S1x8192x2048, .f32⟩
  | 73 => ⟨S2048x12288, .f32⟩
  | 74 => ⟨S16x12288, .f32⟩
  | 75 => ⟨S12288, .f32⟩
  | 76 => ⟨S1x12288, .f32⟩
  | 77 => ⟨S16x12288, .f32⟩
  | 78 => ⟨S16x12288, .f32⟩
  | 79 => ⟨S16x6x2048, .f32⟩
  | 80 => ⟨S16x6x1x2048, .f32⟩
  | 81 => ⟨S2048, .f32⟩
  | 82 => ⟨S16x32x2048, .f32⟩
  | 83 => ⟨S_, .f32⟩
  | 84 => ⟨S16x32, .f32⟩
  | 85 => ⟨S16x32x1, .f32⟩
  | 86 => ⟨S_, .f32⟩
  | 87 => ⟨S16x32x1, .f32⟩
  | 88 => ⟨S16x32x1, .f32⟩
  | 89 => ⟨S_, .f32⟩
  | 90 => ⟨S16x32x1, .f32⟩
  | 91 => ⟨S16x32x1, .f32⟩
  | 92 => ⟨S16x32x1, .f32⟩
  | 93 => ⟨S16x32x2048, .f32⟩
  | 94 => ⟨S16x32x2048, .f32⟩
  | 95 => ⟨S1x1x2048, .f32⟩
  | 96 => ⟨S16x32x2048, .f32⟩
  | 97 => ⟨S16x32x2048, .f32⟩
  | 98 => ⟨S16x1x1x2048, .f32⟩
  | 99 => ⟨S16x1x2048, .f32⟩
  | 100 => ⟨S_, .f32⟩
  | 101 => ⟨S16x1x2048, .f32⟩
  | 102 => ⟨S16x1x2048, .f32⟩
  | 103 => ⟨S16x32x2048, .f32⟩
  | 104 => ⟨S16x32x2048, .f32⟩
  | 105 => ⟨S16x1x1x2048, .f32⟩
  | 106 => ⟨S16x1x2048, .f32⟩
  | 107 => ⟨S16x32x2048, .f32⟩
  | 108 => ⟨S16x32x2048, .f32⟩
  | 109 => ⟨S2048x17552, .f32⟩
  | 110 => ⟨S16x32x17552, .f32⟩
  | 111 => ⟨S32, .i32⟩
  | 112 => ⟨S_, .i32⟩
  | 113 => ⟨S32, .i32⟩
  | 114 => ⟨S32, .i32⟩
  | 115 => ⟨S16x32x128, .f32⟩
  | 116 => ⟨S16x32x1x128, .f32⟩
  | 117 => ⟨S16, .f32⟩
  | 118 => ⟨S_, .f32⟩
  | 119 => ⟨S16, .f32⟩
  | 120 => ⟨S16, .f32⟩
  | 121 => ⟨S16, .f32⟩
  | 122 => ⟨S_, .f32⟩
  | 123 => ⟨S16, .f32⟩
  | 124 => ⟨S16, .f32⟩
  | 125 => ⟨S32, .f32⟩
  | 126 => ⟨S32x1, .f32⟩
  | 127 => ⟨S1x16, .f32⟩
  | _ => ⟨S1x8192x2048, .f32⟩

abbrev hbmTy0_2 (i : Nat) : BufTy := match i % 128 with
  | 0 => ⟨S32x16, .f32⟩
  | 1 => ⟨S32x16, .f32⟩
  | 2 => ⟨S32x16, .f32⟩
  | 3 => ⟨S32x16, .f32⟩
  | 4 => ⟨S32x1x16, .f32⟩
  | 5 => ⟨S32x16, .f32⟩
  | 6 => ⟨S32x1x16, .f32⟩
  | 7 => ⟨S16x32x1x32, .f32⟩
  | 8 => ⟨S16x32x1x16, .f32⟩
  | 9 => ⟨S16x32x1x16, .f32⟩
  | 10 => ⟨S1x32x1x16, .f32⟩
  | 11 => ⟨S16x32x1x16, .f32⟩
  | 12 => ⟨S16x32x1x16, .f32⟩
  | 13 => ⟨S1x32x1x16, .f32⟩
  | 14 => ⟨S16x32x1x16, .f32⟩
  | 15 => ⟨S16x32x1x16, .f32⟩
  | 16 => ⟨S16x32x1x16, .f32⟩
  | 17 => ⟨S1x32x1x16, .f32⟩
  | 18 => ⟨S16x32x1x16, .f32⟩
  | 19 => ⟨S16x32x1x16, .f32⟩
  | 20 => ⟨S1x32x1x16, .f32⟩
  | 21 => ⟨S16x32x1x16, .f32⟩
  | 22 => ⟨S16x32x1x16, .f32⟩
  | 23 => ⟨S16x32x1x16, .f32⟩
  | 24 => ⟨S16x32x1x32, .f32⟩
  | 25 => ⟨S16x32x1x96, .f32⟩
  | 26 => ⟨S16x32x1x128, .f32⟩
  | 27 => ⟨S512x128, .f32⟩
  | 28 => ⟨S1x8192x2048, .f32⟩
  | 29 => ⟨S_, .f32⟩
  | 30 => ⟨S1x8192x2048, .f32⟩
  | 31 => ⟨S1x8192x2048, .f32⟩
  | 32 => ⟨S8192x2048, .f32⟩
  | 33 => ⟨S8192x2048, .bf16⟩
  | 34 => ⟨S8192x2048, .f32⟩
  | 35 => ⟨S8192x2048, .bf16⟩
  | 36 => ⟨S8192x128, .bf16⟩
  | 37 => ⟨S1x8192x2048, .f32⟩
  | 38 => ⟨S8192x2048, .f32⟩
  | 39 => ⟨S8192x2048, .bf16⟩
  | 40 => ⟨S1x8192x2048, .f32⟩
  | 41 => ⟨S_, .f32⟩
  | 42 => ⟨S1x8192x2048, .f32⟩
  | 43 => ⟨S1x8192x2048, .f32⟩
  | 44 => ⟨S8192x2048, .f32⟩
  | 45 => ⟨S_, .f32⟩
  | 46 => ⟨S1x8192x2048, .f32⟩
  | 47 => ⟨S1x8192x2048, .f32⟩
  | 48 => ⟨S8192x2048, .f32⟩
  | 49 => ⟨S1x8192x2048, .f32⟩
  | 50 => ⟨S8192x2048, .f32⟩
  | 51 => ⟨S8192x2048, .bf16⟩
  | 52 => ⟨S1x8192x2048, .f32⟩
  | 53 => ⟨S8192x2048, .f32⟩
  | 54 => ⟨S8192x2048, .bf16⟩
  | 55 => ⟨S1x8192x2048, .f32⟩
  | 56 => ⟨S8192x2048, .f32⟩
  | 57 => ⟨S8192x2048, .bf16⟩
  | 58 => ⟨S1x8192x2048, .f32⟩
  | 59 => ⟨S8192x2048, .f32⟩
  | 60 => ⟨S8192x2048, .bf16⟩
  | 61 => ⟨S512x128, .bf16⟩
  | _ => ⟨S1x8192x2048, .f32⟩

abbrev hbmTy (i : Nat) : BufTy := match i / 128 with
  | 0 => hbmTy0_0 i
  | 1 => hbmTy0_1 i
  | 2 => hbmTy0_2 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_5 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_6 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_7 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_8 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_9 : Ref sig .tc := ⟨.hbm, 164, rfl⟩
abbrev main_v145 : Ref sig .tc := ⟨.hbm, 165, rfl⟩
abbrev main_cst_10 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_cst_11 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_call0_call0_cst : Ref sig .tc := ⟨.hbm, 178, rfl⟩
abbrev main_call0_call0_v0 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_cst_12 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_cst_13 : Ref sig .tc := ⟨.hbm, 189, rfl⟩
abbrev main_v164 : Ref sig .tc := ⟨.hbm, 190, rfl⟩
abbrev main_v165 : Ref sig .tc := ⟨.hbm, 191, rfl⟩
abbrev main_cst_14 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_cst_15 : Ref sig .tc := ⟨.hbm, 211, rfl⟩
abbrev main_v184 : Ref sig .tc := ⟨.hbm, 212, rfl⟩
abbrev main_v185 : Ref sig .tc := ⟨.hbm, 213, rfl⟩
abbrev main_cst_16 : Ref sig .tc := ⟨.hbm, 214, rfl⟩
abbrev main_v186 : Ref sig .tc := ⟨.hbm, 215, rfl⟩
abbrev main_v187 : Ref sig .tc := ⟨.hbm, 216, rfl⟩
abbrev main_cst_17 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_cst_18 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_c : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_cst_19 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_cst_20 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_cst_21 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_cst_22 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_cst_23 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩

abbrev nD : Nat := 1
abbrev τ : Topo := Topo.v7x

variable {F : FTy → Type} [FloatOps F]
-- ==== Merge.lean ====
abbrev S1x8192x2048 : Shape := ⟨3, ![1, 8192, 2048]⟩
abbrev S8192x2048 : Shape := ⟨2, ![8192, 2048]⟩
abbrev S1x6x2048 : Shape := ⟨3, ![1, 6, 2048]⟩
abbrev S1x2048x2048 : Shape := ⟨3, ![1, 2048, 2048]⟩
abbrev S1x2048 : Shape := ⟨2, ![1, 2048]⟩
abbrev S1x1x2048 : Shape := ⟨3, ![1, 1, 2048]⟩
abbrev S2048x2048 : Shape := ⟨2, ![2048, 2048]⟩
abbrev S2048 : Shape := ⟨1, ![2048]⟩
abbrev S1x256x2048 : Shape := ⟨3, ![1, 256, 2048]⟩
abbrev S256x2048 : Shape := ⟨2, ![256, 2048]⟩
abbrev S1x256 : Shape := ⟨2, ![1, 256]⟩
abbrev S1x256x1 : Shape := ⟨3, ![1, 256, 1]⟩

abbrev nBuf : Space → Nat
  | .hbm => 17
  | .vmem => 19
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S1x6x2048, .f32⟩
  | .hbm, ⟨6, _⟩ => ⟨S1x2048x2048, .f32⟩
  | .hbm, ⟨7, _⟩ => ⟨S1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x1x2048, .f32⟩
  | .hbm, ⟨15, _⟩ => ⟨S1x8192x2048, .f32⟩
  | .hbm, ⟨16, _⟩ => ⟨S8192x2048, .bf16⟩
  | .local _ .vmem, ⟨0, _⟩ => ⟨S1x256x2048, .f32⟩
  | .local _ .vmem, ⟨1, _⟩ => ⟨S1x256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x2048, .bf16⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x256x2048, .f32⟩
  | .local _ .vmem, ⟨16, _⟩ => ⟨S1x256x2048, .f32⟩
  | .local _ .vmem, ⟨17, _⟩ => ⟨S256x2048, .bf16⟩
  | .local _ .vmem, ⟨18, _⟩ => ⟨S256x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S1x8192x2048 : Shape := ⟨3, ![1, 8192, 2048]⟩
abbrev S8192x2048 : Shape := ⟨2, ![8192, 2048]⟩
abbrev S1x6x2048 : Shape := ⟨3, ![1, 6, 2048]⟩
abbrev S1x2048x2048 : Shape := ⟨3, ![1, 2048, 2048]⟩
abbrev S1x2048 : Shape := ⟨2, ![1, 2048]⟩
abbrev S_ : Shape := ⟨0, ![]⟩
abbrev S1x1x2048 : Shape := ⟨3, ![1, 1, 2048]⟩
abbrev S2048x2048 : Shape := ⟨2, ![2048, 2048]⟩
abbrev S2048 : Shape := ⟨1, ![2048]⟩
abbrev S1x8192 : Shape := ⟨2, ![1, 8192]⟩
abbrev S1x8192x1 : Shape := ⟨3, ![1, 8192, 1]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S1x6x2048, .f32⟩
  | .hbm, ⟨6, _⟩ => ⟨S1x2048x2048, .f32⟩
  | .hbm, ⟨7, _⟩ => ⟨S1x2048, .f32⟩
  | .hbm, ⟨8, _⟩ => ⟨S8192x2048, .f32⟩
  | .hbm, ⟨9, _⟩ => ⟨S1x8192x2048, .f32⟩
  | .hbm, ⟨10, _⟩ => ⟨S8192x2048, .f32⟩
  | .hbm, ⟨11, _⟩ => ⟨S1x8192x2048, .f32⟩
  | .hbm, ⟨12, _⟩ => ⟨S8192x2048, .f32⟩
  | .hbm, ⟨13, _⟩ => ⟨S1x8192x2048, .f32⟩
  | .hbm, ⟨14, _⟩ => ⟨S8192x2048, .f32⟩
  | .hbm, ⟨15, _⟩ => ⟨S1x8192x2048, .f32⟩
  | .hbm, ⟨16, _⟩ => ⟨S1x8192x2048, .f32⟩
  | .hbm, ⟨17, _⟩ => ⟨S1x8192x2048, .f32⟩
  | .hbm, ⟨18, _⟩ => ⟨S_, .f32⟩
  | .hbm, ⟨19, _⟩ => ⟨S1x8192x2048, .f32⟩
  | .hbm, ⟨20, _⟩ => ⟨S1x8192x2048, .f32⟩
  | .hbm, ⟨21, _⟩ => ⟨S_, .f32⟩
  | .hbm, ⟨22, _⟩ => ⟨S1x8192x2048, .f32⟩
  | .hbm, ⟨23, _⟩ => ⟨S1x8192x2048, .f32⟩
  | .hbm, ⟨24, _⟩ => ⟨S1x8192x2048, .f32⟩
  | .hbm, ⟨25, _⟩ => ⟨S1x8192x2048, .f32⟩
  | .hbm, ⟨26, _⟩ => ⟨S1x8192x2048, .f32⟩
  | .hbm, ⟨27, _⟩ => ⟨S_, .f32⟩
  | .hbm, ⟨28, _⟩ => ⟨S1x8192x2048, .f32⟩
  | .hbm, ⟨29, _⟩ => ⟨S1x8192x2048, .f32⟩
  | .hbm, ⟨30, _⟩ => ⟨S_, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S1x8192x2048, .f32⟩
  | .hbm, ⟨35, _⟩ => ⟨S1x1x2048, .f32⟩
  | .hbm, ⟨36, _⟩ => ⟨S1x2048, .f32⟩
  | .hbm, ⟨37, _⟩ => ⟨S1x1x2048, .f32⟩
  | .hbm, ⟨38, _⟩ => ⟨S2048x2048, .f32⟩
  | .hbm, ⟨39, _⟩ => ⟨S1x8192x2048, .f32⟩
  | .hbm, ⟨40, _⟩ => ⟨S1x8192x2048, .f32⟩
  | .hbm, ⟨41, _⟩ => ⟨S1x8192x2048, .f32⟩
  | .hbm, ⟨42, _⟩ => ⟨S1x8192x2048, .f32⟩
  | .hbm, ⟨43, _⟩ => ⟨S2048, .f32⟩
  | .hbm, ⟨44, _⟩ => ⟨S1x8192x2048, .f32⟩
  | .hbm, ⟨45, _⟩ => ⟨S_, .f32⟩
  | .hbm, ⟨46, _⟩ => ⟨S1x8192, .f32⟩
  | .hbm, ⟨47, _⟩ => ⟨S1x8192x1, .f32⟩
  | .hbm, ⟨48, _⟩ => ⟨S_, .f32⟩
  | .hbm, ⟨49, _⟩ => ⟨S1x8192x1, .f32⟩
  | .hbm, ⟨50, _⟩ => ⟨S1x8192x1, .f32⟩
  | .hbm, ⟨51, _⟩ => ⟨S_, .f32⟩
  | .hbm, ⟨52, _⟩ => ⟨S1x8192x1, .f32⟩
  | .hbm, ⟨53, _⟩ => ⟨S1x8192x1, .f32⟩
  | .hbm, ⟨54, _⟩ => ⟨S1x8192x1, .f32⟩
  | .hbm, ⟨55, _⟩ => ⟨S1x8192x2048, .f32⟩
  | .hbm, ⟨56, _⟩ => ⟨S1x8192x2048, .f32⟩
  | .hbm, ⟨57, _⟩ => ⟨S1x1x2048, .f32⟩
  | .hbm, ⟨58, _⟩ => ⟨S1x8192x2048, .f32⟩
  | .hbm, ⟨59, _⟩ => ⟨S1x8192x2048, .f32⟩
  | .hbm, ⟨60, _⟩ => ⟨S1x1x2048, .f32⟩
  | .hbm, ⟨61, _⟩ => ⟨S1x2048, .f32⟩
  | .hbm, ⟨62, _⟩ => ⟨S1x1x2048, .f32⟩
  | .hbm, ⟨63, _⟩ => ⟨S_, .f32⟩
  | .hbm, ⟨64, _⟩ => ⟨S1x1x2048, .f32⟩
  | .hbm, ⟨65, _⟩ => ⟨S1x1x2048, .f32⟩
  | .hbm, ⟨66, _⟩ => ⟨S1x8192x2048, .f32⟩
  | .hbm, ⟨67, _⟩ => ⟨S1x8192x2048, .f32⟩
  | .hbm, ⟨68, _⟩ => ⟨S1x1x2048, .f32⟩
  | .hbm, ⟨69, _⟩ => ⟨S1x2048, .f32⟩
  | .hbm, ⟨70, _⟩ => ⟨S1x1x2048, .f32⟩
  | .hbm, ⟨71, _⟩ => ⟨S1x8192x2048, .f32⟩
  | .hbm, ⟨72, _⟩ => ⟨S1x8192x2048, .f32⟩
  | .hbm, ⟨73, _⟩ => ⟨S8192x2048, .f32⟩
  | .hbm, ⟨74, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Mlp.lean ====
abbrev S8192x2048 : Shape := ⟨2, ![8192, 2048]⟩
abbrev S1x8192x2048 : Shape := ⟨3, ![1, 8192, 2048]⟩
abbrev S1x6x2048 : Shape := ⟨3, ![1, 6, 2048]⟩
abbrev S1x2048x8192 : Shape := ⟨3, ![1, 2048, 8192]⟩
abbrev S2048 : Shape := ⟨1, ![2048]⟩
abbrev S1x1x2048 : Shape := ⟨3, ![1, 1, 2048]⟩
abbrev S2048x8192 : Shape := ⟨2, ![2048, 8192]⟩
abbrev S512x2048 : Shape := ⟨2, ![512, 2048]⟩
abbrev S2048x1024 : Shape := ⟨2, ![2048, 1024]⟩
abbrev S1024x2048 : Shape := ⟨2, ![1024, 2048]⟩
abbrev S1x512x2048 : Shape := ⟨3, ![1, 512, 2048]⟩
abbrev S512x1024 : Shape := ⟨2, ![512, 1024]⟩
abbrev S1x512 : Shape := ⟨2, ![1, 512]⟩
abbrev S1x512x1 : Shape := ⟨3, ![1, 512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x8192x2048, .f32⟩
  | .hbm, ⟨2, _⟩ => ⟨S1x6x2048, .f32⟩
  | .hbm, ⟨3, _⟩ => ⟨S1x2048x8192, .f32⟩
  | .hbm, ⟨4, _⟩ => ⟨S1x8192x2048, .f32⟩
  | .hbm, ⟨5, _⟩ => ⟨S2048, .f32⟩
  | .hbm, ⟨6, _⟩ => ⟨S1x1x2048, .f32⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S1x1x2048, .f32⟩
  | .hbm, ⟨12, _⟩ => ⟨S1x8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | .local _ .vmem, ⟨12, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 16, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MlpReferenceIdeal.lean ====
abbrev S8192x2048 : Shape := ⟨2, ![8192, 2048]⟩
abbrev S1x8192x2048 : Shape := ⟨3, ![1, 8192, 2048]⟩
abbrev S1x6x2048 : Shape := ⟨3, ![1, 6, 2048]⟩
abbrev S1x2048x8192 : Shape := ⟨3, ![1, 2048, 8192]⟩
abbrev S2048 : Shape := ⟨1, ![2048]⟩
abbrev S1x1x2048 : Shape := ⟨3, ![1, 1, 2048]⟩
abbrev S1x2048 : Shape := ⟨2, ![1, 2048]⟩
abbrev S2048x8192 : Shape := ⟨2, ![2048, 8192]⟩
abbrev S1x8192x8192 : Shape := ⟨3, ![1, 8192, 8192]⟩
abbrev S_ : Shape := ⟨0, ![]⟩
abbrev S1x8192 : Shape := ⟨2, ![1, 8192]⟩
abbrev S1x8192x1 : Shape := ⟨3, ![1, 8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8192x2048, .f32⟩
  | .hbm, ⟨2, _⟩ => ⟨S1x6x2048, .f32⟩
  | .hbm, ⟨3, _⟩ => ⟨S1x2048x8192, .f32⟩
  | .hbm, ⟨4, _⟩ => ⟨S1x8192x2048, .f32⟩
  | .hbm, ⟨5, _⟩ => ⟨S2048, .f32⟩
  | .hbm, ⟨6, _⟩ => ⟨S8192x2048, .f32⟩
  | .hbm, ⟨7, _⟩ => ⟨S1x8192x2048, .f32⟩
  | .hbm, ⟨8, _⟩ => ⟨S1x1x2048, .f32⟩
  | .hbm, ⟨9, _⟩ => ⟨S1x2048, .f32⟩
  | .hbm, ⟨10, _⟩ => ⟨S1x1x2048, .f32⟩
  | .hbm, ⟨11, _⟩ => ⟨S2048x8192, .f32⟩
  | .hbm, ⟨12, _⟩ => ⟨S1x8192x8192, .f32⟩
  | .hbm, ⟨13, _⟩ => ⟨S_, .f32⟩
  | .hbm, ⟨14, _⟩ => ⟨S1x8192x8192, .f32⟩
  | .hbm, ⟨15, _⟩ => ⟨S1x8192x8192, .f32⟩
  | .hbm, ⟨16, _⟩ => ⟨S1x8192x8192, .f32⟩
  | .hbm, ⟨17, _⟩ => ⟨S8192x2048, .f32⟩
  | .hbm, ⟨18, _⟩ => ⟨S1x8192x2048, .f32⟩
  | .hbm, ⟨19, _⟩ => ⟨S1x8192x2048, .f32⟩
  | .hbm, ⟨20, _⟩ => ⟨S1x8192x2048, .f32⟩
  | .hbm, ⟨21, _⟩ => ⟨S1x8192x2048, .f32⟩
  | .hbm, ⟨22, _⟩ => ⟨S1x8192x2048, .f32⟩
  | .hbm, ⟨23, _⟩ => ⟨S_, .f32⟩
  | .hbm, ⟨24, _⟩ => ⟨S1x8192, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S_, .f32⟩
  | .hbm, ⟨30, _⟩ => ⟨S1x8192x1, .f32⟩
  | .hbm, ⟨31, _⟩ => ⟨S1x8192x1, .f32⟩
  | .hbm, ⟨32, _⟩ => ⟨S1x8192x1, .f32⟩
  | .hbm, ⟨33, _⟩ => ⟨S1x8192x2048, .f32⟩
  | .hbm, ⟨34, _⟩ => ⟨S1x8192x2048, .f32⟩
  | .hbm, ⟨35, _⟩ => ⟨S1x1x2048, .f32⟩
  | .hbm, ⟨36, _⟩ => ⟨S1x8192x2048, .f32⟩
  | .hbm, ⟨37, _⟩ => ⟨S1x8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== MlpSample.lean ====
abbrev S512x2048 : Shape := ⟨2, ![512, 2048]⟩
abbrev S16x32x2048 : Shape := ⟨3, ![16, 32, 2048]⟩
abbrev S16x6x2048 : Shape := ⟨3, ![16, 6, 2048]⟩
abbrev S1x2048x8192 : Shape := ⟨3, ![1, 2048, 8192]⟩
abbrev S1x8192x2048 : Shape := ⟨3, ![1, 8192, 2048]⟩
abbrev S2048 : Shape := ⟨1, ![2048]⟩
abbrev S16x1x2048 : Shape := ⟨3, ![16, 1, 2048]⟩
abbrev S2048x8192 : Shape := ⟨2, ![2048, 8192]⟩
abbrev S8192x2048 : Shape := ⟨2, ![8192, 2048]⟩
abbrev S1x1x2048 : Shape := ⟨3, ![1, 1, 2048]⟩
abbrev S2048x1024 : Shape := ⟨2, ![2048, 1024]⟩
abbrev S1024x2048 : Shape := ⟨2, ![1024, 2048]⟩
abbrev S512x1024 : Shape := ⟨2, ![512, 1024]⟩
abbrev S16x32 : Shape := ⟨2, ![16, 32]⟩
abbrev S16x32x1 : Shape := ⟨3, ![16, 32, 1]⟩

abbrev nBuf : Space → Nat
  | .hbm => 13
  | .vmem => 10
  | .smem => 0
  | _ => 0

abbrev bufTy : (tb : Table) → Fin (tcTables nBuf tb) → BufTy
  | .hbm, ⟨0, _⟩ => ⟨S512x2048, .bf16⟩
  | .hbm, ⟨1, _⟩ => ⟨S16x32x2048, .f32⟩
  | .hbm, ⟨2, _⟩ => ⟨S16x6x2048, .f32⟩
  | .hbm, ⟨3, _⟩ => ⟨S1x2048x8192, .f32⟩
  | .hbm, ⟨4, _⟩ => ⟨S1x8192x2048, .f32⟩
  | .hbm, ⟨5, _⟩ => ⟨S2048, .f32⟩
  | .hbm, ⟨6, _⟩ => ⟨S16x1x2048, .f32⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S1x1x2048, .f32⟩
  | .hbm, ⟨12, _⟩ => ⟨S16x32x2048, .f32⟩
  | .local _ .vmem, ⟨0, _⟩ => ⟨S512x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S16x32x2048, .f32⟩
  | .local _ .vmem, ⟨6, _⟩ => ⟨S16x1x2048, .f32⟩
  | .local _ .vmem, ⟨7, _⟩ => ⟨S1x1x2048, .f32⟩
  | .local _ .vmem, ⟨8, _⟩ => ⟨S16x32x2048, .f32⟩
  | .local _ .vmem, ⟨9, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S16x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S16x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S16x32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]
-- ==== MlpSampleReferenceIdeal.lean ====
abbrev S512x2048 : Shape := ⟨2, ![512, 2048]⟩
abbrev S16x32x2048 : Shape := ⟨3, ![16, 32, 2048]⟩
abbrev S16x6x2048 : Shape := ⟨3, ![16, 6, 2048]⟩
abbrev S1x2048x8192 : Shape := ⟨3, ![1, 2048, 8192]⟩
abbrev S1x8192x2048 : Shape := ⟨3, ![1, 8192, 2048]⟩
abbrev S2048 : Shape := ⟨1, ![2048]⟩
abbrev S16x1x2048 : Shape := ⟨3, ![16, 1, 2048]⟩
abbrev S16x2048 : Shape := ⟨2, ![16, 2048]⟩
abbrev S2048x8192 : Shape := ⟨2, ![2048, 8192]⟩
abbrev S16x32x8192 : Shape := ⟨3, ![16, 32, 8192]⟩
abbrev S_ : Shape := ⟨0, ![]⟩
abbrev S8192x2048 : Shape := ⟨2, ![8192, 2048]⟩
abbrev S16x32 : Shape := ⟨2, ![16, 32]⟩
abbrev S16x32x1 : Shape := ⟨3, ![16, 32, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S16x32x2048, .f32⟩
  | .hbm, ⟨2, _⟩ => ⟨S16x6x2048, .f32⟩
  | .hbm, ⟨3, _⟩ => ⟨S1x2048x8192, .f32⟩
  | .hbm, ⟨4, _⟩ => ⟨S1x8192x2048, .f32⟩
  | .hbm, ⟨5, _⟩ => ⟨S2048, .f32⟩
  | .hbm, ⟨6, _⟩ => ⟨S512x2048, .f32⟩
  | .hbm, ⟨7, _⟩ => ⟨S16x32x2048, .f32⟩
  | .hbm, ⟨8, _⟩ => ⟨S16x1x2048, .f32⟩
  | .hbm, ⟨9, _⟩ => ⟨S16x2048, .f32⟩
  | .hbm, ⟨10, _⟩ => ⟨S16x1x2048, .f32⟩
  | .hbm, ⟨11, _⟩ => ⟨S2048x8192, .f32⟩
  | .hbm, ⟨12, _⟩ => ⟨S16x32x8192, .f32⟩
  | .hbm, ⟨13, _⟩ => ⟨S_, .f32⟩
  | .hbm, ⟨14, _⟩ => ⟨S16x32x8192, .f32⟩
  | .hbm, ⟨15, _⟩ => ⟨S16x32x8192, .f32⟩
  | .hbm, ⟨16, _⟩ => ⟨S16x32x8192, .f32⟩
  | .hbm, ⟨17, _⟩ => ⟨S8192x2048, .f32⟩
  | .hbm, ⟨18, _⟩ => ⟨S16x32x2048, .f32⟩
  | .hbm, ⟨19, _⟩ => ⟨S16x32x2048, .f32⟩
  | .hbm, ⟨20, _⟩ => ⟨S16x32x2048, .f32⟩
  | .hbm, ⟨21, _⟩ => ⟨S16x32x2048, .f32⟩
  | .hbm, ⟨22, _⟩ => ⟨S16x32x2048, .f32⟩
  | .hbm, ⟨23, _⟩ => ⟨S_, .f32⟩
  | .hbm, ⟨24, _⟩ => ⟨S16x32, .f32⟩
  | .hbm, ⟨25, _⟩ => ⟨S16x32x1, .f32⟩
  | .hbm, ⟨26, _⟩ => ⟨S_, .f32⟩
  | .hbm, ⟨27, _⟩ => ⟨S16x32x1, .f32⟩
  | .hbm, ⟨28, _⟩ => ⟨S16x32x1, .f32⟩
  | .hbm, ⟨29, _⟩ => ⟨S_, .f32⟩
  | .hbm, ⟨30, _⟩ => ⟨S16x32x1, .f32⟩
  | .hbm, ⟨31, _⟩ => ⟨S16x32x1, .f32⟩
  | .hbm, ⟨32, _⟩ => ⟨S16x32x1, .f32⟩
  | .hbm, ⟨33, _⟩ => ⟨S16x32x2048, .f32⟩
  | .hbm, ⟨34, _⟩ => ⟨S16x32x2048, .f32⟩
  | .hbm, ⟨35, _⟩ => ⟨S1x1x2048, .f32⟩
  | .hbm, ⟨36, _⟩ => ⟨S16x32x2048, .f32⟩
  | .hbm, ⟨37, _⟩ => ⟨S16x32x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Keys.lean ====
abbrev S8192x2048 : Shape := ⟨2, ![8192, 2048]⟩
abbrev S1x2048x17552 : Shape := ⟨3, ![1, 2048, 17552]⟩
abbrev S2048x17552 : Shape := ⟨2, ![2048, 17552]⟩
abbrev S17552x2048 : Shape := ⟨2, ![17552, 2048]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S32768x128 : Shape := ⟨2, ![32768, 128]⟩
abbrev S8192x512 : Shape := ⟨2, ![8192, 512]⟩
abbrev S2048x2048 : Shape := ⟨2, ![2048, 2048]⟩
abbrev S512x2048 : Shape := ⟨2, ![512, 2048]⟩
abbrev S2048x128 : Shape := ⟨2, ![2048, 128]⟩
abbrev S2048x512 : Shape := ⟨2, ![2048, 512]⟩

abbrev nBuf : Space → Nat
  | .hbm => 33
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x2048x17552, .f32⟩
  | .hbm, ⟨2, _⟩ => ⟨S2048x17552, .f32⟩
  | .hbm, ⟨3, _⟩ => ⟨S17552x2048, .f32⟩
  | .hbm, ⟨4, _⟩ => ⟨S8192, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S8192, .f32⟩
  | .hbm, ⟨14, _⟩ => ⟨S8192x1, .f32⟩
  | .hbm, ⟨15, _⟩ => ⟨S1x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192x96, .f32⟩
  | .hbm, ⟨23, _⟩ => ⟨S_, .f32⟩
  | .hbm, ⟨24, _⟩ => ⟨S8192x96, .f32⟩
  | .hbm, ⟨25, _⟩ => ⟨S_, .f32⟩
  | .hbm, ⟨26, _⟩ => ⟨S8192x16, .f32⟩
  | .hbm, ⟨27, _⟩ => ⟨S8192x128, .f32⟩
  | .hbm, ⟨28, _⟩ => ⟨S8192x16, .f32⟩
  | .hbm, ⟨29, _⟩ => ⟨S8192x128, .f32⟩
  | .hbm, ⟨30, _⟩ => ⟨S8192x128, .f32⟩
  | .hbm, ⟨31, _⟩ => ⟨S32768x128, .f32⟩
  | .hbm, ⟨32, _⟩ => ⟨S8192x512, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S8192x128, .f32⟩
  | .local _ .vmem, ⟨10, _⟩ => ⟨S8192x128, .f32⟩
  | .local _ .vmem, ⟨11, _⟩ => ⟨S2048x512, .bf16⟩
  | .local _ .vmem, ⟨12, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let c2048_i32 : BitVec 32 := 2048#32
  let arg1 : BitVec 32 := BitVec.ofNat 32 (i 1).val
  let c512_i32 : BitVec 32 := 512#32
  let v0 : BitVec 32 := Scalar.muli arg1 c512_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KeysReferenceIdeal.lean ====
abbrev S8192x2048 : Shape := ⟨2, ![8192, 2048]⟩
abbrev S1x2048x17552 : Shape := ⟨3, ![1, 2048, 17552]⟩
abbrev S2048x17552 : Shape := ⟨2, ![2048, 17552]⟩
abbrev S8192x17552 : Shape := ⟨2, ![8192, 17552]⟩
abbrev S8192x512 : Shape := ⟨2, ![8192, 512]⟩
abbrev S1x8192x4x128 : Shape := ⟨4, ![1, 8192, 4, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S1x8192x4x32 : Shape := ⟨4, ![1, 8192, 4, 32]⟩
abbrev S1x8192x4x16 : Shape := ⟨4, ![1, 8192, 4, 16]⟩
abbrev S1x8192x1x16 : Shape := ⟨4, ![1, 8192, 1, 16]⟩
abbrev S1x8192x4x96 : Shape := ⟨4, ![1, 8192, 4, 96]⟩
abbrev S32768x128 : Shape := ⟨2, ![32768, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x17552, .f32⟩
  | .hbm, ⟨2, _⟩ => ⟨S8192x2048, .f32⟩
  | .hbm, ⟨3, _⟩ => ⟨S2048x17552, .f32⟩
  | .hbm, ⟨4, _⟩ => ⟨S8192x17552, .f32⟩
  | .hbm, ⟨5, _⟩ => ⟨S8192x512, .f32⟩
  | .hbm, ⟨6, _⟩ => ⟨S1x8192x4x128, .f32⟩
  | .hbm, ⟨7, _⟩ => ⟨S8192, .i32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S8192, .f32⟩
  | .hbm, ⟨17, _⟩ => ⟨S8192x1, .f32⟩
  | .hbm, ⟨18, _⟩ => ⟨S1x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x1x16, .f32⟩
  | .hbm, ⟨24, _⟩ => ⟨S8192x16, .f32⟩
  | .hbm, ⟨25, _⟩ => ⟨S8192x1x16, .f32⟩
  | .hbm, ⟨26, _⟩ => ⟨S1x8192x4x32, .f32⟩
  | .hbm, ⟨27, _⟩ => ⟨S1x8192x4x16, .f32⟩
  | .hbm, ⟨28, _⟩ => ⟨S1x8192x4x16, .f32⟩
  | .hbm, ⟨29, _⟩ => ⟨S1x8192x1x16, .f32⟩
  | .hbm, ⟨30, _⟩ => ⟨S1x8192x4x16, .f32⟩
  | .hbm, ⟨31, _⟩ => ⟨S1x8192x4x16, .f32⟩
  | .hbm, ⟨32, _⟩ => ⟨S1x8192x1x16, .f32⟩
  | .hbm, ⟨33, _⟩ => ⟨S1x8192x4x16, .f32⟩
  | .hbm, ⟨34, _⟩ => ⟨S1x8192x4x16, .f32⟩
  | .hbm, ⟨35, _⟩ => ⟨S1x8192x4x16, .f32⟩
  | .hbm, ⟨36, _⟩ => ⟨S1x8192x1x16, .f32⟩
  | .hbm, ⟨37, _⟩ => ⟨S1x8192x4x16, .f32⟩
  | .hbm, ⟨38, _⟩ => ⟨S1x8192x4x16, .f32⟩
  | .hbm, ⟨39, _⟩ => ⟨S1x8192x1x16, .f32⟩
  | .hbm, ⟨40, _⟩ => ⟨S1x8192x4x16, .f32⟩
  | .hbm, ⟨41, _⟩ => ⟨S1x8192x4x16, .f32⟩
  | .hbm, ⟨42, _⟩ => ⟨S1x8192x4x16, .f32⟩
  | .hbm, ⟨43, _⟩ => ⟨S1x8192x4x32, .f32⟩
  | .hbm, ⟨44, _⟩ => ⟨S1x8192x4x96, .f32⟩
  | .hbm, ⟨45, _⟩ => ⟨S1x8192x4x128, .f32⟩
  | .hbm, ⟨46, _⟩ => ⟨S32768x128, .f32⟩
  | .hbm, ⟨47, _⟩ => ⟨S8192x512, .f32⟩
  | .hbm, ⟨48, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩

abbrev nD : Nat := 1
abbrev τ : Topo := Topo.v7x

variable {F : FTy → Type} [FloatOps F]
-- ==== KeysSample.lean ====
abbrev S512x2048 : Shape := ⟨2, ![512, 2048]⟩
abbrev S1x2048x17552 : Shape := ⟨3, ![1, 2048, 17552]⟩
abbrev S2048x17552 : Shape := ⟨2, ![2048, 17552]⟩
abbrev S17552x2048 : Shape := ⟨2, ![17552, 2048]⟩
abbrev S32 : Shape := ⟨1, ![32]⟩
abbrev S_ : Shape := ⟨0, ![]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x96 : Shape := ⟨2, ![32, 96]⟩
abbrev S32x128 : Shape := ⟨2, ![32, 128]⟩
abbrev S1x32x1x128 : Shape := ⟨4, ![1, 32, 1, 128]⟩
abbrev S16x32x1x128 : Shape := ⟨4, ![16, 32, 1, 128]⟩
abbrev S512x128 : Shape := ⟨2, ![512, 128]⟩
abbrev S2048x128 : Shape := ⟨2, ![2048, 128]⟩
abbrev S512x512 : Shape := ⟨2, ![512, 512]⟩

abbrev nBuf : Space → Nat
  | .hbm => 45
  | .vmem => 7
  | .smem => 0
  | _ => 0

abbrev bufTy : (tb : Table) → Fin (tcTables nBuf tb) → BufTy
  | .hbm, ⟨0, _⟩ => ⟨S512x2048, .bf16⟩
  | .hbm, ⟨1, _⟩ => ⟨S1x2048x17552, .f32⟩
  | .hbm, ⟨2, _⟩ => ⟨S2048x17552, .f32⟩
  | .hbm, ⟨3, _⟩ => ⟨S17552x2048, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S32, .f32⟩
  | .hbm, ⟨17, _⟩ => ⟨S32x1, .f32⟩
  | .hbm, ⟨18, _⟩ => ⟨S1x16, .f32⟩
  | .hbm, ⟨19, _⟩ => ⟨S32x16, .f32⟩
  | .hbm, ⟨20, _⟩ => ⟨S32x16, .f32⟩
  | .hbm, ⟨21, _⟩ => ⟨S32x16, .f32⟩
  | .hbm, ⟨22, _⟩ => ⟨S32x16, .f32⟩
  | .hbm, ⟨23, _⟩ => ⟨S32x16, .f32⟩
  | .hbm, ⟨24, _⟩ => ⟨S_, .f32⟩
  | .hbm, ⟨25, _⟩ => ⟨S32x96, .f32⟩
  | .hbm, ⟨26, _⟩ => ⟨S_, .f32⟩
  | .hbm, ⟨27, _⟩ => ⟨S32x96, .f32⟩
  | .hbm, ⟨28, _⟩ => ⟨S_, .f32⟩
  | .hbm, ⟨29, _⟩ => ⟨S32x16, .f32⟩
  | .hbm, ⟨30, _⟩ => ⟨S32x128, .f32⟩
  | .hbm, ⟨31, _⟩ => ⟨S32x16, .f32⟩
  | .hbm, ⟨32, _⟩ => ⟨S32x128, .f32⟩
  | .hbm, ⟨33, _⟩ => ⟨S32x128, .f32⟩
  | .hbm, ⟨34, _⟩ => ⟨S1x32x1x128, .f32⟩
  | .hbm, ⟨35, _⟩ => ⟨S16x32x1x128, .f32⟩
  | .hbm, ⟨36, _⟩ => ⟨S512x128, .f32⟩
  | .hbm, ⟨37, _⟩ => ⟨S1x32x1x128, .f32⟩
  | .hbm, ⟨38, _⟩ => ⟨S16x32x1x128, .f32⟩
  | .hbm, ⟨39, _⟩ => ⟨S512x128, .f32⟩
  | .hbm, ⟨40, _⟩ => ⟨S1x32x1x128, .f32⟩
  | .hbm, ⟨41, _⟩ => ⟨S16x32x1x128, .f32⟩
  | .hbm, ⟨42, _⟩ => ⟨S512x128, .f32⟩
  | .hbm, ⟨43, _⟩ => ⟨S2048x128, .f32⟩
  | .hbm, ⟨44, _⟩ => ⟨S512x512, .bf16⟩
  | .local _ .vmem, ⟨0, _⟩ => ⟨S512x2048, .bf16⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S2048x128, .f32⟩
  | .local _ .vmem, ⟨6, _⟩ => ⟨S512x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_mult1 (i : grid0.Coords) : BitVec 32 :=
  let c2048_i32 : BitVec 32 := 2048#32
  let arg1 : BitVec 32 := BitVec.ofNat 32 (i 1).val
  let c512_i32 : BitVec 32 := 512#32
  let v0 : BitVec 32 := Scalar.muli arg1 c512_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== KeysSampleReferenceIdeal.lean ====
abbrev S512x2048 : Shape := ⟨2, ![512, 2048]⟩
abbrev S1x2048x17552 : Shape := ⟨3, ![1, 2048, 17552]⟩
abbrev S2048x17552 : Shape := ⟨2, ![2048, 17552]⟩
abbrev S512x17552 : Shape := ⟨2, ![512, 17552]⟩
abbrev S512x512 : Shape := ⟨2, ![512, 512]⟩
abbrev S16x32x4x128 : Shape := ⟨4, ![16, 32, 4, 128]⟩
abbrev S32 : Shape := ⟨1, ![32]⟩
abbrev S_ : Shape := ⟨0, ![]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x1x16 : Shape := ⟨3, ![32, 1, 16]⟩
abbrev S16x32x4x32 : Shape := ⟨4, ![16, 32, 4, 32]⟩
abbrev S16x32x4x16 : Shape := ⟨4, ![16, 32, 4, 16]⟩
abbrev S1x32x1x16 : Shape := ⟨4, ![1, 32, 1, 16]⟩
abbrev S16x32x4x96 : Shape := ⟨4, ![16, 32, 4, 96]⟩
abbrev S2048x128 : Shape := ⟨2, ![2048, 128]⟩

abbrev nBuf : Space → Nat
  | .hbm => 52
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x17552, .f32⟩
  | .hbm, ⟨2, _⟩ => ⟨S512x2048, .f32⟩
  | .hbm, ⟨3, _⟩ => ⟨S2048x17552, .f32⟩
  | .hbm, ⟨4, _⟩ => ⟨S512x17552, .f32⟩
  | .hbm, ⟨5, _⟩ => ⟨S512x512, .f32⟩
  | .hbm, ⟨6, _⟩ => ⟨S16x32x4x128, .f32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S32, .f32⟩
  | .hbm, ⟨20, _⟩ => ⟨S32x1, .f32⟩
  | .hbm, ⟨21, _⟩ => ⟨S1x16, .f32⟩
  | .hbm, ⟨22, _⟩ => ⟨S32x16, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S32x1x16, .f32⟩
  | .hbm, ⟨27, _⟩ => ⟨S32x16, .f32⟩
  | .hbm, ⟨28, _⟩ => ⟨S32x1x16, .f32⟩
  | .hbm, ⟨29, _⟩ => ⟨S16x32x4x32, .f32⟩
  | .hbm, ⟨30, _⟩ => ⟨S16x32x4x16, .f32⟩
  | .hbm, ⟨31, _⟩ => ⟨S16x32x4x16, .f32⟩
  | .hbm, ⟨32, _⟩ => ⟨S1x32x1x16, .f32⟩
  | .hbm, ⟨33, _⟩ => ⟨S16x32x4x16, .f32⟩
  | .hbm, ⟨34, _⟩ => ⟨S16x32x4x16, .f32⟩
  | .hbm, ⟨35, _⟩ => ⟨S1x32x1x16, .f32⟩
  | .hbm, ⟨36, _⟩ => ⟨S16x32x4x16, .f32⟩
  | .hbm, ⟨37, _⟩ => ⟨S16x32x4x16, .f32⟩
  | .hbm, ⟨38, _⟩ => ⟨S16x32x4x16, .f32⟩
  | .hbm, ⟨39, _⟩ => ⟨S1x32x1x16, .f32⟩
  | .hbm, ⟨40, _⟩ => ⟨S16x32x4x16, .f32⟩
  | .hbm, ⟨41, _⟩ => ⟨S16x32x4x16, .f32⟩
  | .hbm, ⟨42, _⟩ => ⟨S1x32x1x16, .f32⟩
  | .hbm, ⟨43, _⟩ => ⟨S16x32x4x16, .f32⟩
  | .hbm, ⟨44, _⟩ => ⟨S16x32x4x16, .f32⟩
  | .hbm, ⟨45, _⟩ => ⟨S16x32x4x16, .f32⟩
  | .hbm, ⟨46, _⟩ => ⟨S16x32x4x32, .f32⟩
  | .hbm, ⟨47, _⟩ => ⟨S16x32x4x96, .f32⟩
  | .hbm, ⟨48, _⟩ => ⟨S16x32x4x128, .f32⟩
  | .hbm, ⟨49, _⟩ => ⟨S2048x128, .f32⟩
  | .hbm, ⟨50, _⟩ => ⟨S512x512, .f32⟩
  | .hbm, ⟨51, _⟩ => ⟨S512x512, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩

abbrev nD : Nat := 1
abbrev τ : Topo := Topo.v7x

variable {F : FTy → Type} [FloatOps F]
-- ==== Values.lean ====
abbrev S8192x2048 : Shape := ⟨2, ![8192, 2048]⟩
abbrev S1x2048x17552 : Shape := ⟨3, ![1, 2048, 17552]⟩
abbrev S2048x17552 : Shape := ⟨2, ![2048, 17552]⟩
abbrev S17552x2048 : Shape := ⟨2, ![17552, 2048]⟩
abbrev S32768x128 : Shape := ⟨2, ![32768, 128]⟩
abbrev S8x576x1024 : Shape := ⟨3, ![8, 576, 1024]⟩
abbrev S2048x2048 : Shape := ⟨2, ![2048, 2048]⟩
abbrev S512x2048 : Shape := ⟨2, ![512, 2048]⟩
abbrev S8192x128 : Shape := ⟨2, ![8192, 128]⟩
abbrev S2x576x1024 : Shape := ⟨3, ![2, 576, 1024]⟩
abbrev S2048x512 : Shape := ⟨2, ![2048, 512]⟩
abbrev S2048x128 : Shape := ⟨2, ![2048, 128]⟩
abbrev S16x1024 : Shape := ⟨2, ![16, 1024]⟩
abbrev S512x1024 : Shape := ⟨2, ![512, 1024]⟩
abbrev S128x1024 : Shape := ⟨2, ![128, 1024]⟩
abbrev S1x128x1024 : Shape := ⟨3, ![1, 128, 1024]⟩
abbrev S1x16x1024 : Shape := ⟨3, ![1, 16, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x17552, .f32⟩
  | .hbm, ⟨2, _⟩ => ⟨S2048x17552, .f32⟩
  | .hbm, ⟨3, _⟩ => ⟨S17552x2048, .f32⟩
  | .hbm, ⟨4, _⟩ => ⟨S32768x128, .f32⟩
  | .hbm, ⟨5, _⟩ => ⟨S8x576x1024, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S8192x128, .f32⟩
  | .local _ .vmem, ⟨4, _⟩ => ⟨S8192x128, .f32⟩
  | .local _ .vmem, ⟨5, _⟩ => ⟨S2x576x1024, .bf16⟩
  | .local _ .vmem, ⟨6, _⟩ => ⟨S2x576x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2560_i32 : BitVec 32 := 2560#32
  let c0_i32 : BitVec 32 := 0#32
  let c0_i32_0 : BitVec 32 := 0#32
  ![c2560_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x576x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ValuesReferenceIdeal.lean ====
abbrev S8192x2048 : Shape := ⟨2, ![8192, 2048]⟩
abbrev S1x2048x17552 : Shape := ⟨3, ![1, 2048, 17552]⟩
abbrev S2048x17552 : Shape := ⟨2, ![2048, 17552]⟩
abbrev S8192x17552 : Shape := ⟨2, ![8192, 17552]⟩
abbrev S8192x512 : Shape := ⟨2, ![8192, 512]⟩
abbrev S32768x128 : Shape := ⟨2, ![32768, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x17552, .f32⟩
  | .hbm, ⟨2, _⟩ => ⟨S8192x2048, .f32⟩
  | .hbm, ⟨3, _⟩ => ⟨S2048x17552, .f32⟩
  | .hbm, ⟨4, _⟩ => ⟨S8192x17552, .f32⟩
  | .hbm, ⟨5, _⟩ => ⟨S8192x512, .f32⟩
  | .hbm, ⟨6, _⟩ => ⟨S32768x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ValuesSample.lean ====
abbrev S512x2048 : Shape := ⟨2, ![512, 2048]⟩
abbrev S1x2048x17552 : Shape := ⟨3, ![1, 2048, 17552]⟩
abbrev S2048x17552 : Shape := ⟨2, ![2048, 17552]⟩
abbrev S17552x2048 : Shape := ⟨2, ![17552, 2048]⟩
abbrev S2048x128 : Shape := ⟨2, ![2048, 128]⟩
abbrev S16x576x32 : Shape := ⟨3, ![16, 576, 32]⟩
abbrev S512x512 : Shape := ⟨2, ![512, 512]⟩
abbrev S512x128 : Shape := ⟨2, ![512, 128]⟩
abbrev S16x32 : Shape := ⟨2, ![16, 32]⟩
abbrev S512x32 : Shape := ⟨2, ![512, 32]⟩
abbrev S128x32 : Shape := ⟨2, ![128, 32]⟩
abbrev S1x128x32 : Shape := ⟨3, ![1, 128, 32]⟩
abbrev S1x16x32 : Shape := ⟨3, ![1, 16, 32]⟩

abbrev nBuf : Space → Nat
  | .hbm => 6
  | .vmem => 4
  | .smem => 0
  | _ => 0

abbrev bufTy : (tb : Table) → Fin (tcTables nBuf tb) → BufTy
  | .hbm, ⟨0, _⟩ => ⟨S512x2048, .bf16⟩
  | .hbm, ⟨1, _⟩ => ⟨S1x2048x17552, .f32⟩
  | .hbm, ⟨2, _⟩ => ⟨S2048x17552, .f32⟩
  | .hbm, ⟨3, _⟩ => ⟨S17552x2048, .f32⟩
  | .hbm, ⟨4, _⟩ => ⟨S2048x128, .f32⟩
  | .hbm, ⟨5, _⟩ => ⟨S16x576x32, .bf16⟩
  | .local _ .vmem, ⟨0, _⟩ => ⟨S512x2048, .bf16⟩
  | .local _ .vmem, ⟨1, _⟩ => ⟨S512x2048, .f32⟩
  | .local _ .vmem, ⟨2, _⟩ => ⟨S2048x128, .f32⟩
  | .local _ .vmem, ⟨3, _⟩ => ⟨S16x576x32, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2560_i32 : BitVec 32 := 2560#32
  let c0_i32 : BitVec 32 := 0#32
  let c0_i32_0 : BitVec 32 := 0#32
  ![c2560_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x576x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ValuesSampleReferenceIdeal.lean ====
abbrev S512x2048 : Shape := ⟨2, ![512, 2048]⟩
abbrev S1x2048x17552 : Shape := ⟨3, ![1, 2048, 17552]⟩
abbrev S2048x17552 : Shape := ⟨2, ![2048, 17552]⟩
abbrev S512x17552 : Shape := ⟨2, ![512, 17552]⟩
abbrev S512x512 : Shape := ⟨2, ![512, 512]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x17552, .f32⟩
  | .hbm, ⟨2, _⟩ => ⟨S512x2048, .f32⟩
  | .hbm, ⟨3, _⟩ => ⟨S2048x17552, .f32⟩
  | .hbm, ⟨4, _⟩ => ⟨S512x17552, .f32⟩
  | .hbm, ⟨5, _⟩ => ⟨S512x512, .f32⟩
  | .hbm, ⟨6, _⟩ => ⟨S2048x128, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HeadWeights.lean ====
abbrev S8192x2048 : Shape := ⟨2, ![8192, 2048]⟩
abbrev S1x2048x17552 : Shape := ⟨3, ![1, 2048, 17552]⟩
abbrev S2048x17552 : Shape := ⟨2, ![2048, 17552]⟩
abbrev S17552x2048 : Shape := ⟨2, ![17552, 2048]⟩
abbrev S8192x128 : Shape := ⟨2, ![8192, 128]⟩
abbrev S2048x2048 : Shape := ⟨2, ![2048, 2048]⟩
abbrev S128x2048 : Shape := ⟨2, ![128, 2048]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x2048x17552, .f32⟩
  | .hbm, ⟨2, _⟩ => ⟨S2048x17552, .f32⟩
  | .hbm, ⟨3, _⟩ => ⟨S17552x2048, .f32⟩
  | .hbm, ⟨4, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S128x2048, .f32⟩
  | .local _ .vmem, ⟨3, _⟩ => ⟨S2048x128, .f32⟩
  | .local _ .vmem, ⟨4, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let c5248_i32 : BitVec 32 := 5248#32
  let arg1 : BitVec 32 := BitVec.ofNat 32 (i 1).val
  let c128_i32 : BitVec 32 := 128#32
  let v0 : BitVec 32 := Scalar.muli arg1 c128_i32
  let v1 : BitVec 32 := Scalar.addi c5248_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c5248_i32 : BitVec 32 := 5248#32
  let v1 : BitVec 32 := Scalar.addi c5248_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadWeightsReferenceIdeal.lean ====
abbrev S8192x2048 : Shape := ⟨2, ![8192, 2048]⟩
abbrev S1x2048x17552 : Shape := ⟨3, ![1, 2048, 17552]⟩
abbrev S2048x17552 : Shape := ⟨2, ![2048, 17552]⟩
abbrev S8192x17552 : Shape := ⟨2, ![8192, 17552]⟩
abbrev S8192x128 : Shape := ⟨2, ![8192, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x17552, .f32⟩
  | .hbm, ⟨2, _⟩ => ⟨S8192x2048, .f32⟩
  | .hbm, ⟨3, _⟩ => ⟨S2048x17552, .f32⟩
  | .hbm, ⟨4, _⟩ => ⟨S8192x17552, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HgrnSample.lean ====
abbrev S512x2048 : Shape := ⟨2, ![512, 2048]⟩
abbrev S1x128 : Shape := ⟨2, ![1, 128]⟩
abbrev S1x16x16x128x128 : Shape := ⟨5, ![1, 16, 16, 128, 128]⟩
abbrev S128 : Shape := ⟨1, ![128]⟩
abbrev S16x16x128x128 : Shape := ⟨4, ![16, 16, 128, 128]⟩
abbrev S32x2048 : Shape := ⟨2, ![32, 2048]⟩
abbrev S1x16x128x128 : Shape := ⟨4, ![1, 16, 128, 128]⟩
abbrev S16x128x128 : Shape := ⟨3, ![16, 128, 128]⟩
abbrev S3x16x32x128 : Shape := ⟨4, ![3, 16, 32, 128]⟩
abbrev S1x1x128x128 : Shape := ⟨4, ![1, 1, 128, 128]⟩
abbrev S128x128 : Shape := ⟨2, ![128, 128]⟩
abbrev S1x128x128 : Shape := ⟨3, ![1, 128, 128]⟩
abbrev S32x32 : Shape := ⟨2, ![32, 32]⟩
abbrev S64x128 : Shape := ⟨2, ![64, 128]⟩
abbrev S32x128 : Shape := ⟨2, ![32, 128]⟩
abbrev S1x1x32x128 : Shape := ⟨4, ![1, 1, 32, 128]⟩
abbrev S8x128 : Shape := ⟨2, ![8, 128]⟩
abbrev S1x1x1x128 : Shape := ⟨4, ![1, 1, 1, 128]⟩
abbrev S8x8 : Shape := ⟨2, ![8, 8]⟩
abbrev S8x24 : Shape := ⟨2, ![8, 24]⟩
abbrev S8x32 : Shape := ⟨2, ![8, 32]⟩
abbrev S16x128 : Shape := ⟨2, ![16, 128]⟩
abbrev S8x16 : Shape := ⟨2, ![8, 16]⟩
abbrev S24x128 : Shape := ⟨2, ![24, 128]⟩
abbrev S256x128 : Shape := ⟨2, ![256, 128]⟩
abbrev S8x8x128 : Shape := ⟨3, ![8, 8, 128]⟩
abbrev S32 : Shape := ⟨1, ![32]⟩
abbrev S32x1 : Shape := ⟨2, ![32, 1]⟩

abbrev nBuf : Space → Nat
  | .hbm => 12
  | .vmem => 19
  | .smem => 0
  | _ => 0

abbrev bufTy : (tb : Table) → Fin (tcTables nBuf tb) → BufTy
  | .hbm, ⟨0, _⟩ => ⟨S512x2048, .bf16⟩
  | .hbm, ⟨1, _⟩ => ⟨S512x2048, .f32⟩
  | .hbm, ⟨2, _⟩ => ⟨S512x2048, .f32⟩
  | .hbm, ⟨3, _⟩ => ⟨S512x2048, .bf16⟩
  | .hbm, ⟨4, _⟩ => ⟨S512x2048, .bf16⟩
  | .hbm, ⟨5, _⟩ => ⟨S1x128, .f32⟩
  | .hbm, ⟨6, _⟩ => ⟨S1x16x16x128x128, .f32⟩
  | .hbm, ⟨7, _⟩ => ⟨S128, .f32⟩
  | .hbm, ⟨8, _⟩ => ⟨S1x128, .f32⟩
  | .hbm, ⟨9, _⟩ => ⟨S16x16x128x128, .f32⟩
  | .hbm, ⟨10, _⟩ => ⟨S512x2048, .bf16⟩
  | .hbm, ⟨11, _⟩ => ⟨S16x16x128x128, .f32⟩
  | .local _ .vmem, ⟨0, _⟩ => ⟨S32x2048, .bf16⟩
  | .local _ .vmem, ⟨1, _⟩ => ⟨S32x2048, .bf16⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .bf16⟩
  | .local _ .vmem, ⟨7, _⟩ => ⟨S32x2048, .bf16⟩
  | .local _ .vmem, ⟨8, _⟩ => ⟨S32x2048, .bf16⟩
  | .local _ .vmem, ⟨9, _⟩ => ⟨S32x2048, .bf16⟩
  | .local _ .vmem, ⟨10, _⟩ => ⟨S1x128, .f32⟩
  | .local _ .vmem, ⟨11, _⟩ => ⟨S1x16x128x128, .f32⟩
  | .local _ .vmem, ⟨12, _⟩ => ⟨S1x16x128x128, .f32⟩
  | .local _ .vmem, ⟨13, _⟩ => ⟨S32x2048, .bf16⟩
  | .local _ .vmem, ⟨14, _⟩ => ⟨S32x2048, .bf16⟩
  | .local _ .vmem, ⟨15, _⟩ => ⟨S1x16x128x128, .f32⟩
  | .local _ .vmem, ⟨16, _⟩ => ⟨S1x16x128x128, .f32⟩
  | .local _ .vmem, ⟨17, _⟩ => ⟨S16x128x128, .f32⟩
  | .local _ .vmem, ⟨18, _⟩ => ⟨S3x16x32x128, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 1], ![false, false, false]⟩

def k0_mult1 : BitVec 32 :=
  let c0_i32_16 : BitVec 32 := 0#32
  let c32_i32 : BitVec 32 := 32#32
  let v56 : BitVec 32 := Scalar.muli c0_i32_16 c32_i32
  v56
def k0_off1 : Fin 2 → Nat :=
  let c0_i32_16 : BitVec 32 := 0#32
  let c32_i32 : BitVec 32 := 32#32
  let v56 : BitVec 32 := Scalar.muli c0_i32_16 c32_i32
  let v57 : BitVec 32 := v56
  let v58 : Index := Scalar.indexCast v57
  let c0 : Index := 0#32
  ![v58.toNat, 0]
def k0_off2 : Fin 2 → Nat :=
  let c0_i32_16 : BitVec 32 := 0#32
  let c32_i32 : BitVec 32 := 32#32
  let v56 : BitVec 32 := Scalar.muli c0_i32_16 c32_i32
  let v57 : BitVec 32 := v56
  let v73 : Index := Scalar.indexCast v57
  let c0_20 : Index := 0#32
  ![v73.toNat, 0]
def k0_off3 : Fin 2 → Nat :=
  let c0_i32_16 : BitVec 32 := 0#32
  let c32_i32 : BitVec 32 := 32#32
  let v56 : BitVec 32 := Scalar.muli c0_i32_16 c32_i32
  let v57 : BitVec 32 := v56
  let v91 : Index := Scalar.indexCast v57
  let c128 : Index := 128#32
  ![v91.toNat, 128]
def k0_off4 : Fin 2 → Nat :=
  let c0_i32_16 : BitVec 32 := 0#32
  let c32_i32 : BitVec 32 := 32#32
  let v56 : BitVec 32 := Scalar.muli c0_i32_16 c32_i32
  let v57 : BitVec 32 := v56
  let v109 : Index := Scalar.indexCast v57
  let c256 : Index := 256#32
  ![v109.toNat, 256]
def k0_off5 : Fin 2 → Nat :=
  let c0_i32_16 : BitVec 32 := 0#32
  let c32_i32 : BitVec 32 := 32#32
  let v56 : BitVec 32 := Scalar.muli c0_i32_16 c32_i32
  let v57 : BitVec 32 := v56
  let v127 : Index := Scalar.indexCast v57
  let c384 : Index := 384#32
  ![v127.toNat, 384]
def k0_off6 : Fin 2 → Nat :=
  let c0_i32_16 : BitVec 32 := 0#32
  let c32_i32 : BitVec 32 := 32#32
  let v56 : BitVec 32 := Scalar.muli c0_i32_16 c32_i32
  let v57 : BitVec 32 := v56
  let v145 : Index := Scalar.indexCast v57
  let c512 : Index := 512#32
  ![v145.toNat, 512]
def k0_off7 : Fin 2 → Nat :=
  let c0_i32_16 : BitVec 32 := 0#32
  let c32_i32 : BitVec 32 := 32#32
  let v56 : BitVec 32 := Scalar.muli c0_i32_16 c32_i32
  let v57 : BitVec 32 := v56
  let v163 : Index := Scalar.indexCast v57
  let c640 : Index := 640#32
  ![v163.toNat, 640]
def k0_off8 : Fin 2 → Nat :=
  let c0_i32_16 : BitVec 32 := 0#32
  let c32_i32 : BitVec 32 := 32#32
  let v56 : BitVec 32 := Scalar.muli c0_i32_16 c32_i32
  let v57 : BitVec 32 := v56
  let v181 : Index := Scalar.indexCast v57
  let c768 : Index := 768#32
  ![v181.toNat, 768]
def k0_off9 : Fin 2 → Nat :=
  let c0_i32_16 : BitVec 32 := 0#32
  let c32_i32 : BitVec 32 := 32#32
  let v56 : BitVec 32 := Scalar.muli c0_i32_16 c32_i32
  let v57 : BitVec 32 := v56
  let v199 : Index := Scalar.indexCast v57
  let c896 : Index := 896#32
  ![v199.toNat, 896]
def k0_off10 : Fin 2 → Nat :=
  let c0_i32_16 : BitVec 32 := 0#32
  let c32_i32 : BitVec 32 := 32#32
  let v56 : BitVec 32 := Scalar.muli c0_i32_16 c32_i32
  let v57 : BitVec 32 := v56
  let v217 : Index := Scalar.indexCast v57
  let c1024 : Index := 1024#32
  ![v217.toNat, 1024]
def k0_off11 : Fin 2 → Nat :=
  let c0_i32_16 : BitVec 32 := 0#32
  let c32_i32 : BitVec 32 := 32#32
  let v56 : BitVec 32 := Scalar.muli c0_i32_16 c32_i32
  let v57 : BitVec 32 := v56
  let v235 : Index := Scalar.indexCast v57
  let c1152 : Index := 1152#32
  ![v235.toNat, 1152]
def k0_off12 : Fin 2 → Nat :=
  let c0_i32_16 : BitVec 32 := 0#32
  let c32_i32 : BitVec 32 := 32#32
  let v56 : BitVec 32 := Scalar.muli c0_i32_16 c32_i32
  let v57 : BitVec 32 := v56
  let v253 : Index := Scalar.indexCast v57
  let c1280 : Index := 1280#32
  ![v253.toNat, 1280]
def k0_off13 : Fin 2 → Nat :=
  let c0_i32_16 : BitVec 32 := 0#32
  let c32_i32 : BitVec 32 := 32#32
  let v56 : BitVec 32 := Scalar.muli c0_i32_16 c32_i32
  let v57 : BitVec 32 := v56
  let v271 : Index := Scalar.indexCast v57
  let c1408 : Index := 1408#32
  ![v271.toNat, 1408]
def k0_off14 : Fin 2 → Nat :=
  let c0_i32_16 : BitVec 32 := 0#32
  let c32_i32 : BitVec 32 := 32#32
  let v56 : BitVec 32 := Scalar.muli c0_i32_16 c32_i32
  let v57 : BitVec 32 := v56
  let v289 : Index := Scalar.indexCast v57
  let c1536 : Index := 1536#32
  ![v289.toNat, 1536]
def k0_off15 : Fin 2 → Nat :=
  let c0_i32_16 : BitVec 32 := 0#32
  let c32_i32 : BitVec 32 := 32#32
  let v56 : BitVec 32 := Scalar.muli c0_i32_16 c32_i32
  let v57 : BitVec 32 := v56
  let v307 : Index := Scalar.indexCast v57
  let c1664 : Index := 1664#32
  ![v307.toNat, 1664]
def k0_off16 : Fin 2 → Nat :=
  let c0_i32_16 : BitVec 32 := 0#32
  let c32_i32 : BitVec 32 := 32#32
  let v56 : BitVec 32 := Scalar.muli c0_i32_16 c32_i32
  let v57 : BitVec 32 := v56
  let v325 : Index := Scalar.indexCast v57
  let c1792 : Index := 1792#32
  ![v325.toNat, 1792]
def k0_off17 : Fin 2 → Nat :=
  let c0_i32_16 : BitVec 32 := 0#32
  let c32_i32 : BitVec 32 := 32#32
  let v56 : BitVec 32 := Scalar.muli c0_i32_16 c32_i32
  let v57 : BitVec 32 := v56
  let v343 : Index := Scalar.indexCast v57
  let c1920 : Index := 1920#32
  ![v343.toNat, 1920]
def k0_cond2 (i : grid0.Coords) : BitVec 1 :=
  let arg2 : BitVec 32 := BitVec.ofNat 32 (i 2).val
  let c0_i32_6855 : BitVec 32 := 0#32
  let v9432 : BitVec 1 := Scalar.cmpi .eq arg2 c0_i32_6855
  let v9433 : BitVec 32 := Scalar.extui v9432
  let c0_i32_6856 : BitVec 32 := 0#32
  let v9434 : BitVec 1 := Scalar.cmpi .ne v9433 c0_i32_6856
  v9434

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== HgrnSampleReferenceIdeal.lean ====
abbrev S512x2048 : Shape := ⟨2, ![512, 2048]⟩
abbrev S1x128 : Shape := ⟨2, ![1, 128]⟩
abbrev S1x16x16x128x128 : Shape := ⟨5, ![1, 16, 16, 128, 128]⟩
abbrev S16x32x16x128 : Shape := ⟨4, ![16, 32, 16, 128]⟩
abbrev S16x16x32x128 : Shape := ⟨4, ![16, 16, 32, 128]⟩
abbrev S_ : Shape := ⟨0, ![]⟩
abbrev S16x16x1x128 : Shape := ⟨4, ![16, 16, 1, 128]⟩
abbrev S16x16x128 : Shape := ⟨3, ![16, 16, 128]⟩
abbrev S16x16x128x1 : Shape := ⟨4, ![16, 16, 128, 1]⟩
abbrev S16x16x128x128 : Shape := ⟨4, ![16, 16, 128, 128]⟩

abbrev nBuf : Space → Nat
  | .hbm => 34
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x2048, .f32⟩
  | .hbm, ⟨2, _⟩ => ⟨S512x2048, .f32⟩
  | .hbm, ⟨3, _⟩ => ⟨S512x2048, .bf16⟩
  | .hbm, ⟨4, _⟩ => ⟨S512x2048, .bf16⟩
  | .hbm, ⟨5, _⟩ => ⟨S1x128, .f32⟩
  | .hbm, ⟨6, _⟩ => ⟨S1x16x16x128x128, .f32⟩
  | .hbm, ⟨7, _⟩ => ⟨S16x32x16x128, .f32⟩
  | .hbm, ⟨8, _⟩ => ⟨S16x16x32x128, .f32⟩
  | .hbm, ⟨9, _⟩ => ⟨S512x2048, .f32⟩
  | .hbm, ⟨10, _⟩ => ⟨S16x32x16x128, .f32⟩
  | .hbm, ⟨11, _⟩ => ⟨S16x16x32x128, .f32⟩
  | .hbm, ⟨12, _⟩ => ⟨S16x32x16x128, .f32⟩
  | .hbm, ⟨13, _⟩ => ⟨S16x16x32x128, .f32⟩
  | .hbm, ⟨14, _⟩ => ⟨S_, .f32⟩
  | .hbm, ⟨15, _⟩ => ⟨S_, .f32⟩
  | .hbm, ⟨16, _⟩ => ⟨S16x16x32x128, .f32⟩
  | .hbm, ⟨17, _⟩ => ⟨S16x16x1x128, .f32⟩
  | .hbm, ⟨18, _⟩ => ⟨S16x16x128, .f32⟩
  | .hbm, ⟨19, _⟩ => ⟨S_, .f32⟩
  | .hbm, ⟨20, _⟩ => ⟨S16x16x128, .f32⟩
  | .hbm, ⟨21, _⟩ => ⟨S16x16x128, .f32⟩
  | .hbm, ⟨22, _⟩ => ⟨S16x16x128x1, .f32⟩
  | .hbm, ⟨23, _⟩ => ⟨S16x16x128x128, .f32⟩
  | .hbm, ⟨24, _⟩ => ⟨S16x16x128x128, .f32⟩
  | .hbm, ⟨25, _⟩ => ⟨S16x16x128x128, .f32⟩
  | .hbm, ⟨26, _⟩ => ⟨S16x16x32x128, .f32⟩
  | .hbm, ⟨27, _⟩ => ⟨S16x16x32x128, .f32⟩
  | .hbm, ⟨28, _⟩ => ⟨S_, .f32⟩
  | .hbm, ⟨29, _⟩ => ⟨S16x16x32x128, .f32⟩
  | .hbm, ⟨30, _⟩ => ⟨S16x16x32x128, .f32⟩
  | .hbm, ⟨31, _⟩ => ⟨S16x16x32x128, .f32⟩
  | .hbm, ⟨32, _⟩ => ⟨S16x16x128x128, .f32⟩
  | .hbm, ⟨33, _⟩ => ⟨S16x16x128x128, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_call0_cst : Ref sig .tc := ⟨.hbm, 14, rfl⟩
abbrev main_call0_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Common.lean ====
/- Matrix products and small index facts used at every projection: stated over any extents. -/
module

public import Idealize.ShloMosaic.Lib.MatmulPlain
public import Idealize.ShloMosaic.Lib.ValueIdx
public import Idealize.ShloMosaic.Lib.Pointwise
public import Idealize.ShloMosaic.Lib.Pipeline.Value

@[expose] public section

noncomputable section

namespace Cert.Layer

open Idealize.ShloMosaic
open Idealize.ShloMosaic.Pipeline (Window Grid)
open scoped BigOperators

/-- An array of extended reals of a given shape. -/
abbrev Arr (s : Shape) : Type := s.Idx → EReal

/-- Row `r` of `h` times row `c` of `w`: one element of `h · wᵀ`. -/
def rowDot {M K N : ℕ} (h : Arr ⟨2, ![M, K]⟩) (w : Arr ⟨2, ![N, K]⟩) (r : Fin M) (c : Fin N) : EReal :=
  ∑ k : Fin K, h (ix2 r k) * w (ix2 c k)

theorem zeros2 : (![0, 0] : Fin 2 → ℕ) = fun _ => 0 := funext fun a => by fin_cases a <;> rfl
theorem zeros3 : (![0, 0, 0] : Fin 3 → ℕ) = fun _ => 0 := funext fun a => by fin_cases a <;> rfl

theorem eq_ix2 {M K : ℕ} (x : (⟨2, ![M, K]⟩ : Shape).Idx) (r : Fin M) (k : Fin K) (h0 : (x 0 : ℕ) = r) (h1 : (x 1 : ℕ) = k) : x = ix2 r k :=
  funext fun a => Fin.ext (match a with | ⟨0, _⟩ => h0 | ⟨1, _⟩ => h1)

theorem eq_ix3 {A B C : ℕ} (x : (⟨3, ![A, B, C]⟩ : Shape).Idx) (p : Fin A) (q : Fin B) (r : Fin C) (h0 : (x 0 : ℕ) = p) (h1 : (x 1 : ℕ) = q) (h2 : (x 2 : ℕ) = r) :
    x = ix3 p q r :=
  funext fun a => Fin.ext (match a with | ⟨0, _⟩ => h0 | ⟨1, _⟩ => h1 | ⟨2, _⟩ => h2)

/-- A product of a block of rows with a block of rows is the product of the rows where the blocks lie. -/
theorem rowDot_block {M N K m n : ℕ} (h : Arr ⟨2, ![M, K]⟩) (w : Arr ⟨2, ![N, K]⟩) (b0 : (⟨2, ![m, K]⟩ : Shape).Idx → (⟨2, ![M, K]⟩ : Shape).Idx)
    (b1 : (⟨2, ![n, K]⟩ : Shape).Idx → (⟨2, ![N, K]⟩ : Shape).Idx) (p : Fin m) (q : Fin n) (r : Fin M) (s : Fin N)
    (h0 : ∀ k, b0 (ix2 p k) = ix2 r k) (h1 : ∀ k, b1 (ix2 q k) = ix2 s k) :
    rowDot (M := m) (K := K) (N := n) (fun x => h (b0 x)) (fun x => w (b1 x)) p q = rowDot (M := M) (K := K) (N := N) h w r s :=
  Finset.sum_congr rfl fun k _ => congrArg₂ (· * ·) (congrArg h (h0 k)) (congrArg w (h1 k))

/-- The same with the blocks given by where they begin: block row `i0`, no column offset; rows from `j0`, no column offset. -/
theorem rowDot_tile {M K N m n : ℕ} (h : Arr ⟨2, ![M, K]⟩) (w : Arr ⟨2, ![N, K]⟩) (b0 : (⟨2, ![m, K]⟩ : Shape).Idx → (⟨2, ![M, K]⟩ : Shape).Idx)
    (b1 : (⟨2, ![n, K]⟩ : Shape).Idx → (⟨2, ![N, K]⟩ : Shape).Idx) {i0 i1 j0 j1 : ℕ} (p : Fin m) (q : Fin n) (r : Fin M) (s : Fin N)
    (A0 : ∀ x, (b0 x 0 : ℕ) = i0 * m + x 0) (A1 : ∀ x, (b0 x 1 : ℕ) = i1 * K + x 1)
    (B0 : ∀ x, (b1 x 0 : ℕ) = j0 + x 0) (B1 : ∀ x, (b1 x 1 : ℕ) = j1 + x 1)
    (hi : i1 = 0) (hj : j1 = 0) (hr : (r : ℕ) = i0 * m + p) (hs : (s : ℕ) = j0 + q) :
    rowDot (M := m) (K := K) (N := n) (fun x => h (b0 x)) (fun x => w (b1 x)) p q = rowDot (M := M) (K := K) (N := N) h w r s := by
  subst hi hj
  refine rowDot_block h w b0 b1 p q r s (fun k => eq_ix2 _ _ _ ((A0 _).trans hr.symm) ((A1 _).trans ?_)) (fun k => eq_ix2 _ _ _ ((B0 _).trans hs.symm) ((B1 _).trans ?_))
  · show 0 * K + (k : ℕ) = k
    omega
  · show 0 + (k : ℕ) = k
    omega

/-- An index of an `M × N` array lies in the `m × n` block whose block numbers are its coordinates divided. -/
theorem mem_tile {M N m n a b : ℕ} (i : (⟨2, ![M, N]⟩ : Shape).Idx) (hm : 0 < m) (hn : 0 < n) (ha : a = (i 0 : ℕ) / m) (hb : b = (i 1 : ℕ) / n) :
    ∀ d : Fin 2, (![a, b] d) * (![m, n] d) ≤ (i d : ℕ) ∧ (i d : ℕ) < (![a, b] d) * (![m, n] d) + (![m, n] d) := by
  subst ha hb
  intro d
  match d with
  | ⟨0, _⟩ => exact ⟨Nat.div_mul_le_self _ _, Nat.lt_div_mul_add hm⟩
  | ⟨1, _⟩ => exact ⟨Nat.div_mul_le_self _ _, Nat.lt_div_mul_add hn⟩

theorem mem_tile3 {A B C a b c p q r : ℕ} (i : (⟨3, ![A, B, C]⟩ : Shape).Idx) (ha : 0 < a) (hb : 0 < b) (hc : 0 < c) (hp : p = (i 0 : ℕ) / a) (hq : q = (i 1 : ℕ) / b)
    (hr : r = (i 2 : ℕ) / c) : ∀ d : Fin 3, (![p, q, r] d) * (![a, b, c] d) ≤ (i d : ℕ) ∧ (i d : ℕ) < (![p, q, r] d) * (![a, b, c] d) + (![a, b, c] d) := by
  subst hp hq hr
  intro d
  match d with
  | ⟨0, _⟩ => exact ⟨Nat.div_mul_le_self _ _, Nat.lt_div_mul_add ha⟩
  | ⟨1, _⟩ => exact ⟨Nat.div_mul_le_self _ _, Nat.lt_div_mul_add hb⟩
  | ⟨2, _⟩ => exact ⟨Nat.div_mul_le_self _ _, Nat.lt_div_mul_add hc⟩

/-- Column `i` of the range of `n` columns of the stacked projection weight that begins at column `c`. -/
def col {n : ℕ} (c : ℕ) (i : Fin n) (h : c + n ≤ 17552 := by decide) : Fin 17552 := ⟨c + i, by omega⟩

/-- Column `j` with its place inside its group of `n` turned by `s` to the left. -/
def turn (n s j : ℕ) : ℕ := j / n * n + (j % n + n - s) % n

/-- The product of row `r` with column `c` of the stacked projection weight. -/
def zAt {M : ℕ} (h : Arr ⟨2, ![M, 2048]⟩) (w : Arr ⟨2, ![17552, 2048]⟩) (r : Fin M) (c : ℕ) : EReal :=
  rowDot (M := M) (K := 2048) (N := 17552) h w r (Fin.ofNat 17552 c)

/-- The rotated column `j` of a projection that begins at column `c`: the product times one table, and the two products 16
    columns away, taken around inside a group of `n` columns, times the other two tables. -/
def ropeAt {M : ℕ} (n : ℕ) (h : Arr ⟨2, ![M, 2048]⟩) (w : Arr ⟨2, ![17552, 2048]⟩) (c : ℕ) (ta tb tc : Arr ⟨2, ![M, 128]⟩) (r : Fin M) (j : ℕ) : EReal :=
  zAt h w r (c + j) * ta (ix2 r (Fin.ofNat 128 j)) + zAt h w r (c + turn n (n - 16) j) * tb (ix2 r (Fin.ofNat 128 j))
    + zAt h w r (c + turn n 16 j) * tc (ix2 r (Fin.ofNat 128 j))

/-- The same inside one tile: the tile's own two operands and its rows of the tables. -/
def ropeTile {m n : ℕ} [NeZero n] (v0 : Arr ⟨2, ![m, 2048]⟩) (v2 : Arr ⟨2, ![n, 2048]⟩) (ta tb tc : Arr ⟨2, ![m, 128]⟩) (p : Fin m) (q : Fin n) : EReal :=
  rowDot (M := m) (K := 2048) (N := n) v0 v2 p q * ta (ix2 p (Fin.ofNat 128 q))
    + rowDot (M := m) (K := 2048) (N := n) v0 v2 p (Fin.ofNat n (q + n - (n - 16))) * tb (ix2 p (Fin.ofNat 128 q))
    + rowDot (M := m) (K := 2048) (N := n) v0 v2 p (Fin.ofNat n (q + n - 16)) * tc (ix2 p (Fin.ofNat 128 q))

theorem turn_tile {n k : ℕ} (s : ℕ) (q : Fin n) : turn n s (k * n + q) = k * n + (q + n - s) % n := by
  unfold turn
  rw [Nat.mul_comm k n, Nat.mul_add_div (Nat.lt_of_le_of_lt (Nat.zero_le _) q.isLt), Nat.div_eq_of_lt q.isLt, Nat.mul_add_mod, Nat.mod_eq_of_lt q.isLt, Nat.add_zero, Nat.mul_comm n k]

/-- A tile of the rotated projection, from where its blocks lie. -/
theorem ropeTile_eq {M m n c : ℕ} [NeZero n] (h : Arr ⟨2, ![M, 2048]⟩) (w : Arr ⟨2, ![17552, 2048]⟩) (ta tb tc : Arr ⟨2, ![M, 128]⟩)
    (b0 : (⟨2, ![m, 2048]⟩ : Shape).Idx → (⟨2, ![M, 2048]⟩ : Shape).Idx) (b1 : (⟨2, ![n, 2048]⟩ : Shape).Idx → (⟨2, ![17552, 2048]⟩ : Shape).Idx)
    (ba bb bc : (⟨2, ![m, 128]⟩ : Shape).Idx → (⟨2, ![M, 128]⟩ : Shape).Idx) {i0 i1 j0 j1 a0 a1 b0' b1' c0 c1 k0 k1 : ℕ}
    (p : Fin m) (q : Fin n) (r : Fin M) (j : ℕ)
    (A0 : ∀ x, (b0 x 0 : ℕ) = i0 * m + x 0) (A1 : ∀ x, (b0 x 1 : ℕ) = i1 * 2048 + x 1)
    (B0 : ∀ x, (b1 x 0 : ℕ) = j0 + x 0) (B1 : ∀ x, (b1 x 1 : ℕ) = j1 + x 1)
    (D0 : ∀ x, (ba x 0 : ℕ) = a0 * m + x 0) (D1 : ∀ x, (ba x 1 : ℕ) = a1 * 128 + x 1)
    (E0 : ∀ x, (bb x 0 : ℕ) = b0' * m + x 0) (E1 : ∀ x, (bb x 1 : ℕ) = b1' * 128 + x 1)
    (F0 : ∀ x, (bc x 0 : ℕ) = c0 * m + x 0) (F1 : ∀ x, (bc x 1 : ℕ) = c1 * 128 + x 1)
    (hr : (r : ℕ) = k0 * m + p) (hj : j = k1 * n + q) (hn : n % 128 = 0)
    (hx : (i0 = k0 ∧ i1 = 0 ∧ j0 = c + k1 * n ∧ j1 = 0) ∧ (a0 = k0 ∧ a1 = 0) ∧ (b0' = k0 ∧ b1' = 0) ∧ (c0 = k0 ∧ c1 = 0) ∧ c + k1 * n + n ≤ 17552) :
    ropeTile (m := m) (n := n) (fun x => h (b0 x)) (fun x => w (b1 x)) (fun x => ta (ba x)) (fun x => tb (bb x)) (fun x => tc (bc x)) p q
      = ropeAt (M := M) n h w c ta tb tc r j := by
  obtain ⟨⟨hi0, hi, rfl, hj1⟩, ⟨ha0, ha⟩, ⟨hb0, hb⟩, ⟨hc0, hc⟩, hle⟩ := hx
  subst hj
  have hl : (Fin.ofNat 128 (k1 * n + (q : ℕ)) : Fin 128) = Fin.ofNat 128 q := Fin.ext <| by
    show (k1 * n + (q : ℕ)) % 128 = (q : ℕ) % 128
    rw [Nat.add_mod, Nat.mul_mod, hn]
    simp
  have hz : ∀ (q' : Fin n) (t : ℕ), t = k1 * n + q' → rowDot (M := m) (K := 2048) (N := n) (fun x => h (b0 x)) (fun x => w (b1 x)) p q' = zAt (M := M) h w r (c + t) := by
    rintro q' t rfl
    refine rowDot_tile (M := M) (N := 17552) h w b0 b1 p q' r _ A0 A1 B0 B1 hi hj1 (hi0 ▸ hr) ?_
    show (c + (k1 * n + (q' : ℕ))) % 17552 = c + k1 * n + q'
    have := q'.isLt
    rw [Nat.mod_eq_of_lt (by omega), Nat.add_assoc]
  have ht : ∀ (t : Arr ⟨2, ![M, 128]⟩) (bt : (⟨2, ![m, 128]⟩ : Shape).Idx → (⟨2, ![M, 128]⟩ : Shape).Idx) (t0 t1 : ℕ), (∀ x, (bt x 0 : ℕ) = t0 * m + x 0) →
      (∀ x, (bt x 1 : ℕ) = t1 * 128 + x 1) → t0 = k0 → t1 = 0 → t (bt (ix2 p (Fin.ofNat 128 q))) = t (ix2 r (Fin.ofNat 128 (k1 * n + (q : ℕ)))) := by
    rintro t bt t0 t1 h0 h1 rfl rfl
    rw [hl]
    refine congrArg t (eq_ix2 _ _ _ ((h0 _).trans hr.symm) ((h1 _).trans ?_))
    show 0 * 128 + ((Fin.ofNat 128 (q : ℕ) : Fin 128) : ℕ) = _
    omega
  unfold ropeTile ropeAt
  rw [hz q _ rfl, hz (Fin.ofNat n (q + n - (n - 16))) _ (turn_tile (n - 16) q), hz (Fin.ofNat n (q + n - 16)) _ (turn_tile 16 q)]
  exact congrArg₂ (· + ·) (congrArg₂ (· + ·) (congrArg _ (ht ta ba _ _ D0 D1 ha0 ha)) (congrArg _ (ht tb bb _ _ E0 E1 hb0 hb))) (congrArg _ (ht tc bc _ _ F0 F1 hc0 hc))

end Cert.Layer

end
-- ==== Proof.Spec.lean ====
/- The layer's mathematics at an element of each result, from the arguments as they are launched. -/
module

public import proofs.«01_k».proof.Proof.Common

@[expose] public section

noncomputable section

namespace Cert.Layer

open Idealize.ShloMosaic
open scoped BigOperators

/-- The modulated norm of one row: each element times the inverse root of the mean square, the norm's weight and one plus the scale, plus the shift. -/
def normAt (x : Fin 2048 → EReal) (g sc sh : EReal) (k : Fin 2048) : EReal :=
  x k * Ideal.rsqrt (Ideal.div (∑ i, x i * x i) (Ideal.ofBits .f32 0x45000000#32) + Ideal.ofBits .f32 0x358637BD#32) * g * (1 + sc) + sh

/-- The softmax weight of layer 0 among the two layers, from the two logits of a channel. -/
def bound (l0 l1 : EReal) : EReal :=
  let top := Finset.fold max (Ideal.ofBits .f32 0xFF800000#32) (fun x : Fin 2 => ![l0, l1] x) Finset.univ
  Ideal.div (Ideal.exp (l0 - top)) (Ideal.exp (l0 - top) + Ideal.exp (l1 - top))

/-- The forget gate: the bound plus the rest of the way to one times the sigmoid of the product. -/
def forgetAt (l0 l1 z : EReal) : EReal := bound l0 l1 + (1 - bound l0 l1) * Ideal.div 1 (1 + Ideal.exp (0 - z))

/-- The base-two logarithm of e, rounded to f32. -/
def log2e : EReal := Ideal.ofBits .f32 0x3FB8AA3B#32

/-- The factor of the queries: the inverse square root of the head width times the base-two logarithm of e, rounded to f32. -/
def qScale : EReal := Ideal.ofBits .f32 0x3E0293EE#32

/-- One element of the six modulation rows of a batch element. -/
def modArg {B : ℕ} (c : Arr ⟨2, ![B, 2048]⟩) (w : Arr ⟨3, ![1, 2048, 12288]⟩) (b : Arr ⟨2, ![1, 12288]⟩) (p : Fin B) (j : Fin 12288) : EReal :=
  ∑ k : Fin 2048, c (ix2 p k) * w (ix3 0 k j) + b (ix2 0 j)

/-- One element of the modulated, normed input. -/
def hid {B T : ℕ} (x : Arr ⟨3, ![B, T, 2048]⟩) (c : Arr ⟨2, ![B, 2048]⟩) (w : Arr ⟨3, ![1, 2048, 12288]⟩) (b : Arr ⟨2, ![1, 12288]⟩) (g : Arr ⟨2, ![1, 2048]⟩)
    (p : Fin B) (t : Fin T) (k : Fin 2048) : EReal :=
  normAt (fun k => x (ix3 p t k)) (g (ix2 0 k)) (modArg c w b p ⟨2048 + k, by omega⟩) (modArg c w b p ⟨k, by omega⟩) k

/-- One element of the projection by the whole weight. -/
def zed {B T : ℕ} (x : Arr ⟨3, ![B, T, 2048]⟩) (c : Arr ⟨2, ![B, 2048]⟩) (w : Arr ⟨3, ![1, 2048, 12288]⟩) (b : Arr ⟨2, ![1, 12288]⟩) (g : Arr ⟨2, ![1, 2048]⟩)
    (wi : Arr ⟨3, ![1, 2048, 17552]⟩) (p : Fin B) (t : Fin T) (j : Fin 17552) : EReal :=
  ∑ k : Fin 2048, hid x c w b g p t k * wi (ix3 0 k j)

/-- The rotation's angle at a position (a 32-bit integer) and a frequency. -/
def angle (pos : BitVec 32) (l : ℕ) : EReal :=
  FloatOps.sitofp (F := Ideal) FTy.f32 pos * Ideal.pow (Ideal.ofBits FTy.f32 0x48F42400#32)
    (-(FloatOps.sitofp (F := Ideal) FTy.f32 (BitVec.ofNat 32 l) * Ideal.ofBits FTy.f32 0x3D800000#32))

/-- The rotation of the first 32 columns of every head of 128, read at a column. -/
def rot (z : ℕ → EReal) (pos : BitVec 32) (j : ℕ) : EReal :=
  if j % 128 < 16 then z j * Ideal.cos (angle pos (j % 128)) - z (j + 16) * Ideal.sin (angle pos (j % 128))
  else if j % 128 < 32 then z j * Ideal.cos (angle pos (j % 128 - 16)) + z (j - 16) * Ideal.sin (angle pos (j % 128 - 16))
  else z j

/-- The three tables of a position: cosines, negated sines and sines, each lying on the columns it multiplies. -/
def cosTab (pos : BitVec 32) (l : ℕ) : EReal :=
  if l < 16 then Ideal.cos (angle pos l) else if l < 32 then Ideal.cos (angle pos (l - 16)) else 1
def negTab (pos : BitVec 32) (l : ℕ) : EReal := if l < 16 then -Ideal.sin (angle pos l) else 0
def sinTab (pos : BitVec 32) (l : ℕ) : EReal := if l < 16 then 0 else if l < 32 then Ideal.sin (angle pos (l - 16)) else 0

theorem turn_up {n j : ℕ} (h : j % 128 < 16) (hn : n % 128 = 0) (h0 : 0 < n) : turn n (n - 16) j = j + 16 := by
  unfold turn
  have hd : j % n % 128 = j % 128 := Nat.mod_mod_of_dvd _ (Nat.dvd_of_mod_eq_zero hn)
  have hl := Nat.mod_lt j h0
  have e := Nat.div_add_mod' j n
  have : j % n + n - (n - 16) = j % n + 16 := by omega
  rw [this, Nat.mod_eq_of_lt (by omega)]
  omega

theorem turn_down {n j : ℕ} (h : 16 ≤ j % 128) (hn : n % 128 = 0) (h0 : 0 < n) : turn n 16 j = j - 16 := by
  unfold turn
  have hd : j % n % 128 = j % 128 := Nat.mod_mod_of_dvd _ (Nat.dvd_of_mod_eq_zero hn)
  have hl := Nat.mod_lt j h0
  have e := Nat.div_add_mod' j n
  have : j % n + n - 16 = (j % n - 16) + n := by omega
  rw [this, Nat.add_mod_right, Nat.mod_eq_of_lt (by omega)]
  omega

/-- The two turned products and the straight one add up to the rotation. -/
theorem ropeAt_eq {M n : ℕ} (h : Arr ⟨2, ![M, 2048]⟩) (w : Arr ⟨2, ![17552, 2048]⟩) (c : ℕ) (ta tb tc : Arr ⟨2, ![M, 128]⟩) (r : Fin M) (j : ℕ) (pos : BitVec 32)
    (hn : n % 128 = 0) (h0 : 0 < n) (ha : ∀ l : Fin 128, ta (ix2 r l) = cosTab pos l) (hb : ∀ l : Fin 128, tb (ix2 r l) = negTab pos l)
    (hc : ∀ l : Fin 128, tc (ix2 r l) = sinTab pos l) :
    ropeAt n h w c ta tb tc r j = rot (fun k => zAt h w r (c + k)) pos j := by
  unfold ropeAt rot
  rw [ha, hb, hc]
  have hv : ((Fin.ofNat 128 j : Fin 128) : ℕ) = j % 128 := rfl
  rw [hv]
  unfold cosTab negTab sinTab
  split_ifs with h1 h2
  · rw [turn_up h1 hn h0, mul_zero, add_zero, mul_neg]
    rfl
  · rw [turn_down (by omega) hn h0, mul_zero, add_zero]
  · rw [mul_zero, mul_zero, add_zero, add_zero, mul_one]

/-- The arrays the layer's part takes: the two batches and their conditioning rows, the modulation's weight and bias, the norm's weight, the projection's weight
    and the forget gate's logits. -/
structure Args where
  xp : Arr ⟨3, ![1, 8192, 2048]⟩
  xs : Arr ⟨3, ![16, 32, 2048]⟩
  cp : Arr ⟨2, ![1, 2048]⟩
  cs : Arr ⟨2, ![16, 2048]⟩
  wa : Arr ⟨3, ![1, 2048, 12288]⟩
  ba : Arr ⟨2, ![1, 12288]⟩
  g : Arr ⟨2, ![1, 2048]⟩
  wi : Arr ⟨3, ![1, 2048, 17552]⟩
  lg : Arr ⟨2, ![2, 2048]⟩

namespace Args

variable (A : Args)

/-- A prompt row's projection at a column. -/
def zp (r : Fin 8192) (c : ℕ) : EReal := zed A.xp A.cp A.wa A.ba A.g A.wi 0 r (Fin.ofNat 17552 c)

/-- A sample row's projection at a column: 32 rows for every batch element. -/
def zs (r : Fin 512) (c : ℕ) : EReal := zed A.xs A.cs A.wa A.ba A.g A.wi ⟨r / 32, by omega⟩ ⟨r % 32, by omega⟩ (Fin.ofNat 17552 c)

/-- The queries, rotated and scaled. -/
def q : Arr ⟨2, ![8192, 2048]⟩ := fun i => rot (fun k => A.zp (i 0) (0 + k)) (BitVec.ofNat 32 (i 0)) (i 1) * qScale
/-- The index queries, rotated. -/
def qi : Arr ⟨2, ![8192, 2048]⟩ := fun i => rot (fun k => A.zp (i 0) (3072 + k)) (BitVec.ofNat 32 (i 0)) (i 1)
/-- The prompt's index keys, rotated. -/
def ki : Arr ⟨2, ![8192, 128]⟩ := fun i => rot (fun k => A.zp (i 0) (5120 + k)) (BitVec.ofNat 32 (i 0)) (i 1)
/-- The columns of the projection from `c` on. -/
def part (c : ℕ) : Arr ⟨2, ![8192, 2048]⟩ := fun i => A.zp (i 0) (c + (i 1 : ℕ))
/-- The forget gate. -/
def gate : Arr ⟨2, ![8192, 2048]⟩ := fun i => forgetAt (A.lg (ix2 0 (i 1))) (A.lg (ix2 1 (i 1))) (A.zp (i 0) (7312 + (i 1 : ℕ)))
/-- The gate's base-two logarithm. -/
def lf : Arr ⟨2, ![8192, 2048]⟩ := fun i => Ideal.log (A.gate i) * log2e
/-- The rest of the way from the gate to one. -/
def kk : Arr ⟨2, ![8192, 2048]⟩ := fun i => 1 - A.gate i
/-- The sample's index keys, rotated at the positions from 2048 on. -/
def kis : Arr ⟨2, ![512, 128]⟩ := fun i => rot (fun k => A.zs (i 0) (5120 + k)) (IntOp.addi 2048#32 (BitVec.ofNat 32 ((i 0 : ℕ) % 32))) (i 1)

theorem zp_eq (r : Fin 8192) (j : Fin 17552) (n : ℕ) (h : (j : ℕ) = n) : zed A.xp A.cp A.wa A.ba A.g A.wi 0 r j = A.zp r n :=
  congrArg _ (Fin.ext (h.trans (Nat.mod_eq_of_lt (h ▸ j.isLt)).symm))

theorem zs_eq (r : Fin 512) (p : Fin 16) (t : Fin 32) (j : Fin 17552) (n : ℕ) (hp : (p : ℕ) = r / 32) (ht : (t : ℕ) = r % 32) (h : (j : ℕ) = n) :
    zed A.xs A.cs A.wa A.ba A.g A.wi p t j = A.zs r n := by
  have e : j = Fin.ofNat 17552 n := Fin.ext (h.trans (Nat.mod_eq_of_lt (h ▸ j.isLt)).symm)
  have e1 : p = ⟨r / 32, by omega⟩ := Fin.ext hp
  have e2 : t = ⟨r % 32, by omega⟩ := Fin.ext ht
  rw [e, e1, e2]
  rfl

end Args

theorem rot_lo {z : ℕ → EReal} {pos : BitVec 32} {j : ℕ} (h : j % 128 < 16) {a b c d : EReal} (ha : a = z j) (hb : b = Ideal.cos (angle pos (j % 128)))
    (hc : c = z (j + 16)) (hd : d = Ideal.sin (angle pos (j % 128))) : a * b - c * d = rot z pos j := by
  rw [ha, hb, hc, hd, rot, if_pos h]

theorem rot_mid {z : ℕ → EReal} {pos : BitVec 32} {j : ℕ} (h : ¬j % 128 < 16) (h' : j % 128 < 32) {a b c d : EReal} (ha : a = z j)
    (hb : b = Ideal.cos (angle pos (j % 128 - 16))) (hc : c = z (j - 16)) (hd : d = Ideal.sin (angle pos (j % 128 - 16))) : a * b + c * d = rot z pos j := by
  rw [ha, hb, hc, hd, rot, if_neg h, if_pos h']

theorem rot_hi {z : ℕ → EReal} {pos : BitVec 32} {j : ℕ} (h : ¬j % 128 < 32) {a : EReal} (ha : a = z j) : a = rot z pos j := by
  rw [ha, rot, if_neg (by omega), if_neg h]

end Cert.Layer

end
-- ==== Proof.Host.lean ====
/- What the host's stretches leave in the arrays the calls take, at an element. -/
module

public import proofs.«01_k».proof.Proof.Gen.KernelIdeal.Frame
public import proofs.«01_k».proof.Proof.Spec
public import Idealize.ShloMosaic.Lib.StableHlo.ReadAt

@[expose] public section

set_option maxRecDepth 16384
set_option maxHeartbeats 2000000

noncomputable section

namespace Cert.KernelIdeal.Layer

open Idealize.ShloMosaic Idealize.ShloMosaic.TcCoe
open Cert.KernelIdeal.Gen Cert.Layer
open scoped BigOperators

variable (W : Valuation τ sig (Elt Ideal))

theorem rows_at (p : Fin 17) (k : Fin 2048) : (StableHlo.after hostOps0 W (Proc.devRef .tc main_v0) : Arr S17x2048) (ix2 p k)
    = if h : (p : ℕ) < 1 then W (Proc.devRef .tc main_arg2) (ix2 ⟨p, h⟩ k) else W (Proc.devRef .tc main_arg3) (ix2 ⟨(p : ℕ) - 1, by omega⟩ k) := by
  after_reads_at

theorem padded_at (p : Fin 24) (h : (p : ℕ) < 17) (k : Fin 2048) : (StableHlo.after hostOps0_1 W (Proc.devRef .tc main_v1) : Arr S24x2048) (ix2 p k)
    = W (Proc.devRef .tc main_v0) (ix2 ⟨p, h⟩ k) := by
  after_reads_at
  exact dif_pos h

theorem weight_at (k : Fin 2048) (j : Fin 12288) : (StableHlo.after hostOps0_2 W (Proc.devRef .tc main_v2) : Arr S2048x12288) (ix2 k j)
    = W (Proc.devRef .tc main_arg4) (ix3 0 k j) := by
  after_reads_at

theorem bias_at (j : Fin 12288) : (StableHlo.after hostOps0_2 W (Proc.devRef .tc main_v4) : Arr S1x12288) (ix2 0 j) = W (Proc.devRef .tc main_arg5) (ix2 0 j) := by
  after_reads_at

theorem mods_row (p : Fin 24) (a : Fin 6) (k : Fin 2048) : (StableHlo.after hostOps1 W (Proc.devRef .tc main_v6) : Arr S24x6x2048) (ix3 p a k)
    = W (Proc.devRef .tc main_v5) (ix2 p ⟨(a : ℕ) * 2048 + k, by omega⟩) := by
  after_reads_at

theorem turned_at (j : Fin 17552) (k : Fin 2048) : (StableHlo.after hostOps1 W (Proc.devRef .tc main_v8) : Arr S17552x2048) (ix2 j k)
    = W (Proc.devRef .tc main_arg7) (ix3 0 k j) := by
  after_reads_at

theorem scale_at (k : Fin 2048) : (StableHlo.after hostOps1 W (Proc.devRef .tc main_v10) : Arr S1x1x2048) (ix3 0 0 k)
    = W (Proc.devRef .tc main_v5) (ix2 0 ⟨2048 + k, by omega⟩) := by
  after_reads_at

theorem shift_at (k : Fin 2048) : (StableHlo.after hostOps1 W (Proc.devRef .tc main_v11) : Arr S1x1x2048) (ix3 0 0 k)
    = W (Proc.devRef .tc main_v5) (ix2 0 ⟨k, by omega⟩) := by
  after_reads_at

theorem norm_at (k : Fin 2048) : (StableHlo.after hostOps1 W (Proc.devRef .tc main_v13) : Arr S1x1x2048) (ix3 0 0 k) = W (Proc.devRef .tc main_arg6) (ix2 0 k) := by
  after_reads_at

theorem h_at (r : Fin 8192) (k : Fin 2048) : (StableHlo.after hostOps2 W (Proc.devRef .tc main_v15) : Arr S8192x2048) (ix2 r k)
    = W (Proc.devRef .tc main_v14) (ix3 0 r k) := by
  after_reads_at

theorem cos_ladder (pos : BitVec 32) (l : ℕ) : (if _h : l < 16 then Ideal.cos (angle pos l) else if _h : l - 16 < 16 then Ideal.cos (angle pos (l - 16)) else 1) = cosTab pos l := by
  unfold cosTab
  split_ifs <;> first | rfl | omega

theorem neg_ladder (pos : BitVec 32) (l : ℕ) : (if _h : l < 16 then -Ideal.sin (angle pos l) else if _h : l - 16 < 16 then 0 else 0) = negTab pos l := by
  unfold negTab
  split_ifs <;> rfl

theorem sin_ladder (pos : BitVec 32) (l : ℕ) : (if _h : l < 16 then 0 else if _h : l - 16 < 16 then Ideal.sin (angle pos (l - 16)) else 0) = sinTab pos l := by
  unfold sinTab
  split_ifs <;> first | rfl | omega

theorem from_zero (b : BitVec 32) : IntOp.addi 0#32 b = b := by
  unfold IntOp.addi
  exact BitVec.zero_add b

theorem cosTab_at (r : Fin 8192) (l : Fin 128) : (StableHlo.after hostOps2 W (Proc.devRef .tc main_v42) : Arr S8192x128) (ix2 r l) = cosTab (BitVec.ofNat 32 r) l := by
  after_reads_at
  after_reads_at
  rw [from_zero]
  exact cos_ladder _ _

theorem negTab_at (r : Fin 8192) (l : Fin 128) : (StableHlo.after hostOps2 W (Proc.devRef .tc main_v45) : Arr S8192x128) (ix2 r l) = negTab (BitVec.ofNat 32 r) l := by
  after_reads_at
  after_reads_at
  rw [from_zero]
  exact neg_ladder _ _

theorem sinTab_at (r : Fin 8192) (l : Fin 128) : (StableHlo.after hostOps2 W (Proc.devRef .tc main_v48) : Arr S8192x128) (ix2 r l) = sinTab (BitVec.ofNat 32 r) l := by
  after_reads_at
  after_reads_at
  rw [from_zero]
  exact sin_ladder _ _

theorem scales_at (p : Fin 16) (k : Fin 2048) : (StableHlo.after hostOps11 W (Proc.devRef .tc main_v59) : Arr S16x1x2048) (ix3 p 0 k)
    = W (Proc.devRef .tc main_v6) (ix3 ⟨1 + p, by omega⟩ 1 k) := by
  after_reads_at

theorem shifts_at (p : Fin 16) (k : Fin 2048) : (StableHlo.after hostOps11 W (Proc.devRef .tc main_v60) : Arr S16x1x2048) (ix3 p 0 k)
    = W (Proc.devRef .tc main_v6) (ix3 ⟨1 + p, by omega⟩ 0 k) := by
  after_reads_at

theorem norms_at (k : Fin 2048) : (StableHlo.after hostOps11 W (Proc.devRef .tc main_v62) : Arr S1x1x2048) (ix3 0 0 k) = W (Proc.devRef .tc main_arg6) (ix2 0 k) := by
  after_reads_at

theorem hs_at (r : Fin 512) (k : Fin 2048) : (StableHlo.after hostOps12 W (Proc.devRef .tc main_v64) : Arr S512x2048) (ix2 r k)
    = W (Proc.devRef .tc main_v63) (ix3 ⟨(r : ℕ) / 32, by omega⟩ ⟨(r : ℕ) % 32, by omega⟩ k) := by
  after_reads_at

theorem cosTabs_at (r : Fin 512) (l : Fin 128) : (StableHlo.after hostOps12 W (Proc.devRef .tc main_v91) : Arr S512x128) (ix2 r l)
    = cosTab (IntOp.addi 2048#32 (BitVec.ofNat 32 ((r : ℕ) % 32))) l := by
  after_reads_at
  after_reads_at
  exact cos_ladder _ _

theorem negTabs_at (r : Fin 512) (l : Fin 128) : (StableHlo.after hostOps12 W (Proc.devRef .tc main_v94) : Arr S512x128) (ix2 r l)
    = negTab (IntOp.addi 2048#32 (BitVec.ofNat 32 ((r : ℕ) % 32))) l := by
  after_reads_at
  after_reads_at
  exact neg_ladder _ _

theorem sinTabs_at (r : Fin 512) (l : Fin 128) : (StableHlo.after hostOps12 W (Proc.devRef .tc main_v97) : Arr S512x128) (ix2 r l)
    = sinTab (IntOp.addi 2048#32 (BitVec.ofNat 32 ((r : ℕ) % 32))) l := by
  after_reads_at
  after_reads_at
  exact sin_ladder _ _

end Cert.KernelIdeal.Layer

end
-- ==== Proof.Norm.lean ====
/- The modulation and the two modulated norms of the idealized kernel. -/
module

public import proofs.«01_k».proof.Proof.Gen.KernelIdeal.Frame
public import proofs.«01_k».proof.Proof.Spec

@[expose] public section

set_option maxRecDepth 16384
set_option maxHeartbeats 2000000

noncomputable section

namespace Cert.KernelIdeal.Layer

open Idealize.ShloMosaic Idealize.ShloMosaic.TcCoe
open Idealize.ShloMosaic.Pipeline (Dat)
open Cert.KernelIdeal.Gen Cert.Layer
open scoped BigOperators

/-- The modulation: the conditioning rows times the weight plus the bias, at an element. -/
def modAt {M : ℕ} (x : Arr ⟨2, ![M, 2048]⟩) (w : Arr S2048x12288) (b : Arr S1x12288) (r : Fin M) (j : Fin 12288) : EReal :=
  ∑ k : Fin 2048, x (ix2 r k) * w (ix2 k j) + b (ix2 0 j)

theorem pay0 (x : Vec Ideal S24x2048 .f32) (w : Vec Ideal S2048x1024 .f32) (b : Vec Ideal S1x1024 .f32) (j : S24x1024.Idx) :
    k0_pay1 x w b j = ∑ k : Fin 2048, x (ix2 (j 0) k) * w (ix2 k (j 1)) + b (ix2 0 (j 1)) := by
  idx_vars j
  unfold k0_pay1
  pointwise

theorem pay1 (x : Vec Ideal S1x256x2048 .f32) (g sc sh : Vec Ideal S1x1x2048 .f32) (j : S1x256x2048.Idx) :
    k1_pay1 x g sc sh j = normAt (fun k => x (ix3 0 (j 1) k)) (g (ix3 0 0 (j 2))) (sc (ix3 0 0 (j 2))) (sh (ix3 0 0 (j 2))) (j 2) := by
  idx_vars j
  obtain rfl : j0 = 0 := Subsingleton.elim _ _
  unfold k1_pay1
  pointwise
  rfl

theorem pay11 (x : Vec Ideal S8x32x2048 .f32) (g : Vec Ideal S1x1x2048 .f32) (sc sh : Vec Ideal S8x1x2048 .f32) (j : S8x32x2048.Idx) :
    k11_pay1 x g sc sh j = normAt (fun k => x (ix3 (j 0) (j 1) k)) (g (ix3 0 0 (j 2))) (sc (ix3 (j 0) 0 (j 2))) (sh (ix3 (j 0) 0 (j 2))) (j 2) := by
  idx_vars j
  unfold k11_pay1
  pointwise
  rfl

theorem index0 (i : grid0.Coords) : (cc0_transform_0 i 0 = 0 ∧ cc0_transform_0 i 1 = 0) ∧ (cc0_transform_1 i 0 = 0 ∧ cc0_transform_1 i 1 = cc0_transform_3 i 1)
    ∧ (cc0_transform_2 i 0 = 0 ∧ cc0_transform_2 i 1 = cc0_transform_3 i 1) ∧ cc0_transform_3 i 0 = 0 := by revert i; decide +kernel

theorem index1 (i : grid1.Coords) : (cc1_transform_0 i 1 = cc1_transform_4 i 1 ∧ cc1_transform_0 i 2 = 0) ∧ cc1_transform_1 i 2 = 0 ∧ cc1_transform_2 i 2 = 0
    ∧ cc1_transform_3 i 2 = 0 ∧ cc1_transform_4 i 2 = 0 := by revert i; decide +kernel

theorem index11 (i : grid11.Coords) : (cc11_transform_0 i 0 = cc11_transform_4 i 0 ∧ cc11_transform_0 i 1 = 0 ∧ cc11_transform_0 i 2 = 0)
    ∧ (cc11_transform_1 i 0 = cc11_transform_4 i 0 ∧ cc11_transform_1 i 2 = 0) ∧ (cc11_transform_2 i 0 = cc11_transform_4 i 0 ∧ cc11_transform_2 i 2 = 0)
    ∧ cc11_transform_3 i 2 = 0 ∧ cc11_transform_4 i 1 = 0 ∧ cc11_transform_4 i 2 = 0 := by revert i; decide +kernel

theorem cover0 (i : S24x12288.Idx) : ∃ t : Fin cfg0.N, (cfg0.win 3).flush t = true ∧ i ∈ ((cfg0.win 3).blk t).view.set := by
  have h0 : (i 0 : Nat) < 24 := (i 0).isLt
  have h1 : (i 1 : Nat) < 12288 := (i 1).isLt
  have h : ∀ b < 12, ∃ t : Fin grid0.N, cc0_transform_3 (grid0.coords t) 0 = 0 ∧ cc0_transform_3 (grid0.coords t) 1 = b := by decide +kernel
  obtain ⟨t, e0, e1⟩ := h ((i 1 : ℕ) / 1024) (by omega)
  refine ⟨t, flush0_3 t, ?_⟩
  show i ∈ ((View.whole main_v5).slice (win0_3.rect t)).set
  rw [View.set_slice_whole, Rect.mem_set_unit]
  exact mem_tile (M := 24) (N := 12288) (m := 24) (n := 1024) i (by decide) (by decide) (e0.trans (by omega)) e1

theorem cover1 (i : S1x8192x2048.Idx) : ∃ t : Fin cfg1.N, (cfg1.win 4).flush t = true ∧ i ∈ ((cfg1.win 4).blk t).view.set := by
  have h0 : (i 0 : Nat) < 1 := (i 0).isLt
  have h1 : (i 1 : Nat) < 8192 := (i 1).isLt
  have h2 : (i 2 : Nat) < 2048 := (i 2).isLt
  have h : ∀ b < 32, ∃ t : Fin grid1.N, cc1_transform_4 (grid1.coords t) 0 = 0 ∧ cc1_transform_4 (grid1.coords t) 1 = b ∧ cc1_transform_4 (grid1.coords t) 2 = 0 := by
    decide +kernel
  obtain ⟨t, e0, e1, e2⟩ := h ((i 1 : ℕ) / 256) (by omega)
  refine ⟨t, flush1_4 t, ?_⟩
  show i ∈ ((View.whole main_v14).slice (win1_4.rect t)).set
  rw [View.set_slice_whole, Rect.mem_set_unit]
  exact mem_tile3 (A := 1) (B := 8192) (C := 2048) (a := 1) (b := 256) (c := 2048) i (by decide) (by decide) (by decide) (e0.trans (by omega)) e1 (e2.trans (by omega))

theorem cover11 (i : S16x32x2048.Idx) : ∃ t : Fin cfg11.N, (cfg11.win 4).flush t = true ∧ i ∈ ((cfg11.win 4).blk t).view.set := by
  have h0 : (i 0 : Nat) < 16 := (i 0).isLt
  have h1 : (i 1 : Nat) < 32 := (i 1).isLt
  have h2 : (i 2 : Nat) < 2048 := (i 2).isLt
  have h : ∀ b < 2, ∃ t : Fin grid11.N, cc11_transform_4 (grid11.coords t) 0 = b ∧ cc11_transform_4 (grid11.coords t) 1 = 0 ∧ cc11_transform_4 (grid11.coords t) 2 = 0 := by
    decide +kernel
  obtain ⟨t, e0, e1, e2⟩ := h ((i 0 : ℕ) / 8) (by omega)
  refine ⟨t, flush11_4 t, ?_⟩
  show i ∈ ((View.whole main_v63).slice (win11_4.rect t)).set
  rw [View.set_slice_whole, Rect.mem_set_unit]
  exact mem_tile3 (A := 16) (B := 32) (C := 2048) (a := 8) (b := 32) (c := 2048) i (by decide) (by decide) (by decide) e0 (e1.trans (by omega)) (e2.trans (by omega))

variable (V : (c : Dev nD) → (b : Ref sig .tc) → Buf (Elt Ideal) ((c : Thread nD τ).loc b))

theorem final0 (c : Dev nD) (i : S24x12288.Idx) : (dat0 V c).arrAt 3 cfg0.N i = modAt (M := 24) (V c main_v1) (V c main_v2) (V c main_v4) (i 0) (i 1) := by
  refine (dat0 V c).arrAt_forall_of_cover 3 (fun i x => x = modAt (M := 24) (V c main_v1) (V c main_v2) (V c main_v4) (i 0) (i 1)) (fun t _ (y : S24x1024.Idx) => ?_) cover0 i
  show (dat0 V c).after 3 t y = _
  rw [after0_3]
  unfold out0_3
  rw [View.canon_unit_zero zeros2, View.ld_unit_zero zeros2, View.ld_unit_zero zeros2, View.ld_unit_zero zeros2]
  obtain ⟨⟨a0, a1⟩, ⟨b0, b1⟩, ⟨c0, c1⟩, d0⟩ := index0 (grid0.coords t)
  have D0 := (win0_3.rect_emb_val t y 0).trans (congrArg (· * 24 + (y 0 : ℕ)) d0)
  have D1 := win0_3.rect_emb_val t y 1
  refine (pay0 _ _ _ y).trans (congrArg₂ (· + ·) (Finset.sum_congr rfl fun k _ => congrArg₂ (· * ·) (congrArg (V c main_v1) (eq_ix2 (M := 24) (K := 2048) _ _ _ ?_ ?_))
    (congrArg (V c main_v2) (eq_ix2 (M := 2048) (K := 12288) _ _ _ ?_ ?_))) (congrArg (V c main_v4) (eq_ix2 (M := 1) (K := 12288) _ _ _ ?_ ?_)))
  · exact (win0_0.rect_emb_val t (ix2 (y 0) k) 0).trans ((congrArg (· * 24 + (y 0 : ℕ)) a0).trans D0.symm)
  · exact (win0_0.rect_emb_val t (ix2 (y 0) k) 1).trans ((congrArg (· * 2048 + (k : ℕ)) a1).trans (by omega))
  · exact (win0_1.rect_emb_val t (ix2 k (y 1)) 0).trans ((congrArg (· * 2048 + (k : ℕ)) b0).trans (by omega))
  · exact (win0_1.rect_emb_val t (ix2 k (y 1)) 1).trans ((congrArg (· * 1024 + (y 1 : ℕ)) b1).trans D1.symm)
  · exact (win0_2.rect_emb_val t (ix2 0 (y 1)) 0).trans ((congrArg (· * 1 + 0) c0).trans (by rfl))
  · exact (win0_2.rect_emb_val t (ix2 0 (y 1)) 1).trans ((congrArg (· * 1024 + (y 1 : ℕ)) c1).trans D1.symm)

/-- A block of the prompt's norm against the norm of the whole, from where the blocks lie. -/
theorem normAt_congr {x x' : Fin 2048 → EReal} {g g' sc sc' sh sh' : EReal} {k k' : Fin 2048} (hx : ∀ i, x i = x' i) (hg : g = g') (hsc : sc = sc') (hsh : sh = sh')
    (hk : k = k') : normAt x g sc sh k = normAt x' g' sc' sh' k' := by
  obtain rfl : x = x' := funext hx
  subst hg hsc hsh hk
  rfl

theorem final1 (c : Dev nD) (i : S1x8192x2048.Idx) : (dat1 V c).arrAt 4 cfg1.N i
    = normAt (fun k => V c main_arg0 (ix3 0 (i 1) k)) (V c main_v13 (ix3 0 0 (i 2))) (V c main_v10 (ix3 0 0 (i 2))) (V c main_v11 (ix3 0 0 (i 2))) (i 2) := by
  refine (dat1 V c).arrAt_forall_of_cover 4 (fun i x => x = normAt (fun k => V c main_arg0 (ix3 0 (i 1) k)) (V c main_v13 (ix3 0 0 (i 2)))
    (V c main_v10 (ix3 0 0 (i 2))) (V c main_v11 (ix3 0 0 (i 2))) (i 2)) (fun t _ (y : S1x256x2048.Idx) => ?_) cover1 i
  show (dat1 V c).after 4 t y = _
  rw [after1_4]
  unfold out1_4
  rw [View.canon_unit_zero zeros3, View.ld_unit_zero zeros3, View.ld_unit_zero zeros3, View.ld_unit_zero zeros3, View.ld_unit_zero zeros3]
  obtain ⟨⟨a1, a2⟩, b2, c2, d2, e2⟩ := index1 (grid1.coords t)
  have E1 := win1_4.rect_emb_val t y 1
  have E2 := (win1_4.rect_emb_val t y 2).trans (congrArg (· * 2048 + (y 2 : ℕ)) e2)
  refine (pay1 _ _ _ _ y).trans (normAt_congr (fun k => congrArg (V c main_arg0) (eq_ix3 (A := 1) (B := 8192) (C := 2048) _ _ _ _ ?_ ?_ ?_))
    (congrArg (V c main_v13) (eq_ix3 (A := 1) (B := 1) (C := 2048) _ _ _ _ ?_ ?_ ?_)) (congrArg (V c main_v10) (eq_ix3 (A := 1) (B := 1) (C := 2048) _ _ _ _ ?_ ?_ ?_))
    (congrArg (V c main_v11) (eq_ix3 (A := 1) (B := 1) (C := 2048) _ _ _ _ ?_ ?_ ?_)) (Fin.ext ?_))
  · exact Nat.lt_one_iff.1 (Fin.isLt _)
  · exact (win1_0.rect_emb_val t (ix3 0 (y 1) k) 1).trans ((congrArg (· * 256 + (y 1 : ℕ)) a1).trans E1.symm)
  · exact (win1_0.rect_emb_val t (ix3 0 (y 1) k) 2).trans ((congrArg (· * 2048 + (k : ℕ)) a2).trans (by omega))
  · exact Nat.lt_one_iff.1 (Fin.isLt _)
  · exact Nat.lt_one_iff.1 (Fin.isLt _)
  · exact (win1_3.rect_emb_val t (ix3 0 0 (y 2)) 2).trans ((congrArg (· * 2048 + (y 2 : ℕ)) d2).trans E2.symm)
  · exact Nat.lt_one_iff.1 (Fin.isLt _)
  · exact Nat.lt_one_iff.1 (Fin.isLt _)
  · exact (win1_1.rect_emb_val t (ix3 0 0 (y 2)) 2).trans ((congrArg (· * 2048 + (y 2 : ℕ)) b2).trans E2.symm)
  · exact Nat.lt_one_iff.1 (Fin.isLt _)
  · exact Nat.lt_one_iff.1 (Fin.isLt _)
  · exact (win1_2.rect_emb_val t (ix3 0 0 (y 2)) 2).trans ((congrArg (· * 2048 + (y 2 : ℕ)) c2).trans E2.symm)
  · exact ((E2.trans (by omega)) : _ = (y 2 : ℕ)).symm

theorem final11 (c : Dev nD) (i : S16x32x2048.Idx) : (dat11 V c).arrAt 4 cfg11.N i
    = normAt (fun k => V c main_arg1 (ix3 (i 0) (i 1) k)) (V c main_v62 (ix3 0 0 (i 2))) (V c main_v59 (ix3 (i 0) 0 (i 2))) (V c main_v60 (ix3 (i 0) 0 (i 2))) (i 2) := by
  refine (dat11 V c).arrAt_forall_of_cover 4 (fun i x => x = normAt (fun k => V c main_arg1 (ix3 (i 0) (i 1) k)) (V c main_v62 (ix3 0 0 (i 2)))
    (V c main_v59 (ix3 (i 0) 0 (i 2))) (V c main_v60 (ix3 (i 0) 0 (i 2))) (i 2)) (fun t _ (y : S8x32x2048.Idx) => ?_) cover11 i
  show (dat11 V c).after 4 t y = _
  rw [after11_4]
  unfold out11_4
  rw [View.canon_unit_zero zeros3, View.ld_unit_zero zeros3, View.ld_unit_zero zeros3, View.ld_unit_zero zeros3, View.ld_unit_zero zeros3]
  obtain ⟨⟨a0, a1, a2⟩, ⟨b0, b2⟩, ⟨c0, c2⟩, d2, e1, e2⟩ := index11 (grid11.coords t)
  have E0 := win11_4.rect_emb_val t y 0
  have E1 := (win11_4.rect_emb_val t y 1).trans (congrArg (· * 32 + (y 1 : ℕ)) e1)
  have E2 := (win11_4.rect_emb_val t y 2).trans (congrArg (· * 2048 + (y 2 : ℕ)) e2)
  refine (pay11 _ _ _ _ y).trans (normAt_congr (fun k => congrArg (V c main_arg1) (eq_ix3 (A := 16) (B := 32) (C := 2048) _ _ _ _ ?_ ?_ ?_))
    (congrArg (V c main_v62) (eq_ix3 (A := 1) (B := 1) (C := 2048) _ _ _ _ ?_ ?_ ?_)) (congrArg (V c main_v59) (eq_ix3 (A := 16) (B := 1) (C := 2048) _ _ _ _ ?_ ?_ ?_))
    (congrArg (V c main_v60) (eq_ix3 (A := 16) (B := 1) (C := 2048) _ _ _ _ ?_ ?_ ?_)) (Fin.ext ?_))
  · exact (win11_0.rect_emb_val t (ix3 (y 0) (y 1) k) 0).trans ((congrArg (· * 8 + (y 0 : ℕ)) a0).trans E0.symm)
  · exact (win11_0.rect_emb_val t (ix3 (y 0) (y 1) k) 1).trans ((congrArg (· * 32 + (y 1 : ℕ)) a1).trans E1.symm)
  · exact (win11_0.rect_emb_val t (ix3 (y 0) (y 1) k) 2).trans ((congrArg (· * 2048 + (k : ℕ)) a2).trans (by omega))
  · exact Nat.lt_one_iff.1 (Fin.isLt _)
  · exact Nat.lt_one_iff.1 (Fin.isLt _)
  · exact (win11_3.rect_emb_val t (ix3 0 0 (y 2)) 2).trans ((congrArg (· * 2048 + (y 2 : ℕ)) d2).trans E2.symm)
  · exact (win11_1.rect_emb_val t (ix3 (y 0) 0 (y 2)) 0).trans ((congrArg (· * 8 + (y 0 : ℕ)) b0).trans E0.symm)
  · exact Nat.lt_one_iff.1 (Fin.isLt _)
  · exact (win11_1.rect_emb_val t (ix3 (y 0) 0 (y 2)) 2).trans ((congrArg (· * 2048 + (y 2 : ℕ)) b2).trans E2.symm)
  · exact (win11_2.rect_emb_val t (ix3 (y 0) 0 (y 2)) 0).trans ((congrArg (· * 8 + (y 0 : ℕ)) c0).trans E0.symm)
  · exact Nat.lt_one_iff.1 (Fin.isLt _)
  · exact (win11_2.rect_emb_val t (ix3 (y 0) 0 (y 2)) 2).trans ((congrArg (· * 2048 + (y 2 : ℕ)) c2).trans E2.symm)
  · exact ((E2.trans (by omega)) : _ = (y 2 : ℕ)).symm

end Cert.KernelIdeal.Layer

end
-- ==== Proof.Plain.lean ====
/- The plain projections: what the calls write of a row block of activations times a window of the transposed weight, and which block holds an element. -/
module

public import proofs.«01_k».proof.Proof.Gen.KernelIdeal.Frame
public import proofs.«01_k».proof.Proof.Common

@[expose] public section

set_option maxRecDepth 16384

noncomputable section

namespace Cert.KernelIdeal.Layer

open Idealize.ShloMosaic Idealize.ShloMosaic.TcCoe
open Idealize.ShloMosaic.Pipeline (Dat)
open Cert.KernelIdeal.Gen Cert.Layer
open scoped BigOperators

/-- The product of a row block of the activations with a window of the transposed weight, at an element. -/
def z512 (v0 : Vec Ideal S2048x2048 .bf16) (v2 : Vec Ideal S512x2048 .f32) : FVec Ideal S2048x512 .f32 :=
  matmul (φ₁ := .bf16) (φ₂ := .bf16) dot_S2048x2048_S512x2048_S2048x512_1_1_0_0_n_n none (shapeCast S2048x2048 v0 shapeCasts_S2048x2048_S2048x2048)
      (truncf .bf16 (shapeCast S512x2048 v2 shapeCasts_S512x2048_S512x2048) bitsLt_bf16_f32) (constant S2048x512 .f32 0x00000000#32)

theorem z512_apply (v0 : Vec Ideal S2048x2048 .bf16) (v2 : Vec Ideal S512x2048 .f32) (j : S2048x512.Idx) :
    z512 v0 v2 j = rowDot (M := 2048) (K := 2048) (N := 512) v0 v2 (j 0) (j 1) := by
  idx_vars j
  unfold z512
  pointwise
  rfl

/-- The product of the activations with a range of 2048 rows of the transposed weight, from row `c`. -/
def proj (h : Arr S8192x2048) (w : Arr S17552x2048) (c : ℕ) (i : S8192x2048.Idx) (hc : c + 2048 ≤ 17552 := by decide) : EReal :=
  rowDot (M := 8192) (K := 2048) (N := 17552) h w (i 0) (col c (i 1) hc)

/-- A tile of the product, from where its two operand blocks and the tile itself lie. -/
theorem tile {h : Arr S8192x2048} {w : Arr S17552x2048} {c : ℕ} (hc : c + 2048 ≤ 17552) (b0 : S2048x2048.Idx → S8192x2048.Idx) (b1 : S512x2048.Idx → S17552x2048.Idx)
    {y : S2048x512.Idx} {e : S8192x2048.Idx} {i0 i1 j0 j1 k0 k1 : ℕ}
    (A0 : ∀ x, (b0 x 0 : ℕ) = i0 * 2048 + x 0) (A1 : ∀ x, (b0 x 1 : ℕ) = i1 * 2048 + x 1)
    (B0 : ∀ x, (b1 x 0 : ℕ) = j0 + x 0) (B1 : ∀ x, (b1 x 1 : ℕ) = j1 + x 1)
    (C0 : (e 0 : ℕ) = k0 * 2048 + y 0) (C1 : (e 1 : ℕ) = k1 * 512 + y 1)
    (hx : i0 = k0 ∧ i1 = 0 ∧ j0 = c + k1 * 512 ∧ j1 = 0) :
    rowDot (M := 2048) (K := 2048) (N := 512) (fun x => h (b0 x)) (fun x => w (b1 x)) (y 0) (y 1) = proj h w c e hc := by
  obtain ⟨e0, e1, e2, e3⟩ := hx
  refine rowDot_tile (M := 8192) (N := 17552) h w b0 b1 _ _ _ _ A0 A1 B0 B1 e1 e3 (e0 ▸ C0) ?_
  show c + (e 1 : ℕ) = j0 + (y 1 : ℕ)
  rw [C1, e2, Nat.add_assoc]

variable (V : (c : Dev nD) → (b : Ref sig .tc) → Buf (Elt Ideal) ((c : Thread nD τ).loc b))

/-- The 4 × 4 grid reaches every tile. -/
theorem reach5 (i : S8192x2048.Idx) : ∃ t : Fin grid5.N, cc5_transform_2 (grid5.coords t) 0 = (i 0 : ℕ) / 2048 ∧ cc5_transform_2 (grid5.coords t) 1 = (i 1 : ℕ) / 512 := by
  have h0 : (i 0 : Nat) < 8192 := (i 0).isLt
  have h1 : (i 1 : Nat) < 2048 := (i 1).isLt
  have h : ∀ a < 4, ∀ b < 4, ∃ t : Fin grid5.N, cc5_transform_2 (grid5.coords t) 0 = a ∧ cc5_transform_2 (grid5.coords t) 1 = b := by decide +kernel
  exact h _ (by omega) _ (by omega)

theorem index5 (i : grid5.Coords) : cc5_transform_0 i 0 = cc5_transform_2 i 0 ∧ cc5_transform_0 i 1 = 0
    ∧ cc5_transform_1 i 0 = 5264 + cc5_transform_2 i 1 * 512 ∧ cc5_transform_1 i 1 = 0 := by revert i; decide +kernel

theorem cover5 (i : S8192x2048.Idx) : ∃ t : Fin cfg5.N, (cfg5.win 2).flush t = true ∧ i ∈ ((cfg5.win 2).blk t).view.set := by
  obtain ⟨t, e0, e1⟩ := reach5 i
  refine ⟨t, flush5_2 t, ?_⟩
  show i ∈ ((View.whole main_v52).slice (win5_2.rect t)).set
  rw [View.set_slice_whole, Rect.mem_set_unit]
  exact mem_tile (M := 8192) (N := 2048) (m := 2048) (n := 512) i (by decide) (by decide) e0 e1

theorem final5 (c : Dev nD) (i : S8192x2048.Idx) : (dat5 V c).arrAt 2 cfg5.N i = proj (V c main_v15) (V c main_v8) 5264 i := by
  refine (dat5 V c).arrAt_forall_of_cover 2 (fun i x => x = proj (V c main_v15) (V c main_v8) 5264 i) (fun t _ (y : S2048x512.Idx) => ?_) cover5 i
  show (dat5 V c).after 2 t y = _
  rw [after5_2]
  unfold out5_2
  rw [View.canon_unit_zero zeros2, View.ld_unit_zero zeros2, View.ld_unit_zero zeros2]
  exact (z512_apply _ _ y).trans (tile (by decide) _ _ (win5_0.rect_emb_val t · 0) (win5_0.rect_emb_val t · 1) (win5_1.rect_emb_val_off t · 0)
    (win5_1.rect_emb_val_off t · 1) (win5_2.rect_emb_val t y 0) (win5_2.rect_emb_val t y 1) (index5 (grid5.coords t)))

theorem index7 (i : grid7.Coords) : cc7_transform_0 i 0 = cc7_transform_2 i 0 ∧ cc7_transform_0 i 1 = 0
    ∧ cc7_transform_1 i 0 = 9360 + cc7_transform_2 i 1 * 512 ∧ cc7_transform_1 i 1 = 0 := by revert i; decide +kernel

theorem cover7 (i : S8192x2048.Idx) : ∃ t : Fin cfg7.N, (cfg7.win 2).flush t = true ∧ i ∈ ((cfg7.win 2).blk t).view.set := by
  obtain ⟨t, e0, e1⟩ := reach5 i
  refine ⟨t, flush7_2 t, ?_⟩
  show i ∈ ((View.whole main_v54).slice (win7_2.rect t)).set
  rw [View.set_slice_whole, Rect.mem_set_unit]
  exact mem_tile (M := 8192) (N := 2048) (m := 2048) (n := 512) i (by decide) (by decide) e0 e1

theorem final7 (c : Dev nD) (i : S8192x2048.Idx) : (dat7 V c).arrAt 2 cfg7.N i = proj (V c main_v15) (V c main_v8) 9360 i := by
  refine (dat7 V c).arrAt_forall_of_cover 2 (fun i x => x = proj (V c main_v15) (V c main_v8) 9360 i) (fun t _ (y : S2048x512.Idx) => ?_) cover7 i
  show (dat7 V c).after 2 t y = _
  rw [after7_2]
  unfold out7_2
  rw [View.canon_unit_zero zeros2, View.ld_unit_zero zeros2, View.ld_unit_zero zeros2]
  exact (z512_apply _ _ y).trans (tile (by decide) _ _ (win7_0.rect_emb_val t · 0) (win7_0.rect_emb_val t · 1) (win7_1.rect_emb_val_off t · 0)
    (win7_1.rect_emb_val_off t · 1) (win7_2.rect_emb_val t y 0) (win7_2.rect_emb_val t y 1) (index7 (grid7.coords t)))

theorem index8 (i : grid8.Coords) : cc8_transform_0 i 0 = cc8_transform_2 i 0 ∧ cc8_transform_0 i 1 = 0
    ∧ cc8_transform_1 i 0 = 11408 + cc8_transform_2 i 1 * 512 ∧ cc8_transform_1 i 1 = 0 := by revert i; decide +kernel

theorem cover8 (i : S8192x2048.Idx) : ∃ t : Fin cfg8.N, (cfg8.win 2).flush t = true ∧ i ∈ ((cfg8.win 2).blk t).view.set := by
  obtain ⟨t, e0, e1⟩ := reach5 i
  refine ⟨t, flush8_2 t, ?_⟩
  show i ∈ ((View.whole main_v55).slice (win8_2.rect t)).set
  rw [View.set_slice_whole, Rect.mem_set_unit]
  exact mem_tile (M := 8192) (N := 2048) (m := 2048) (n := 512) i (by decide) (by decide) e0 e1

theorem final8 (c : Dev nD) (i : S8192x2048.Idx) : (dat8 V c).arrAt 2 cfg8.N i = proj (V c main_v15) (V c main_v8) 11408 i := by
  refine (dat8 V c).arrAt_forall_of_cover 2 (fun i x => x = proj (V c main_v15) (V c main_v8) 11408 i) (fun t _ (y : S2048x512.Idx) => ?_) cover8 i
  show (dat8 V c).after 2 t y = _
  rw [after8_2]
  unfold out8_2
  rw [View.canon_unit_zero zeros2, View.ld_unit_zero zeros2, View.ld_unit_zero zeros2]
  exact (z512_apply _ _ y).trans (tile (by decide) _ _ (win8_0.rect_emb_val t · 0) (win8_0.rect_emb_val t · 1) (win8_1.rect_emb_val_off t · 0)
    (win8_1.rect_emb_val_off t · 1) (win8_2.rect_emb_val t y 0) (win8_2.rect_emb_val t y 1) (index8 (grid8.coords t)))

theorem index9 (i : grid9.Coords) : cc9_transform_0 i 0 = cc9_transform_2 i 0 ∧ cc9_transform_0 i 1 = 0
    ∧ cc9_transform_1 i 0 = 13456 + cc9_transform_2 i 1 * 512 ∧ cc9_transform_1 i 1 = 0 := by revert i; decide +kernel

theorem cover9 (i : S8192x2048.Idx) : ∃ t : Fin cfg9.N, (cfg9.win 2).flush t = true ∧ i ∈ ((cfg9.win 2).blk t).view.set := by
  obtain ⟨t, e0, e1⟩ := reach5 i
  refine ⟨t, flush9_2 t, ?_⟩
  show i ∈ ((View.whole main_v56).slice (win9_2.rect t)).set
  rw [View.set_slice_whole, Rect.mem_set_unit]
  exact mem_tile (M := 8192) (N := 2048) (m := 2048) (n := 512) i (by decide) (by decide) e0 e1

theorem final9 (c : Dev nD) (i : S8192x2048.Idx) : (dat9 V c).arrAt 2 cfg9.N i = proj (V c main_v15) (V c main_v8) 13456 i := by
  refine (dat9 V c).arrAt_forall_of_cover 2 (fun i x => x = proj (V c main_v15) (V c main_v8) 13456 i) (fun t _ (y : S2048x512.Idx) => ?_) cover9 i
  show (dat9 V c).after 2 t y = _
  rw [after9_2]
  unfold out9_2
  rw [View.canon_unit_zero zeros2, View.ld_unit_zero zeros2, View.ld_unit_zero zeros2]
  exact (z512_apply _ _ y).trans (tile (by decide) _ _ (win9_0.rect_emb_val t · 0) (win9_0.rect_emb_val t · 1) (win9_1.rect_emb_val_off t · 0)
    (win9_1.rect_emb_val_off t · 1) (win9_2.rect_emb_val t y 0) (win9_2.rect_emb_val t y 1) (index9 (grid9.coords t)))

theorem index10 (i : grid10.Coords) : cc10_transform_0 i 0 = cc10_transform_2 i 0 ∧ cc10_transform_0 i 1 = 0
    ∧ cc10_transform_1 i 0 = 15504 + cc10_transform_2 i 1 * 512 ∧ cc10_transform_1 i 1 = 0 := by revert i; decide +kernel

theorem cover10 (i : S8192x2048.Idx) : ∃ t : Fin cfg10.N, (cfg10.win 2).flush t = true ∧ i ∈ ((cfg10.win 2).blk t).view.set := by
  obtain ⟨t, e0, e1⟩ := reach5 i
  refine ⟨t, flush10_2 t, ?_⟩
  show i ∈ ((View.whole main_v57).slice (win10_2.rect t)).set
  rw [View.set_slice_whole, Rect.mem_set_unit]
  exact mem_tile (M := 8192) (N := 2048) (m := 2048) (n := 512) i (by decide) (by decide) e0 e1

theorem final10 (c : Dev nD) (i : S8192x2048.Idx) : (dat10 V c).arrAt 2 cfg10.N i = proj (V c main_v15) (V c main_v8) 15504 i := by
  refine (dat10 V c).arrAt_forall_of_cover 2 (fun i x => x = proj (V c main_v15) (V c main_v8) 15504 i) (fun t _ (y : S2048x512.Idx) => ?_) cover10 i
  show (dat10 V c).after 2 t y = _
  rw [after10_2]
  unfold out10_2
  rw [View.canon_unit_zero zeros2, View.ld_unit_zero zeros2, View.ld_unit_zero zeros2]
  exact (z512_apply _ _ y).trans (tile (by decide) _ _ (win10_0.rect_emb_val t · 0) (win10_0.rect_emb_val t · 1) (win10_1.rect_emb_val_off t · 0)
    (win10_1.rect_emb_val_off t · 1) (win10_2.rect_emb_val t y 0) (win10_2.rect_emb_val t y 1) (index10 (grid10.coords t)))

end Cert.KernelIdeal.Layer

end
-- ==== Proof.Rope.lean ====
/- The rotary projections of the idealized kernel: the queries, the index queries and the index keys of both batches. -/
module

public import proofs.«01_k».proof.Proof.Gen.KernelIdeal.Frame
public import proofs.«01_k».proof.Proof.Plain
public import proofs.«01_k».proof.Proof.Spec

@[expose] public section

set_option maxRecDepth 16384
set_option maxHeartbeats 2000000

noncomputable section

namespace Cert.KernelIdeal.Layer

open Idealize.ShloMosaic Idealize.ShloMosaic.TcCoe
open Idealize.ShloMosaic.Pipeline (Dat)
open Cert.KernelIdeal.Gen Cert.Layer
open scoped BigOperators

/-- Four copies of a 128-column table side by side, read at a column. -/
theorem four (a : Fin 128 → EReal) (j : Fin 512) : (if h : (j : ℕ) < 128 then a ⟨j, h⟩ else if h' : (j : ℕ) - 128 < 128 then a ⟨j - 128, h'⟩
    else if h'' : (j : ℕ) - 128 - 128 < 128 then a ⟨j - 128 - 128, h''⟩ else a ⟨j - 128 - 128 - 128, by omega⟩) = a (Fin.ofNat 128 j) := by
  have := j.isLt
  split_ifs <;> exact congrArg a (Fin.ext (by show _ = (j : ℕ) % 128; dsimp only; omega))

theorem pay3 (v0 : Vec Ideal S2048x2048 .bf16) (v2 : Vec Ideal S512x2048 .f32) (a b c : Vec Ideal S2048x128 .f32) (j : S2048x512.Idx) :
    k3_pay1 v0 v2 a b c j = ropeTile (m := 2048) (n := 512) v0 v2 a b c (j 0) (j 1) := by
  idx_vars j
  unfold k3_pay1
  pointwise
  exact congrArg₂ (· + ·) (congrArg₂ (· + ·) (congrArg₂ (· * ·) rfl (four (fun l => a (ix2 j0 l)) j1)) (congrArg₂ (· * ·) rfl (four (fun l => b (ix2 j0 l)) j1)))
    (congrArg₂ (· * ·) rfl (four (fun l => c (ix2 j0 l)) j1))

theorem pay2 (v0 : Vec Ideal S2048x2048 .bf16) (v2 : Vec Ideal S512x2048 .f32) (a b c : Vec Ideal S2048x128 .f32) (j : S2048x512.Idx) :
    k2_pay1 v0 v2 a b c j = ropeTile (m := 2048) (n := 512) v0 v2 a b c (j 0) (j 1) * qScale := by
  rw [← pay3]
  rfl

theorem lane (a : Fin 128 → EReal) (j : Fin 128) : a j = a (Fin.ofNat 128 j) :=
  congrArg a (Fin.ext (Nat.mod_eq_of_lt j.isLt).symm)

theorem pay4 (v0 : Vec Ideal S2048x2048 .bf16) (v2 : Vec Ideal S128x2048 .f32) (a b c : Vec Ideal S2048x128 .f32) (j : S2048x128.Idx) :
    k4_pay1 v0 v2 a b c j = ropeTile (m := 2048) (n := 128) v0 v2 a b c (j 0) (j 1) := by
  idx_vars j
  unfold k4_pay1
  pointwise
  exact congrArg₂ (· + ·) (congrArg₂ (· + ·) (congrArg₂ (· * ·) rfl (lane (fun l => a (ix2 j0 l)) j1)) (congrArg₂ (· * ·) rfl (lane (fun l => b (ix2 j0 l)) j1)))
    (congrArg₂ (· * ·) rfl (lane (fun l => c (ix2 j0 l)) j1))

theorem pay12 (v0 : Vec Ideal S512x2048 .bf16) (v2 : Vec Ideal S128x2048 .f32) (a b c : Vec Ideal S512x128 .f32) (j : S512x128.Idx) :
    k12_pay1 v0 v2 a b c j = ropeTile (m := 512) (n := 128) v0 v2 a b c (j 0) (j 1) := by
  idx_vars j
  unfold k12_pay1
  pointwise
  exact congrArg₂ (· + ·) (congrArg₂ (· + ·) (congrArg₂ (· * ·) rfl (lane (fun l => a (ix2 j0 l)) j1)) (congrArg₂ (· * ·) rfl (lane (fun l => b (ix2 j0 l)) j1)))
    (congrArg₂ (· * ·) rfl (lane (fun l => c (ix2 j0 l)) j1))

theorem reach4 (i : S8192x128.Idx) : ∃ t : Fin grid4.N, cc4_transform_5 (grid4.coords t) 0 = (i 0 : ℕ) / 2048 ∧ cc4_transform_5 (grid4.coords t) 1 = (i 1 : ℕ) / 128 := by
  have h0 : (i 0 : Nat) < 8192 := (i 0).isLt
  have h1 : (i 1 : Nat) < 128 := (i 1).isLt
  have h : ∀ a < 4, ∀ b < 1, ∃ t : Fin grid4.N, cc4_transform_5 (grid4.coords t) 0 = a ∧ cc4_transform_5 (grid4.coords t) 1 = b := by decide +kernel
  exact h _ (by omega) _ (by omega)

theorem reach12 (i : S512x128.Idx) : ∃ t : Fin grid12.N, cc12_transform_5 (grid12.coords t) 0 = (i 0 : ℕ) / 512 ∧ cc12_transform_5 (grid12.coords t) 1 = (i 1 : ℕ) / 128 := by
  have h0 : (i 0 : Nat) < 512 := (i 0).isLt
  have h1 : (i 1 : Nat) < 128 := (i 1).isLt
  have h : ∀ a < 1, ∀ b < 1, ∃ t : Fin grid12.N, cc12_transform_5 (grid12.coords t) 0 = a ∧ cc12_transform_5 (grid12.coords t) 1 = b := by decide +kernel
  exact h _ (by omega) _ (by omega)

variable (V : (c : Dev nD) → (b : Ref sig .tc) → Buf (Elt Ideal) ((c : Thread nD τ).loc b))

theorem index2 (i : grid2.Coords) :
    (cc2_transform_0 i 0 = cc2_transform_5 i 0 ∧ cc2_transform_0 i 1 = 0 ∧ cc2_transform_1 i 0 = 0 + cc2_transform_5 i 1 * 512 ∧ cc2_transform_1 i 1 = 0)
    ∧ (cc2_transform_2 i 0 = cc2_transform_5 i 0 ∧ cc2_transform_2 i 1 = 0) ∧ (cc2_transform_3 i 0 = cc2_transform_5 i 0 ∧ cc2_transform_3 i 1 = 0)
    ∧ (cc2_transform_4 i 0 = cc2_transform_5 i 0 ∧ cc2_transform_4 i 1 = 0) ∧ 0 + cc2_transform_5 i 1 * 512 + 512 ≤ 17552 := by
  revert i; decide +kernel

theorem cover2_5 (i : S8192x2048.Idx) : ∃ t : Fin cfg2.N, (cfg2.win 5).flush t = true ∧ i ∈ ((cfg2.win 5).blk t).view.set := by
  obtain ⟨t, e0, e1⟩ := reach5 i
  refine ⟨t, flush2_5 t, ?_⟩
  show i ∈ ((View.whole main_v49).slice (win2_5.rect t)).set
  rw [View.set_slice_whole, Rect.mem_set_unit]
  exact mem_tile (M := 8192) (N := 2048) (m := 2048) (n := 512) i (by decide) (by decide) e0 e1

theorem final2_5 (c : Dev nD) (i : S8192x2048.Idx) : (dat2 V c).arrAt 5 cfg2.N i
    = ropeAt (M := 8192) 512 (V c main_v15) (V c main_v8) 0 (V c main_v42) (V c main_v45) (V c main_v48) (i 0) (i 1) * qScale := by
  refine (dat2 V c).arrAt_forall_of_cover 5 (fun i x => x = ropeAt (M := 8192) 512 (V c main_v15) (V c main_v8) 0 (V c main_v42) (V c main_v45) (V c main_v48)
    (i 0) (i 1) * qScale) (fun t _ (y : S2048x512.Idx) => ?_) cover2_5 i
  show (dat2 V c).after 5 t y = _
  rw [after2_5]
  unfold out2_5
  rw [View.canon_unit_zero zeros2, View.ld_unit_zero zeros2, View.ld_unit_zero zeros2, View.ld_unit_zero zeros2, View.ld_unit_zero zeros2, View.ld_unit_zero zeros2]
  refine (pay2 _ _ _ _ _ y).trans (congrArg (fun x : EReal => x * qScale) ?_)
  exact (ropeTile_eq (M := 8192) (m := 2048) (n := 512) (V c main_v15) (V c main_v8) (V c main_v42) (V c main_v45) (V c main_v48)
    _ _ _ _ _ (y 0) (y 1) _ _
    (win2_0.rect_emb_val t · 0) (win2_0.rect_emb_val t · 1) (win2_1.rect_emb_val_off t · 0) (win2_1.rect_emb_val_off t · 1)
    (win2_2.rect_emb_val t · 0) (win2_2.rect_emb_val t · 1) (win2_3.rect_emb_val t · 0) (win2_3.rect_emb_val t · 1)
    (win2_4.rect_emb_val t · 0) (win2_4.rect_emb_val t · 1) (win2_5.rect_emb_val t y 0) (win2_5.rect_emb_val t y 1) (by decide) (index2 (grid2.coords t)))

theorem index3 (i : grid3.Coords) :
    (cc3_transform_0 i 0 = cc3_transform_5 i 0 ∧ cc3_transform_0 i 1 = 0 ∧ cc3_transform_1 i 0 = 3072 + cc3_transform_5 i 1 * 512 ∧ cc3_transform_1 i 1 = 0)
    ∧ (cc3_transform_2 i 0 = cc3_transform_5 i 0 ∧ cc3_transform_2 i 1 = 0) ∧ (cc3_transform_3 i 0 = cc3_transform_5 i 0 ∧ cc3_transform_3 i 1 = 0)
    ∧ (cc3_transform_4 i 0 = cc3_transform_5 i 0 ∧ cc3_transform_4 i 1 = 0) ∧ 3072 + cc3_transform_5 i 1 * 512 + 512 ≤ 17552 := by
  revert i; decide +kernel

theorem cover3_5 (i : S8192x2048.Idx) : ∃ t : Fin cfg3.N, (cfg3.win 5).flush t = true ∧ i ∈ ((cfg3.win 5).blk t).view.set := by
  obtain ⟨t, e0, e1⟩ := reach5 i
  refine ⟨t, flush3_5 t, ?_⟩
  show i ∈ ((View.whole main_v50).slice (win3_5.rect t)).set
  rw [View.set_slice_whole, Rect.mem_set_unit]
  exact mem_tile (M := 8192) (N := 2048) (m := 2048) (n := 512) i (by decide) (by decide) e0 e1

theorem final3_5 (c : Dev nD) (i : S8192x2048.Idx) : (dat3 V c).arrAt 5 cfg3.N i
    = ropeAt (M := 8192) 512 (V c main_v15) (V c main_v8) 3072 (V c main_v42) (V c main_v45) (V c main_v48) (i 0) (i 1) := by
  refine (dat3 V c).arrAt_forall_of_cover 5 (fun i x => x = ropeAt (M := 8192) 512 (V c main_v15) (V c main_v8) 3072 (V c main_v42) (V c main_v45) (V c main_v48)
    (i 0) (i 1)) (fun t _ (y : S2048x512.Idx) => ?_) cover3_5 i
  show (dat3 V c).after 5 t y = _
  rw [after3_5]
  unfold out3_5
  rw [View.canon_unit_zero zeros2, View.ld_unit_zero zeros2, View.ld_unit_zero zeros2, View.ld_unit_zero zeros2, View.ld_unit_zero zeros2, View.ld_unit_zero zeros2]
  exact (pay3 _ _ _ _ _ y).trans (ropeTile_eq (M := 8192) (m := 2048) (n := 512) (V c main_v15) (V c main_v8) (V c main_v42) (V c main_v45) (V c main_v48)
    _ _ _ _ _ (y 0) (y 1) _ _
    (win3_0.rect_emb_val t · 0) (win3_0.rect_emb_val t · 1) (win3_1.rect_emb_val_off t · 0) (win3_1.rect_emb_val_off t · 1)
    (win3_2.rect_emb_val t · 0) (win3_2.rect_emb_val t · 1) (win3_3.rect_emb_val t · 0) (win3_3.rect_emb_val t · 1)
    (win3_4.rect_emb_val t · 0) (win3_4.rect_emb_val t · 1) (win3_5.rect_emb_val t y 0) (win3_5.rect_emb_val t y 1) (by decide) (index3 (grid3.coords t)))

theorem index4 (i : grid4.Coords) :
    (cc4_transform_0 i 0 = cc4_transform_5 i 0 ∧ cc4_transform_0 i 1 = 0 ∧ cc4_transform_1 i 0 = 5120 + cc4_transform_5 i 1 * 128 ∧ cc4_transform_1 i 1 = 0)
    ∧ (cc4_transform_2 i 0 = cc4_transform_5 i 0 ∧ cc4_transform_2 i 1 = 0) ∧ (cc4_transform_3 i 0 = cc4_transform_5 i 0 ∧ cc4_transform_3 i 1 = 0)
    ∧ (cc4_transform_4 i 0 = cc4_transform_5 i 0 ∧ cc4_transform_4 i 1 = 0) ∧ 5120 + cc4_transform_5 i 1 * 128 + 128 ≤ 17552 := by
  revert i; decide +kernel

theorem cover4_5 (i : S8192x128.Idx) : ∃ t : Fin cfg4.N, (cfg4.win 5).flush t = true ∧ i ∈ ((cfg4.win 5).blk t).view.set := by
  obtain ⟨t, e0, e1⟩ := reach4 i
  refine ⟨t, flush4_5 t, ?_⟩
  show i ∈ ((View.whole main_v51_0).slice (win4_5.rect t)).set
  rw [View.set_slice_whole, Rect.mem_set_unit]
  exact mem_tile (M := 8192) (N := 128) (m := 2048) (n := 128) i (by decide) (by decide) e0 e1

theorem final4_5 (c : Dev nD) (i : S8192x128.Idx) : (dat4 V c).arrAt 5 cfg4.N i
    = ropeAt (M := 8192) 128 (V c main_v15) (V c main_v8) 5120 (V c main_v42) (V c main_v45) (V c main_v48) (i 0) (i 1) := by
  refine (dat4 V c).arrAt_forall_of_cover 5 (fun i x => x = ropeAt (M := 8192) 128 (V c main_v15) (V c main_v8) 5120 (V c main_v42) (V c main_v45) (V c main_v48)
    (i 0) (i 1)) (fun t _ (y : S2048x128.Idx) => ?_) cover4_5 i
  show (dat4 V c).after 5 t y = _
  rw [after4_5]
  unfold out4_5
  rw [View.canon_unit_zero zeros2, View.ld_unit_zero zeros2, View.ld_unit_zero zeros2, View.ld_unit_zero zeros2, View.ld_unit_zero zeros2, View.ld_unit_zero zeros2]
  exact (pay4 _ _ _ _ _ y).trans (ropeTile_eq (M := 8192) (m := 2048) (n := 128) (V c main_v15) (V c main_v8) (V c main_v42) (V c main_v45) (V c main_v48)
    _ _ _ _ _ (y 0) (y 1) _ _
    (win4_0.rect_emb_val t · 0) (win4_0.rect_emb_val t · 1) (win4_1.rect_emb_val_off t · 0) (win4_1.rect_emb_val_off t · 1)
    (win4_2.rect_emb_val t · 0) (win4_2.rect_emb_val t · 1) (win4_3.rect_emb_val t · 0) (win4_3.rect_emb_val t · 1)
    (win4_4.rect_emb_val t · 0) (win4_4.rect_emb_val t · 1) (win4_5.rect_emb_val t y 0) (win4_5.rect_emb_val t y 1) (by decide) (index4 (grid4.coords t)))

theorem cover4_6 (i : S8192x128.Idx) : ∃ t : Fin cfg4.N, (cfg4.win 6).flush t = true ∧ i ∈ ((cfg4.win 6).blk t).view.set := by
  obtain ⟨t, e0, e1⟩ := reach4 i
  refine ⟨t, flush4_6 t, ?_⟩
  show i ∈ ((View.whole main_v51_1).slice (win4_6.rect t)).set
  rw [View.set_slice_whole, Rect.mem_set_unit]
  exact mem_tile (M := 8192) (N := 128) (m := 2048) (n := 128) i (by decide) (by decide) e0 e1

theorem final4_6 (c : Dev nD) (i : S8192x128.Idx) : (dat4 V c).arrAt 6 cfg4.N i
    = ropeAt (M := 8192) 128 (V c main_v15) (V c main_v8) 5120 (V c main_v42) (V c main_v45) (V c main_v48) (i 0) (i 1) := by
  refine (dat4 V c).arrAt_forall_of_cover 6 (fun i x => x = ropeAt (M := 8192) 128 (V c main_v15) (V c main_v8) 5120 (V c main_v42) (V c main_v45) (V c main_v48)
    (i 0) (i 1)) (fun t _ (y : S2048x128.Idx) => ?_) cover4_6 i
  show (dat4 V c).after 6 t y = _
  rw [after4_6]
  unfold out4_6
  rw [View.canon_unit_zero zeros2, View.ld_unit_zero zeros2, View.ld_unit_zero zeros2, View.ld_unit_zero zeros2, View.ld_unit_zero zeros2, View.ld_unit_zero zeros2]
  exact (pay4 _ _ _ _ _ y).trans (ropeTile_eq (M := 8192) (m := 2048) (n := 128) (V c main_v15) (V c main_v8) (V c main_v42) (V c main_v45) (V c main_v48)
    _ _ _ _ _ (y 0) (y 1) _ _
    (win4_0.rect_emb_val t · 0) (win4_0.rect_emb_val t · 1) (win4_1.rect_emb_val_off t · 0) (win4_1.rect_emb_val_off t · 1)
    (win4_2.rect_emb_val t · 0) (win4_2.rect_emb_val t · 1) (win4_3.rect_emb_val t · 0) (win4_3.rect_emb_val t · 1)
    (win4_4.rect_emb_val t · 0) (win4_4.rect_emb_val t · 1) (win4_6.rect_emb_val t y 0) (win4_6.rect_emb_val t y 1) (by decide) (index4 (grid4.coords t)))

theorem index12 (i : grid12.Coords) :
    (cc12_transform_0 i 0 = cc12_transform_5 i 0 ∧ cc12_transform_0 i 1 = 0 ∧ cc12_transform_1 i 0 = 5120 + cc12_transform_5 i 1 * 128 ∧ cc12_transform_1 i 1 = 0)
    ∧ (cc12_transform_2 i 0 = cc12_transform_5 i 0 ∧ cc12_transform_2 i 1 = 0) ∧ (cc12_transform_3 i 0 = cc12_transform_5 i 0 ∧ cc12_transform_3 i 1 = 0)
    ∧ (cc12_transform_4 i 0 = cc12_transform_5 i 0 ∧ cc12_transform_4 i 1 = 0) ∧ 5120 + cc12_transform_5 i 1 * 128 + 128 ≤ 17552 := by
  revert i; decide +kernel

theorem cover12_5 (i : S512x128.Idx) : ∃ t : Fin cfg12.N, (cfg12.win 5).flush t = true ∧ i ∈ ((cfg12.win 5).blk t).view.set := by
  obtain ⟨t, e0, e1⟩ := reach12 i
  refine ⟨t, flush12_5 t, ?_⟩
  show i ∈ ((View.whole main_v98_0).slice (win12_5.rect t)).set
  rw [View.set_slice_whole, Rect.mem_set_unit]
  exact mem_tile (M := 512) (N := 128) (m := 512) (n := 128) i (by decide) (by decide) e0 e1

theorem final12_5 (c : Dev nD) (i : S512x128.Idx) : (dat12 V c).arrAt 5 cfg12.N i
    = ropeAt (M := 512) 128 (V c main_v64) (V c main_v8) 5120 (V c main_v91) (V c main_v94) (V c main_v97) (i 0) (i 1) := by
  refine (dat12 V c).arrAt_forall_of_cover 5 (fun i x => x = ropeAt (M := 512) 128 (V c main_v64) (V c main_v8) 5120 (V c main_v91) (V c main_v94) (V c main_v97)
    (i 0) (i 1)) (fun t _ (y : S512x128.Idx) => ?_) cover12_5 i
  show (dat12 V c).after 5 t y = _
  rw [after12_5]
  unfold out12_5
  rw [View.canon_unit_zero zeros2, View.ld_unit_zero zeros2, View.ld_unit_zero zeros2, View.ld_unit_zero zeros2, View.ld_unit_zero zeros2, View.ld_unit_zero zeros2]
  refine (pay12 _ _ _ _ _ y).trans ?_
  exact (ropeTile_eq (M := 512) (m := 512) (n := 128) (V c main_v64) (V c main_v8) (V c main_v91) (V c main_v94) (V c main_v97)
    _ _ _ _ _ (y 0) (y 1) _ _
    (win12_0.rect_emb_val t · 0) (win12_0.rect_emb_val t · 1) (win12_1.rect_emb_val_off t · 0) (win12_1.rect_emb_val_off t · 1)
    (win12_2.rect_emb_val t · 0) (win12_2.rect_emb_val t · 1) (win12_3.rect_emb_val t · 0) (win12_3.rect_emb_val t · 1)
    (win12_4.rect_emb_val t · 0) (win12_4.rect_emb_val t · 1) (win12_5.rect_emb_val t y 0) (win12_5.rect_emb_val t y 1) (by decide) (index12 (grid12.coords t)))

theorem cover12_6 (i : S512x128.Idx) : ∃ t : Fin cfg12.N, (cfg12.win 6).flush t = true ∧ i ∈ ((cfg12.win 6).blk t).view.set := by
  obtain ⟨t, e0, e1⟩ := reach12 i
  refine ⟨t, flush12_6 t, ?_⟩
  show i ∈ ((View.whole main_v98_1).slice (win12_6.rect t)).set
  rw [View.set_slice_whole, Rect.mem_set_unit]
  exact mem_tile (M := 512) (N := 128) (m := 512) (n := 128) i (by decide) (by decide) e0 e1

theorem final12_6 (c : Dev nD) (i : S512x128.Idx) : (dat12 V c).arrAt 6 cfg12.N i
    = ropeAt (M := 512) 128 (V c main_v64) (V c main_v8) 5120 (V c main_v91) (V c main_v94) (V c main_v97) (i 0) (i 1) := by
  refine (dat12 V c).arrAt_forall_of_cover 6 (fun i x => x = ropeAt (M := 512) 128 (V c main_v64) (V c main_v8) 5120 (V c main_v91) (V c main_v94) (V c main_v97)
    (i 0) (i 1)) (fun t _ (y : S512x128.Idx) => ?_) cover12_6 i
  show (dat12 V c).after 6 t y = _
  rw [after12_6]
  unfold out12_6
  rw [View.canon_unit_zero zeros2, View.ld_unit_zero zeros2, View.ld_unit_zero zeros2, View.ld_unit_zero zeros2, View.ld_unit_zero zeros2, View.ld_unit_zero zeros2]
  refine (pay12 _ _ _ _ _ y).trans ?_
  exact (ropeTile_eq (M := 512) (m := 512) (n := 128) (V c main_v64) (V c main_v8) (V c main_v91) (V c main_v94) (V c main_v97)
    _ _ _ _ _ (y 0) (y 1) _ _
    (win12_0.rect_emb_val t · 0) (win12_0.rect_emb_val t · 1) (win12_1.rect_emb_val_off t · 0) (win12_1.rect_emb_val_off t · 1)
    (win12_2.rect_emb_val t · 0) (win12_2.rect_emb_val t · 1) (win12_3.rect_emb_val t · 0) (win12_3.rect_emb_val t · 1)
    (win12_4.rect_emb_val t · 0) (win12_4.rect_emb_val t · 1) (win12_6.rect_emb_val t y 0) (win12_6.rect_emb_val t y 1) (by decide) (index12 (grid12.coords t)))

end Cert.KernelIdeal.Layer

end
-- ==== Proof.Forget.lean ====
/- The forget projection of the idealized kernel: the gate of the recurrence and its logarithm. -/
module

public import proofs.«01_k».proof.Proof.Gen.KernelIdeal.Frame
public import proofs.«01_k».proof.Proof.Plain
public import proofs.«01_k».proof.Proof.Spec

@[expose] public section

set_option maxRecDepth 16384
set_option maxHeartbeats 2000000

noncomputable section

namespace Cert.KernelIdeal.Layer

open Idealize.ShloMosaic Idealize.ShloMosaic.TcCoe
open Idealize.ShloMosaic.Pipeline (Dat)
open Cert.KernelIdeal.Gen Cert.Layer
open scoped BigOperators

theorem pay6 (v0 : Vec Ideal S2048x2048 .bf16) (v2 : Vec Ideal S512x2048 .f32) (l : Vec Ideal S2x512 .f32) (j : S2048x512.Idx) :
    k6_pay1 v0 v2 l j = forgetAt (l (ix2 0 (j 1))) (l (ix2 1 (j 1))) (rowDot (M := 2048) (K := 2048) (N := 512) v0 v2 (j 0) (j 1)) := by
  idx_vars j
  unfold k6_pay1
  pointwise
  have e : (fun x : Fin 2 => l (ix2 x j1)) = fun x => ![l (ix2 0 j1), l (ix2 1 j1)] x := funext fun x => by fin_cases x <;> rfl
  simp only [Fin.sum_univ_two]
  rw [e]
  rfl

theorem pay6_2 (v0 : Vec Ideal S2048x2048 .bf16) (v2 : Vec Ideal S512x2048 .f32) (l : Vec Ideal S2x512 .f32) (j : S2048x512.Idx) :
    k6_pay2 v0 v2 l j = Ideal.log (forgetAt (l (ix2 0 (j 1))) (l (ix2 1 (j 1))) (rowDot (M := 2048) (K := 2048) (N := 512) v0 v2 (j 0) (j 1))) * log2e := by
  rw [← pay6]
  rfl

theorem pay6_3 (v0 : Vec Ideal S2048x2048 .bf16) (v2 : Vec Ideal S512x2048 .f32) (l : Vec Ideal S2x512 .f32) (j : S2048x512.Idx) :
    k6_pay3 v0 v2 l j = 1 - forgetAt (l (ix2 0 (j 1))) (l (ix2 1 (j 1))) (rowDot (M := 2048) (K := 2048) (N := 512) v0 v2 (j 0) (j 1)) := by
  rw [← pay6]
  unfold k6_pay3
  pointwise

theorem index6 (i : grid6.Coords) : (cc6_transform_0 i 0 = cc6_transform_3 i 0 ∧ cc6_transform_0 i 1 = 0
    ∧ cc6_transform_1 i 0 = 7312 + cc6_transform_3 i 1 * 512 ∧ cc6_transform_1 i 1 = 0) ∧ cc6_transform_2 i 0 = 0 ∧ cc6_transform_2 i 1 = cc6_transform_3 i 1 := by
  revert i; decide +kernel

variable (V : (c : Dev nD) → (b : Ref sig .tc) → Buf (Elt Ideal) ((c : Thread nD τ).loc b))

/-- The gate at an element, from the activations, the transposed weight and the two layers' logits. -/
def forget (h : Arr S8192x2048) (w : Arr S17552x2048) (l : Arr S2x2048) (i : S8192x2048.Idx) : EReal :=
  forgetAt (l (ix2 0 (i 1))) (l (ix2 1 (i 1))) (proj h w 7312 i)

theorem forget_tile (c : Dev nD) (t : Fin cfg6.N) (y : S2048x512.Idx) (e : S8192x2048.Idx)
    (C0 : (e 0 : ℕ) = cc6_transform_3 (grid6.coords t) 0 * 2048 + y 0) (C1 : (e 1 : ℕ) = cc6_transform_3 (grid6.coords t) 1 * 512 + y 1) :
    forgetAt (iblk6 V c 2 t (ix2 0 (y 1) : S2x512.Idx)) (iblk6 V c 2 t (ix2 1 (y 1) : S2x512.Idx))
      (rowDot (M := 2048) (K := 2048) (N := 512) (iblk6 V c 0 t) (iblk6 V c 1 t) (y 0) (y 1)) = forget (V c main_v15) (V c main_v8) (V c main_arg8) e := by
  obtain ⟨hp, h0, h1⟩ := index6 (grid6.coords t)
  have hl : ∀ a : Fin 2, iblk6 V c 2 t (ix2 a (y 1) : S2x512.Idx) = V c main_arg8 (ix2 a (e 1)) := fun a => congrArg (V c main_arg8)
    (eq_ix2 (M := 2) (K := 2048) _ _ _ ((win6_2.rect_emb_val t (ix2 a (y 1)) 0).trans ((congrArg (· * 2 + (a : ℕ)) h0).trans (by omega)))
      ((win6_2.rect_emb_val t (ix2 a (y 1)) 1).trans ((congrArg (· * 512 + (y 1 : ℕ)) h1).trans C1.symm)))
  have hz := tile (c := 7312) (by decide) (h := V c main_v15) (w := V c main_v8) _ _ (win6_0.rect_emb_val t · 0) (win6_0.rect_emb_val t · 1) (win6_1.rect_emb_val_off t · 0)
    (win6_1.rect_emb_val_off t · 1) C0 C1 hp
  unfold forget
  rw [hl, hl]
  exact congrArg _ hz

theorem cover6_3 (i : S8192x2048.Idx) : ∃ t : Fin cfg6.N, (cfg6.win 3).flush t = true ∧ i ∈ ((cfg6.win 3).blk t).view.set := by
  obtain ⟨t, e0, e1⟩ := reach5 i
  refine ⟨t, flush6_3 t, ?_⟩
  show i ∈ ((View.whole main_v53_0).slice (win6_3.rect t)).set
  rw [View.set_slice_whole, Rect.mem_set_unit]
  exact mem_tile (M := 8192) (N := 2048) (m := 2048) (n := 512) i (by decide) (by decide) e0 e1

theorem final6_3 (c : Dev nD) (i : S8192x2048.Idx) : (dat6 V c).arrAt 3 cfg6.N i = Ideal.log (forget (V c main_v15) (V c main_v8) (V c main_arg8) i) * log2e := by
  refine (dat6 V c).arrAt_forall_of_cover 3 (fun i x => x = Ideal.log (forget (V c main_v15) (V c main_v8) (V c main_arg8) i) * log2e) (fun t _ (y : S2048x512.Idx) => ?_) cover6_3 i
  show (dat6 V c).after 3 t y = _
  rw [after6_3]
  unfold out6_3
  rw [View.canon_unit_zero zeros2, View.ld_unit_zero zeros2, View.ld_unit_zero zeros2, View.ld_unit_zero zeros2]
  exact (pay6_2 _ _ _ y).trans (congrArg (fun x => Ideal.log x * log2e) (forget_tile V c t y _ (win6_3.rect_emb_val t y 0) (win6_3.rect_emb_val t y 1)))

theorem cover6_4 (i : S8192x2048.Idx) : ∃ t : Fin cfg6.N, (cfg6.win 4).flush t = true ∧ i ∈ ((cfg6.win 4).blk t).view.set := by
  obtain ⟨t, e0, e1⟩ := reach5 i
  refine ⟨t, flush6_4 t, ?_⟩
  show i ∈ ((View.whole main_v53_1).slice (win6_4.rect t)).set
  rw [View.set_slice_whole, Rect.mem_set_unit]
  exact mem_tile (M := 8192) (N := 2048) (m := 2048) (n := 512) i (by decide) (by decide) e0 e1

theorem final6_4 (c : Dev nD) (i : S8192x2048.Idx) : (dat6 V c).arrAt 4 cfg6.N i = 1 - forget (V c main_v15) (V c main_v8) (V c main_arg8) i := by
  refine (dat6 V c).arrAt_forall_of_cover 4 (fun i x => x = 1 - forget (V c main_v15) (V c main_v8) (V c main_arg8) i) (fun t _ (y : S2048x512.Idx) => ?_) cover6_4 i
  show (dat6 V c).after 4 t y = _
  rw [after6_4]
  unfold out6_4
  rw [View.canon_unit_zero zeros2, View.ld_unit_zero zeros2, View.ld_unit_zero zeros2, View.ld_unit_zero zeros2]
  exact (pay6_3 _ _ _ y).trans (congrArg (fun x => 1 - x) (forget_tile V c t y _ (win6_4.rect_emb_val t y 0) (win6_4.rect_emb_val t y 1)))

end Cert.KernelIdeal.Layer

end
-- ==== Proof.Chain.lean ====
/- The idealized kernel's results from its arguments: each call's entry contents traced back to the launch. -/
module

public import proofs.«01_k».proof.Proof.Host
public import proofs.«01_k».proof.Proof.Norm
public import proofs.«01_k».proof.Proof.Rope
public import proofs.«01_k».proof.Proof.Forget

@[expose] public section

set_option maxRecDepth 16384
set_option maxHeartbeats 2000000

noncomputable section

namespace Cert.KernelIdeal.Layer

open Idealize.ShloMosaic Idealize.ShloMosaic.TcCoe
open Idealize.ShloMosaic.Pipeline (Dat)
open Cert.KernelIdeal.Gen Cert.Layer
open scoped BigOperators

variable (m : (ℓ : Loc nD τ sig) → Buf (Elt Ideal) ℓ) (ρ : Dev nD → PrngReg) (c : Dev nD)

/-- The arguments as the kernel holds them at launch. -/
def argsK : Args where
  xp := m ((c : Thread nD τ).loc main_arg0)
  xs := m ((c : Thread nD τ).loc main_arg1)
  cp := m ((c : Thread nD τ).loc main_arg2)
  cs := m ((c : Thread nD τ).loc main_arg3)
  wa := m ((c : Thread nD τ).loc main_arg4)
  ba := m ((c : Thread nD τ).loc main_arg5)
  g := m ((c : Thread nD τ).loc main_arg6)
  wi := m ((c : Thread nD τ).loc main_arg7)
  lg := m ((c : Thread nD τ).loc main_arg8)

/-- The conditioning rows of both batches, padded: what the modulation's call takes. -/
def rows : Arr S24x2048 := V3 m ρ c main_v1

theorem w2_row (p : Fin 24) (h : (p : ℕ) < 17) (k : Fin 2048) : rows m ρ c (ix2 p k)
    = if h : (p : ℕ) < 1 then (argsK m c).cp (ix2 ⟨p, h⟩ k) else (argsK m c).cs (ix2 ⟨(p : ℕ) - 1, by omega⟩ k) := by
  exact (congrFun (W3_of m ρ c main_v1 (by decide)) _).trans ((padded_at (W1 m ρ c) p h k).trans (rows_at (W0 m ρ c) ⟨p, h⟩ k))

theorem w3_weight (k : Fin 2048) (j : Fin 12288) : (W3 m ρ c (Proc.devRef .tc main_v2) : Arr S2048x12288) (ix2 k j) = (argsK m c).wa (ix3 0 k j) := by
  exact (weight_at (W2 m ρ c) k j).trans (congrFun (W2_args m ρ c main_arg4 (by decide)) _)

theorem w3_bias (j : Fin 12288) : (W3 m ρ c (Proc.devRef .tc main_v4) : Arr S1x12288) (ix2 0 j) = (argsK m c).ba (ix2 0 j) := by
  exact (bias_at (W2 m ρ c) j).trans (congrFun (W2_args m ρ c main_arg5 (by decide)) _)

theorem mod_at (p : Fin 24) (j : Fin 12288) : (W4 m ρ c (Proc.devRef .tc main_v5) : Arr S24x12288) (ix2 p j)
    = ∑ k : Fin 2048, rows m ρ c (ix2 p k) * (argsK m c).wa (ix3 0 k j) + (argsK m c).ba (ix2 0 j) := by
  refine (congrFun (W4_arr m ρ c 3) (ix2 p j)).trans ((final0 (V3 m ρ) c (ix2 p j)).trans ?_)
  unfold modAt
  refine congrArg₂ (· + ·) (Finset.sum_congr rfl fun k _ => congrArg₂ (· * ·) rfl (w3_weight m ρ c k j)) (w3_bias m ρ c j)

theorem mod_prompt (j : Fin 12288) : (W4 m ρ c (Proc.devRef .tc main_v5) : Arr S24x12288) (ix2 0 j) = modArg (argsK m c).cp (argsK m c).wa (argsK m c).ba 0 j := by
  rw [mod_at]
  refine congrArg (· + _) (Finset.sum_congr rfl fun k _ => congrArg (· * _) ?_)
  rw [w2_row m ρ c 0 (by decide) k, dif_pos (by decide)]
  rfl

theorem mod_sample (p : Fin 16) (j : Fin 12288) : (W4 m ρ c (Proc.devRef .tc main_v5) : Arr S24x12288) (ix2 ⟨1 + p, by omega⟩ j)
    = modArg (argsK m c).cs (argsK m c).wa (argsK m c).ba p j := by
  rw [mod_at]
  refine congrArg (· + _) (Finset.sum_congr rfl fun k _ => congrArg (· * _) ?_)
  rw [w2_row m ρ c _ (by dsimp only; omega) k, dif_neg (by dsimp only; omega)]
  exact congrArg (fun a => (argsK m c).cs (ix2 a k)) (Fin.ext (by dsimp only; omega))

theorem hid_prompt (r : Fin 8192) (k : Fin 2048) : (V7 m ρ c main_v15 : Arr S8192x2048) (ix2 r k)
    = hid (argsK m c).xp (argsK m c).cp (argsK m c).wa (argsK m c).ba (argsK m c).g 0 r k := by
  refine (h_at (W6 m ρ c) r k).trans ((congrFun (W6_arr m ρ c 4) (ix3 0 r k)).trans ((final1 (V5 m ρ) c (ix3 0 r k)).trans ?_))
  have e0 : V5 m ρ c main_arg0 = (argsK m c).xp := W5_args m ρ c main_arg0 (by decide)
  have e1 : (V5 m ρ c main_v13 : Arr S1x1x2048) (ix3 0 0 k) = (argsK m c).g (ix2 0 k) := (norm_at (W4 m ρ c) k).trans (congrFun (W4_args m ρ c main_arg6 (by decide)) _)
  have e2 := (scale_at (W4 m ρ c) k).trans (mod_prompt m ρ c _)
  have e3 := (shift_at (W4 m ρ c) k).trans (mod_prompt m ρ c _)
  unfold hid
  rw [e0]
  exact (congrArg (fun g => normAt _ g _ _ k) e1).trans ((congrArg (fun s => normAt _ _ s _ k) e2).trans (congrArg (fun s => normAt _ _ _ s k) e3))

theorem turned (j : Fin 17552) (k : Fin 2048) : (V7 m ρ c main_v8 : Arr S17552x2048) (ix2 j k) = (argsK m c).wi (ix3 0 k j) := by
  refine (congrFun ((W7_of m ρ c main_v8 (by decide)).trans (W6_of m ρ c main_v8 (by decide))) _).trans ?_
  exact (turned_at (W4 m ρ c) j k).trans (congrFun (W4_args m ρ c main_arg7 (by decide)) _)

theorem row_prompt (r : Fin 8192) (j : Fin 17552) : rowDot (M := 8192) (K := 2048) (N := 17552) (V7 m ρ c main_v15) (V7 m ρ c main_v8) r j
    = zed (argsK m c).xp (argsK m c).cp (argsK m c).wa (argsK m c).ba (argsK m c).g (argsK m c).wi 0 r j :=
  Finset.sum_congr rfl fun k _ => congrArg₂ (· * ·) (hid_prompt m ρ c r k) (turned m ρ c j k)

/-- What the calls from the queries' to the last gate's write. -/
abbrev outs : List (Ref sig .tc) := [main_v49, main_v50, main_v51_0, main_v51_1, main_v52, main_v53_0, main_v53_1, main_v54, main_v55, main_v56, main_v57]

/-- An array none of those calls writes is the same before each of them and after the last. -/
theorem held (r : Ref sig .tc) (h : r ∉ outs) :
    (V8 m ρ c r = V7 m ρ c r ∧ V9 m ρ c r = V7 m ρ c r ∧ V10 m ρ c r = V7 m ρ c r ∧ V11 m ρ c r = V7 m ρ c r ∧ V12 m ρ c r = V7 m ρ c r ∧ V13 m ρ c r = V7 m ρ c r)
    ∧ V14 m ρ c r = V7 m ρ c r ∧ V15 m ρ c r = V7 m ρ c r ∧ V16 m ρ c r = V7 m ρ c r := by
  have e8 := W8_of m ρ c r fun w e => Bool.eq_false_iff.mpr fun o => h (e ▸ (by decide : ∀ w, (cfg2.win w).isOut = true → Pipeline.arrRef spec2 w ∈ outs) w o)
  have e9 := W9_of m ρ c r fun w e => Bool.eq_false_iff.mpr fun o => h (e ▸ (by decide : ∀ w, (cfg3.win w).isOut = true → Pipeline.arrRef spec3 w ∈ outs) w o)
  have e10 := W10_of m ρ c r fun w e => Bool.eq_false_iff.mpr fun o => h (e ▸ (by decide : ∀ w, (cfg4.win w).isOut = true → Pipeline.arrRef spec4 w ∈ outs) w o)
  have e11 := W11_of m ρ c r fun w e => Bool.eq_false_iff.mpr fun o => h (e ▸ (by decide : ∀ w, (cfg5.win w).isOut = true → Pipeline.arrRef spec5 w ∈ outs) w o)
  have e12 := W12_of m ρ c r fun w e => Bool.eq_false_iff.mpr fun o => h (e ▸ (by decide : ∀ w, (cfg6.win w).isOut = true → Pipeline.arrRef spec6 w ∈ outs) w o)
  have e13 := W13_of m ρ c r fun w e => Bool.eq_false_iff.mpr fun o => h (e ▸ (by decide : ∀ w, (cfg7.win w).isOut = true → Pipeline.arrRef spec7 w ∈ outs) w o)
  have e14 := W14_of m ρ c r fun w e => Bool.eq_false_iff.mpr fun o => h (e ▸ (by decide : ∀ w, (cfg8.win w).isOut = true → Pipeline.arrRef spec8 w ∈ outs) w o)
  have e15 := W15_of m ρ c r fun w e => Bool.eq_false_iff.mpr fun o => h (e ▸ (by decide : ∀ w, (cfg9.win w).isOut = true → Pipeline.arrRef spec9 w ∈ outs) w o)
  have e16 := W16_of m ρ c r fun w e => Bool.eq_false_iff.mpr fun o => h (e ▸ (by decide : ∀ w, (cfg10.win w).isOut = true → Pipeline.arrRef spec10 w ∈ outs) w o)
  exact ⟨⟨e8, e9.trans e8, e10.trans (e9.trans e8), e11.trans (e10.trans (e9.trans e8)), e12.trans (e11.trans (e10.trans (e9.trans e8))),
    e13.trans (e12.trans (e11.trans (e10.trans (e9.trans e8))))⟩, e14.trans (e13.trans (e12.trans (e11.trans (e10.trans (e9.trans e8))))),
    e15.trans (e14.trans (e13.trans (e12.trans (e11.trans (e10.trans (e9.trans e8)))))),
    e16.trans (e15.trans (e14.trans (e13.trans (e12.trans (e11.trans (e10.trans (e9.trans e8)))))))⟩

/-- What the prompt's calls leave is not touched by the sample's. -/
theorem last (r : Ref sig .tc) (h11 : r ∉ hostOps11_W) (h12 : r ∉ hostOps12_W) (a : ∀ w : Fin cfg11.W, Pipeline.arrRef spec11 w = r → (cfg11.win w).isOut = false)
    (b : ∀ w : Fin cfg12.W, Pipeline.arrRef spec12 w = r → (cfg12.win w).isOut = false) : W20 m ρ c (Proc.devRef .tc r) = W16 m ρ c (Proc.devRef .tc r) :=
  (W20_of m ρ c r b).trans ((W19_of m ρ c r h12).trans ((W18_of m ρ c r a).trans (W17_of m ρ c r h11)))

/-- A rotated projection of the prompt, from what its call takes. -/
theorem rope_prompt {n : ℕ} (hn : n % 128 = 0) (h0 : 0 < n) (c0 : ℕ) (h : Arr S8192x2048) (w : Arr S17552x2048) (ta tb tc : Arr S8192x128) (r : Fin 8192) (j : ℕ)
    (eh : h = V7 m ρ c main_v15) (ew : w = V7 m ρ c main_v8) (ea : ta = V7 m ρ c main_v42) (eb : tb = V7 m ρ c main_v45) (ec : tc = V7 m ρ c main_v48) :
    ropeAt (M := 8192) n h w c0 ta tb tc r j = rot (fun k => (argsK m c).zp r (c0 + k)) (BitVec.ofNat 32 r) j := by
  rw [eh, ew, ea, eb, ec]
  refine (ropeAt_eq _ _ c0 _ _ _ r j (BitVec.ofNat 32 r) hn h0 (cosTab_at (W6 m ρ c) r) (negTab_at (W6 m ρ c) r) (sinTab_at (W6 m ρ c) r)).trans ?_
  exact congrArg (fun z => rot z _ j) (funext fun k => row_prompt m ρ c r _)

/-- A plain projection of the prompt, from what its call takes. -/
theorem proj_prompt (c0 : ℕ) (hc : c0 + 2048 ≤ 17552) (h : Arr S8192x2048) (w : Arr S17552x2048) (i : S8192x2048.Idx) (eh : h = V7 m ρ c main_v15)
    (ew : w = V7 m ρ c main_v8) : proj h w c0 i hc = (argsK m c).part c0 i := by
  rw [eh, ew]
  exact (row_prompt m ρ c (i 0) _).trans ((argsK m c).zp_eq _ _ _ rfl)

theorem out_q : (W20 m ρ c (Proc.devRef .tc main_v49) : Arr S8192x2048) = (argsK m c).q := by
  refine (((((((((last m ρ c main_v49 (by decide) (by decide) (by decide) (by decide)).trans (W16_of m ρ c main_v49 (by decide))).trans (W15_of m ρ c main_v49 (by decide))).trans (W14_of m ρ c main_v49 (by decide))).trans (W13_of m ρ c main_v49 (by decide))).trans (W12_of m ρ c main_v49 (by decide))).trans (W11_of m ρ c main_v49 (by decide))).trans (W10_of m ρ c main_v49 (by decide))).trans (W9_of m ρ c main_v49 (by decide))).trans ((W8_arr m ρ c 5).trans (funext fun i => (final2_5 (V7 m ρ) c i).trans (congrArg (· * qScale) ?_)))
  exact rope_prompt m ρ c (by decide) (by decide) 0 _ _ _ _ _ _ _ rfl rfl rfl rfl rfl

theorem out_qi : (W20 m ρ c (Proc.devRef .tc main_v50) : Arr S8192x2048) = (argsK m c).qi := by
  refine ((((((((last m ρ c main_v50 (by decide) (by decide) (by decide) (by decide)).trans (W16_of m ρ c main_v50 (by decide))).trans (W15_of m ρ c main_v50 (by decide))).trans (W14_of m ρ c main_v50 (by decide))).trans (W13_of m ρ c main_v50 (by decide))).trans (W12_of m ρ c main_v50 (by decide))).trans (W11_of m ρ c main_v50 (by decide))).trans (W10_of m ρ c main_v50 (by decide))).trans ((W9_arr m ρ c 5).trans (funext fun i => (final3_5 (V8 m ρ) c i).trans ?_))
  exact rope_prompt m ρ c (by decide) (by decide) 3072 _ _ _ _ _ _ _ (held m ρ c main_v15 (by decide)).1.1 (held m ρ c main_v8 (by decide)).1.1
    (held m ρ c main_v42 (by decide)).1.1 (held m ρ c main_v45 (by decide)).1.1 (held m ρ c main_v48 (by decide)).1.1

theorem out_ki : (W20 m ρ c (Proc.devRef .tc main_v51_0) : Arr S8192x128) = (argsK m c).ki := by
  refine (((((((last m ρ c main_v51_0 (by decide) (by decide) (by decide) (by decide)).trans (W16_of m ρ c main_v51_0 (by decide))).trans (W15_of m ρ c main_v51_0 (by decide))).trans (W14_of m ρ c main_v51_0 (by decide))).trans (W13_of m ρ c main_v51_0 (by decide))).trans (W12_of m ρ c main_v51_0 (by decide))).trans (W11_of m ρ c main_v51_0 (by decide))).trans ((W10_arr m ρ c 5).trans (funext fun i => (final4_5 (V9 m ρ) c i).trans ?_))
  exact rope_prompt m ρ c (by decide) (by decide) 5120 _ _ _ _ _ _ _ (held m ρ c main_v15 (by decide)).1.2.1 (held m ρ c main_v8 (by decide)).1.2.1
    (held m ρ c main_v42 (by decide)).1.2.1 (held m ρ c main_v45 (by decide)).1.2.1 (held m ρ c main_v48 (by decide)).1.2.1

theorem out_ki_narrow : (W20 m ρ c (Proc.devRef .tc main_v51_1) : Arr S8192x128) = (argsK m c).ki := by
  refine (((((((last m ρ c main_v51_1 (by decide) (by decide) (by decide) (by decide)).trans (W16_of m ρ c main_v51_1 (by decide))).trans (W15_of m ρ c main_v51_1 (by decide))).trans (W14_of m ρ c main_v51_1 (by decide))).trans (W13_of m ρ c main_v51_1 (by decide))).trans (W12_of m ρ c main_v51_1 (by decide))).trans (W11_of m ρ c main_v51_1 (by decide))).trans ((W10_arr m ρ c 6).trans (funext fun i => (final4_6 (V9 m ρ) c i).trans ?_))
  exact rope_prompt m ρ c (by decide) (by decide) 5120 _ _ _ _ _ _ _ (held m ρ c main_v15 (by decide)).1.2.1 (held m ρ c main_v8 (by decide)).1.2.1
    (held m ρ c main_v42 (by decide)).1.2.1 (held m ρ c main_v45 (by decide)).1.2.1 (held m ρ c main_v48 (by decide)).1.2.1

theorem out_hq : (W20 m ρ c (Proc.devRef .tc main_v52) : Arr S8192x2048) = (argsK m c).part 5264 := by
  refine ((((((last m ρ c main_v52 (by decide) (by decide) (by decide) (by decide)).trans (W16_of m ρ c main_v52 (by decide))).trans (W15_of m ρ c main_v52 (by decide))).trans (W14_of m ρ c main_v52 (by decide))).trans (W13_of m ρ c main_v52 (by decide))).trans (W12_of m ρ c main_v52 (by decide))).trans ((W11_arr m ρ c 2).trans (funext fun i => (final5 (V10 m ρ) c i).trans ?_))
  exact proj_prompt m ρ c 5264 (by decide) _ _ i (held m ρ c main_v15 (by decide)).1.2.2.1 (held m ρ c main_v8 (by decide)).1.2.2.1

theorem gate_prompt (i : S8192x2048.Idx) : forget (V11 m ρ c main_v15) (V11 m ρ c main_v8) (V11 m ρ c main_arg8) i = (argsK m c).gate i := by
  have e : V11 m ρ c main_arg8 = (argsK m c).lg := W11_args m ρ c main_arg8 (by decide)
  unfold forget
  rw [e]
  exact congrArg (forgetAt _ _) (proj_prompt m ρ c 7312 (by decide) _ _ i (held m ρ c main_v15 (by decide)).1.2.2.2.1 (held m ρ c main_v8 (by decide)).1.2.2.2.1)

theorem out_lf : (W20 m ρ c (Proc.devRef .tc main_v53_0) : Arr S8192x2048) = (argsK m c).lf := by
  refine (((((last m ρ c main_v53_0 (by decide) (by decide) (by decide) (by decide)).trans (W16_of m ρ c main_v53_0 (by decide))).trans (W15_of m ρ c main_v53_0 (by decide))).trans (W14_of m ρ c main_v53_0 (by decide))).trans (W13_of m ρ c main_v53_0 (by decide))).trans ((W12_arr m ρ c 3).trans (funext fun i => (final6_3 (V11 m ρ) c i).trans ?_))
  exact congrArg (fun x => Ideal.log x * log2e) (gate_prompt m ρ c i)

theorem out_kk : (W20 m ρ c (Proc.devRef .tc main_v53_1) : Arr S8192x2048) = (argsK m c).kk := by
  refine (((((last m ρ c main_v53_1 (by decide) (by decide) (by decide) (by decide)).trans (W16_of m ρ c main_v53_1 (by decide))).trans (W15_of m ρ c main_v53_1 (by decide))).trans (W14_of m ρ c main_v53_1 (by decide))).trans (W13_of m ρ c main_v53_1 (by decide))).trans ((W12_arr m ρ c 4).trans (funext fun i => (final6_4 (V11 m ρ) c i).trans ?_))
  exact congrArg (fun x => 1 - x) (gate_prompt m ρ c i)

theorem out_hi : (W20 m ρ c (Proc.devRef .tc main_v54) : Arr S8192x2048) = (argsK m c).part 9360 := by
  refine ((((last m ρ c main_v54 (by decide) (by decide) (by decide) (by decide)).trans (W16_of m ρ c main_v54 (by decide))).trans (W15_of m ρ c main_v54 (by decide))).trans (W14_of m ρ c main_v54 (by decide))).trans ((W13_arr m ρ c 2).trans (funext fun i => (final7 (V12 m ρ) c i).trans ?_))
  exact proj_prompt m ρ c 9360 (by decide) _ _ i (held m ρ c main_v15 (by decide)).1.2.2.2.2.1 (held m ρ c main_v8 (by decide)).1.2.2.2.2.1

theorem out_hg : (W20 m ρ c (Proc.devRef .tc main_v55) : Arr S8192x2048) = (argsK m c).part 11408 := by
  refine (((last m ρ c main_v55 (by decide) (by decide) (by decide) (by decide)).trans (W16_of m ρ c main_v55 (by decide))).trans (W15_of m ρ c main_v55 (by decide))).trans ((W14_arr m ρ c 2).trans (funext fun i => (final8 (V13 m ρ) c i).trans ?_))
  exact proj_prompt m ρ c 11408 (by decide) _ _ i (held m ρ c main_v15 (by decide)).1.2.2.2.2.2 (held m ρ c main_v8 (by decide)).1.2.2.2.2.2

theorem out_ga : (W20 m ρ c (Proc.devRef .tc main_v56) : Arr S8192x2048) = (argsK m c).part 13456 := by
  refine ((last m ρ c main_v56 (by decide) (by decide) (by decide) (by decide)).trans (W16_of m ρ c main_v56 (by decide))).trans ((W15_arr m ρ c 2).trans (funext fun i => (final9 (V14 m ρ) c i).trans ?_))
  exact proj_prompt m ρ c 13456 (by decide) _ _ i (held m ρ c main_v15 (by decide)).2.1 (held m ρ c main_v8 (by decide)).2.1

theorem out_gb : (W20 m ρ c (Proc.devRef .tc main_v57) : Arr S8192x2048) = (argsK m c).part 15504 := by
  refine (last m ρ c main_v57 (by decide) (by decide) (by decide) (by decide)).trans ((W16_arr m ρ c 2).trans (funext fun i => (final10 (V15 m ρ) c i).trans ?_))
  exact proj_prompt m ρ c 15504 (by decide) _ _ i (held m ρ c main_v15 (by decide)).2.2.1 (held m ρ c main_v8 (by decide)).2.2.1

theorem held_mods (p : Fin 16) (a : Fin 6) (k : Fin 2048) : (W16 m ρ c (Proc.devRef .tc main_v6) : Arr S24x6x2048) (ix3 ⟨1 + p, by omega⟩ a k)
    = modArg (argsK m c).cs (argsK m c).wa (argsK m c).ba p ⟨(a : ℕ) * 2048 + k, by omega⟩ :=
  (congrFun (((held m ρ c main_v6 (by decide)).2.2.2.trans (W7_of m ρ c main_v6 (by decide))).trans (W6_of m ρ c main_v6 (by decide))) _).trans
    ((mods_row (W4 m ρ c) _ a k).trans (mod_sample m ρ c p _))

theorem hid_sample (r : Fin 512) (k : Fin 2048) : (V19 m ρ c main_v64 : Arr S512x2048) (ix2 r k)
    = hid (argsK m c).xs (argsK m c).cs (argsK m c).wa (argsK m c).ba (argsK m c).g ⟨(r : ℕ) / 32, by omega⟩ ⟨(r : ℕ) % 32, by omega⟩ k := by
  refine (hs_at (W18 m ρ c) r k).trans ((congrFun (W18_arr m ρ c 4) _).trans ((final11 (V17 m ρ) c _).trans ?_))
  have e0 : V17 m ρ c main_arg1 = (argsK m c).xs := W17_args m ρ c main_arg1 (by decide)
  have e1 : (V17 m ρ c main_v62 : Arr S1x1x2048) (ix3 0 0 k) = (argsK m c).g (ix2 0 k) := (norms_at (W16 m ρ c) k).trans (congrFun (W16_args m ρ c main_arg6 (by decide)) _)
  have e2 := (scales_at (W16 m ρ c) ⟨(r : ℕ) / 32, by omega⟩ k).trans (held_mods m ρ c _ 1 k)
  have e3 := (shifts_at (W16 m ρ c) ⟨(r : ℕ) / 32, by omega⟩ k).trans (held_mods m ρ c _ 0 k)
  unfold hid
  rw [e0]
  refine (congrArg (fun g => normAt _ g _ _ k) e1).trans ((congrArg (fun s => normAt _ _ s _ k) e2).trans ((congrArg (fun s => normAt _ _ _ s k) e3).trans ?_))
  exact congrArg₂ (fun a b => normAt _ _ (modArg _ _ _ _ a) (modArg _ _ _ _ b) k) (Fin.ext (by show 1 * 2048 + (k : ℕ) = 2048 + k; omega))
    (Fin.ext (by show 0 * 2048 + (k : ℕ) = k; omega))

theorem turned_sample : V19 m ρ c main_v8 = V7 m ρ c main_v8 :=
  (W19_of m ρ c main_v8 (by decide)).trans ((W18_of m ρ c main_v8 (by decide)).trans ((W17_of m ρ c main_v8 (by decide)).trans (held m ρ c main_v8 (by decide)).2.2.2))

theorem row_sample (r : Fin 512) (j : Fin 17552) : rowDot (M := 512) (K := 2048) (N := 17552) (V19 m ρ c main_v64) (V7 m ρ c main_v8) r j
    = zed (argsK m c).xs (argsK m c).cs (argsK m c).wa (argsK m c).ba (argsK m c).g (argsK m c).wi ⟨(r : ℕ) / 32, by omega⟩ ⟨(r : ℕ) % 32, by omega⟩ j :=
  Finset.sum_congr rfl fun k _ => congrArg₂ (· * ·) (hid_sample m ρ c r k) (turned m ρ c j k)

theorem rope_sample (r : Fin 512) (j : ℕ) : ropeAt (M := 512) 128 (V19 m ρ c main_v64) (V19 m ρ c main_v8) 5120 (V19 m ρ c main_v91) (V19 m ρ c main_v94) (V19 m ρ c main_v97) r j
    = rot (fun k => (argsK m c).zs r (5120 + k)) (IntOp.addi 2048#32 (BitVec.ofNat 32 ((r : ℕ) % 32))) j := by
  rw [turned_sample]
  refine (ropeAt_eq _ _ 5120 _ _ _ r j _ (by decide) (by decide) (cosTabs_at (W18 m ρ c) r) (negTabs_at (W18 m ρ c) r) (sinTabs_at (W18 m ρ c) r)).trans ?_
  exact congrArg (fun z => rot z _ j) (funext fun k => row_sample m ρ c r _)

theorem out_kis : (W20 m ρ c (Proc.devRef .tc main_v98_0) : Arr S512x128) = (argsK m c).kis :=
  (W20_arr m ρ c 5).trans (funext fun i => (final12_5 (V19 m ρ) c i).trans (rope_sample m ρ c (i 0) (i 1)))

theorem out_kis_narrow : (W20 m ρ c (Proc.devRef .tc main_v98_1) : Arr S512x128) = (argsK m c).kis :=
  (W20_arr m ρ c 6).trans (funext fun i => (final12_6 (V19 m ρ) c i).trans (rope_sample m ρ c (i 0) (i 1)))

end Cert.KernelIdeal.Layer

end
-- ==== Proof.Run.lean ====
/- The idealized kernel's run: every buffer ends at what the last call's boundary holds. -/
module

public import proofs.«01_k».proof.Proof.Gen.KernelIdeal.Frame
public import Idealize.ShloMosaic.PureOps.Ideal

@[expose] public section

set_option maxRecDepth 16384
set_option maxHeartbeats 2000000

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- What a launch's propositions speak of. -/
abbrev Mod := MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters, every weakly fair run of the kernel terminates with every buffer at the last boundary's contents. -/
theorem ends : θ_run defs (onTc (τ := τ) (main (F := Ideal))) ⟨m, fun _ => 0, ρ⟩
    (fun r => ∀ (c : Dev nD), ∀ b ∈ Pipeline.ucRefs τ sig, r.2.mem (((c : Thread nD τ)).1, b) = W20 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mod)
            ⊢ BI.own (emb₁ (initOf (Pipeline.cells cfgs cellOf_inj) (Pipeline.launchToks cfgs cellOf_inj))) from .rfl)
        iexact Hu
      iapply (show (BI.emp : sProp Mod) ⊢ bigSep Finset.univ (fun _ : Dev nD => (BI.emp : sProp Mod)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun _ h _ => h)

end Cert.KernelIdeal.Layer

end
-- ==== Proof.Ref.lean ====
/- The reference's results at an element. -/
module

public import proofs.«01_k».proof.Proof.Gen.ReferenceIdeal.Run
public import proofs.«01_k».proof.Proof.Spec
public import Idealize.ShloMosaic.Lib.StableHlo.ReadAt

@[expose] public section

set_option maxRecDepth 16384
set_option maxHeartbeats 2000000

noncomputable section

namespace Cert.ReferenceIdeal.Layer

open Idealize.ShloMosaic Idealize.ShloMosaic.TcCoe
open Cert.ReferenceIdeal Cert.ReferenceIdeal.Gen Cert.ReferenceIdeal.Value Cert.Layer
open scoped BigOperators

/-- The window's shape: two rows of one column. -/
abbrev Win : Shape := ⟨2, ![2, 1]⟩

theorem win_list : List.finRange Win.numel = [⟨0, by decide⟩, ⟨1, by decide⟩] := by decide

theorem win_at : (∀ a, (Win.rowMajor.symm ⟨0, by decide⟩ a : ℕ) = 0) ∧ (Win.rowMajor.symm ⟨1, by decide⟩ 0 : ℕ) = 1 ∧ (Win.rowMajor.symm ⟨1, by decide⟩ 1 : ℕ) = 0 := by
  decide +kernel

/-- The first row of a running sum down the rows is the array's first row. -/
theorem first_row (x : Arr S2x2048) (e : Arr S_) (he : ∀ i, e i = 0) (h : S2x2048.ReduceWindows ![2, 1] ![1, 1] ![1, 0] ![0, 0] S2x2048) (hu : 0 < S_.numel) (j : Fin 2048) :
    Host.reduceWindowAdd (F := Ideal) (φ := .f32) ![2, 1] ![1, 1] ![1, 0] ![0, 0] x e h hu (ix2 0 j) = x (ix2 0 j) := by
  unfold Host.reduceWindowAdd
  rw [he, Ideal.hostReduceWindowAdd_def]
  unfold Ideal.hostReduceWindowAdd Host.reduceWindow
  dsimp only
  have hl := win_list
  obtain ⟨w0, w1, w2⟩ := win_at
  erw [hl]
  simp only [List.foldl_cons, List.foldl_nil]
  rw [dif_neg, dif_pos]
  · rw [add_zero, zero_add]
    refine congrArg x (eq_ix2 (M := 2) (K := 2048) _ _ _ ?_ ?_)
    · show 0 * 1 + (Win.rowMajor.symm ⟨1, _⟩ 0 : ℕ) - 1 = 0
      rw [w1]
    · show (j : ℕ) * 1 + (Win.rowMajor.symm ⟨1, _⟩ 1 : ℕ) - 0 = j
      rw [w2]; omega
  · intro a
    match a with
    | ⟨0, _⟩ =>
      show 1 ≤ 0 * 1 + (Win.rowMajor.symm ⟨1, _⟩ 0 : ℕ) ∧ 0 * 1 + (Win.rowMajor.symm ⟨1, _⟩ 0 : ℕ) - 1 < 2
      rw [w1]; decide
    | ⟨1, _⟩ =>
      show 0 ≤ (j : ℕ) * 1 + (Win.rowMajor.symm ⟨1, _⟩ 1 : ℕ) ∧ (j : ℕ) * 1 + (Win.rowMajor.symm ⟨1, _⟩ 1 : ℕ) - 0 < 2048
      rw [w2]; omega
  · intro hh
    have h1 : 1 ≤ 0 * 1 + (Win.rowMajor.symm ⟨0, _⟩ 0 : ℕ) := (hh 0).1
    rw [w0] at h1
    omega

/-- The largest of two logits, as a fold over the rows. -/
theorem top_eq (l : Arr S2x2048) (h : S2x2048.ReducesTo [0] S2048) (j : S2048.Idx) (b : EReal) :
  max b (Finset.fold max b l (Finset.univ.filter fun i => h.drop i = j)) = Finset.fold max b (fun x : Fin 2 => ![l (ix2 0 (j 0)), l (ix2 1 (j 0))] x) Finset.univ := by
  rw [max_eq_right (Finset.le_fold_max b |>.mpr (.inl le_rfl))]
  refine (Shape.ReducesTo.fold_fiber_r2_a0 (n0 := 2) (n1 := 2048) h j max b l).trans ?_
  exact congrArg (fun f => Finset.fold max b f Finset.univ) (funext fun x : Fin 2 => by fin_cases x <;> rfl)

variable (W : Valuation τ sig (Elt Ideal))

/-- The arguments as the reference holds them at launch. -/
def argsR : Args where
  xp := W (Proc.devRef .tc main_arg0)
  xs := W (Proc.devRef .tc main_arg1)
  cp := W (Proc.devRef .tc main_arg2)
  cs := W (Proc.devRef .tc main_arg3)
  wa := W (Proc.devRef .tc main_arg4)
  ba := W (Proc.devRef .tc main_arg5)
  g := W (Proc.devRef .tc main_arg6)
  wi := W (Proc.devRef .tc main_arg7)
  lg := W (Proc.devRef .tc main_arg8)

theorem mod_at (i : S1x6x1x2048.Idx) : res_main_v6 W i = modArg (argsR W).cp (argsR W).wa (argsR W).ba 0 ⟨(i 1 : ℕ) * 2048 + (i 3 : ℕ),
    by have h1 : (i 1 : ℕ) < 6 := (i 1).isLt; have h3 : (i 3 : ℕ) < 2048 := (i 3).isLt; omega⟩ := by
  idx_vars i
  unfold res_main_v6
  pointwise
  rfl

theorem mods_at (i : S16x6x1x2048.Idx) : res_main_v181 W i = modArg (argsR W).cs (argsR W).wa (argsR W).ba (i 0) ⟨(i 1 : ℕ) * 2048 + (i 3 : ℕ),
    by have h1 : (i 1 : ℕ) < 6 := (i 1).isLt; have h3 : (i 3 : ℕ) < 2048 := (i 3).isLt; omega⟩ := by
  idx_vars i
  unfold res_main_v181
  pointwise
  rfl

theorem z_at (r : Fin 8192) (j : Fin 17552) (n : ℕ) (h : (j : ℕ) = n) : res_main_v32 W (ix3 0 r j) = (argsR W).zp r n := by
  rw [← (argsR W).zp_eq r j n h]
  unfold res_main_v32
  pointwise
  unfold zed hid
  refine Finset.sum_congr (M := EReal) rfl fun k _ => congrArg₂ (· * ·) ?_ rfl
  rw [mod_at, mod_at]
  unfold normAt
  refine congrArg₂ (· + ·) (congrArg₂ (· * ·) rfl (congrArg (1 + ·) ?_)) ?_
  · exact congrArg _ (Fin.ext (by show 1 * 2048 + (k : ℕ) = 2048 + k; omega))
  · exact congrArg _ (Fin.ext (by show 0 * 2048 + (k : ℕ) = k; omega))

theorem zs_at (r : Fin 512) (p : Fin 16) (t : Fin 32) (l : Fin 128) (n : ℕ) (hp : (p : ℕ) = r / 32) (ht : (t : ℕ) = r % 32) (h : 5120 + (l : ℕ) = n) :
    res_main_v212 W (ix4 p t 0 l) = (argsR W).zs r n := by
  rw [← (argsR W).zs_eq r p t ⟨5120 + l, by omega⟩ n hp ht h]
  unfold res_main_v212
  pointwise
  unfold zed hid
  refine Finset.sum_congr (M := EReal) rfl fun k _ => congrArg₂ (· * ·) ?_ ?_
  · rw [mods_at, mods_at]
    unfold normAt
    refine congrArg₂ (· + ·) (congrArg₂ (· * ·) rfl (congrArg (1 + ·) ?_)) ?_
    · exact congrArg _ (Fin.ext (by show 1 * 2048 + (k : ℕ) = 2048 + k; omega))
    · exact congrArg _ (Fin.ext (by show 0 * 2048 + (k : ℕ) = k; omega))
  · rfl

theorem bound_at (j : Fin 2048) : res_main_v158 W (ix1 j) = bound ((argsR W).lg (ix2 0 j)) ((argsR W).lg (ix2 1 j)) := by
  have he : ∀ (a : Fin 2), res_main_v151 W (ix2 a j) = Ideal.exp ((argsR W).lg (ix2 a j)
      - Finset.fold max (Ideal.ofBits .f32 0xFF800000#32) (fun x : Fin 2 => ![(argsR W).lg (ix2 0 j), (argsR W).lg (ix2 1 j)] x) Finset.univ) := fun a => by
    unfold res_main_v151
    pointwise
    exact congrArg (fun x => Ideal.exp (_ - x)) (top_eq ((argsR W).lg) _ (ix1 j) _)
  unfold res_main_v158
  pointwise
  rw [first_row _ _ (fun i => by pointwise)]
  pointwise
  rw [Fin.sum_univ_two, he, he]
  rfl

theorem gate_at (r : Fin 8192) (j : Fin 2048) : res_main_v173 W (ix3 0 r j) = (argsR W).gate (ix2 r j) := by
  unfold res_main_v173
  pointwise
  rw [bound_at, z_at W r _ (7312 + j) rfl]
  unfold Args.gate forgetAt
  rw [zero_sub]
  rfl

theorem head_at (r : Fin 8192) (a : Fin 16) (l : Fin 128) (n : ℕ) (h : (a : ℕ) * 128 + l = n) : res_main_v35 W (ix4 0 r a l) = (argsR W).zp r (0 + n) := by
  unfold res_main_v35
  pointwise
  exact z_at W r _ _ (by dsimp only; omega)

theorem cos_at (r : Fin 8192) (a : ℕ) (l : Fin 16) (h : (l : ℕ) = a) : res_main_v49 W (ix3 r 0 l) = Ideal.cos (angle (BitVec.ofNat 32 r) a) := by
  subst h
  unfold res_main_v49 res_main_v47 res_main_v33
  pointwise
  rfl

theorem sin_at (r : Fin 8192) (a : ℕ) (l : Fin 16) (h : (l : ℕ) = a) : res_main_v51 W (ix3 r 0 l) = Ideal.sin (angle (BitVec.ofNat 32 r) a) := by
  subst h
  unfold res_main_v51 res_main_v47 res_main_v33
  pointwise
  rfl

theorem ki_head (r : Fin 8192) (l : Fin 128) (n : ℕ) (h : (l : ℕ) = n) : res_main_v111 W (ix4 0 r 0 l) = (argsR W).zp r (5120 + n) := by
  unfold res_main_v111
  pointwise
  exact z_at W r _ _ (by dsimp only; omega)

theorem cos_s (r : Fin 32) (a : ℕ) (l : Fin 16) (h : (l : ℕ) = a) : res_main_v226 W (ix3 r 0 l) = Ideal.cos (angle (IntOp.addi 2048#32 (BitVec.ofNat 32 r)) a) := by
  subst h
  unfold res_main_v226 res_main_v224
  pointwise
  rfl

theorem sin_s (r : Fin 32) (a : ℕ) (l : Fin 16) (h : (l : ℕ) = a) : res_main_v228 W (ix3 r 0 l) = Ideal.sin (angle (IntOp.addi 2048#32 (BitVec.ofNat 32 r)) a) := by
  subst h
  unfold res_main_v228 res_main_v224
  pointwise
  rfl

/-- The index queries' products at a column of a head. -/
theorem qi_head (r : Fin 8192) (a : Fin 16) (l : Fin 128) (n : ℕ) (h : (a : ℕ) * 128 + l = n) : res_main_v73 W (ix4 0 r a l) = (argsR W).zp r (3072 + n) := by
  unfold res_main_v73
  pointwise
  exact z_at W r _ _ (by dsimp only; omega)

theorem ref_q : (val6 W (Proc.devRef .tc main_v254) : Arr S8192x2048) = (argsR W).q := by
  rw [val6_main_v254]
  funext i
  idx_vars i
  unfold res_main_v53 res_main_v54 res_main_v52
  pointwise
  refine congrArg (· * qScale) ?_
  show _ = rot (fun k => (argsR W).zp i0 (0 + k)) (BitVec.ofNat 32 i0) i1
  by_cases h1 : (i1 : ℕ) % 128 < 32
  · rw [dif_pos h1]
    by_cases h2 : (i1 : ℕ) % 128 < 16
    · rw [dif_pos h2]
      exact rot_lo h2 (head_at W _ _ _ _ (by dsimp only; omega)) (cos_at W _ _ _ rfl) (head_at W _ _ _ _ (by dsimp only; omega)) (sin_at W _ _ _ rfl)
    · rw [dif_neg h2]
      exact rot_mid h2 h1 (head_at W _ _ _ _ (by dsimp only; omega)) (cos_at W _ _ _ rfl) (head_at W _ _ _ _ (by dsimp only; omega)) (sin_at W _ _ _ rfl)
  · rw [dif_neg h1]
    exact rot_hi h1 (head_at W _ _ _ _ (by dsimp only; omega))

theorem ref_qi : (val6 W (Proc.devRef .tc main_v256) : Arr S8192x2048) = (argsR W).qi := by
  rw [val6_main_v256, show res_main_v87 W = res_main_v49 W from rfl, show res_main_v89 W = res_main_v51 W from rfl]
  funext i
  idx_vars i
  unfold res_main_v91 res_main_v92 res_main_v90
  pointwise
  show _ = rot (fun k => (argsR W).zp i0 (3072 + k)) (BitVec.ofNat 32 i0) i1
  by_cases h1 : (i1 : ℕ) % 128 < 32
  · rw [dif_pos h1]
    by_cases h2 : (i1 : ℕ) % 128 < 16
    · rw [dif_pos h2]
      exact rot_lo h2 (qi_head W _ _ _ _ (by dsimp only; omega)) (cos_at W _ _ _ rfl) (qi_head W _ _ _ _ (by dsimp only; omega)) (sin_at W _ _ _ rfl)
    · rw [dif_neg h2]
      exact rot_mid h2 h1 (qi_head W _ _ _ _ (by dsimp only; omega)) (cos_at W _ _ _ rfl) (qi_head W _ _ _ _ (by dsimp only; omega)) (sin_at W _ _ _ rfl)
  · rw [dif_neg h1]
    exact rot_hi h1 (qi_head W _ _ _ _ (by dsimp only; omega))

theorem ref_ki : (val6 W (Proc.devRef .tc main_v144) : Arr S8192x128) = (argsR W).ki := by
  rw [val6_main_v144, show res_main_v125 W = res_main_v49 W from rfl, show res_main_v127 W = res_main_v51 W from rfl]
  funext i
  idx_vars i
  have e : (i1 : ℕ) % 128 = i1 := Nat.mod_eq_of_lt i1.isLt
  unfold res_main_v129 res_main_v130 res_main_v128
  pointwise
  show _ = rot (fun k => (argsR W).zp i0 (5120 + k)) (BitVec.ofNat 32 i0) i1
  by_cases h1 : (i1 : ℕ) < 32
  · rw [dif_pos h1]
    by_cases h2 : (i1 : ℕ) < 16
    · rw [dif_pos h2]
      exact rot_lo (by omega) (ki_head W _ _ _ (by dsimp only <;> omega)) (cos_at W _ _ _ e.symm) (ki_head W _ _ _ (by dsimp only <;> omega)) (sin_at W _ _ _ e.symm)
    · rw [dif_neg h2]
      exact rot_mid (by omega) (by omega) (ki_head W _ _ _ (by dsimp only <;> omega)) (cos_at W _ _ _ (by dsimp only <;> omega)) (ki_head W _ _ _ (by dsimp only <;> omega))
        (sin_at W _ _ _ (by dsimp only <;> omega))
  · rw [dif_neg h1]
    exact rot_hi (by omega) (ki_head W _ _ _ (by dsimp only <;> omega))

theorem ref_kis : (val6 W (Proc.devRef .tc main_v249) : Arr S512x128) = (argsR W).kis := by
  rw [val6_main_v249]
  funext i
  idx_vars i
  have e : (i1 : ℕ) % 128 = i1 := Nat.mod_eq_of_lt i1.isLt
  unfold res_main_v230 res_main_v231 res_main_v229
  pointwise
  show _ = rot (fun k => (argsR W).zs i0 (5120 + k)) (IntOp.addi 2048#32 (BitVec.ofNat 32 ((i0 : ℕ) % 32))) i1
  by_cases h1 : (i1 : ℕ) < 32
  · rw [dif_pos h1]
    by_cases h2 : (i1 : ℕ) < 16
    · rw [dif_pos h2]
      exact rot_lo (by omega) (zs_at W _ _ _ _ _ rfl rfl (by dsimp only <;> omega)) (cos_s W _ _ _ e.symm) (zs_at W _ _ _ _ _ rfl rfl (by dsimp only <;> omega)) (sin_s W _ _ _ e.symm)
    · rw [dif_neg h2]
      exact rot_mid (by omega) (by omega) (zs_at W _ _ _ _ _ rfl rfl (by dsimp only <;> omega)) (cos_s W _ _ _ (by dsimp only <;> omega))
        (zs_at W _ _ _ _ _ rfl rfl (by dsimp only <;> omega)) (sin_s W _ _ _ (by dsimp only <;> omega))
  · rw [dif_neg h1]
    exact rot_hi (by omega) (zs_at W _ _ _ _ _ rfl rfl (by dsimp only; omega))

/-- The narrowed copies hold the same values. -/
theorem ref_ki_narrow : (val6 W (Proc.devRef .tc main_v257) : Arr S8192x128) = (argsR W).ki := by
  rw [← ref_ki, val6_main_v257, val6_main_v144]
  rfl

theorem ref_kis_narrow : (val6 W (Proc.devRef .tc main_v280) : Arr S512x128) = (argsR W).kis := by
  rw [← ref_kis, val6_main_v280, val6_main_v249]
  rfl

theorem ref_lf : (val6 W (Proc.devRef .tc main_v264) : Arr S8192x2048) = (argsR W).lf := by
  rw [val6_main_v264]
  funext i
  idx_vars i
  pointwise
  exact congrArg (fun x => Ideal.log x * log2e) (gate_at W i0 i1)

theorem ref_kk : (val6 W (Proc.devRef .tc main_v267) : Arr S8192x2048) = (argsR W).kk := by
  rw [val6_main_v267]
  funext i
  idx_vars i
  pointwise
  exact congrArg (fun x => 1 - x) (gate_at W i0 i1)

theorem ref_hq : (val6 W (Proc.devRef .tc main_v260) : Arr S8192x2048) = (argsR W).part 5264 := by
  rw [val6_main_v260]
  funext i
  idx_vars i
  pointwise
  exact z_at W i0 _ _ rfl

theorem ref_hi : (val6 W (Proc.devRef .tc main_v270) : Arr S8192x2048) = (argsR W).part 9360 := by
  rw [val6_main_v270]
  funext i
  idx_vars i
  pointwise
  exact z_at W i0 _ _ rfl

theorem ref_hg : (val6 W (Proc.devRef .tc main_v273) : Arr S8192x2048) = (argsR W).part 11408 := by
  rw [val6_main_v273]
  funext i
  idx_vars i
  pointwise
  exact z_at W i0 _ _ rfl

theorem ref_ga : (val6 W (Proc.devRef .tc main_v276) : Arr S8192x2048) = (argsR W).part 13456 := by
  rw [val6_main_v276]
  funext i
  idx_vars i
  pointwise
  exact z_at W i0 _ _ rfl

theorem ref_gb : (val6 W (Proc.devRef .tc main_v279) : Arr S8192x2048) = (argsR W).part 15504 := by
  rw [val6_main_v279]
  funext i
  idx_vars i
  pointwise
  exact z_at W i0 _ _ rfl

end Cert.ReferenceIdeal.Layer

end
-- ==== Proof.Value.lean ====
/- The idealized kernel and the reference end with the same results: the layer's mathematics at every element. -/
module

public import proofs.«01_k».proof.Defs
public import proofs.«01_k».proof.Proof.Chain
public import proofs.«01_k».proof.Proof.Run
public import proofs.«01_k».proof.Proof.Ref

@[expose] public section

set_option maxRecDepth 16384
set_option maxHeartbeats 2000000

noncomputable section

namespace Cert.Layer

open Idealize.ShloMosaic Idealize.SL.Sem
open Cert.KernelIdeal.Layer (argsK ends)
open Cert.ReferenceIdeal.Layer (argsR)
open Cert.KernelIdeal.Gen (mem_uc)
open Idealize.ShloMosaic.StableHlo (launchContents)

/-- From the same arguments the two programs end with the same thirteen results, their arguments unchanged. -/
theorem values : Cert.algebraic_KernelIdeal_ReferenceIdeal (hKernelIdeal := Cert.KernelIdeal.Gen.facts) (hReferenceIdeal := Cert.ReferenceIdeal.Gen.facts) := by
  intro m g m' g' _ agree
  have same : ∀ c, argsR (launchContents m' c) = argsK m c := fun c => by
    obtain ⟨a0, a1, a2, a3, a4, a5, a6, a7, a8⟩ := agree c
    unfold argsR argsK
    congr 1
  refine ⟨fun c => (argsK m c).q, fun c => (argsK m c).qi, fun c => (argsK m c).ki, fun c => (argsK m c).ki, fun c => (argsK m c).part 5264, fun c => (argsK m c).lf, fun c => (argsK m c).kk, fun c => (argsK m c).part 9360, fun c => (argsK m c).part 11408, fun c => (argsK m c).part 13456, fun c => (argsK m c).part 15504, fun c => (argsK m c).kis, fun c => (argsK m c).kis, (θ_run _ _ _).mono (fun r h c => ?_) (ends m g), (θ_run _ _ _).mono (fun r h c => ?_) (Cert.ReferenceIdeal.Value.run m' g')⟩
  · exact ⟨(h c _ (mem_uc Cert.KernelIdeal.main_v49 (by decide))).trans (Cert.KernelIdeal.Layer.out_q m g c),
      (h c _ (mem_uc Cert.KernelIdeal.main_v50 (by decide))).trans (Cert.KernelIdeal.Layer.out_qi m g c),
      (h c _ (mem_uc Cert.KernelIdeal.main_v51_0 (by decide))).trans (Cert.KernelIdeal.Layer.out_ki m g c),
      (h c _ (mem_uc Cert.KernelIdeal.main_v51_1 (by decide))).trans (Cert.KernelIdeal.Layer.out_ki_narrow m g c),
      (h c _ (mem_uc Cert.KernelIdeal.main_v52 (by decide))).trans (Cert.KernelIdeal.Layer.out_hq m g c),
      (h c _ (mem_uc Cert.KernelIdeal.main_v53_0 (by decide))).trans (Cert.KernelIdeal.Layer.out_lf m g c),
      (h c _ (mem_uc Cert.KernelIdeal.main_v53_1 (by decide))).trans (Cert.KernelIdeal.Layer.out_kk m g c),
      (h c _ (mem_uc Cert.KernelIdeal.main_v54 (by decide))).trans (Cert.KernelIdeal.Layer.out_hi m g c),
      (h c _ (mem_uc Cert.KernelIdeal.main_v55 (by decide))).trans (Cert.KernelIdeal.Layer.out_hg m g c),
      (h c _ (mem_uc Cert.KernelIdeal.main_v56 (by decide))).trans (Cert.KernelIdeal.Layer.out_ga m g c),
      (h c _ (mem_uc Cert.KernelIdeal.main_v57 (by decide))).trans (Cert.KernelIdeal.Layer.out_gb m g c),
      (h c _ (mem_uc Cert.KernelIdeal.main_v98_0 (by decide))).trans (Cert.KernelIdeal.Layer.out_kis m g c),
      (h c _ (mem_uc Cert.KernelIdeal.main_v98_1 (by decide))).trans (Cert.KernelIdeal.Layer.out_kis_narrow m g c),
      (h c _ (mem_uc Cert.KernelIdeal.main_arg0 (by decide))).trans (Cert.KernelIdeal.Gen.W20_main_arg0 m g c),
      (h c _ (mem_uc Cert.KernelIdeal.main_arg1 (by decide))).trans (Cert.KernelIdeal.Gen.W20_main_arg1 m g c),
      (h c _ (mem_uc Cert.KernelIdeal.main_arg2 (by decide))).trans (Cert.KernelIdeal.Gen.W20_main_arg2 m g c),
      (h c _ (mem_uc Cert.KernelIdeal.main_arg3 (by decide))).trans (Cert.KernelIdeal.Gen.W20_main_arg3 m g c),
      (h c _ (mem_uc Cert.KernelIdeal.main_arg4 (by decide))).trans (Cert.KernelIdeal.Gen.W20_main_arg4 m g c),
      (h c _ (mem_uc Cert.KernelIdeal.main_arg5 (by decide))).trans (Cert.KernelIdeal.Gen.W20_main_arg5 m g c),
      (h c _ (mem_uc Cert.KernelIdeal.main_arg6 (by decide))).trans (Cert.KernelIdeal.Gen.W20_main_arg6 m g c),
      (h c _ (mem_uc Cert.KernelIdeal.main_arg7 (by decide))).trans (Cert.KernelIdeal.Gen.W20_main_arg7 m g c),
      (h c _ (mem_uc Cert.KernelIdeal.main_arg8 (by decide))).trans (Cert.KernelIdeal.Gen.W20_main_arg8 m g c)⟩
  · obtain ⟨h0, h1, h2, h3, h4, h5, h6, h7, h8, h9, h10, h11, h12, rest⟩ := h c
    have e := same c
    exact ⟨h0.trans ((Cert.ReferenceIdeal.Value.val6_main_v254 _).symm.trans ((Cert.ReferenceIdeal.Layer.ref_q _).trans (congrArg Args.q e))),
      h1.trans ((Cert.ReferenceIdeal.Value.val6_main_v256 _).symm.trans ((Cert.ReferenceIdeal.Layer.ref_qi _).trans (congrArg Args.qi e))),
      h2.trans ((Cert.ReferenceIdeal.Value.val6_main_v144 _).symm.trans ((Cert.ReferenceIdeal.Layer.ref_ki _).trans (congrArg Args.ki e))),
      h3.trans ((Cert.ReferenceIdeal.Value.val6_main_v257 _).symm.trans ((Cert.ReferenceIdeal.Layer.ref_ki_narrow _).trans (congrArg Args.ki e))),
      h4.trans ((Cert.ReferenceIdeal.Value.val6_main_v260 _).symm.trans ((Cert.ReferenceIdeal.Layer.ref_hq _).trans (congrArg (Args.part · 5264) e))),
      h5.trans ((Cert.ReferenceIdeal.Value.val6_main_v264 _).symm.trans ((Cert.ReferenceIdeal.Layer.ref_lf _).trans (congrArg Args.lf e))),
      h6.trans ((Cert.ReferenceIdeal.Value.val6_main_v267 _).symm.trans ((Cert.ReferenceIdeal.Layer.ref_kk _).trans (congrArg Args.kk e))),
      h7.trans ((Cert.ReferenceIdeal.Value.val6_main_v270 _).symm.trans ((Cert.ReferenceIdeal.Layer.ref_hi _).trans (congrArg (Args.part · 9360) e))),
      h8.trans ((Cert.ReferenceIdeal.Value.val6_main_v273 _).symm.trans ((Cert.ReferenceIdeal.Layer.ref_hg _).trans (congrArg (Args.part · 11408) e))),
      h9.trans ((Cert.ReferenceIdeal.Value.val6_main_v276 _).symm.trans ((Cert.ReferenceIdeal.Layer.ref_ga _).trans (congrArg (Args.part · 13456) e))),
      h10.trans ((Cert.ReferenceIdeal.Value.val6_main_v279 _).symm.trans ((Cert.ReferenceIdeal.Layer.ref_gb _).trans (congrArg (Args.part · 15504) e))),
      h11.trans ((Cert.ReferenceIdeal.Value.val6_main_v249 _).symm.trans ((Cert.ReferenceIdeal.Layer.ref_kis _).trans (congrArg Args.kis e))),
      h12.trans ((Cert.ReferenceIdeal.Value.val6_main_v280 _).symm.trans ((Cert.ReferenceIdeal.Layer.ref_kis_narrow _).trans (congrArg Args.kis e))),
      rest⟩

end Cert.Layer

end
-- ==== Proof.FeedForward.lean ====
/- The feed-forward part's mathematics at an element, and a sum over its hidden units taken chunk by chunk. -/
module

public import proofs.«01_k».proof.Proof.Value

@[expose] public section

noncomputable section

namespace Cert.Layer

open Idealize.ShloMosaic
open scoped BigOperators

/-- The square of the positive part. -/
def squared (x : EReal) : EReal := max x 0 * max x 0

/-- One hidden unit of the feed-forward part, from a row. -/
def unitAt (h : Fin 2048 → EReal) (up : Arr ⟨3, ![1, 2048, 8192]⟩) (f : Fin 8192) : EReal := squared (∑ k : Fin 2048, h k * up (ix3 0 k f))

/-- One column of the feed-forward part, from a row: the units times the second weight. -/
def feedAt (h : Fin 2048 → EReal) (up : Arr ⟨3, ![1, 2048, 8192]⟩) (down : Arr ⟨3, ![1, 8192, 2048]⟩) (j : Fin 2048) : EReal :=
  ∑ f : Fin 8192, unitAt h up f * down (ix3 0 f j)

/-- The share of the 1024 units of chunk `s` in a column. -/
def chunkAt (h : Fin 2048 → EReal) (up : Arr ⟨3, ![1, 2048, 8192]⟩) (down : Arr ⟨3, ![1, 8192, 2048]⟩) (j : Fin 2048) (s : ℕ) : EReal :=
  ∑ u : Fin 1024, unitAt h up (Fin.ofNat 8192 (s * 1024 + u)) * down (ix3 0 (Fin.ofNat 8192 (s * 1024 + u)) j)

/-- The norm of one row: each element times the inverse root of the mean square and the norm's weight. -/
def rootAt (x : Fin 2048 → EReal) (g : EReal) (k : Fin 2048) : EReal :=
  x k * Ideal.rsqrt (Ideal.div (∑ i, x i * x i) (Ideal.ofBits .f32 0x45000000#32) + Ideal.ofBits .f32 0x358637BD#32) * g

/-- One element of the layer's output: the row plus the gated feed-forward part, normed. -/
def finalAt (x h gate : Fin 2048 → EReal) (up : Arr ⟨3, ![1, 2048, 8192]⟩) (down : Arr ⟨3, ![1, 8192, 2048]⟩) (g : EReal) (k : Fin 2048) : EReal :=
  rootAt (fun j => x j + gate j * feedAt h up down j) g k

/-- The layer's output from the rows `h` the feed-forward part starts from and the rows `x` it is added to; `row` says which row of `h` an element's is. -/
def closing {B T R : ℕ} (row : Fin B → Fin T → Fin R) (h : Arr ⟨2, ![R, 2048]⟩) (x : Arr ⟨3, ![B, T, 2048]⟩) (mod : Arr ⟨3, ![B, 6, 2048]⟩)
    (up : Arr ⟨3, ![1, 2048, 8192]⟩) (down : Arr ⟨3, ![1, 8192, 2048]⟩) (g : Arr ⟨1, ![2048]⟩) : Arr ⟨3, ![B, T, 2048]⟩ := fun i =>
  finalAt (fun k => x (ix3 (i 0) (i 1) k)) (fun k => h (ix2 (row (i 0) (i 1)) k)) (fun k => mod (ix3 (i 0) 5 k)) up down (g (ix1 (i 2))) (i 2)

theorem sum_chunks (f : ℕ → EReal) (m : ℕ) : ∀ n : ℕ, ∑ s ∈ Finset.range n, ∑ u : Fin m, f (s * m + u) = ∑ i ∈ Finset.range (n * m), f i
  | 0 => by simp
  | n + 1 => by rw [Finset.sum_range_succ, sum_chunks f m n, Nat.succ_mul, Finset.sum_range_add, Finset.sum_range fun u => f (n * m + u)]

/-- The eight chunks together are the whole column. -/
theorem chunks_eq (h : Fin 2048 → EReal) (up : Arr ⟨3, ![1, 2048, 8192]⟩) (down : Arr ⟨3, ![1, 8192, 2048]⟩) (j : Fin 2048) :
    ∑ s ∈ Finset.range 8, chunkAt h up down j s = feedAt h up down j := by
  refine (sum_chunks (fun i => unitAt h up (Fin.ofNat 8192 i) * down (ix3 0 (Fin.ofNat 8192 i) j)) 1024 8).trans ((Finset.sum_range _).trans ?_)
  refine Finset.sum_congr rfl fun i _ => ?_
  have e : (Fin.ofNat 8192 (i : ℕ) : Fin 8192) = i := Fin.ext (Nat.mod_eq_of_lt i.isLt)
  show unitAt h up (Fin.ofNat 8192 (i : ℕ)) * down (ix3 0 (Fin.ofNat 8192 (i : ℕ)) j) = _
  rw [e]

/-- A sum kept over runs of eight points, started again at each run's first: after point `n` it holds the shares of the run so far. -/
theorem run_sum {N : ℕ} (f : (n : ℕ) → n < N → EReal) (g : ℕ → ℕ → EReal) (start : ∀ (n : ℕ) (h : n < N), n % 8 = 0 → f n h = g (n / 8) (n % 8))
    (grow : ∀ (n : ℕ) (h : n + 1 < N), ¬(n + 1) % 8 = 0 → f (n + 1) h = f n (by omega) + g ((n + 1) / 8) ((n + 1) % 8)) :
    ∀ (n : ℕ) (h : n < N), f n h = ∑ s ∈ Finset.range (n % 8 + 1), g (n / 8) s := by
  have fresh : ∀ (n : ℕ) (h : n < N), n % 8 = 0 → f n h = ∑ s ∈ Finset.range (n % 8 + 1), g (n / 8) s := fun n h h0 => by
    rw [start n h h0, h0, Finset.sum_range_one]
  intro n
  induction n with
  | zero => exact fun h => fresh 0 h rfl
  | succ n ih =>
    intro h
    by_cases h0 : (n + 1) % 8 = 0
    · exact fresh (n + 1) h h0
    · rw [grow n h h0, ih, show n / 8 = (n + 1) / 8 by omega, show n % 8 + 1 = (n + 1) % 8 by omega, Finset.sum_range_succ]

theorem rootAt_congr {x x' : Fin 2048 → EReal} {g g' : EReal} {k k' : Fin 2048} (hx : ∀ i, x i = x' i) (hg : g = g') (hk : k = k') : rootAt x g k = rootAt x' g' k' := by
  obtain rfl : x = x' := funext hx
  subst hg hk
  rfl

end Cert.Layer

end
-- ==== Proof.MlpTile.lean ====
/- What one point of the feed-forward call computes from its blocks, at an element. -/
module

public import proofs.«01_k».proof.Proof.Gen.MlpIdeal.Frame
public import proofs.«01_k».proof.Proof.FeedForward

@[expose] public section

set_option maxRecDepth 16384
set_option maxHeartbeats 2000000

noncomputable section

namespace Cert.MlpIdeal.Layer

open Idealize.ShloMosaic Idealize.ShloMosaic.TcCoe
open Cert.MlpIdeal Cert.MlpIdeal.Gen Cert.Layer
open scoped BigOperators

theorem reset (j : S512x2048.Idx) : k0_pay1 (F := Ideal) j = 0 := by
  idx_vars j
  unfold k0_pay1
  pointwise

theorem step (h : Vec Ideal S512x2048 .bf16) (up : Vec Ideal S2048x1024 .bf16) (acc : Vec Ideal S512x2048 .f32) (down : Vec Ideal S1024x2048 .bf16) (j : S512x2048.Idx) :
    k0_pay2 h up acc down j = acc j + ∑ u : Fin 1024, squared (∑ k : Fin 2048, h (ix2 (j 0) k) * up (ix2 k u)) * down (ix2 u (j 1)) := by
  idx_vars j
  unfold k0_pay2
  pointwise
  rfl

theorem close (x : Vec Ideal S1x512x2048 .f32) (gate : Vec Ideal S1x1x2048 .f32) (acc : Vec Ideal S512x2048 .f32) (g : Vec Ideal S1x1x2048 .f32) (j : S1x512x2048.Idx) :
    k0_pay3 x gate acc g j = rootAt (fun k => x (ix3 0 (j 1) k) + gate (ix3 0 0 k) * acc (ix2 (j 1) k)) (g (ix3 0 0 (j 2))) (j 2) := by
  idx_vars j
  obtain rfl : j0 = 0 := Subsingleton.elim _ _
  unfold k0_pay3
  pointwise
  rfl

end Cert.MlpIdeal.Layer

end
-- ==== Proof.MlpCase.lean ====
/- What the feed-forward call's sums and its output block hold after each of its points. -/
module

public import proofs.«01_k».proof.Proof.MlpTile

@[expose] public section

set_option maxRecDepth 16384
set_option maxHeartbeats 2000000

noncomputable section

namespace Cert.MlpIdeal.Layer

open Idealize.ShloMosaic Idealize.ShloMosaic.TcCoe Idealize.ShloMosaic.Tactic
open Cert.MlpIdeal Cert.MlpIdeal.Gen Cert.Layer

variable (m : (ℓ : Loc nD τ sig) → Buf (Elt Ideal) ℓ)

/-- The first point of a run adds its share to zero. -/
theorem first (c : Dev nD) (t : Fin cfg0.N) (h0 : t.val % 8 = 0) :
    (outsAt0 m c t.val t.isLt).2 = k0_pay2 (iblk m c 0 t) (iblk m c 1 t) (k0_pay1 (F := Ideal)) (iblk m c 2 t) := by
  rw [outsAt0_A m c t h0 (by omega)]
  dsimp only
  unfold sout0_A_0
  rw [View.read_writes_eq_canon _ _ _ (fun _ => scover0_A_0 ..)]
  unfold kernelRun0_A
  dsimp only
  sl_unfold_words
  rw [View.canon_cons_unit_zero (S := S512x2048) zeros2]
  simp only [View.readAt_eq_ld, View.readCov_unit_zero (S := S512x2048) _ zeros2, (hs0_0 t).read_unread, (hs0_1 t).read_unread, (hs0_2 t).read_unread,
    View.ld_unit_zero (S := S512x2048) zeros2, View.ld_unit_zero (S := S2048x1024) zeros2, View.ld_unit_zero (S := S1024x2048) zeros2]

/-- Every other point adds its share to what the point before left. -/
theorem next (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 (iblk m c 2 t) := by
  by_cases h1 : t.val % 8 = 7
  · rw [outsAt0_C m c t h0 h1]
    dsimp only
    unfold sout0_C_0
    rw [View.read_writes_eq_canon _ _ _ (fun _ => scover0_C_0 ..)]
    unfold kernelRun0_C
    dsimp only
    sl_unfold_words
    rw [View.canon_unit_zero zeros2]
    simp only [View.readAt_eq_ld, (hs0_0 t).read_unread, (hs0_1 t).read_unread, (hs0_2 t).read_unread, (Memref.isWhole_whole _).read_unread,
      View.ld_unit_zero (S := S512x2048) zeros2, View.ld_unit_zero (S := S2048x1024) zeros2, View.ld_unit_zero (S := S1024x2048) zeros2]
  · rw [outsAt0_B m c t h0 h1]
    dsimp only
    unfold sout0_B_0
    rw [View.read_writes_eq_canon _ _ _ (fun _ => scover0_B_0 ..)]
    unfold kernelRun0_B
    dsimp only
    rw [View.canon_unit_zero zeros2]
    simp only [View.readAt_eq_ld, (hs0_0 t).read_unread, (hs0_1 t).read_unread, (hs0_2 t).read_unread, (Memref.isWhole_whole _).read_unread,
      View.ld_unit_zero (S := S512x2048) zeros2, View.ld_unit_zero (S := S2048x1024) zeros2, View.ld_unit_zero (S := S1024x2048) zeros2]

/-- The last point of a run writes the closed block of the whole sum. -/
theorem last (c : Dev nD) (t : Fin cfg0.N) (h1 : t.val % 8 = 7) :
    (outsAt0 m c t.val t.isLt).1 = k0_pay3 (iblk m c 3 t) (iblk m c 4 t) (outsAt0 m c t.val t.isLt).2 (iblk m c 5 t) := by
  rw [next m c t (by omega), outsAt0_C m c t (by omega) h1]
  dsimp only
  unfold out0_C_6
  rw [View.read_writes_eq_canon _ _ _ (fun _ => cover0_C_6 ..)]
  unfold kernelRun0_C
  dsimp only
  sl_unfold_words
  rw [View.canon_unit_zero zeros3]
  simp only [View.readAt_eq_ld, View.readCov_unit_zero (S := S512x2048) _ zeros2, (hs0_0 t).read_unread, (hs0_1 t).read_unread, (hs0_2 t).read_unread, (hs0_3 t).read_unread,
    (hs0_4 t).read_unread, (hs0_5 t).read_unread, (Memref.isWhole_whole _).read_unread, View.ld_unit_zero (S := S512x2048) zeros2,
    View.ld_unit_zero (S := S2048x1024) zeros2, View.ld_unit_zero (S := S1024x2048) zeros2, View.ld_unit_zero (S := S1x512x2048) zeros3, View.ld_unit_zero (S := S1x1x2048) zeros3]

end Cert.MlpIdeal.Layer

end
-- ==== Proof.MlpBlocks.lean ====
/- What each block of the feed-forward call holds, in terms of the arguments. -/
module

public import proofs.«01_k».proof.Proof.MlpCase
public import Idealize.ShloMosaic.Lib.StableHlo.ReadAt

@[expose] public section

set_option maxRecDepth 16384
set_option maxHeartbeats 2000000

noncomputable section

namespace Cert.MlpIdeal.Layer

open Idealize.ShloMosaic Idealize.ShloMosaic.TcCoe
open Cert.MlpIdeal Cert.MlpIdeal.Gen Cert.Layer
open scoped BigOperators

section Host

variable (W : Valuation τ sig (Elt Ideal))

theorem host_gate (k : Fin 2048) : (StableHlo.after hostOps0 W (Proc.devRef .tc main_v0) : Arr S1x1x2048) (ix3 0 0 k) = W (Proc.devRef .tc main_arg2) (ix3 0 5 k) := by
  after_reads_at

theorem host_up (k : Fin 2048) (f : Fin 8192) : (StableHlo.after hostOps0 W (Proc.devRef .tc main_v2) : Arr S2048x8192) (ix2 k f) = W (Proc.devRef .tc main_arg3) (ix3 0 k f) := by
  after_reads_at

theorem host_down (f : Fin 8192) (k : Fin 2048) : (StableHlo.after hostOps0 W (Proc.devRef .tc main_v4) : Arr S8192x2048) (ix2 f k) = W (Proc.devRef .tc main_arg4) (ix3 0 f k) := by
  after_reads_at

theorem host_norm (k : Fin 2048) : (StableHlo.after hostOps0 W (Proc.devRef .tc main_v5) : Arr S1x1x2048) (ix3 0 0 k) = W (Proc.devRef .tc main_arg5) (ix1 k) := by
  after_reads_at

end Host

variable (m : (ℓ : Loc nD τ sig) → Buf (Elt Ideal) ℓ)

/-- The rows the feed-forward part starts from. -/
def rowsIn (c : Dev nD) : Arr ⟨2, ![8192, 2048]⟩ := m ((c : Thread nD τ).loc main_arg0)
/-- The rows it is added to. -/
def base (c : Dev nD) : Arr ⟨3, ![1, 8192, 2048]⟩ := m ((c : Thread nD τ).loc main_arg1)
/-- The modulation. -/
def mods (c : Dev nD) : Arr ⟨3, ![1, 6, 2048]⟩ := m ((c : Thread nD τ).loc main_arg2)
/-- The first weight. -/
def up (c : Dev nD) : Arr ⟨3, ![1, 2048, 8192]⟩ := m ((c : Thread nD τ).loc main_arg3)
/-- The second weight. -/
def down (c : Dev nD) : Arr ⟨3, ![1, 8192, 2048]⟩ := m ((c : Thread nD τ).loc main_arg4)
/-- The norm's weight. -/
def scale (c : Dev nD) : Arr ⟨1, ![2048]⟩ := m ((c : Thread nD τ).loc main_arg5)

theorem index0 (t : Fin grid0.N) : (win0_0.index t 0 = t.val / 8 ∧ win0_0.index t 1 = 0) ∧ (win0_1.index t 0 = 0 ∧ win0_1.index t 1 = t.val % 8)
    ∧ (win0_2.index t 0 = t.val % 8 ∧ win0_2.index t 1 = 0) ∧ (win0_3.index t 0 = 0 ∧ win0_3.index t 1 = t.val / 8 ∧ win0_3.index t 2 = 0)
    ∧ (win0_4.index t 0 = 0 ∧ win0_4.index t 1 = 0 ∧ win0_4.index t 2 = 0) ∧ win0_5.index t 0 = 0 ∧ win0_5.index t 1 = 0 ∧ win0_5.index t 2 = 0 := by
  revert t; decide +kernel

theorem points (t : Fin cfg0.N) : t.val < 128 := lt_of_lt_of_eq t.isLt N_0

theorem block0 (c : Dev nD) (t : Fin cfg0.N) (p : Fin 512) (k : Fin 2048) :
    (iblk m c 0 t : Vec Ideal S512x2048 .bf16) (ix2 p k) = rowsIn m c (ix2 (Fin.ofNat 8192 (t.val / 8 * 512 + p)) k) := by
  obtain ⟨⟨a0, a1⟩, -⟩ := index0 t
  have ht := points t
  refine (congrArg (V m c main_arg0) (eq_ix2 (M := 8192) (K := 2048) _ (Fin.ofNat 8192 (t.val / 8 * 512 + p)) k ?_ ?_)).trans (congrFun (V_main_arg0 m c) _)
  · exact (win0_0.rect_emb_val t (ix2 p k) 0).trans ((congrArg (· * 512 + (p : ℕ)) a0).trans (Nat.mod_eq_of_lt (by omega)).symm)
  · exact (win0_0.rect_emb_val t (ix2 p k) 1).trans ((congrArg (· * 2048 + (k : ℕ)) a1).trans (by omega))

theorem block1 (c : Dev nD) (t : Fin cfg0.N) (k : Fin 2048) (u : Fin 1024) :
    (iblk m c 1 t : Vec Ideal S2048x1024 .bf16) (ix2 k u) = up m c (ix3 0 k (Fin.ofNat 8192 (t.val % 8 * 1024 + u))) := by
  obtain ⟨-, ⟨a0, a1⟩, -⟩ := index0 t
  refine (congrArg (V m c main_v2) (eq_ix2 (M := 2048) (K := 8192) _ k (Fin.ofNat 8192 (t.val % 8 * 1024 + u)) ?_ ?_)).trans (host_up _ _ _)
  · exact (win0_1.rect_emb_val t (ix2 k u) 0).trans ((congrArg (· * 2048 + (k : ℕ)) a0).trans (by omega))
  · exact (win0_1.rect_emb_val t (ix2 k u) 1).trans ((congrArg (· * 1024 + (u : ℕ)) a1).trans (Nat.mod_eq_of_lt (by omega)).symm)

theorem block2 (c : Dev nD) (t : Fin cfg0.N) (u : Fin 1024) (k : Fin 2048) :
    (iblk m c 2 t : Vec Ideal S1024x2048 .bf16) (ix2 u k) = down m c (ix3 0 (Fin.ofNat 8192 (t.val % 8 * 1024 + u)) k) := by
  obtain ⟨-, -, ⟨a0, a1⟩, -⟩ := index0 t
  refine (congrArg (V m c main_v4) (eq_ix2 (M := 8192) (K := 2048) _ (Fin.ofNat 8192 (t.val % 8 * 1024 + u)) k ?_ ?_)).trans (host_down _ _ _)
  · exact (win0_2.rect_emb_val t (ix2 u k) 0).trans ((congrArg (· * 1024 + (u : ℕ)) a0).trans (Nat.mod_eq_of_lt (by omega)).symm)
  · exact (win0_2.rect_emb_val t (ix2 u k) 1).trans ((congrArg (· * 2048 + (k : ℕ)) a1).trans (by omega))

theorem block3 (c : Dev nD) (t : Fin cfg0.N) (p : Fin 512) (k : Fin 2048) :
    (iblk m c 3 t : Vec Ideal S1x512x2048 .f32) (ix3 0 p k) = base m c (ix3 0 (Fin.ofNat 8192 (t.val / 8 * 512 + p)) k) := by
  obtain ⟨-, -, -, ⟨a0, a1, a2⟩, -⟩ := index0 t
  have ht := points t
  refine (congrArg (V m c main_arg1) (eq_ix3 (A := 1) (B := 8192) (C := 2048) _ 0 (Fin.ofNat 8192 (t.val / 8 * 512 + p)) k ?_ ?_ ?_)).trans (congrFun (V_main_arg1 m c) _)
  · exact (win0_3.rect_emb_val t (ix3 0 p k) 0).trans ((congrArg (· * 1 + 0) a0).trans (by rfl))
  · exact (win0_3.rect_emb_val t (ix3 0 p k) 1).trans ((congrArg (· * 512 + (p : ℕ)) a1).trans (Nat.mod_eq_of_lt (by omega)).symm)
  · exact (win0_3.rect_emb_val t (ix3 0 p k) 2).trans ((congrArg (· * 2048 + (k : ℕ)) a2).trans (by omega))

theorem block4 (c : Dev nD) (t : Fin cfg0.N) (k : Fin 2048) : (iblk m c 4 t : Vec Ideal S1x1x2048 .f32) (ix3 0 0 k) = mods m c (ix3 0 5 k) := by
  obtain ⟨-, -, -, -, ⟨a0, a1, a2⟩, -⟩ := index0 t
  refine (congrArg (V m c main_v0) (eq_ix3 (A := 1) (B := 1) (C := 2048) _ 0 0 k ?_ ?_ ?_)).trans (host_gate _ _)
  · exact (win0_4.rect_emb_val t (ix3 0 0 k) 0).trans ((congrArg (· * 1 + 0) a0).trans (by rfl))
  · exact (win0_4.rect_emb_val t (ix3 0 0 k) 1).trans ((congrArg (· * 1 + 0) a1).trans (by rfl))
  · exact (win0_4.rect_emb_val t (ix3 0 0 k) 2).trans ((congrArg (· * 2048 + (k : ℕ)) a2).trans (by omega))

theorem block5 (c : Dev nD) (t : Fin cfg0.N) (k : Fin 2048) : (iblk m c 5 t : Vec Ideal S1x1x2048 .f32) (ix3 0 0 k) = scale m c (ix1 k) := by
  obtain ⟨-, -, -, -, -, a0, a1, a2⟩ := index0 t
  refine (congrArg (V m c main_v5) (eq_ix3 (A := 1) (B := 1) (C := 2048) _ 0 0 k ?_ ?_ ?_)).trans (host_norm _ _)
  · exact (win0_5.rect_emb_val t (ix3 0 0 k) 0).trans ((congrArg (· * 1 + 0) a0).trans (by rfl))
  · exact (win0_5.rect_emb_val t (ix3 0 0 k) 1).trans ((congrArg (· * 1 + 0) a1).trans (by rfl))
  · exact (win0_5.rect_emb_val t (ix3 0 0 k) 2).trans ((congrArg (· * 2048 + (k : ℕ)) a2).trans (by omega))

end Cert.MlpIdeal.Layer

end
-- ==== Proof.MlpOut.lean ====
/- The feed-forward call of the prompt computes what the reference does. -/
module

public import proofs.«01_k».proof.Defs
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.MlpBlocks

@[expose] public section

set_option maxRecDepth 16384
set_option maxHeartbeats 2000000

noncomputable section

namespace Cert.MlpIdeal.Layer

open Idealize.ShloMosaic Idealize.ShloMosaic.TcCoe Idealize.SL.Sem
open Cert.MlpIdeal Cert.MlpIdeal.Gen Cert.Layer
open scoped BigOperators

variable (m : (ℓ : Loc nD τ sig) → Buf (Elt Ideal) ℓ)

/-- What chunk `s` adds to the sums of the rows of block `q`. -/
def share (c : Dev nD) (q s : ℕ) (i : S512x2048.Idx) : EReal :=
  chunkAt (fun k => rowsIn m c (ix2 (Fin.ofNat 8192 (q * 512 + (i 0 : ℕ))) k)) (up m c) (down m c) (i 1) s

theorem adds (c : Dev nD) (t : Fin cfg0.N) (acc : Vec Ideal S512x2048 .f32) (i : S512x2048.Idx) :
    k0_pay2 (iblk m c 0 t) (iblk m c 1 t) acc (iblk m c 2 t) i = acc i + share m c (t.val / 8) (t.val % 8) i :=
  (step _ _ _ _ i).trans (congrArg (acc i + ·) (Finset.sum_congr rfl fun u _ => congrArg₂ (fun a b : EReal => a * b)
    (congrArg squared (Finset.sum_congr rfl fun k _ => congrArg₂ (fun a b : EReal => a * b) (block0 m c t (i 0) k) (block1 m c t k u))) (block2 m c t u (i 1))))

/-- After a point the sums are those of the chunks of its run so far. -/
theorem sums (c : Dev nD) (i : S512x2048.Idx) : ∀ (n : ℕ) (h : n < cfg0.N),
    (outsAt0 m c n h).2 i = ∑ s ∈ Finset.range (n % 8 + 1), share m c (n / 8) s i :=
  run_sum (fun n h => (outsAt0 m c n h).2 i) (fun q s => share m c q s i)
    (fun n h h0 => (congrFun (first m c ⟨n, h⟩ h0) i).trans ((adds m c ⟨n, h⟩ _ i).trans (by rw [reset, zero_add])))
    fun n h h0 => (congrFun (next m c ⟨n + 1, h⟩ h0) i).trans (adds m c ⟨n + 1, h⟩ _ i)

/-- The call's result, of the arguments. -/
def result (c : Dev nD) : Arr ⟨3, ![1, 8192, 2048]⟩ :=
  closing (fun _ t => t) (rowsIn m c) (base m c) (mods m c) (up m c) (down m c) (scale m c)

theorem closed (c : Dev nD) (t : Fin cfg0.N) (h : t.val % 8 = 7) (j : S1x512x2048.Idx) :
    (outsAt0 m c t.val t.isLt).1 j = result m c (ix3 0 (Fin.ofNat 8192 (t.val / 8 * 512 + (j 1 : ℕ))) (j 2)) := by
  rw [last m c t h, close]
  refine rootAt_congr (fun k => congrArg₂ (fun a b : EReal => a + b) (block3 m c t (j 1) k) (congrArg₂ (fun a b : EReal => a * b) (block4 m c t k) ?_)) (block5 m c t (j 2)) rfl
  rw [sums, h]
  exact chunks_eq _ _ _ _

theorem out (c : Dev nD) : Cert.MlpIdeal.Value.G6 m c = result m c := by
  funext i
  have h0 : (i 0 : ℕ) < 1 := (i 0).isLt
  have h1 : (i 1 : ℕ) < 8192 := (i 1).isLt
  have h2 : (i 2 : ℕ) < 2048 := (i 2).isLt
  have hr : Cert.MlpIdeal.Value.run6Of i = (i 1 : ℕ) / 512 := by
    show 16 * ((i 0 : ℕ) / 1 - 0) + 1 * ((i 1 : ℕ) / 512 - 0) + 1 * ((i 2 : ℕ) / 2048 - 0) = _
    omega
  have hp : Cert.MlpIdeal.Value.pt6Of i = 8 * ((i 1 : ℕ) / 512) + 7 := congrArg (8 * · + 7) hr
  have hN : Cert.MlpIdeal.Value.pt6Of i < cfg0.N := lt_of_lt_of_eq (by omega) N_0.symm
  unfold Cert.MlpIdeal.Value.G6
  rw [dif_pos hN, ← Cert.MlpIdeal.Value.outsAt0_sweep m c _ hN]
  refine (closed m c ⟨_, hN⟩ (by show Cert.MlpIdeal.Value.pt6Of i % 8 = 7; omega) _).trans (congrArg (result m c) (eq_ix3 (A := 1) (B := 8192) (C := 2048) i _ _ _ ?_ ?_ ?_).symm)
  · show (i 0 : ℕ) = 0
    omega
  · show (i 1 : ℕ) = (Cert.MlpIdeal.Value.pt6Of i / 8 * 512 + (i 1 : ℕ) % 512) % 8192
    omega
  · show (i 2 : ℕ) = (i 2 : ℕ) % 2048
    omega

end Cert.MlpIdeal.Layer

namespace Cert.MlpReferenceIdeal.Layer

open Idealize.ShloMosaic Idealize.ShloMosaic.TcCoe
open Cert.MlpReferenceIdeal Cert.MlpReferenceIdeal.Gen Cert.MlpReferenceIdeal.Value Cert.Layer
open scoped BigOperators

/-- The norm of the rows, at an element. -/
theorem normed (x : FVec Ideal S1x8192x2048 .f32) (g : FVec Ideal S2048 .f32) (i : S1x8192x2048.Idx) :
    mulf (mulf x (broadcastInDim S1x8192x2048 ![0, 1, 2] bcast_S1x8192x1_S1x8192x2048_0_1_2 (Host.rsqrt (addf (Host.divf (broadcastInDim S1x8192x1 ![0, 1] bcast_S1x8192_S1x8192x1_0_1
      (Host.reduceAdd (mulf x x) (constant S_ .f32 0x00000000#32) reducesTo_S1x8192x2048_S1x8192_d2 h_S_)) (broadcastInDim S1x8192x1 ![] bcast_S_S1x8192x1 (constant S_ .f32 0x45000000#32)))
        (broadcastInDim S1x8192x1 ![] bcast_S_S1x8192x1 (constant S_ .f32 0x358637BD#32))))))
      (broadcastInDim S1x8192x2048 ![0, 1, 2] bcast_S1x1x2048_S1x8192x2048_0_1_2 (broadcastInDim S1x1x2048 ![2] bcast_S2048_S1x1x2048_2 g)) i
    = rootAt (fun k => x (ix3 (i 0) (i 1) k)) (g (ix1 (i 2))) (i 2) := by
  idx_vars i
  obtain rfl : i0 = 0 := Subsingleton.elim _ _
  pointwise
  rfl

/-- A hidden unit before its square. -/
theorem hidden (h : FVec Ideal S8192x2048 .bf16) (up : FVec Ideal S1x2048x8192 .f32) (r f : Fin 8192) :
    maximumf (Host.dotGeneral dot_S1x8192x2048_S2048x8192_S1x8192x8192_2_0_01_1_n_n none (shapeCast _ (extf .f32 h bitsLt_bf16_f32) shapeCasts_S8192x2048_S1x8192x2048)
      (shapeCast _ up shapeCasts_S1x2048x8192_S2048x8192)) (broadcastInDim S1x8192x8192 ![] bcast_S_S1x8192x8192 (constant S_ .f32 0x00000000#32)) (ix3 0 r f)
    = max (∑ k : Fin 2048, (h (ix2 r k) : EReal) * up (ix3 0 k f)) 0 := by
  pointwise

/-- The gated feed-forward part added to the rows, at an element. -/
theorem added (x : FVec Ideal S1x8192x2048 .f32) (mod : FVec Ideal S1x6x2048 .f32) (u : FVec Ideal S1x8192x8192 .f32) (down : FVec Ideal S1x8192x2048 .f32) (r : Fin 8192) (j : Fin 2048)
    (v : Fin 8192 → EReal) (hu : ∀ f, u (ix3 0 r f) = v f) :
    addf x (mulf (broadcastInDim S1x8192x2048 ![0, 1, 2] bcast_S1x1x2048_S1x8192x2048_0_1_2 (broadcastInDim S1x1x2048 ![0, 2] bcast_S1x2048_S1x1x2048_0_2
      (shapeCast _ (extractStridedSlice S1x1x2048 ![0, 5, 0] mod slices_S1x6x2048_S1x1x2048_0_5_0) shapeCasts_S1x1x2048_S1x2048)))
      (Host.dotGeneral dot_S1x8192x8192_S8192x2048_S1x8192x2048_2_0_01_1_n_n none (mulf u u) (shapeCast _ down shapeCasts_S1x8192x2048_S8192x2048))) (ix3 0 r j)
    = x (ix3 0 r j) + mod (ix3 0 5 j) * ∑ f : Fin 8192, v f * v f * down (ix3 0 f j) := by
  simp only [← hu]
  pointwise

theorem out (m : (ℓ : Loc nD τ sig) → Buf (Elt Ideal) ℓ) (c : Dev nD) :
    res_main_v26 m c = closing (fun (_ : Fin 1) t => t) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  idx_vars i
  obtain rfl : i0 = 0 := Subsingleton.elim _ _
  unfold res_main_v26
  refine (normed _ _ _).trans ?_
  unfold closing finalAt
  refine rootAt_congr (fun k => ?_) rfl rfl
  exact added _ _ _ _ i1 k _ (hidden _ _ i1)

end Cert.MlpReferenceIdeal.Layer

namespace Cert.Layer

open Idealize.ShloMosaic Idealize.SL.Sem

/-- From the same arguments the two programs end with the same result, their arguments unchanged. -/
theorem mlp_values : Cert.algebraic_MlpIdeal_MlpReferenceIdeal (hMlpIdeal := Cert.MlpIdeal.Gen.facts) (hMlpReferenceIdeal := Cert.MlpReferenceIdeal.Gen.facts) := by
  intro m g m' g' _ agree
  refine ⟨Cert.MlpIdeal.Layer.result m, (θ_run _ _ _).mono (fun r h c => ⟨(h c).1.trans (Cert.MlpIdeal.Layer.out m c), (h c).2⟩) (Cert.MlpIdeal.Value.run m g),
    (θ_run _ _ _).mono (fun r h c => ⟨(h c).1.trans ((Cert.MlpReferenceIdeal.Layer.out m' c).trans ?_), (h c).2⟩) (Cert.MlpReferenceIdeal.Value.run m' g')⟩
  obtain ⟨a0, a1, a2, a3, a4, a5⟩ := agree c
  rw [a0, a1, a2, a3, a4, a5]
  rfl

/-- The reference terminates with its arguments unchanged; it declares no semaphore. -/
theorem mlp_reference_runs : Cert.quiescent_MlpReferenceIdeal (hMlpReferenceIdeal := Cert.MlpReferenceIdeal.Gen.facts) := fun m ρ _ =>
  (θ_run _ _ _).mono (fun r h => ⟨fun c => (h c).2, sem_eq_zero_of_no_sems (by decide) r.2⟩) (Cert.MlpReferenceIdeal.Value.run m ρ)

end Cert.Layer

end
-- ==== Proof.MlpSampleCase.lean ====
/- What the feed-forward call of the sample leaves after each of its points: as for the prompt, with the sample's sixteen batches in one block. -/
module

public import proofs.«01_k».proof.Proof.Gen.MlpSampleIdeal.Frame
public import proofs.«01_k».proof.Proof.MlpOut

@[expose] public section

set_option maxRecDepth 16384
set_option maxHeartbeats 2000000

noncomputable section

namespace Cert.MlpSampleIdeal.Layer

open Idealize.ShloMosaic Idealize.ShloMosaic.TcCoe Idealize.ShloMosaic.Tactic
open Cert.MlpSampleIdeal Cert.MlpSampleIdeal.Gen Cert.Layer
open scoped BigOperators

/-- The two calls add to their sums the same way. -/
theorem same_step : k0_pay2 (F := Ideal) = Cert.MlpIdeal.Gen.k0_pay2 := rfl
/-- The two calls start their sums the same way. -/
theorem same_reset : k0_pay1 (F := Ideal) = Cert.MlpIdeal.Gen.k0_pay1 := rfl

/-- The row of batch `b` and position `t` among the sample's rows. -/
def row (b : Fin 16) (t : Fin 32) : Fin 512 := ⟨(b : ℕ) * 32 + t, by omega⟩

theorem close (x : Vec Ideal S16x32x2048 .f32) (gate : Vec Ideal S16x1x2048 .f32) (acc : Vec Ideal S512x2048 .f32) (g : Vec Ideal S1x1x2048 .f32) (j : S16x32x2048.Idx) :
    k0_pay3 x gate acc g j = rootAt (fun k => x (ix3 (j 0) (j 1) k) + gate (ix3 (j 0) 0 k) * acc (ix2 (row (j 0) (j 1)) k)) (g (ix3 0 0 (j 2))) (j 2) := by
  idx_vars j
  unfold k0_pay3
  pointwise
  rfl

variable (m : (ℓ : Loc nD τ sig) → Buf (Elt Ideal) ℓ)

theorem first (c : Dev nD) (t : Fin cfg0.N) (h0 : t.val % 8 = 0) :
    (outsAt0 m c t.val t.isLt).2 = k0_pay2 (iblk m c 0 t) (iblk m c 1 t) (k0_pay1 (F := Ideal)) (iblk m c 2 t) := by
  rw [outsAt0_A m c t h0 (by omega)]
  dsimp only
  unfold sout0_A_0
  rw [View.read_writes_eq_canon _ _ _ (fun _ => scover0_A_0 ..)]
  unfold kernelRun0_A
  dsimp only
  sl_unfold_words
  rw [View.canon_cons_unit_zero (S := S512x2048) zeros2]
  simp only [View.readAt_eq_ld, View.readCov_unit_zero (S := S512x2048) _ zeros2, (hs0_0 t).read_unread, (hs0_1 t).read_unread, (hs0_2 t).read_unread,
    View.ld_unit_zero (S := S512x2048) zeros2, View.ld_unit_zero (S := S2048x1024) zeros2, View.ld_unit_zero (S := S1024x2048) zeros2]

theorem next (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 (iblk m c 2 t) := by
  by_cases h1 : t.val % 8 = 7
  · rw [outsAt0_C m c t h0 h1]
    dsimp only
    unfold sout0_C_0
    rw [View.read_writes_eq_canon _ _ _ (fun _ => scover0_C_0 ..)]
    unfold kernelRun0_C
    dsimp only
    sl_unfold_words
    rw [View.canon_unit_zero zeros2]
    simp only [View.readAt_eq_ld, (hs0_0 t).read_unread, (hs0_1 t).read_unread, (hs0_2 t).read_unread, (Memref.isWhole_whole _).read_unread,
      View.ld_unit_zero (S := S512x2048) zeros2, View.ld_unit_zero (S := S2048x1024) zeros2, View.ld_unit_zero (S := S1024x2048) zeros2]
  · rw [outsAt0_B m c t h0 h1]
    dsimp only
    unfold sout0_B_0
    rw [View.read_writes_eq_canon _ _ _ (fun _ => scover0_B_0 ..)]
    unfold kernelRun0_B
    dsimp only
    rw [View.canon_unit_zero zeros2]
    simp only [View.readAt_eq_ld, (hs0_0 t).read_unread, (hs0_1 t).read_unread, (hs0_2 t).read_unread, (Memref.isWhole_whole _).read_unread,
      View.ld_unit_zero (S := S512x2048) zeros2, View.ld_unit_zero (S := S2048x1024) zeros2, View.ld_unit_zero (S := S1024x2048) zeros2]

theorem last (c : Dev nD) (t : Fin cfg0.N) (h1 : t.val % 8 = 7) :
    (outsAt0 m c t.val t.isLt).1 = k0_pay3 (iblk m c 3 t) (iblk m c 4 t) (outsAt0 m c t.val t.isLt).2 (iblk m c 5 t) := by
  rw [next m c t (by omega), outsAt0_C m c t (by omega) h1]
  dsimp only
  unfold out0_C_6
  rw [View.read_writes_eq_canon _ _ _ (fun _ => cover0_C_6 ..)]
  unfold kernelRun0_C
  dsimp only
  sl_unfold_words
  rw [View.canon_unit_zero zeros3]
  simp only [View.readAt_eq_ld, View.readCov_unit_zero (S := S512x2048) _ zeros2, (hs0_0 t).read_unread, (hs0_1 t).read_unread, (hs0_2 t).read_unread, (hs0_3 t).read_unread,
    (hs0_4 t).read_unread, (hs0_5 t).read_unread, (Memref.isWhole_whole _).read_unread, View.ld_unit_zero (S := S512x2048) zeros2,
    View.ld_unit_zero (S := S2048x1024) zeros2, View.ld_unit_zero (S := S1024x2048) zeros2, View.ld_unit_zero (S := S16x32x2048) zeros3,
    View.ld_unit_zero (S := S16x1x2048) zeros3, View.ld_unit_zero (S := S1x1x2048) zeros3]

section Host

variable (W : Valuation τ sig (Elt Ideal))

theorem host_gate (b : Fin 16) (k : Fin 2048) : (StableHlo.after hostOps0 W (Proc.devRef .tc main_v0) : Arr S16x1x2048) (ix3 b 0 k) = W (Proc.devRef .tc main_arg2) (ix3 b 5 k) := by
  after_reads_at

theorem host_up (k : Fin 2048) (f : Fin 8192) : (StableHlo.after hostOps0 W (Proc.devRef .tc main_v2) : Arr S2048x8192) (ix2 k f) = W (Proc.devRef .tc main_arg3) (ix3 0 k f) := by
  after_reads_at

theorem host_down (f : Fin 8192) (k : Fin 2048) : (StableHlo.after hostOps0 W (Proc.devRef .tc main_v4) : Arr S8192x2048) (ix2 f k) = W (Proc.devRef .tc main_arg4) (ix3 0 f k) := by
  after_reads_at

theorem host_norm (k : Fin 2048) : (StableHlo.after hostOps0 W (Proc.devRef .tc main_v5) : Arr S1x1x2048) (ix3 0 0 k) = W (Proc.devRef .tc main_arg5) (ix1 k) := by
  after_reads_at

end Host

/-- The rows the feed-forward part starts from. -/
def rowsIn (c : Dev nD) : Arr ⟨2, ![512, 2048]⟩ := m ((c : Thread nD τ).loc main_arg0)
/-- The rows it is added to. -/
def base (c : Dev nD) : Arr ⟨3, ![16, 32, 2048]⟩ := m ((c : Thread nD τ).loc main_arg1)
/-- The modulation. -/
def mods (c : Dev nD) : Arr ⟨3, ![16, 6, 2048]⟩ := m ((c : Thread nD τ).loc main_arg2)
/-- The first weight. -/
def up (c : Dev nD) : Arr ⟨3, ![1, 2048, 8192]⟩ := m ((c : Thread nD τ).loc main_arg3)
/-- The second weight. -/
def down (c : Dev nD) : Arr ⟨3, ![1, 8192, 2048]⟩ := m ((c : Thread nD τ).loc main_arg4)
/-- The norm's weight. -/
def scale (c : Dev nD) : Arr ⟨1, ![2048]⟩ := m ((c : Thread nD τ).loc main_arg5)

theorem index0 (t : Fin grid0.N) : (win0_0.index t 0 = 0 ∧ win0_0.index t 1 = 0) ∧ (win0_1.index t 0 = 0 ∧ win0_1.index t 1 = t.val % 8)
    ∧ (win0_2.index t 0 = t.val % 8 ∧ win0_2.index t 1 = 0) ∧ (win0_3.index t 0 = 0 ∧ win0_3.index t 1 = 0 ∧ win0_3.index t 2 = 0)
    ∧ (win0_4.index t 0 = 0 ∧ win0_4.index t 1 = 0 ∧ win0_4.index t 2 = 0) ∧ win0_5.index t 0 = 0 ∧ win0_5.index t 1 = 0 ∧ win0_5.index t 2 = 0 := by
  revert t; decide +kernel

theorem block0 (c : Dev nD) (t : Fin cfg0.N) (p : Fin 512) (k : Fin 2048) : (iblk m c 0 t : Vec Ideal S512x2048 .bf16) (ix2 p k) = rowsIn m c (ix2 p k) := by
  obtain ⟨⟨a0, a1⟩, -⟩ := index0 t
  refine (congrArg (V m c main_arg0) (eq_ix2 (M := 512) (K := 2048) _ p k ?_ ?_)).trans (congrFun (V_main_arg0 m c) _)
  · exact (win0_0.rect_emb_val t (ix2 p k) 0).trans ((congrArg (· * 512 + (p : ℕ)) a0).trans (by omega))
  · exact (win0_0.rect_emb_val t (ix2 p k) 1).trans ((congrArg (· * 2048 + (k : ℕ)) a1).trans (by omega))

theorem block1 (c : Dev nD) (t : Fin cfg0.N) (k : Fin 2048) (u : Fin 1024) :
    (iblk m c 1 t : Vec Ideal S2048x1024 .bf16) (ix2 k u) = up m c (ix3 0 k (Fin.ofNat 8192 (t.val % 8 * 1024 + u))) := by
  obtain ⟨-, ⟨a0, a1⟩, -⟩ := index0 t
  refine (congrArg (V m c main_v2) (eq_ix2 (M := 2048) (K := 8192) _ k (Fin.ofNat 8192 (t.val % 8 * 1024 + u)) ?_ ?_)).trans (host_up _ _ _)
  · exact (win0_1.rect_emb_val t (ix2 k u) 0).trans ((congrArg (· * 2048 + (k : ℕ)) a0).trans (by omega))
  · exact (win0_1.rect_emb_val t (ix2 k u) 1).trans ((congrArg (· * 1024 + (u : ℕ)) a1).trans (Nat.mod_eq_of_lt (by omega)).symm)

theorem block2 (c : Dev nD) (t : Fin cfg0.N) (u : Fin 1024) (k : Fin 2048) :
    (iblk m c 2 t : Vec Ideal S1024x2048 .bf16) (ix2 u k) = down m c (ix3 0 (Fin.ofNat 8192 (t.val % 8 * 1024 + u)) k) := by
  obtain ⟨-, -, ⟨a0, a1⟩, -⟩ := index0 t
  refine (congrArg (V m c main_v4) (eq_ix2 (M := 8192) (K := 2048) _ (Fin.ofNat 8192 (t.val % 8 * 1024 + u)) k ?_ ?_)).trans (host_down _ _ _)
  · exact (win0_2.rect_emb_val t (ix2 u k) 0).trans ((congrArg (· * 1024 + (u : ℕ)) a0).trans (Nat.mod_eq_of_lt (by omega)).symm)
  · exact (win0_2.rect_emb_val t (ix2 u k) 1).trans ((congrArg (· * 2048 + (k : ℕ)) a1).trans (by omega))

theorem block3 (c : Dev nD) (t : Fin cfg0.N) (b : Fin 16) (p : Fin 32) (k : Fin 2048) :
    (iblk m c 3 t : Vec Ideal S16x32x2048 .f32) (ix3 b p k) = base m c (ix3 b p k) := by
  obtain ⟨-, -, -, ⟨a0, a1, a2⟩, -⟩ := index0 t
  refine (congrArg (V m c main_arg1) (eq_ix3 (A := 16) (B := 32) (C := 2048) _ b p k ?_ ?_ ?_)).trans (congrFun (V_main_arg1 m c) _)
  · exact (win0_3.rect_emb_val t (ix3 b p k) 0).trans ((congrArg (· * 16 + (b : ℕ)) a0).trans (by omega))
  · exact (win0_3.rect_emb_val t (ix3 b p k) 1).trans ((congrArg (· * 32 + (p : ℕ)) a1).trans (by omega))
  · exact (win0_3.rect_emb_val t (ix3 b p k) 2).trans ((congrArg (· * 2048 + (k : ℕ)) a2).trans (by omega))

theorem block4 (c : Dev nD) (t : Fin cfg0.N) (b : Fin 16) (k : Fin 2048) : (iblk m c 4 t : Vec Ideal S16x1x2048 .f32) (ix3 b 0 k) = mods m c (ix3 b 5 k) := by
  obtain ⟨-, -, -, -, ⟨a0, a1, a2⟩, -⟩ := index0 t
  refine (congrArg (V m c main_v0) (eq_ix3 (A := 16) (B := 1) (C := 2048) _ b 0 k ?_ ?_ ?_)).trans (host_gate _ _ _)
  · exact (win0_4.rect_emb_val t (ix3 b 0 k) 0).trans ((congrArg (· * 16 + (b : ℕ)) a0).trans (by omega))
  · exact (win0_4.rect_emb_val t (ix3 b 0 k) 1).trans ((congrArg (· * 1 + 0) a1).trans (by rfl))
  · exact (win0_4.rect_emb_val t (ix3 b 0 k) 2).trans ((congrArg (· * 2048 + (k : ℕ)) a2).trans (by omega))

theorem block5 (c : Dev nD) (t : Fin cfg0.N) (k : Fin 2048) : (iblk m c 5 t : Vec Ideal S1x1x2048 .f32) (ix3 0 0 k) = scale m c (ix1 k) := by
  obtain ⟨-, -, -, -, -, a0, a1, a2⟩ := index0 t
  refine (congrArg (V m c main_v5) (eq_ix3 (A := 1) (B := 1) (C := 2048) _ 0 0 k ?_ ?_ ?_)).trans (host_norm _ _)
  · exact (win0_5.rect_emb_val t (ix3 0 0 k) 0).trans ((congrArg (· * 1 + 0) a0).trans (by rfl))
  · exact (win0_5.rect_emb_val t (ix3 0 0 k) 1).trans ((congrArg (· * 1 + 0) a1).trans (by rfl))
  · exact (win0_5.rect_emb_val t (ix3 0 0 k) 2).trans ((congrArg (· * 2048 + (k : ℕ)) a2).trans (by omega))

end Cert.MlpSampleIdeal.Layer

end
-- ==== Proof.MlpSampleOut.lean ====
/- The feed-forward call of the sample computes what the reference does. -/
module

public import proofs.«01_k».proof.Defs
public import proofs.«01_k».proof.Proof.Gen.MlpSample
public import proofs.«01_k».proof.Proof.Gen.MlpSample.Frame
public import proofs.«01_k».proof.Proof.Gen.MlpSampleIdeal
public import proofs.«01_k».proof.Proof.Gen.MlpSampleIdeal.Frame
public import proofs.«01_k».proof.Proof.Gen.MlpSampleIdeal.Value
public import proofs.«01_k».proof.Proof.Gen.MlpSampleReferenceIdeal
public import proofs.«01_k».proof.Proof.Gen.MlpSampleReferenceIdeal.Run
public import proofs.«01_k».proof.Proof.MlpSampleCase

@[expose] public section

set_option maxRecDepth 16384
set_option maxHeartbeats 2000000

noncomputable section

namespace Cert.MlpSampleIdeal.Layer

open Idealize.ShloMosaic Idealize.ShloMosaic.TcCoe Idealize.SL.Sem
open Cert.MlpSampleIdeal Cert.MlpSampleIdeal.Gen Cert.Layer
open scoped BigOperators

variable (m : (ℓ : Loc nD τ sig) → Buf (Elt Ideal) ℓ)

/-- What chunk `s` adds to the sums. -/
def share (c : Dev nD) (s : ℕ) (i : S512x2048.Idx) : EReal :=
  chunkAt (fun k => rowsIn m c (ix2 (i 0) k)) (up m c) (down m c) (i 1) s

theorem adds (c : Dev nD) (t : Fin cfg0.N) (acc : Vec Ideal S512x2048 .f32) (i : S512x2048.Idx) :
    k0_pay2 (iblk m c 0 t) (iblk m c 1 t) acc (iblk m c 2 t) i = acc i + share m c (t.val % 8) i := by
  rw [same_step]
  exact (Cert.MlpIdeal.Layer.step _ _ _ _ i).trans (congrArg (acc i + ·) (Finset.sum_congr rfl fun u _ => congrArg₂ (fun a b : EReal => a * b)
    (congrArg squared (Finset.sum_congr rfl fun k _ => congrArg₂ (fun a b : EReal => a * b) (block0 m c t (i 0) k) (block1 m c t k u))) (block2 m c t u (i 1))))

/-- After a point the sums are those of the chunks so far. -/
theorem sums (c : Dev nD) (i : S512x2048.Idx) : ∀ (n : ℕ) (h : n < cfg0.N), (outsAt0 m c n h).2 i = ∑ s ∈ Finset.range (n % 8 + 1), share m c s i :=
  run_sum (fun n h => (outsAt0 m c n h).2 i) (fun _ s => share m c s i)
    (fun n h h0 => (congrFun (first m c ⟨n, h⟩ h0) i).trans ((adds m c ⟨n, h⟩ _ i).trans (by rw [same_reset, Cert.MlpIdeal.Layer.reset, zero_add])))
    fun n h h0 => (congrFun (next m c ⟨n + 1, h⟩ h0) i).trans (adds m c ⟨n + 1, h⟩ _ i)

/-- The call's result, of the arguments. -/
def result (c : Dev nD) : Arr ⟨3, ![16, 32, 2048]⟩ := closing row (rowsIn m c) (base m c) (mods m c) (up m c) (down m c) (scale m c)

theorem closed (c : Dev nD) (t : Fin cfg0.N) (h : t.val % 8 = 7) (j : S16x32x2048.Idx) : (outsAt0 m c t.val t.isLt).1 j = result m c j := by
  rw [last m c t h, close]
  refine rootAt_congr (fun k => congrArg₂ (fun a b : EReal => a + b) (block3 m c t (j 0) (j 1) k) (congrArg₂ (fun a b : EReal => a * b) (block4 m c t (j 0) k) ?_)) (block5 m c t (j 2)) rfl
  rw [sums, h]
  exact chunks_eq _ _ _ _

theorem out (c : Dev nD) : Cert.MlpSampleIdeal.Value.G6 m c = result m c := by
  funext i
  have h0 : (i 0 : ℕ) < 16 := (i 0).isLt
  have h1 : (i 1 : ℕ) < 32 := (i 1).isLt
  have h2 : (i 2 : ℕ) < 2048 := (i 2).isLt
  have hr : Cert.MlpSampleIdeal.Value.run6Of i = 0 := by
    show 1 * ((i 0 : ℕ) / 16 - 0) + 1 * ((i 1 : ℕ) / 32 - 0) + 1 * ((i 2 : ℕ) / 2048 - 0) = _
    omega
  have hp : Cert.MlpSampleIdeal.Value.pt6Of i = 7 := congrArg (8 * · + 7) hr
  have hN : Cert.MlpSampleIdeal.Value.pt6Of i < cfg0.N := lt_of_lt_of_eq (by omega) N_0.symm
  unfold Cert.MlpSampleIdeal.Value.G6
  rw [dif_pos hN, ← Cert.MlpSampleIdeal.Value.outsAt0_sweep m c _ hN]
  refine (closed m c ⟨_, hN⟩ (by show Cert.MlpSampleIdeal.Value.pt6Of i % 8 = 7; omega) _).trans (congrArg (result m c) (funext fun a => Fin.ext ?_))
  match a with
  | ⟨0, _⟩ => exact Nat.mod_eq_of_lt h0
  | ⟨1, _⟩ => exact Nat.mod_eq_of_lt h1
  | ⟨2, _⟩ => exact Nat.mod_eq_of_lt h2

end Cert.MlpSampleIdeal.Layer

namespace Cert.MlpSampleReferenceIdeal.Layer

open Idealize.ShloMosaic Idealize.ShloMosaic.TcCoe
open Cert.MlpSampleReferenceIdeal Cert.MlpSampleReferenceIdeal.Gen Cert.MlpSampleReferenceIdeal.Value Cert.Layer
open Cert.MlpSampleIdeal.Layer (row)
open scoped BigOperators

/-- The norm of the rows, at an element. -/
theorem normed (x : FVec Ideal S16x32x2048 .f32) (g : FVec Ideal S2048 .f32) (i : S16x32x2048.Idx) :
    mulf (mulf x (broadcastInDim S16x32x2048 ![0, 1, 2] bcast_S16x32x1_S16x32x2048_0_1_2 (Host.rsqrt (addf (Host.divf (broadcastInDim S16x32x1 ![0, 1] bcast_S16x32_S16x32x1_0_1
      (Host.reduceAdd (mulf x x) (constant S_ .f32 0x00000000#32) reducesTo_S16x32x2048_S16x32_d2 h_S_)) (broadcastInDim S16x32x1 ![] bcast_S_S16x32x1 (constant S_ .f32 0x45000000#32)))
        (broadcastInDim S16x32x1 ![] bcast_S_S16x32x1 (constant S_ .f32 0x358637BD#32))))))
      (broadcastInDim S16x32x2048 ![0, 1, 2] bcast_S1x1x2048_S16x32x2048_0_1_2 (broadcastInDim S1x1x2048 ![2] bcast_S2048_S1x1x2048_2 g)) i
    = rootAt (fun k => x (ix3 (i 0) (i 1) k)) (g (ix1 (i 2))) (i 2) := by
  idx_vars i
  pointwise
  rfl

/-- A hidden unit before its square. -/
theorem hidden (h : FVec Ideal S512x2048 .bf16) (up : FVec Ideal S1x2048x8192 .f32) (b : Fin 16) (t : Fin 32) (f : Fin 8192) :
    maximumf (Host.dotGeneral dot_S16x32x2048_S2048x8192_S16x32x8192_2_0_01_1_n_n none (shapeCast _ (extf .f32 h bitsLt_bf16_f32) shapeCasts_S512x2048_S16x32x2048)
      (shapeCast _ up shapeCasts_S1x2048x8192_S2048x8192)) (broadcastInDim S16x32x8192 ![] bcast_S_S16x32x8192 (constant S_ .f32 0x00000000#32)) (ix3 b t f)
    = max (∑ k : Fin 2048, (h (ix2 (row b t) k) : EReal) * up (ix3 0 k f)) 0 := by
  pointwise
  rfl

/-- The gated feed-forward part added to the rows, at an element. -/
theorem added (x : FVec Ideal S16x32x2048 .f32) (mod : FVec Ideal S16x6x2048 .f32) (u : FVec Ideal S16x32x8192 .f32) (down : FVec Ideal S1x8192x2048 .f32)
    (b : Fin 16) (t : Fin 32) (j : Fin 2048) (v : Fin 8192 → EReal) (hu : ∀ f, u (ix3 b t f) = v f) :
    addf x (mulf (broadcastInDim S16x32x2048 ![0, 1, 2] bcast_S16x1x2048_S16x32x2048_0_1_2 (broadcastInDim S16x1x2048 ![0, 2] bcast_S16x2048_S16x1x2048_0_2
      (shapeCast _ (extractStridedSlice S16x1x2048 ![0, 5, 0] mod slices_S16x6x2048_S16x1x2048_0_5_0) shapeCasts_S16x1x2048_S16x2048)))
      (Host.dotGeneral dot_S16x32x8192_S8192x2048_S16x32x2048_2_0_01_1_n_n none (mulf u u) (shapeCast _ down shapeCasts_S1x8192x2048_S8192x2048))) (ix3 b t j)
    = x (ix3 b t j) + mod (ix3 b 5 j) * ∑ f : Fin 8192, v f * v f * down (ix3 0 f j) := by
  simp only [← hu]
  pointwise

theorem out (m : (ℓ : Loc nD τ sig) → Buf (Elt Ideal) ℓ) (c : Dev nD) :
    res_main_v26 m c = closing row (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  idx_vars i
  unfold res_main_v26
  refine (normed _ _ _).trans ?_
  unfold closing finalAt
  refine rootAt_congr (fun k => ?_) rfl rfl
  exact added _ _ _ _ i0 i1 k _ (hidden _ _ i0 i1)

end Cert.MlpSampleReferenceIdeal.Layer

namespace Cert.Layer

open Idealize.ShloMosaic Idealize.SL.Sem

/-- From the same arguments the two programs end with the same result, their arguments unchanged. -/
theorem mlp_sample_values : Cert.algebraic_MlpSampleIdeal_MlpSampleReferenceIdeal (hMlpSampleIdeal := Cert.MlpSampleIdeal.Gen.facts)
    (hMlpSampleReferenceIdeal := Cert.MlpSampleReferenceIdeal.Gen.facts) := by
  intro m g m' g' _ agree
  refine ⟨Cert.MlpSampleIdeal.Layer.result m, (θ_run _ _ _).mono (fun r h c => ⟨(h c).1.trans (Cert.MlpSampleIdeal.Layer.out m c), (h c).2⟩) (Cert.MlpSampleIdeal.Value.run m g),
    (θ_run _ _ _).mono (fun r h c => ⟨(h c).1.trans ((Cert.MlpSampleReferenceIdeal.Layer.out m' c).trans ?_), (h c).2⟩) (Cert.MlpSampleReferenceIdeal.Value.run m' g')⟩
  obtain ⟨a0, a1, a2, a3, a4, a5⟩ := agree c
  rw [a0, a1, a2, a3, a4, a5]
  rfl

/-- The reference terminates with its arguments unchanged; it declares no semaphore. -/
theorem mlp_sample_reference_runs : Cert.quiescent_MlpSampleReferenceIdeal (hMlpSampleReferenceIdeal := Cert.MlpSampleReferenceIdeal.Gen.facts) := fun m ρ _ =>
  (θ_run _ _ _).mono (fun r h => ⟨fun c => (h c).2, sem_eq_zero_of_no_sems (by decide) r.2⟩) (Cert.MlpSampleReferenceIdeal.Value.run m ρ)

end Cert.Layer

end
-- ==== Proof.MergeTile.lean ====
/- The merge of the two branches: its mathematics at an element, and what one point of the call computes from its blocks. -/
module

public import proofs.«01_k».proof.Proof.Gen.MergeIdeal.Frame
public import proofs.«01_k».proof.Proof.MlpSampleOut

@[expose] public section

set_option maxRecDepth 16384
set_option maxHeartbeats 2000000

noncomputable section

namespace Cert.Layer

open Idealize.ShloMosaic
open scoped BigOperators

/-- The sigmoid. -/
def sigmoid (z : EReal) : EReal := Ideal.div 1 (1 + Ideal.exp (0 - z))

/-- One element of a row after the gated merge: the row plus its gate times the two gated branches' product with the output weight. -/
def joinAt (x gate ga gb o q : Fin 2048 → EReal) (w : Fin 2048 → Fin 2048 → EReal) (j : Fin 2048) : EReal :=
  x j + gate j * ∑ k : Fin 2048, (sigmoid (ga k) * o k + sigmoid (gb k) * q k) * w k j

theorem joinAt_congr {x x' gate gate' ga ga' gb gb' o o' q q' : Fin 2048 → EReal} {w w' : Fin 2048 → Fin 2048 → EReal} {j j' : Fin 2048} (hx : ∀ k, x k = x' k)
    (hg : ∀ k, gate k = gate' k) (ha : ∀ k, ga k = ga' k) (hb : ∀ k, gb k = gb' k) (ho : ∀ k, o k = o' k) (hq : ∀ k, q k = q' k) (hw : ∀ k i, w k i = w' k i) (hj : j = j') :
    joinAt x gate ga gb o q w j = joinAt x' gate' ga' gb' o' q' w' j' := by
  obtain rfl : x = x' := funext hx
  obtain rfl : gate = gate' := funext hg
  obtain rfl : ga = ga' := funext ha
  obtain rfl : gb = gb' := funext hb
  obtain rfl : o = o' := funext ho
  obtain rfl : q = q' := funext hq
  obtain rfl : w = w' := funext fun k => funext (hw k)
  subst hj
  rfl

/-- The rows after the merge, from the arguments. -/
def joined (x : Arr ⟨3, ![1, 8192, 2048]⟩) (o q ga gb : Arr ⟨2, ![8192, 2048]⟩) (mod : Arr ⟨3, ![1, 6, 2048]⟩) (w : Arr ⟨3, ![1, 2048, 2048]⟩) :
    Arr ⟨3, ![1, 8192, 2048]⟩ := fun i =>
  joinAt (fun k => x (ix3 0 (i 1) k)) (fun k => mod (ix3 0 2 k)) (fun k => ga (ix2 (i 1) k)) (fun k => gb (ix2 (i 1) k)) (fun k => o (ix2 (i 1) k)) (fun k => q (ix2 (i 1) k))
    (fun k j => w (ix3 0 k j)) (i 2)

/-- The modulated norm of those rows. -/
def entered (x : Arr ⟨3, ![1, 8192, 2048]⟩) (mod : Arr ⟨3, ![1, 6, 2048]⟩) (g : Arr ⟨2, ![1, 2048]⟩) : Arr ⟨2, ![8192, 2048]⟩ := fun i =>
  normAt (fun k => x (ix3 0 (i 0) k)) (g (ix2 0 (i 1))) (mod (ix3 0 4 (i 1))) (mod (ix3 0 3 (i 1))) (i 1)

end Cert.Layer

namespace Cert.MergeIdeal.Layer

open Idealize.ShloMosaic Idealize.ShloMosaic.TcCoe
open Cert.MergeIdeal Cert.MergeIdeal.Gen Cert.Layer
open scoped BigOperators

theorem pay1 (x : Vec Ideal S1x256x2048 .f32) (ga o gb q : Vec Ideal S256x2048 .bf16) (w : Vec Ideal S2048x2048 .bf16) (gate : Vec Ideal S1x1x2048 .f32) (j : S1x256x2048.Idx) :
    k0_pay1 x (k0_pay3 ga o gb q w gate) j = joinAt (fun k => x (ix3 0 (j 1) k)) (fun k => gate (ix3 0 0 k)) (fun k => ga (ix2 (j 1) k)) (fun k => gb (ix2 (j 1) k))
      (fun k => o (ix2 (j 1) k)) (fun k => q (ix2 (j 1) k)) (fun k i => w (ix2 k i)) (j 2) := by
  idx_vars j
  obtain rfl : j0 = 0 := Subsingleton.elim _ _
  unfold k0_pay1 k0_pay3
  pointwise
  rfl

theorem pay2 (x : Vec Ideal S1x256x2048 .f32) (d : FVec Ideal S1x256x2048 .f32) (g sc sh : Vec Ideal S1x1x2048 .f32) (j : S256x2048.Idx) :
    k0_pay2 x d g sc sh j = normAt (fun k => k0_pay1 x d (ix3 0 (j 0) k)) (g (ix3 0 0 (j 1))) (sc (ix3 0 0 (j 1))) (sh (ix3 0 0 (j 1))) (j 1) := by
  idx_vars j
  unfold k0_pay2
  generalize k0_pay1 x d = y
  pointwise
  rfl

section Host

variable (W : Valuation τ sig (Elt Ideal))

theorem host_gate (k : Fin 2048) : (StableHlo.after hostOps0 W (Proc.devRef .tc main_v0) : Arr S1x1x2048) (ix3 0 0 k) = W (Proc.devRef .tc main_arg5) (ix3 0 2 k) := by
  after_reads_at

theorem host_shift (k : Fin 2048) : (StableHlo.after hostOps0 W (Proc.devRef .tc main_v1) : Arr S1x1x2048) (ix3 0 0 k) = W (Proc.devRef .tc main_arg5) (ix3 0 3 k) := by
  after_reads_at

theorem host_scale (k : Fin 2048) : (StableHlo.after hostOps0 W (Proc.devRef .tc main_v2) : Arr S1x1x2048) (ix3 0 0 k) = W (Proc.devRef .tc main_arg5) (ix3 0 4 k) := by
  after_reads_at

theorem host_weight (k j : Fin 2048) : (StableHlo.after hostOps0 W (Proc.devRef .tc main_v4) : Arr S2048x2048) (ix2 k j) = W (Proc.devRef .tc main_arg6) (ix3 0 k j) := by
  after_reads_at

theorem host_norm (k : Fin 2048) : (StableHlo.after hostOps0 W (Proc.devRef .tc main_v6) : Arr S1x1x2048) (ix3 0 0 k) = W (Proc.devRef .tc main_arg7) (ix2 0 k) := by
  after_reads_at

end Host

theorem index0 (t : Fin grid0.N) : (win0_0.index t 0 = 0 ∧ win0_0.index t 1 = t.val ∧ win0_0.index t 2 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0)
    ∧ win0_5.index t 0 = 0 ∧ win0_5.index t 1 = 0 := by
  revert t; decide +kernel

theorem index1 (t : Fin grid0.N) : win0_6.index t 2 = 0 ∧ win0_7.index t 2 = 0 ∧ win0_8.index t 2 = 0 ∧ win0_9.index t 2 = 0
    ∧ (win0_10.index t 0 = 0 ∧ win0_10.index t 1 = t.val ∧ win0_10.index t 2 = 0) ∧ win0_11.index t 0 = t.val ∧ win0_11.index t 1 = 0 := by
  revert t; decide +kernel

theorem points (t : Fin cfg0.N) : t.val < 32 := lt_of_lt_of_eq t.isLt N_0

/-- The row of the whole that row `p` of block `t` is. -/
def place (t : Fin cfg0.N) (p : Fin 256) : Fin 8192 := ⟨t.val * 256 + p, by have := points t; omega⟩

variable (m : (ℓ : Loc nD τ sig) → Buf (Elt Ideal) ℓ)

theorem block0 (c : Dev nD) (t : Fin cfg0.N) (p : Fin 256) (k : Fin 2048) :
    (iblk m c 0 t : Vec Ideal S1x256x2048 .f32) (ix3 0 p k) = m ((c : Thread nD τ).loc main_arg0) (ix3 0 (place t p) k) := by
  obtain ⟨⟨a0, a1, a2⟩, -⟩ := index0 t
  refine (congrArg (V m c main_arg0) (eq_ix3 (A := 1) (B := 8192) (C := 2048) _ 0 (place t p) k ?_ ?_ ?_)).trans (congrFun (V_main_arg0 m c) _)
  · exact (win0_0.rect_emb_val t (ix3 0 p k) 0).trans ((congrArg (· * 1 + 0) a0).trans (by rfl))
  · exact (win0_0.rect_emb_val t (ix3 0 p k) 1).trans (congrArg (· * 256 + (p : ℕ)) a1)
  · exact (win0_0.rect_emb_val t (ix3 0 p k) 2).trans ((congrArg (· * 2048 + (k : ℕ)) a2).trans (by omega))

theorem block1 (c : Dev nD) (t : Fin cfg0.N) (p : Fin 256) (k : Fin 2048) :
    (iblk m c 1 t : Vec Ideal S256x2048 .bf16) (ix2 p k) = m ((c : Thread nD τ).loc main_arg1) (ix2 (place t p) k) := by
  obtain ⟨-, ⟨a0, a1⟩, -⟩ := index0 t
  refine (congrArg (V m c main_arg1) (eq_ix2 (M := 8192) (K := 2048) _ (place t p) k ?_ ?_)).trans (congrFun (V_main_arg1 m c) _)
  · exact (win0_1.rect_emb_val t (ix2 p k) 0).trans (congrArg (· * 256 + (p : ℕ)) a0)
  · exact (win0_1.rect_emb_val t (ix2 p k) 1).trans ((congrArg (· * 2048 + (k : ℕ)) a1).trans (by omega))

theorem block2 (c : Dev nD) (t : Fin cfg0.N) (p : Fin 256) (k : Fin 2048) :
    (iblk m c 2 t : Vec Ideal S256x2048 .bf16) (ix2 p k) = m ((c : Thread nD τ).loc main_arg2) (ix2 (place t p) k) := by
  obtain ⟨-, -, ⟨a0, a1⟩, -⟩ := index0 t
  refine (congrArg (V m c main_arg2) (eq_ix2 (M := 8192) (K := 2048) _ (place t p) k ?_ ?_)).trans (congrFun (V_main_arg2 m c) _)
  · exact (win0_2.rect_emb_val t (ix2 p k) 0).trans (congrArg (· * 256 + (p : ℕ)) a0)
  · exact (win0_2.rect_emb_val t (ix2 p k) 1).trans ((congrArg (· * 2048 + (k : ℕ)) a1).trans (by omega))

theorem block3 (c : Dev nD) (t : Fin cfg0.N) (p : Fin 256) (k : Fin 2048) :
    (iblk m c 3 t : Vec Ideal S256x2048 .bf16) (ix2 p k) = m ((c : Thread nD τ).loc main_arg3) (ix2 (place t p) k) := by
  obtain ⟨-, -, -, ⟨a0, a1⟩, -⟩ := index0 t
  refine (congrArg (V m c main_arg3) (eq_ix2 (M := 8192) (K := 2048) _ (place t p) k ?_ ?_)).trans (congrFun (V_main_arg3 m c) _)
  · exact (win0_3.rect_emb_val t (ix2 p k) 0).trans (congrArg (· * 256 + (p : ℕ)) a0)
  · exact (win0_3.rect_emb_val t (ix2 p k) 1).trans ((congrArg (· * 2048 + (k : ℕ)) a1).trans (by omega))

theorem block4 (c : Dev nD) (t : Fin cfg0.N) (p : Fin 256) (k : Fin 2048) :
    (iblk m c 4 t : Vec Ideal S256x2048 .bf16) (ix2 p k) = m ((c : Thread nD τ).loc main_arg4) (ix2 (place t p) k) := by
  obtain ⟨-, -, -, -, ⟨a0, a1⟩, -⟩ := index0 t
  refine (congrArg (V m c main_arg4) (eq_ix2 (M := 8192) (K := 2048) _ (place t p) k ?_ ?_)).trans (congrFun (V_main_arg4 m c) _)
  · exact (win0_4.rect_emb_val t (ix2 p k) 0).trans (congrArg (· * 256 + (p : ℕ)) a0)
  · exact (win0_4.rect_emb_val t (ix2 p k) 1).trans ((congrArg (· * 2048 + (k : ℕ)) a1).trans (by omega))

theorem block5 (c : Dev nD) (t : Fin cfg0.N) (k j : Fin 2048) : (iblk m c 5 t : Vec Ideal S2048x2048 .bf16) (ix2 k j) = m ((c : Thread nD τ).loc main_arg6) (ix3 0 k j) := by
  obtain ⟨-, -, -, -, -, a0, a1⟩ := index0 t
  refine (congrArg (V m c main_v4) (eq_ix2 (M := 2048) (K := 2048) _ k j ?_ ?_)).trans (host_weight _ _ _)
  · exact (win0_5.rect_emb_val t (ix2 k j) 0).trans ((congrArg (· * 2048 + (k : ℕ)) a0).trans (by omega))
  · exact (win0_5.rect_emb_val t (ix2 k j) 1).trans ((congrArg (· * 2048 + (j : ℕ)) a1).trans (by omega))

theorem block6 (c : Dev nD) (t : Fin cfg0.N) (k : Fin 2048) : (iblk m c 6 t : Vec Ideal S1x1x2048 .f32) (ix3 0 0 k) = m ((c : Thread nD τ).loc main_arg5) (ix3 0 2 k) := by
  refine (congrArg (V m c main_v0) (eq_ix3 (A := 1) (B := 1) (C := 2048) _ 0 0 k (Nat.lt_one_iff.1 (Fin.isLt _)) (Nat.lt_one_iff.1 (Fin.isLt _)) ?_)).trans (host_gate _ _)
  exact (win0_6.rect_emb_val t (ix3 0 0 k) 2).trans ((congrArg (· * 2048 + (k : ℕ)) (index1 t).1).trans (by omega))

theorem block7 (c : Dev nD) (t : Fin cfg0.N) (k : Fin 2048) : (iblk m c 7 t : Vec Ideal S1x1x2048 .f32) (ix3 0 0 k) = m ((c : Thread nD τ).loc main_arg5) (ix3 0 4 k) := by
  refine (congrArg (V m c main_v2) (eq_ix3 (A := 1) (B := 1) (C := 2048) _ 0 0 k (Nat.lt_one_iff.1 (Fin.isLt _)) (Nat.lt_one_iff.1 (Fin.isLt _)) ?_)).trans (host_scale _ _)
  exact (win0_7.rect_emb_val t (ix3 0 0 k) 2).trans ((congrArg (· * 2048 + (k : ℕ)) (index1 t).2.1).trans (by omega))

theorem block8 (c : Dev nD) (t : Fin cfg0.N) (k : Fin 2048) : (iblk m c 8 t : Vec Ideal S1x1x2048 .f32) (ix3 0 0 k) = m ((c : Thread nD τ).loc main_arg5) (ix3 0 3 k) := by
  refine (congrArg (V m c main_v1) (eq_ix3 (A := 1) (B := 1) (C := 2048) _ 0 0 k (Nat.lt_one_iff.1 (Fin.isLt _)) (Nat.lt_one_iff.1 (Fin.isLt _)) ?_)).trans (host_shift _ _)
  exact (win0_8.rect_emb_val t (ix3 0 0 k) 2).trans ((congrArg (· * 2048 + (k : ℕ)) (index1 t).2.2.1).trans (by omega))

theorem block9 (c : Dev nD) (t : Fin cfg0.N) (k : Fin 2048) : (iblk m c 9 t : Vec Ideal S1x1x2048 .f32) (ix3 0 0 k) = m ((c : Thread nD τ).loc main_arg7) (ix2 0 k) := by
  refine (congrArg (V m c main_v6) (eq_ix3 (A := 1) (B := 1) (C := 2048) _ 0 0 k (Nat.lt_one_iff.1 (Fin.isLt _)) (Nat.lt_one_iff.1 (Fin.isLt _)) ?_)).trans (host_norm _ _)
  exact (win0_9.rect_emb_val t (ix3 0 0 k) 2).trans ((congrArg (· * 2048 + (k : ℕ)) (index1 t).2.2.2.1).trans (by omega))

end Cert.MergeIdeal.Layer

end
-- ==== Proof.MergeOut.lean ====
/- The merge call computes what its reference does. -/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.MergeTile

@[expose] public section

set_option maxRecDepth 16384
set_option maxHeartbeats 2000000

noncomputable section

namespace Cert.MergeIdeal.Layer

open Idealize.ShloMosaic Idealize.ShloMosaic.TcCoe
open Idealize.ShloMosaic.Pipeline (Dat)
open Cert.MergeIdeal Cert.MergeIdeal.Gen Cert.Layer
open Cert.KernelIdeal.Layer (normAt_congr)
open scoped BigOperators

variable (m : (ℓ : Loc nD τ sig) → Buf (Elt Ideal) ℓ)

/-- The call's first result, of the arguments. -/
def rows (c : Dev nD) : Arr ⟨3, ![1, 8192, 2048]⟩ :=
  joined (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- Its second result. -/
def norms (c : Dev nD) : Arr ⟨2, ![8192, 2048]⟩ := entered (rows m c) (m ((c : Thread nD τ).loc main_arg5)) (m ((c : Thread nD τ).loc main_arg7))

/-- The rows a point computes are those of the whole where its block lies. -/
theorem rows_at (c : Dev nD) (t : Fin cfg0.N) (p : Fin 256) (k : Fin 2048) :
    k0_pay1 (iblk m c 0 t) (k0_pay3 (iblk m c 3 t) (iblk m c 1 t) (iblk m c 4 t) (iblk m c 2 t) (iblk m c 5 t) (iblk m c 6 t)) (ix3 0 p k) = rows m c (ix3 0 (place t p) k) := by
  rw [pay1]
  unfold rows joined
  refine joinAt_congr (fun k => ?_) (fun k => ?_) (fun k => ?_) (fun k => ?_) (fun k => ?_) (fun k => ?_) (fun k i => ?_) ?_
  · exact block0 m c t p k
  · exact block6 m c t k
  · exact block3 m c t p k
  · exact block4 m c t p k
  · exact block1 m c t p k
  · exact block2 m c t p k
  · exact block5 m c t k i
  · rfl

theorem cover10 (i : S1x8192x2048.Idx) : ∃ t : Fin cfg0.N, (cfg0.win 10).flush t = true ∧ i ∈ ((cfg0.win 10).blk t).view.set := by
  have h0 : (i 0 : Nat) < 1 := (i 0).isLt
  have h1 : (i 1 : Nat) < 8192 := (i 1).isLt
  have h2 : (i 2 : Nat) < 2048 := (i 2).isLt
  let t : Fin cfg0.N := ⟨(i 1 : ℕ) / 256, lt_of_lt_of_eq (by omega) N_0.symm⟩
  obtain ⟨-, -, -, -, ⟨e0, e1, e2⟩, -⟩ := index1 t
  refine ⟨t, flush0_10 t, ?_⟩
  show i ∈ ((View.whole main_v7_0).slice (win0_10.rect t)).set
  rw [View.set_slice_whole, Rect.mem_set_unit]
  exact mem_tile3 (A := 1) (B := 8192) (C := 2048) (a := 1) (b := 256) (c := 2048) i (by decide) (by decide) (by decide) (e0.trans (by omega)) e1 (e2.trans (by omega))

theorem cover11 (i : S8192x2048.Idx) : ∃ t : Fin cfg0.N, (cfg0.win 11).flush t = true ∧ i ∈ ((cfg0.win 11).blk t).view.set := by
  have h0 : (i 0 : Nat) < 8192 := (i 0).isLt
  have h1 : (i 1 : Nat) < 2048 := (i 1).isLt
  let t : Fin cfg0.N := ⟨(i 0 : ℕ) / 256, lt_of_lt_of_eq (by omega) N_0.symm⟩
  obtain ⟨-, -, -, -, -, e0, e1⟩ := index1 t
  refine ⟨t, flush0_11 t, ?_⟩
  show i ∈ ((View.whole main_v7_1).slice (win0_11.rect t)).set
  rw [View.set_slice_whole, Rect.mem_set_unit]
  exact mem_tile (M := 8192) (N := 2048) (m := 256) (n := 2048) i (by decide) (by decide) e0 (e1.trans (by omega))

theorem out10 (c : Dev nD) : (dats m 0 c).arrAt 10 cfg0.N = rows m c := by
  funext i
  refine (dats m 0 c).arrAt_forall_of_cover 10 (fun i x => x = rows m c i) (fun t _ (y : S1x256x2048.Idx) => ?_) cover10 i
  show (dats m 0 c).after 10 t y = _
  rw [after0_10]
  unfold out0_10 k0_pay4
  rw [View.canon_unit_zero zeros3]
  simp only [View.ld_unit_zero (S := S256x2048) zeros2, View.ld_unit_zero (S := S2048x2048) zeros2, View.ld_unit_zero (S := S1x256x2048) zeros3, View.ld_unit_zero (S := S1x1x2048) zeros3]
  obtain ⟨-, -, -, -, ⟨e0, e1, e2⟩, -⟩ := index1 t
  have E0 := (win0_10.rect_emb_val t y 0).trans (congrArg (· * 1 + (y 0 : ℕ)) e0)
  have E1 := (win0_10.rect_emb_val t y 1).trans (congrArg (· * 256 + (y 1 : ℕ)) e1)
  have E2 := (win0_10.rect_emb_val t y 2).trans (congrArg (· * 2048 + (y 2 : ℕ)) e2)
  have hy : (y 0 : ℕ) < 1 := (y 0).isLt
  refine (congrArg _ (eq_ix3 (A := 1) (B := 256) (C := 2048) y 0 (y 1) (y 2) (Nat.lt_one_iff.1 hy) rfl rfl)).trans ((rows_at m c t (y 1) (y 2)).trans (congrArg (rows m c) ?_))
  exact (eq_ix3 (A := 1) (B := 8192) (C := 2048) _ 0 (place t (y 1)) (y 2) (E0.trans (by show 0 * 1 + (y 0 : ℕ) = 0; omega)) E1 (E2.trans (by omega))).symm

theorem out11 (c : Dev nD) : (dats m 0 c).arrAt 11 cfg0.N = norms m c := by
  funext i
  refine (dats m 0 c).arrAt_forall_of_cover 11 (fun i x => x = norms m c i) (fun t _ (y : S256x2048.Idx) => ?_) cover11 i
  show (dats m 0 c).after 11 t y = _
  rw [after0_11]
  unfold out0_11 k0_pay4
  rw [View.canon_unit_zero zeros2]
  simp only [View.ld_unit_zero (S := S256x2048) zeros2, View.ld_unit_zero (S := S2048x2048) zeros2, View.ld_unit_zero (S := S1x256x2048) zeros3, View.ld_unit_zero (S := S1x1x2048) zeros3]
  obtain ⟨-, -, -, -, -, e0, e1⟩ := index1 t
  have E0 := (win0_11.rect_emb_val t y 0).trans (congrArg (· * 256 + (y 0 : ℕ)) e0)
  have E1 := (win0_11.rect_emb_val t y 1).trans (congrArg (· * 2048 + (y 1 : ℕ)) e1)
  refine (pay2 _ _ _ _ _ y).trans ((normAt_congr (fun k => rows_at m c t (y 0) k) (block9 m c t (y 1)) (block7 m c t (y 1)) (block8 m c t (y 1)) rfl).trans ?_)
  exact congrArg (norms m c) (eq_ix2 (M := 8192) (K := 2048) _ (place t (y 0)) (y 1) E0 (E1.trans (by omega))).symm

end Cert.MergeIdeal.Layer

namespace Cert.MergeReferenceIdeal.Layer

open Idealize.ShloMosaic Idealize.ShloMosaic.TcCoe
open Cert.MergeReferenceIdeal Cert.MergeReferenceIdeal.Gen Cert.MergeReferenceIdeal.Value Cert.Layer
open scoped BigOperators

/-- A branch times its gate, at an element. -/
theorem gated (g o : FVec Ideal S8192x2048 .bf16) (r : Fin 8192) (k : Fin 2048) :
    mulf (Host.divf (broadcastInDim S1x8192x2048 ![] bcast_S_S1x8192x2048 (constant S_ .f32 0x3F800000#32)) (addf (broadcastInDim S1x8192x2048 ![] bcast_S_S1x8192x2048 (constant S_ .f32 0x3F800000#32))
      (Host.exp (Host.negf (shapeCast _ (extf .f32 g bitsLt_bf16_f32) shapeCasts_S8192x2048_S1x8192x2048))))) (shapeCast _ (extf .f32 o bitsLt_bf16_f32) shapeCasts_S8192x2048_S1x8192x2048) (ix3 0 r k)
    = sigmoid (g (ix2 r k)) * o (ix2 r k) := by
  unfold sigmoid
  rw [zero_sub]
  pointwise

/-- The gated product added to the rows, at an element. -/
theorem added (x : FVec Ideal S1x8192x2048 .f32) (mod : FVec Ideal S1x6x2048 .f32) (u v : FVec Ideal S1x8192x2048 .f32) (w : FVec Ideal S1x2048x2048 .f32)
    (r : Fin 8192) (j : Fin 2048) (a b : Fin 2048 → EReal) (hu : ∀ k, u (ix3 0 r k) = a k) (hv : ∀ k, v (ix3 0 r k) = b k) :
    addf x (mulf (broadcastInDim S1x8192x2048 ![0, 1, 2] bcast_S1x1x2048_S1x8192x2048_0_1_2 (broadcastInDim S1x1x2048 ![0, 2] bcast_S1x2048_S1x1x2048_0_2
      (shapeCast _ (extractStridedSlice S1x1x2048 ![0, 2, 0] mod slices_S1x6x2048_S1x1x2048_0_2_0) shapeCasts_S1x1x2048_S1x2048)))
      (Host.dotGeneral dot_S1x8192x2048_S2048x2048_S1x8192x2048_2_0_01_1_n_n none (addf u v) (shapeCast _ w shapeCasts_S1x2048x2048_S2048x2048))) (ix3 0 r j)
    = x (ix3 0 r j) + mod (ix3 0 2 j) * ∑ k : Fin 2048, (a k + b k) * w (ix3 0 k j) := by
  simp only [← hu, ← hv]
  pointwise

/-- The modulated norm of rows, at an element. -/
theorem normed (x : FVec Ideal S1x8192x2048 .f32) (mod : FVec Ideal S1x6x2048 .f32) (g : FVec Ideal S1x2048 .f32) (i : S8192x2048.Idx) :
    (truncf .bf16 (shapeCast _ (addf (mulf (mulf (mulf x (broadcastInDim S1x8192x2048 ![0, 1, 2] bcast_S1x8192x1_S1x8192x2048_0_1_2 (Host.rsqrt (addf (Host.divf
      (broadcastInDim S1x8192x1 ![0, 1] bcast_S1x8192_S1x8192x1_0_1 (Host.reduceAdd (mulf x x) (constant S_ .f32 0x00000000#32) reducesTo_S1x8192x2048_S1x8192_d2 h_S_))
        (broadcastInDim S1x8192x1 ![] bcast_S_S1x8192x1 (constant S_ .f32 0x45000000#32))) (broadcastInDim S1x8192x1 ![] bcast_S_S1x8192x1 (constant S_ .f32 0x358637BD#32))))))
      (broadcastInDim S1x8192x2048 ![0, 1, 2] bcast_S1x1x2048_S1x8192x2048_0_1_2 (broadcastInDim S1x1x2048 ![2] bcast_S2048_S1x1x2048_2 (shapeCast _ g shapeCasts_S1x2048_S2048))))
      (broadcastInDim S1x8192x2048 ![0, 1, 2] bcast_S1x1x2048_S1x8192x2048_0_1_2 (addf (broadcastInDim S1x1x2048 ![] bcast_S_S1x1x2048 (constant S_ .f32 0x3F800000#32))
        (broadcastInDim S1x1x2048 ![0, 2] bcast_S1x2048_S1x1x2048_0_2 (shapeCast _ (extractStridedSlice S1x1x2048 ![0, 4, 0] mod slices_S1x6x2048_S1x1x2048_0_4_0) shapeCasts_S1x1x2048_S1x2048)))))
      (broadcastInDim S1x8192x2048 ![0, 1, 2] bcast_S1x1x2048_S1x8192x2048_0_1_2 (broadcastInDim S1x1x2048 ![0, 2] bcast_S1x2048_S1x1x2048_0_2
        (shapeCast _ (extractStridedSlice S1x1x2048 ![0, 3, 0] mod slices_S1x6x2048_S1x1x2048_0_3_0) shapeCasts_S1x1x2048_S1x2048)))) shapeCasts_S1x8192x2048_S8192x2048) bitsLt_bf16_f32
          : FVec Ideal S8192x2048 .bf16) i = entered x mod g i := by
  idx_vars i
  pointwise
  rfl

variable (m : (ℓ : Loc nD τ sig) → Buf (Elt Ideal) ℓ) (c : Dev nD)

/-- The merged rows, of the arguments. -/
def rows : Arr ⟨3, ![1, 8192, 2048]⟩ :=
  joined (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The merged rows as a whole: the reference's term is the array of the rows. -/
theorem joined_eq (x : FVec Ideal S1x8192x2048 .f32) (o q ga gb : FVec Ideal S8192x2048 .bf16) (mod : FVec Ideal S1x6x2048 .f32) (w : FVec Ideal S1x2048x2048 .f32) :
    addf x (mulf (broadcastInDim S1x8192x2048 ![0, 1, 2] bcast_S1x1x2048_S1x8192x2048_0_1_2 (broadcastInDim S1x1x2048 ![0, 2] bcast_S1x2048_S1x1x2048_0_2
      (shapeCast _ (extractStridedSlice S1x1x2048 ![0, 2, 0] mod slices_S1x6x2048_S1x1x2048_0_2_0) shapeCasts_S1x1x2048_S1x2048)))
      (Host.dotGeneral dot_S1x8192x2048_S2048x2048_S1x8192x2048_2_0_01_1_n_n none (addf
        (mulf (Host.divf (broadcastInDim S1x8192x2048 ![] bcast_S_S1x8192x2048 (constant S_ .f32 0x3F800000#32)) (addf (broadcastInDim S1x8192x2048 ![] bcast_S_S1x8192x2048 (constant S_ .f32 0x3F800000#32))
          (Host.exp (Host.negf (shapeCast _ (extf .f32 ga bitsLt_bf16_f32) shapeCasts_S8192x2048_S1x8192x2048))))) (shapeCast _ (extf .f32 o bitsLt_bf16_f32) shapeCasts_S8192x2048_S1x8192x2048))
        (mulf (Host.divf (broadcastInDim S1x8192x2048 ![] bcast_S_S1x8192x2048 (constant S_ .f32 0x3F800000#32)) (addf (broadcastInDim S1x8192x2048 ![] bcast_S_S1x8192x2048 (constant S_ .f32 0x3F800000#32))
          (Host.exp (Host.negf (shapeCast _ (extf .f32 gb bitsLt_bf16_f32) shapeCasts_S8192x2048_S1x8192x2048))))) (shapeCast _ (extf .f32 q bitsLt_bf16_f32) shapeCasts_S8192x2048_S1x8192x2048)))
        (shapeCast _ w shapeCasts_S1x2048x2048_S2048x2048)))
    = joined x o q ga gb mod w := by
  funext i
  idx_vars i
  obtain rfl : i0 = 0 := Subsingleton.elim _ _
  exact added _ _ _ _ _ i1 i2 _ _ (gated _ _ i1) (gated _ _ i1)

theorem out : res_main_v58 m c = entered (rows m c) (m ((c : Thread nD τ).loc main_arg5)) (m ((c : Thread nD τ).loc main_arg7)) := by
  unfold res_main_v58 rows
  rw [joined_eq]
  funext i
  exact normed _ _ _ i

end Cert.MergeReferenceIdeal.Layer

namespace Cert.Layer

open Idealize.ShloMosaic Idealize.SL.Sem

/-- From the same arguments the two programs end with the same two results, their arguments unchanged. -/
theorem merge_values : Cert.algebraic_MergeIdeal_MergeReferenceIdeal (hMergeIdeal := Cert.MergeIdeal.Gen.facts) (hMergeReferenceIdeal := Cert.MergeReferenceIdeal.Gen.facts) := by
  intro m g m' g' _ agree
  refine ⟨Cert.MergeIdeal.Layer.rows m, Cert.MergeIdeal.Layer.norms m,
    (θ_run _ _ _).mono (fun r h c => ⟨(h c).1.trans (Cert.MergeIdeal.Layer.out10 m c), (h c).2.1.trans (Cert.MergeIdeal.Layer.out11 m c), (h c).2.2⟩) (Cert.MergeIdeal.Value.run_blocks m g),
    (θ_run _ _ _).mono (fun r h c => ⟨(h c).1.trans ((Cert.MergeReferenceIdeal.Layer.joined_eq _ _ _ _ _ _ _).trans ?_), (h c).2.1.trans ((Cert.MergeReferenceIdeal.Layer.out m' c).trans ?_),
      (h c).2.2⟩) (Cert.MergeReferenceIdeal.Value.run m' g')⟩
  all_goals obtain ⟨a0, a1, a2, a3, a4, a5, a6, a7⟩ := agree c
  · rw [a0, a1, a2, a3, a4, a5, a6]
    rfl
  · unfold Cert.MergeReferenceIdeal.Layer.rows
    rw [a0, a1, a2, a3, a4, a5, a6, a7]
    rfl

/-- The reference terminates with its arguments unchanged; it declares no semaphore. -/
theorem merge_reference_runs : Cert.quiescent_MergeReferenceIdeal (hMergeReferenceIdeal := Cert.MergeReferenceIdeal.Gen.facts) := fun m ρ _ =>
  (θ_run _ _ _).mono (fun r h => ⟨fun c => (h c).2.2, sem_eq_zero_of_no_sems (by decide) r.2⟩) (Cert.MergeReferenceIdeal.Value.run m ρ)

end Cert.Layer

end
-- ==== Proof.Heads.lean ====
/- Four heads of 128 columns stored as rows: row `4 r + g` of the stored array is head `g` of row `r`. -/
module

public import proofs.«01_k».proof.Proof.MergeOut

@[expose] public section

noncomputable section

namespace Cert.Layer

open Idealize.ShloMosaic

/-- The stored array: `R` rows of 128. -/
abbrev Tall (R : ℕ) : Shape := ⟨2, ![R, 128]⟩

/-- The rows of head `g`: every fourth row from row `g` on, `m` of them. -/
abbrev headRect (R m g : ℕ) (h : ∀ a, (![m, 128] : Fin 2 → ℕ) a = 0 ∨ (![g, 0] : Fin 2 → ℕ) a + (![4, 1] : Fin 2 → ℕ) a * ((![m, 128] : Fin 2 → ℕ) a - 1) < (Tall R).size a)
    (hs : ∀ a, 0 < (![4, 1] : Fin 2 → ℕ) a) : Rect (Tall R) := ⟨⟨![g, 0], ![m, 128], ![4, 1], h⟩, hs⟩

variable {Val : EltTy → Type} {e : EltTy} {R m : ℕ}

theorem mem_headRect (hR : R = 4 * m) (g : ℕ) (h) (hs) (y : (Tall R).Idx) (hy : (y 0 : ℕ) % 4 = g) : y ∈ (headRect R m g h hs).set := by
  have h0 : (y 0 : ℕ) < R := (y 0).isLt
  rw [LoadRect.mem_set]
  intro a
  match a with
  | ⟨0, _⟩ => exact ⟨(y 0 : ℕ) / 4, show (y 0 : ℕ) / 4 < m by omega, show (y 0 : ℕ) = g + 4 * ((y 0 : ℕ) / 4) by omega⟩
  | ⟨1, _⟩ => exact ⟨(y 1 : ℕ), (y 1).isLt, show (y 1 : ℕ) = 0 + 1 * (y 1 : ℕ) by omega⟩

/-- The four heads are all the rows. -/
theorem heads_cover (hR : R = 4 * m) (h0) (h1) (h2) (h3) (hs) (p0 p1 p2 p3 : (⟨2, ![m, 128]⟩ : Shape).Idx → Val e) (y : (Tall R).Idx) :
    ∃ pc ∈ ([⟨headRect R m 3 h3 hs, p3⟩, ⟨headRect R m 2 h2 hs, p2⟩, ⟨headRect R m 1 h1 hs, p1⟩, ⟨headRect R m 0 h0 hs, p0⟩] : List (View.Piece Val (Tall R) e)), y ∈ pc.1.set := by
  have : (y 0 : ℕ) % 4 = 0 ∨ (y 0 : ℕ) % 4 = 1 ∨ (y 0 : ℕ) % 4 = 2 ∨ (y 0 : ℕ) % 4 = 3 := by omega
  rcases this with hy | hy | hy | hy
  · exact ⟨_, .tail _ (.tail _ (.tail _ (.head _))), mem_headRect hR 0 h0 hs y hy⟩
  · exact ⟨_, .tail _ (.tail _ (.head _)), mem_headRect hR 1 h1 hs y hy⟩
  · exact ⟨_, .tail _ (.head _), mem_headRect hR 2 h2 hs y hy⟩
  · exact ⟨_, .head _, mem_headRect hR 3 h3 hs y hy⟩

/-- What stands in row `y 0` of the stored array: the row's quarter gives the row, its rest the head. -/
def unstack (hR : R = 4 * m) (G : Fin m → Fin 512 → Val e) (y : (Tall R).Idx) : Val e :=
  G ⟨(y 0 : ℕ) / 4, by have h0 : (y 0 : ℕ) < R := (y 0).isLt; omega⟩ ⟨(y 0 : ℕ) % 4 * 128 + (y 1 : ℕ), by have h1 : (y 1 : ℕ) < 128 := (y 1).isLt; omega⟩

theorem piece_unstack (hR : R = 4 * m) (G : Fin m → Fin 512 → Val e) (g : Fin 4) (h) (hs) (p : (⟨2, ![m, 128]⟩ : Shape).Idx → Val e)
    (hp : ∀ (r : Fin m) (l : Fin 128) (k : Fin 512), (k : ℕ) = g * 128 + l → p (ix2 r l) = G r k) (x : (⟨2, ![m, 128]⟩ : Shape).Idx) :
    p x = unstack hR G ((headRect R m g h hs).emb x) := by
  have hx : x = ix2 (x 0) (x 1) := funext fun a => match a with | ⟨0, _⟩ => rfl | ⟨1, _⟩ => rfl
  have e0 : ((headRect R m g h hs).emb x 0 : ℕ) = g + 4 * (x 0 : ℕ) := rfl
  have e1 : ((headRect R m g h hs).emb x 1 : ℕ) = 0 + 1 * (x 1 : ℕ) := rfl
  have hg := g.isLt
  rw [hx]
  refine (hp (x 0) (x 1) ⟨(g : ℕ) * 128 + (x 1 : ℕ), by have h1 : (x 1 : ℕ) < 128 := (x 1).isLt; omega⟩ rfl).trans ?_
  rw [← hx]
  unfold unstack
  exact congrArg₂ G (Fin.ext (by dsimp only; omega)) (Fin.ext (by dsimp only; omega))

/-- Four stores, one a head, leave the heads as rows. -/
theorem heads_canon [∀ e, Nonempty (Val e)] (hR : R = 4 * m) (G : Fin m → Fin 512 → Val e) (h0) (h1) (h2) (h3) (hs) (p0 p1 p2 p3 : (⟨2, ![m, 128]⟩ : Shape).Idx → Val e)
    (k0 : ∀ (r : Fin m) (l : Fin 128) (k : Fin 512), (k : ℕ) = 0 * 128 + l → p0 (ix2 r l) = G r k) (k1 : ∀ (r : Fin m) (l : Fin 128) (k : Fin 512), (k : ℕ) = 1 * 128 + l → p1 (ix2 r l) = G r k)
    (k2 : ∀ (r : Fin m) (l : Fin 128) (k : Fin 512), (k : ℕ) = 2 * 128 + l → p2 (ix2 r l) = G r k) (k3 : ∀ (r : Fin m) (l : Fin 128) (k : Fin 512), (k : ℕ) = 3 * 128 + l → p3 (ix2 r l) = G r k)
    (y : (Tall R).Idx) :
    View.canon ([⟨headRect R m 3 h3 hs, p3⟩, ⟨headRect R m 2 h2 hs, p2⟩, ⟨headRect R m 1 h1 hs, p1⟩, ⟨headRect R m 0 h0 hs, p0⟩] : List (View.Piece Val (Tall R) e)) y = unstack hR G y := by
  refine View.canon_apply_of_pieces (unstack hR G) _ (fun p hp => ?_) y (heads_cover hR h0 h1 h2 h3 hs p0 p1 p2 p3 y)
  rcases List.mem_cons.1 hp with rfl | hp
  · exact piece_unstack hR G 3 h3 hs p3 k3
  rcases List.mem_cons.1 hp with rfl | hp
  · exact piece_unstack hR G 2 h2 hs p2 k2
  rcases List.mem_cons.1 hp with rfl | hp
  · exact piece_unstack hR G 1 h1 hs p1 k1
  rcases List.mem_singleton.1 hp with rfl
  exact piece_unstack hR G 0 h0 hs p0 k0

/-- What stands in a block of the stored array stands in the whole where the block lies. -/
theorem unstack_block {R' M : ℕ} (hR : R = 4 * m) (hM : R' = 4 * M) (G : Fin m → Fin 512 → Val e) (G' : Fin M → Fin 512 → Val e) (y : (Tall R).Idx) (y' : (Tall R').Idx) (t : ℕ)
    (h0 : (y' 0 : ℕ) = t * R + y 0) (h1 : (y' 1 : ℕ) = y 1) (hG : ∀ (p : Fin m) (q : Fin 512) (r : Fin M), (r : ℕ) = t * m + p → G p q = G' r q) :
    unstack hR G y = unstack hM G' y' := by
  have e4 : t * R = 4 * (t * m) := by rw [hR, Nat.mul_left_comm]
  unfold unstack
  refine (hG _ _ ⟨(y' 0 : ℕ) / 4, by have h0 : (y' 0 : ℕ) < R' := (y' 0).isLt; omega⟩ (by dsimp only; omega)).trans (congrArg (G' _) (Fin.ext ?_))
  dsimp only
  omega

end Cert.Layer

end
-- ==== Proof.KeysRef.lean ====
/- The rotated keys at an element, and the references that state them. -/
module

public import proofs.«01_k».proof.Proof.Gen.KeysReferenceIdeal.Run
public import proofs.«01_k».proof.Proof.Heads

@[expose] public section

set_option maxRecDepth 16384
set_option maxHeartbeats 2000000

noncomputable section

namespace Cert.Layer

open Idealize.ShloMosaic
open scoped BigOperators

/-- Row `r` of the normed rows times column `c` of the projection's weight. -/
def colAt {M : ℕ} (h : Arr ⟨2, ![M, 2048]⟩) (w : Arr ⟨3, ![1, 2048, 17552]⟩) (r : Fin M) (c : ℕ) : EReal := ∑ k : Fin 2048, h (ix2 r k) * w (ix3 0 k (Fin.ofNat 17552 c))

theorem colAt_eq {M : ℕ} (h : Arr ⟨2, ![M, 2048]⟩) (w : Arr ⟨3, ![1, 2048, 17552]⟩) (r r' : Fin M) (c : ℕ) (c' : Fin 17552) (hr : (r' : ℕ) = r) (hc : (c' : ℕ) = c) :
    ∑ k : Fin 2048, h (ix2 r' k) * w (ix3 0 k c') = colAt h w r c := by
  obtain rfl : r' = r := Fin.ext hr
  obtain rfl : c' = Fin.ofNat 17552 c := Fin.ext (hc.trans (Nat.mod_eq_of_lt (hc ▸ c'.isLt)).symm)
  rfl

/-- A prompt row's keys: its columns from 2048 on, rotated by its position. -/
def keyRow (h : Arr ⟨2, ![8192, 2048]⟩) (w : Arr ⟨3, ![1, 2048, 17552]⟩) (r : Fin 8192) (j : ℕ) : EReal :=
  rot (fun k => colAt h w r (2048 + k)) (BitVec.ofNat 32 r) j

/-- The position of row `r` of a sample batch element. -/
abbrev place (r : ℕ) : BitVec 32 := IntOp.addi 2048#32 (BitVec.ofNat 32 r)

/-- A sample row's keys: its columns from 2048 on, rotated by its position, the positions from 2048 on in every batch element of 32 rows. -/
def keyRowS (h : Arr ⟨2, ![512, 2048]⟩) (w : Arr ⟨3, ![1, 2048, 17552]⟩) (r : Fin 512) (j : ℕ) : EReal :=
  rot (fun k => colAt h w r (2048 + k)) (place (r % 32)) j

end Cert.Layer

namespace Cert.KeysReferenceIdeal.Layer

open Idealize.ShloMosaic Idealize.ShloMosaic.TcCoe
open Cert.KeysReferenceIdeal Cert.KeysReferenceIdeal.Gen Cert.KeysReferenceIdeal.Value Cert.Layer
open scoped BigOperators

theorem product_at (h : FVec Ideal S8192x2048 .bf16) (w : FVec Ideal S1x2048x17552 .f32) (r : Fin 8192) (g : Fin 4) (l : Fin 128) (n : ℕ) (e : (g : ℕ) * 128 + l = n) :
    (shapeCast S1x8192x4x128 (extractStridedSlice S8192x512 ![0, 2048] (Host.dotGeneral dot_S8192x2048_S2048x17552_S8192x17552_1_0_0_1_n_n none (extf .f32 h bitsLt_bf16_f32)
      (shapeCast S2048x17552 w shapeCasts_S1x2048x17552_S2048x17552)) slices_S8192x17552_S8192x512_0_2048) shapeCasts_S8192x512_S1x8192x4x128 : FVec Ideal S1x8192x4x128 .f32) (ix4 0 r g l)
    = colAt h w r (2048 + n) := by
  pointwise
  exact colAt_eq _ _ _ _ _ _ rfl (by dsimp only; omega)

/-- The rotation's angles, one a position and frequency. -/
abbrev angles : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1 (Host.powf (broadcastInDim S16 ![] bcast_S_S16 (constant S_ .f32 0x48F42400#32))
      (Host.negf (mulf (sitofp .f32 (iotaInDim S16 32 0)) (broadcastInDim S16 ![] bcast_S_S16 (constant S_ .f32 0x3D800000#32)))))))

theorem angles_at (r : Fin 8192) (l : Fin 16) : angles (ix2 r l) = angle (BitVec.ofNat 32 r) l := by
  unfold angles
  pointwise
  rfl

/-- The rotated heads of an array of heads. -/
abbrev turnedHeads (z : FVec Ideal S1x8192x4x128 .f32) (a b : FVec Ideal S8192x1x16 .f32) : FVec Ideal S1x8192x4x128 .f32 :=
  concatenate S1x8192x4x128 3 [⟨S1x8192x4x32, (concatenate S1x8192x4x32 3 [⟨S1x8192x4x16, (subf
    (mulf (extractStridedSlice S1x8192x4x16 ![0, 0, 0, 0] (extractStridedSlice S1x8192x4x32 ![0, 0, 0, 0] z slices_S1x8192x4x128_S1x8192x4x32_0_0_0_0) slices_S1x8192x4x32_S1x8192x4x16_0_0_0_0)
      (broadcastInDim S1x8192x4x16 ![0, 1, 2, 3] bcast_S1x8192x1x16_S1x8192x4x16_0_1_2_3 (broadcastInDim S1x8192x1x16 ![1, 2, 3] bcast_S8192x1x16_S1x8192x1x16_1_2_3 a)))
    (mulf (extractStridedSlice S1x8192x4x16 ![0, 0, 0, 16] (extractStridedSlice S1x8192x4x32 ![0, 0, 0, 0] z slices_S1x8192x4x128_S1x8192x4x32_0_0_0_0) slices_S1x8192x4x32_S1x8192x4x16_0_0_0_16)
      (broadcastInDim S1x8192x4x16 ![0, 1, 2, 3] bcast_S1x8192x1x16_S1x8192x4x16_0_1_2_3 (broadcastInDim S1x8192x1x16 ![1, 2, 3] bcast_S8192x1x16_S1x8192x1x16_1_2_3 b))))⟩,
   ⟨S1x8192x4x16, (addf
    (mulf (extractStridedSlice S1x8192x4x16 ![0, 0, 0, 16] (extractStridedSlice S1x8192x4x32 ![0, 0, 0, 0] z slices_S1x8192x4x128_S1x8192x4x32_0_0_0_0) slices_S1x8192x4x32_S1x8192x4x16_0_0_0_16)
      (broadcastInDim S1x8192x4x16 ![0, 1, 2, 3] bcast_S1x8192x1x16_S1x8192x4x16_0_1_2_3 (broadcastInDim S1x8192x1x16 ![1, 2, 3] bcast_S8192x1x16_S1x8192x1x16_1_2_3 a)))
    (mulf (extractStridedSlice S1x8192x4x16 ![0, 0, 0, 0] (extractStridedSlice S1x8192x4x32 ![0, 0, 0, 0] z slices_S1x8192x4x128_S1x8192x4x32_0_0_0_0) slices_S1x8192x4x32_S1x8192x4x16_0_0_0_0)
      (broadcastInDim S1x8192x4x16 ![0, 1, 2, 3] bcast_S1x8192x1x16_S1x8192x4x16_0_1_2_3 (broadcastInDim S1x8192x1x16 ![1, 2, 3] bcast_S8192x1x16_S1x8192x1x16_1_2_3 b))))⟩]
      concatenates_S1x8192x4x16_S1x8192x4x16_S1x8192x4x32_d3)⟩,
    ⟨S1x8192x4x96, (extractStridedSlice S1x8192x4x96 ![0, 0, 0, 32] z slices_S1x8192x4x128_S1x8192x4x96_0_0_0_32)⟩] concatenates_S1x8192x4x32_S1x8192x4x96_S1x8192x4x128_d3

theorem turned_at (z : FVec Ideal S1x8192x4x128 .f32) (a b : FVec Ideal S8192x1x16 .f32) (f : Fin 8192 → ℕ → EReal)
    (hz : ∀ (r : Fin 8192) (g : Fin 4) (l : Fin 128) (n : ℕ), (g : ℕ) * 128 + l = n → z (ix4 0 r g l) = f r n)
    (ha : ∀ (r : Fin 8192) (l : Fin 16) (n : ℕ), (l : ℕ) = n → a (ix3 r 0 l) = Ideal.cos (angle (BitVec.ofNat 32 r) n))
    (hb : ∀ (r : Fin 8192) (l : Fin 16) (n : ℕ), (l : ℕ) = n → b (ix3 r 0 l) = Ideal.sin (angle (BitVec.ofNat 32 r) n))
    (r : Fin 8192) (g : Fin 4) (l : Fin 128) (n : ℕ) (e : (g : ℕ) * 128 + l = n) : turnedHeads z a b (ix4 0 r g l) = rot (f r) (BitVec.ofNat 32 r) n := by
  unfold turnedHeads
  pointwise
  have hn : n % 128 = l := by omega
  by_cases h1 : (l : ℕ) < 32
  · rw [dif_pos h1]
    by_cases h2 : (l : ℕ) < 16
    · rw [dif_pos h2]
      exact rot_lo (by omega) (hz _ _ _ _ (by omega)) (ha _ _ _ (by dsimp only <;> omega)) (hz _ _ _ _ (by dsimp only <;> omega)) (hb _ _ _ (by dsimp only <;> omega))
    · rw [dif_neg h2]
      exact rot_mid (by omega) (by omega) (hz _ _ _ _ (by dsimp only <;> omega)) (ha _ _ _ (by dsimp only <;> omega)) (hz _ _ _ _ (by dsimp only <;> omega))
        (hb _ _ _ (by dsimp only <;> omega))
  · rw [dif_neg h1]
    exact rot_hi (by omega) (hz _ _ _ _ (by dsimp only <;> omega))

theorem cos_at (r : Fin 8192) (l : Fin 16) (n : ℕ) (e : (l : ℕ) = n) :
    (broadcastInDim S8192x1x16 ![0, 2] bcast_S8192x16_S8192x1x16_0_2 (Host.cos angles) : FVec Ideal S8192x1x16 .f32) (ix3 r 0 l) = Ideal.cos (angle (BitVec.ofNat 32 r) n) := by
  subst e
  rw [← angles_at]
  generalize angles = a
  pointwise

theorem sin_at (r : Fin 8192) (l : Fin 16) (n : ℕ) (e : (l : ℕ) = n) :
    (broadcastInDim S8192x1x16 ![0, 2] bcast_S8192x16_S8192x1x16_0_2 (Host.sin angles) : FVec Ideal S8192x1x16 .f32) (ix3 r 0 l) = Ideal.sin (angle (BitVec.ofNat 32 r) n) := by
  subst e
  rw [← angles_at]
  generalize angles = a
  pointwise

theorem wide_at (x : FVec Ideal S1x8192x4x128 .f32) (r : Fin 8192) (j : Fin 512) :
    (truncf .bf16 (shapeCast S8192x512 x shapeCasts_S1x8192x4x128_S8192x512) bitsLt_bf16_f32 : FVec Ideal S8192x512 .bf16) (ix2 r j)
    = x (ix4 0 r ⟨(j : ℕ) / 128, by omega⟩ ⟨(j : ℕ) % 128, by omega⟩) := by
  pointwise

theorem tall_at (x : FVec Ideal S1x8192x4x128 .f32) (r : Fin 32768) (j : Fin 128) :
    (shapeCast S32768x128 x shapeCasts_S1x8192x4x128_S32768x128 : FVec Ideal S32768x128 .f32) (ix2 r j)
    = x (ix4 0 ⟨(r : ℕ) / 4, by omega⟩ ⟨(r : ℕ) % 4, by omega⟩ j) := by
  pointwise

variable (m : (ℓ : Loc nD τ sig) → Buf (Elt Ideal) ℓ) (c : Dev nD)

theorem wide_out : res_main_v44 m c = fun i : S8192x512.Idx => keyRow (m ((c : Thread nD τ).loc main_arg0)) (m ((c : Thread nD τ).loc main_arg1)) (i 0) (i 1) := by
  funext i
  idx_vars i
  unfold res_main_v44
  refine (wide_at _ i0 i1).trans (turned_at _ _ _ (fun r n => colAt (m ((c : Thread nD τ).loc main_arg0)) (m ((c : Thread nD τ).loc main_arg1)) r (2048 + n))
    (product_at _ _) cos_at sin_at i0 _ _ i1 ?_)
  dsimp only
  omega

theorem tall_out : res_main_v42 m c = unstack (R := 32768) (m := 8192) (Val := Elt Ideal) (e := .f32) rfl
    fun r j => keyRow (m ((c : Thread nD τ).loc main_arg0)) (m ((c : Thread nD τ).loc main_arg1)) r j := by
  funext i
  idx_vars i
  unfold res_main_v42
  exact (tall_at _ i0 i1).trans (turned_at _ _ _ (fun r n => colAt (m ((c : Thread nD τ).loc main_arg0)) (m ((c : Thread nD τ).loc main_arg1)) r (2048 + n))
    (product_at _ _) cos_at sin_at _ _ _ _ rfl)

end Cert.KeysReferenceIdeal.Layer

end
-- ==== Proof.KeysFrame.lean ====
/- The call of the prompt's keys runs: what each point's body leaves in the two results' blocks, and the whole run. -/
module

public import proofs.«01_k».proof.Proof.Gen.KeysIdeal.Frame
public import proofs.«01_k».proof.Proof.Gen.KeysIdeal.Skeleton
public import Idealize.ShloMosaic.Lib.Claim
public import proofs.«01_k».proof.Proof.KeysRef

@[expose] public section

set_option maxRecDepth 16384

noncomputable section

namespace Cert.KeysIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KeysIdeal Cert.KeysIdeal.Gen Cert.Layer

variable {F : FTy → Type} [FloatOps F]

/-- The machine's resources over this program. -/
abbrev Mach (F : FTy → Type) : Type := MT nD τ sig Unit (Elt F) ℕ (UR sig nD τ) ℕ

abbrev rectH : Rect S2048x2048 := Rect.unit (s := S2048x2048) ![0, 0] S2048x2048.size inb_S2048x2048_S2048x2048_0_0
abbrev rectW : Rect S512x2048 := Rect.unit (s := S512x2048) ![0, 0] S512x2048.size inb_S512x2048_S512x2048_0_0
abbrev rectT : Rect S2048x128 := Rect.unit (s := S2048x128) ![0, 0] S2048x128.size inb_S2048x128_S2048x128_0_0
abbrev rectO : Rect S2048x512 := Rect.unit (s := S2048x512) ![0, 0] S2048x512.size inb_S2048x512_S2048x512_0_0
abbrev head0 : Rect S8192x128 := headRect 8192 2048 0 inb_S8192x128_S2048x128_0_0_s_4_1 spos_4_1
abbrev head1 : Rect S8192x128 := headRect 8192 2048 1 inb_S8192x128_S2048x128_1_0_s_4_1 spos_4_1
abbrev head2 : Rect S8192x128 := headRect 8192 2048 2 inb_S8192x128_S2048x128_2_0_s_4_1 spos_4_1
abbrev head3 : Rect S8192x128 := headRect 8192 2048 3 inb_S8192x128_S2048x128_3_0_s_4_1 spos_4_1

/-- The block of the first result after the body: the four heads, each on its rows. -/
def out5 (h : Vec F S2048x2048 .bf16) (w : Vec F S512x2048 .f32) (a b c : Vec F S2048x128 .f32) : Vec F S8192x128 .f32 :=
  View.canon [⟨head3, k0_pay5 (View.ld h rectH) (View.ld w rectW) (View.ld a rectT) (View.ld b rectT) (View.ld c rectT)⟩,
    ⟨head2, k0_pay4 (View.ld h rectH) (View.ld w rectW) (View.ld a rectT) (View.ld b rectT) (View.ld c rectT)⟩,
    ⟨head1, k0_pay3 (View.ld h rectH) (View.ld w rectW) (View.ld a rectT) (View.ld b rectT) (View.ld c rectT)⟩,
    ⟨head0, k0_pay2 (View.ld h rectH) (View.ld w rectW) (View.ld a rectT) (View.ld b rectT) (View.ld c rectT)⟩]

/-- The block of the second result after the body: the narrowed rows. -/
def out6 (h : Vec F S2048x2048 .bf16) (w : Vec F S512x2048 .f32) (a b c : Vec F S2048x128 .f32) : Vec F S2048x512 .bf16 :=
  View.canon [⟨rectO, k0_pay6 (View.ld h rectH) (View.ld w rectW) (View.ld a rectT) (View.ld b rectT) (View.ld c rectT)⟩]

theorem cover6 (p : Vec F S2048x512 .bf16) (y : S2048x512.Idx) : ∃ pc ∈ ([⟨rectO, p⟩] : List (View.Piece (Elt F) S2048x512 .bf16)), y ∈ pc.1.set :=
  View.cover_of_tiled [⟨rectO, p⟩] S2048x512.size (by rfl) y

set_option maxHeartbeats 2000000 in
/-- The body's triple: its inputs stay, its two outputs end at the blocks above. -/
theorem body_runs (c : Dev nD) (E : Set ℕ) (i : grid0.Coords) (a2 : Memref sig .tc .vmem S2048x2048 .bf16) (h2 : a2.IsWhole) (a3 : Memref sig .tc .vmem S512x2048 .f32) (h3 : a3.IsWhole)
    (a4 : Memref sig .tc .vmem S2048x128 .f32) (h4 : a4.IsWhole) (a5 : Memref sig .tc .vmem S2048x128 .f32) (h5 : a5.IsWhole) (a6 : Memref sig .tc .vmem S2048x128 .f32) (h6 : a6.IsWhole)
    (a7 : Memref sig .tc .vmem S8192x128 .f32) (h7 : a7.IsWhole) (a8 : Memref sig .tc .vmem S2048x512 .bf16) (h8 : a8.IsWhole)
    (x0 : Vec F S2048x2048 .bf16) (x1 : Vec F S512x2048 .f32) (x2 x3 x4 : Vec F S2048x128 .f32) (K : PUnit → sProp (Mach F)) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare x3
          ∗ owns (c : Thread nD τ) a6 fullShare x4 ∗ owns (c : Thread nD τ) a7 fullShare (out5 x0 x1 x2 x3 x4) ∗ owns (c : Thread nD τ) a8 fullShare (out6 x0 x1 x2 x3 x4)) -∗ K ⟨⟩))
      ⊢ wp frame (wpE (defs₀ (F := F)) Variants.none c none) E (cc0_proj_rope i a2 h2 a3 h3 a4 h4 a5 h5 a6 h6 a7 h7 a8 h8) K := by
  simp only [cc0_proj_rope_eq_skeleton]; unfold cc0_proj_rope_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon (Val := Elt F) _ _ _ (heads_cover (R := 8192) (m := 2048) rfl _ _ _ _ _ _ _ _ _)).trans ?_
    rfl
  iexists _; isplitr
  swap; · iexact H6
  ipureintro
  refine (View.read_writes_eq_canon _ _ _ (cover6 _)).trans ?_
  rfl

variable (m : (ℓ : Loc nD τ sig) → Buf (Elt F) ℓ) (ρ : Dev nD → PrngReg)

/-- The call's proof data: the arrays as the call finds them, each input's block left alone, each output's block as the body leaves it. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t) (iblk m c 3 t) (iblk m c 4 t)
  Φ _ := Pipeline.ΦA spec0 c
  q _ := fullShare
  owed _ := 0

theorem starts (c : Dev nD) (w : Fin cfg0.W) : (dat m 0 c).A w = V m c (Pipeline.arrRef spec0 w) := by dsimp only [dat]

theorem after0 (c : Dev nD) (t : Fin cfg0.N) : (dat m 0 c).after 0 t = iblk m c 0 t := by dsimp only [dat]
theorem after1 (c : Dev nD) (t : Fin cfg0.N) : (dat m 0 c).after 1 t = iblk m c 1 t := by dsimp only [dat]
theorem after2 (c : Dev nD) (t : Fin cfg0.N) : (dat m 0 c).after 2 t = iblk m c 2 t := by dsimp only [dat]
theorem after3 (c : Dev nD) (t : Fin cfg0.N) : (dat m 0 c).after 3 t = iblk m c 3 t := by dsimp only [dat]
theorem after4 (c : Dev nD) (t : Fin cfg0.N) : (dat m 0 c).after 4 t = iblk m c 4 t := by dsimp only [dat]
theorem after5 (c : Dev nD) (t : Fin cfg0.N) :
    (dat m 0 c).after 5 t = out5 (iblk m c 0 t) (iblk m c 1 t) (iblk m c 2 t) (iblk m c 3 t) (iblk m c 4 t) := by dsimp only [dat]
theorem after6 (c : Dev nD) (t : Fin cfg0.N) :
    (dat m 0 c).after 6 t = out6 (iblk m c 0 t) (iblk m c 1 t) (iblk m c 2 t) (iblk m c 3 t) (iblk m c 4 t) := by dsimp only [dat]

theorem before0 (c : Dev nD) (t : Fin cfg0.N) (d) : (dat m 0 c).before 0 t d = iblk m c 0 t := before0_0_of m (dat m 0 c) (starts m c 0) (after0 m c) t d
theorem before1 (c : Dev nD) (t : Fin cfg0.N) (d) : (dat m 0 c).before 1 t d = iblk m c 1 t := before0_1_of m (dat m 0 c) (starts m c 1) (after1 m c) t d
theorem before2 (c : Dev nD) (t : Fin cfg0.N) (d) : (dat m 0 c).before 2 t d = iblk m c 2 t := before0_2_of m (dat m 0 c) (starts m c 2) (after2 m c) t d
theorem before3 (c : Dev nD) (t : Fin cfg0.N) (d) : (dat m 0 c).before 3 t d = iblk m c 3 t := before0_3_of m (dat m 0 c) (starts m c 3) (after3 m c) t d
theorem before4 (c : Dev nD) (t : Fin cfg0.N) (d) : (dat m 0 c).before 4 t d = iblk m c 4 t := before0_4_of m (dat m 0 c) (starts m c 4) (after4 m c) t d

/-- What a point's body starts from, window by window. -/
def atStart (c : Dev nD) (t : Fin cfg0.N) : sProp (Mach F) :=
  iprop((dat m 0 c).Φ t.castSucc ∗ (dat m 0 c).owesAt () t.castSucc
    ∗ (∃ d, owns (c : Thread nD τ) (st0_0 t) fullShare ((dat m 0 c).before 0 t d)) ∗ (∃ d, owns (c : Thread nD τ) (st0_1 t) fullShare ((dat m 0 c).before 1 t d))
    ∗ (∃ d, owns (c : Thread nD τ) (st0_2 t) fullShare ((dat m 0 c).before 2 t d)) ∗ (∃ d, owns (c : Thread nD τ) (st0_3 t) fullShare ((dat m 0 c).before 3 t d))
    ∗ (∃ d, owns (c : Thread nD τ) (st0_4 t) fullShare ((dat m 0 c).before 4 t d)) ∗ (∃ d, owns (c : Thread nD τ) (st0_5 t) fullShare ((dat m 0 c).before 5 t d))
    ∗ (∃ d, owns (c : Thread nD τ) (st0_6 t) fullShare ((dat m 0 c).before 6 t d)))

/-- What it ends with. -/
def atEnd (c : Dev nD) (t : Fin cfg0.N) : sProp (Mach F) :=
  iprop((dat m 0 c).Φ t.succ ∗ (dat m 0 c).owesAt () t.succ
    ∗ owns (c : Thread nD τ) (st0_0 t) fullShare ((dat m 0 c).after 0 t) ∗ owns (c : Thread nD τ) (st0_1 t) fullShare ((dat m 0 c).after 1 t)
    ∗ owns (c : Thread nD τ) (st0_2 t) fullShare ((dat m 0 c).after 2 t) ∗ owns (c : Thread nD τ) (st0_3 t) fullShare ((dat m 0 c).after 3 t)
    ∗ owns (c : Thread nD τ) (st0_4 t) fullShare ((dat m 0 c).after 4 t) ∗ owns (c : Thread nD τ) (st0_5 t) fullShare ((dat m 0 c).after 5 t)
    ∗ owns (c : Thread nD τ) (st0_6 t) fullShare ((dat m 0 c).after 6 t))

theorem point_runs (c : Dev nD) (t : Fin cfg0.N) :
    atStart m c t ⊢ wp frame (wpE (defs₀ (F := F)) Variants.none c none) Set.univ (bodyAt0 t) (fun _ => atEnd m c t) := by
  unfold atStart atEnd bodyAt0
  simp only [before0, before1, before2, before3, before4]
  rw [show (dat m 0 c).Φ t.succ = (dat m 0 c).Φ t.castSucc from rfl, show (dat m 0 c).owesAt () t.succ = (dat m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, row]
  exact triple_restated (point_runs m c t) rfl .rfl fun _ => .rfl

set_option backward.isDefEq.respectTransparency.types false in
set_option maxHeartbeats 800000 in
/-- The whole run: every array ends at what the points leave in it, and every counter at zero. -/
theorem runs : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := starts m) (hΦ := fun _ _ => rfl)

/-- The arguments end as they began, the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0) :=
  θ_run_and (frame_of m ρ (dat m) (starts m) ((θ_run defs _ _).mono (fun _ h => h.1) (runs m ρ))) ((θ_run defs _ _).mono (fun _ h => h.2) (runs m ρ))

end Cert.KeysIdeal.Layer

end
-- ==== Proof.KeysOut.lean ====
/- The call of the prompt's keys computes what its reference does. -/
module

public import proofs.«01_k».proof.Defs
public import proofs.«01_k».proof.Proof.Gen.Keys.Frame
public import proofs.«01_k».proof.Proof.KeysFrame
public import Idealize.ShloMosaic.Lib.StableHlo.ReadAt

@[expose] public section

set_option maxRecDepth 16384
set_option maxHeartbeats 2000000

noncomputable section

namespace Cert.KeysIdeal.Layer

open Idealize.ShloMosaic Idealize.ShloMosaic.TcCoe Idealize.SL.Sem
open Idealize.ShloMosaic.Pipeline (Dat)
open Cert.KeysIdeal Cert.KeysIdeal.Gen Cert.Layer
open Cert.KernelIdeal.Layer (four cos_ladder neg_ladder sin_ladder from_zero)
open scoped BigOperators

section host

variable (W : Valuation τ sig (Elt Ideal))

theorem weight_at (j : Fin 17552) (k : Fin 2048) : (StableHlo.after hostOps0 W (Proc.devRef .tc main_v1) : Arr S17552x2048) (ix2 j k)
    = W (Proc.devRef .tc main_arg1) (ix3 0 k j) := by
  after_reads_at

theorem cosTab_at (r : Fin 8192) (l : Fin 128) : (StableHlo.after hostOps0 W (Proc.devRef .tc main_v20) : Arr S8192x128) (ix2 r l) = cosTab (BitVec.ofNat 32 r) l := by
  after_reads_at
  after_reads_at
  exact cos_ladder _ _

theorem negTab_at (r : Fin 8192) (l : Fin 128) : (StableHlo.after hostOps0 W (Proc.devRef .tc main_v22) : Arr S8192x128) (ix2 r l) = negTab (BitVec.ofNat 32 r) l := by
  after_reads_at
  after_reads_at
  exact neg_ladder _ _

theorem sinTab_at (r : Fin 8192) (l : Fin 128) : (StableHlo.after hostOps0 W (Proc.devRef .tc main_v23) : Arr S8192x128) (ix2 r l) = sinTab (BitVec.ofNat 32 r) l := by
  after_reads_at
  after_reads_at
  exact sin_ladder _ _

end host

/-- The rotated tile of one point. -/
theorem pay1 (v0 : Vec Ideal S2048x2048 .bf16) (v2 : Vec Ideal S512x2048 .f32) (a b c : Vec Ideal S2048x128 .f32) (j : S2048x512.Idx) :
    k0_pay1 v0 v2 a b c j = ropeTile (m := 2048) (n := 512) v0 v2 a b c (j 0) (j 1) := by
  idx_vars j
  unfold k0_pay1
  pointwise
  exact congrArg₂ (· + ·) (congrArg₂ (· + ·) (congrArg₂ (· * ·) rfl (four (fun l => a (ix2 j0 l)) j1)) (congrArg₂ (· * ·) rfl (four (fun l => b (ix2 j0 l)) j1)))
    (congrArg₂ (· * ·) rfl (four (fun l => c (ix2 j0 l)) j1))

/-- A head of a tile is 128 of its columns. -/
theorem head_at (x : FVec Ideal S2048x512 .f32) (o : ℕ) (h : S2048x512.Slices ![0, o] S2048x128) (r : Fin 2048) (l : Fin 128) (k : Fin 512) (e : (k : ℕ) = o + l) :
    extractStridedSlice S2048x128 ![0, o] x h (ix2 r l) = x (ix2 r k) := by
  pointwise
  exact congrArg x (eq_ix2 (M := 2048) (K := 512) _ _ _ rfl e.symm)

variable (m : (ℓ : Loc nD τ sig) → Buf (Elt Ideal) ℓ)

/-- The keys of a row, of the arguments. -/
abbrev keysOf (c : Dev nD) (r : Fin 8192) (j : ℕ) : EReal := keyRow (m ((c : Thread nD τ).loc main_arg0)) (m ((c : Thread nD τ).loc main_arg1)) r j

theorem index0 (i : grid0.Coords) :
    (cc0_transform_0 i 0 = i 0 ∧ cc0_transform_0 i 1 = 0 ∧ cc0_transform_1 i 0 = 2048 + 0 * 512 ∧ cc0_transform_1 i 1 = 0)
    ∧ (cc0_transform_2 i 0 = i 0 ∧ cc0_transform_2 i 1 = 0) ∧ (cc0_transform_3 i 0 = i 0 ∧ cc0_transform_3 i 1 = 0)
    ∧ (cc0_transform_4 i 0 = i 0 ∧ cc0_transform_4 i 1 = 0) ∧ 2048 + 0 * 512 + 512 ≤ 17552 := by
  revert i; decide +kernel

theorem index5 (i : grid0.Coords) : (cc0_transform_5 i 0 = i 0 ∧ cc0_transform_5 i 1 = 0) ∧ cc0_transform_6 i 0 = i 0 ∧ cc0_transform_6 i 1 = 0 := by
  revert i; decide +kernel

/-- What a point computes at an element of its tile: the keys of the row where the tile lies. -/
theorem tile_at (c : Dev nD) (t : Fin cfg0.N) (p : Fin 2048) (q : Fin 512) (r : Fin 8192) (hr : (r : ℕ) = (grid0.coords t 0 : ℕ) * 2048 + p) :
    k0_pay1 (iblk m c 0 t) (iblk m c 1 t) (iblk m c 2 t) (iblk m c 3 t) (iblk m c 4 t) (ix2 p q) = keysOf m c r q := by
  refine (pay1 _ _ _ _ _ (ix2 p q)).trans ((ropeTile_eq (M := 8192) (m := 2048) (n := 512) (V m c main_arg0) (V m c main_v1) (V m c main_v20) (V m c main_v22) (V m c main_v23)
    _ _ _ _ _ p q r q
    (win0_0.rect_emb_val t · 0) (win0_0.rect_emb_val t · 1) (win0_1.rect_emb_val_off t · 0) (win0_1.rect_emb_val_off t · 1)
    (win0_2.rect_emb_val t · 0) (win0_2.rect_emb_val t · 1) (win0_3.rect_emb_val t · 0) (win0_3.rect_emb_val t · 1)
    (win0_4.rect_emb_val t · 0) (win0_4.rect_emb_val t · 1) hr (by omega) (by decide) (index0 (grid0.coords t))).trans ?_)
  rw [ropeAt_eq (M := 8192) (n := 512) _ _ _ _ _ _ _ _ (BitVec.ofNat 32 r) (by decide) (by decide) (cosTab_at _ r) (negTab_at _ r) (sinTab_at _ r)]
  refine congrArg (fun z => rot z (BitVec.ofNat 32 r) q) (funext fun k => ?_)
  rw [V_main_arg0]
  unfold zAt rowDot colAt
  exact Finset.sum_congr rfl fun x _ => congrArg₂ (· * ·) rfl (weight_at _ _ x)

theorem reach (n : ℕ) (h : n < 4) : ∃ t : Fin cfg0.N, (grid0.coords t 0 : ℕ) = n := by
  have : ∀ n < 4, ∃ t : Fin grid0.N, (grid0.coords t 0 : ℕ) = n := by decide +kernel
  exact this n h

theorem covered5 (i : S32768x128.Idx) : ∃ t : Fin cfg0.N, (cfg0.win 5).flush t = true ∧ i ∈ ((cfg0.win 5).blk t).view.set := by
  have h0 : (i 0 : ℕ) < 32768 := (i 0).isLt
  have h1 : (i 1 : ℕ) < 128 := (i 1).isLt
  obtain ⟨t, e⟩ := reach ((i 0 : ℕ) / 8192) (by omega)
  obtain ⟨⟨e0, e1⟩, -⟩ := index5 (grid0.coords t)
  refine ⟨t, flush0_5 t, ?_⟩
  show i ∈ ((View.whole main_v24_0).slice (win0_5.rect t)).set
  rw [View.set_slice_whole, Rect.mem_set_unit]
  exact mem_tile (M := 32768) (N := 128) (m := 8192) (n := 128) i (by decide) (by decide) (e0.trans e) (e1.trans (by omega))

theorem covered6 (i : S8192x512.Idx) : ∃ t : Fin cfg0.N, (cfg0.win 6).flush t = true ∧ i ∈ ((cfg0.win 6).blk t).view.set := by
  have h0 : (i 0 : ℕ) < 8192 := (i 0).isLt
  have h1 : (i 1 : ℕ) < 512 := (i 1).isLt
  obtain ⟨t, e⟩ := reach ((i 0 : ℕ) / 2048) (by omega)
  obtain ⟨-, e0, e1⟩ := index5 (grid0.coords t)
  refine ⟨t, flush0_6 t, ?_⟩
  show i ∈ ((View.whole main_v24_1).slice (win0_6.rect t)).set
  rw [View.set_slice_whole, Rect.mem_set_unit]
  exact mem_tile (M := 8192) (N := 512) (m := 2048) (n := 512) i (by decide) (by decide) (e0.trans e) (e1.trans (by omega))

/-- The call's first result: every row's four heads as rows. -/
def tall (c : Dev nD) : Arr S32768x128 := unstack (R := 32768) (m := 8192) (Val := Elt Ideal) (e := .f32) rfl fun r j => keysOf m c r j

/-- Its second result: the rows. -/
def wide (c : Dev nD) : Arr S8192x512 := fun i => keysOf m c (i 0) (i 1)

theorem final6 (c : Dev nD) : (dat m 0 c).arrAt 6 cfg0.N = wide m c := by
  funext i
  refine (dat m 0 c).arrAt_forall_of_cover 6 (fun i x => x = wide m c i) (fun t _ (y : S2048x512.Idx) => ?_) covered6 i
  show (dat m 0 c).after 6 t y = _
  rw [after6]
  unfold out6 k0_pay6
  rw [View.canon_unit_zero zeros2, View.ld_unit_zero zeros2, View.ld_unit_zero zeros2, View.ld_unit_zero zeros2, View.ld_unit_zero zeros2, View.ld_unit_zero zeros2]
  obtain ⟨-, e0, e1⟩ := index5 (grid0.coords t)
  have E0 := (win0_6.rect_emb_val t y 0).trans (congrArg (· * 2048 + (y 0 : ℕ)) e0)
  have E1 := (win0_6.rect_emb_val t y 1).trans (congrArg (· * 512 + (y 1 : ℕ)) e1)
  have ey : y = ix2 (y 0) (y 1) := eq_ix2 (M := 2048) (K := 512) y _ _ rfl rfl
  refine ((congrArg _ ey).trans (tile_at m c t (y 0) (y 1) _ E0)).trans ?_
  exact congrArg (keysOf m c _) (E1.trans (by omega)).symm

theorem final5 (c : Dev nD) : (dat m 0 c).arrAt 5 cfg0.N = tall m c := by
  funext i
  refine (dat m 0 c).arrAt_forall_of_cover 5 (fun i x => x = tall m c i) (fun t _ (y : S8192x128.Idx) => ?_) covered5 i
  show (dat m 0 c).after 5 t y = _
  rw [after5]
  unfold out5
  rw [View.ld_unit_zero zeros2, View.ld_unit_zero zeros2, View.ld_unit_zero zeros2, View.ld_unit_zero zeros2, View.ld_unit_zero zeros2]
  obtain ⟨⟨e0, e1⟩, -⟩ := index5 (grid0.coords t)
  have E0 := (win0_5.rect_emb_val t y 0).trans (congrArg (· * 8192 + (y 0 : ℕ)) e0)
  have E1 := (win0_5.rect_emb_val t y 1).trans (congrArg (· * 128 + (y 1 : ℕ)) e1)
  refine (heads_canon (R := 8192) (m := 2048) rfl (fun r k => k0_pay1 (iblk m c 0 t) (iblk m c 1 t) (iblk m c 2 t) (iblk m c 3 t) (iblk m c 4 t) (ix2 r k)) _ _ _ _ _ _ _ _ _
    (fun r l k e => by unfold k0_pay2; exact head_at _ _ _ r l k (e.trans (by omega))) (fun r l k e => by unfold k0_pay3; exact head_at _ _ _ r l k (e.trans (by omega)))
    (fun r l k e => by unfold k0_pay4; exact head_at _ _ _ r l k (e.trans (by omega))) (fun r l k e => by unfold k0_pay5; exact head_at _ _ _ r l k (e.trans (by omega))) y).trans ?_
  exact unstack_block (R := 8192) (m := 2048) (R' := 32768) (M := 8192) (e := .f32) (Val := Elt Ideal) rfl rfl _ (fun r j => keysOf m c r j) y _ _ E0 (E1.trans (by omega)) (tile_at m c t)

/-- The idealized call's run: its two results hold the keys, its arguments what they held. -/
theorem ends (ρ : Dev nD → PrngReg) : θ_run defs (onTc (τ := τ) (main (F := Ideal))) ⟨m, fun _ => 0, ρ⟩ fun r => ∀ c : Dev nD,
    r.2.mem ((c.tc : Thread nD τ).loc main_v24_0) = tall m c ∧ r.2.mem ((c.tc : Thread nD τ).loc main_v24_1) = wide m c
    ∧ r.2.mem ((c.tc : Thread nD τ).loc main_arg0) = m ((c.tc : Thread nD τ).loc main_arg0) ∧ r.2.mem ((c.tc : Thread nD τ).loc main_arg1) = m ((c.tc : Thread nD τ).loc main_arg1) :=
  (θ_run defs _ _).mono (fun _ h c => ⟨((h.1 c).1 5).trans (final5 m c), ((h.1 c).1 6).trans (final6 m c),
    ((h.1 c).1 0).trans (((dat m 0 c).arrAt_in 0 rfl _).trans ((starts m c 0).trans (V_main_arg0 m c))),
    ((h.1 c).2 main_arg1 (Pipeline.mem_restRefs_of main_arg1 (by decide) (by decide))).trans (V_main_arg1 m c)⟩) (runs m ρ)

end Cert.KeysIdeal.Layer

namespace Cert.Keys.Layer

open Idealize.ShloMosaic Idealize.SL.Sem

variable {F : FTy → Type} [FloatOps F]

set_option maxRecDepth 65536
set_option maxHeartbeats 4000000
set_option backward.isDefEq.respectTransparency.types false
set_option backward.isDefEq.respectTransparency false

/-- The call and its idealization are one text: the host's part, -/
theorem main_eq : Cert.Keys.main (F := F) = Cert.KeysIdeal.main (F := F) := rfl

/-- the kernel, -/
theorem kernel_eq : Cert.Keys.defs₀ (F := F) = Cert.KeysIdeal.defs₀ (F := F) := by
  unfold Cert.Keys.defs₀ Cert.KeysIdeal.defs₀
  refine congrArg Defs.onTc ?_
  funext l a
  obtain ⟨_ | n, h⟩ := l
  · rfl
  · exact absurd h (by omega)

/-- and the kernel with its pipeline. -/
theorem defs_eq : Cert.Keys.defs (F := F) = Cert.KeysIdeal.defs (F := F) := congrArg (Pipeline.defs (Cert.KeysIdeal.pcfgs (F := F))) kernel_eq

/-- The call terminates with its arguments unchanged and its counters at zero. -/
theorem quiet : Cert.quiescent_Keys (hKeys := Cert.Keys.Gen.facts) := fun m ρ _ => by
  rw [main_eq, defs_eq]
  exact Cert.KeysIdeal.Layer.quiet m ρ

end Cert.Keys.Layer

namespace Cert.Layer

open Idealize.ShloMosaic Idealize.SL.Sem

/-- From the same arguments the two programs end with the same two results, their arguments unchanged. -/
theorem keys_values : Cert.algebraic_KeysIdeal_KeysReferenceIdeal (hKeysIdeal := Cert.KeysIdeal.Gen.facts) (hKeysReferenceIdeal := Cert.KeysReferenceIdeal.Gen.facts) := by
  intro m g m' g' _ agree
  refine ⟨Cert.KeysIdeal.Layer.tall m, Cert.KeysIdeal.Layer.wide m, Cert.KeysIdeal.Layer.ends m g,
    (θ_run _ _ _).mono (fun r h c => ⟨(h c).1.trans ((Cert.KeysReferenceIdeal.Layer.tall_out m' c).trans ?_), (h c).2.1.trans ((Cert.KeysReferenceIdeal.Layer.wide_out m' c).trans ?_),
      (h c).2.2⟩) (Cert.KeysReferenceIdeal.Value.run m' g')⟩
  all_goals
    obtain ⟨a0, a1⟩ := agree c
    rw [a0, a1]
    rfl

/-- The reference terminates with its arguments unchanged; it declares no semaphore. -/
theorem keys_reference_runs : Cert.quiescent_KeysReferenceIdeal (hKeysReferenceIdeal := Cert.KeysReferenceIdeal.Gen.facts) := fun m ρ _ =>
  (θ_run _ _ _).mono (fun r h => ⟨fun c => (h c).2.2, sem_eq_zero_of_no_sems (by decide) r.2⟩) (Cert.KeysReferenceIdeal.Value.run m ρ)

/-- The idealized call terminates with its arguments unchanged and its counters at zero. -/
theorem keys_runs : Cert.quiescent_KeysIdeal (hKeysIdeal := Cert.KeysIdeal.Gen.facts) := fun m ρ _ => Cert.KeysIdeal.Layer.quiet m ρ

end Cert.Layer

end
-- ==== Proof.KeysSampleRef.lean ====
/- The rotated keys of the sample rows, as their reference states them. -/
module

public import proofs.«01_k».proof.Proof.Gen.KeysSampleReferenceIdeal.Run
public import proofs.«01_k».proof.Proof.KeysOut

@[expose] public section

set_option maxRecDepth 16384
set_option maxHeartbeats 2000000

noncomputable section

namespace Cert.KeysSampleReferenceIdeal.Layer

open Idealize.ShloMosaic Idealize.ShloMosaic.TcCoe
open Cert.KeysSampleReferenceIdeal Cert.KeysSampleReferenceIdeal.Gen Cert.KeysSampleReferenceIdeal.Value Cert.Layer
open scoped BigOperators

theorem product_at (h : FVec Ideal S512x2048 .bf16) (w : FVec Ideal S1x2048x17552 .f32) (p : Fin 16) (r : Fin 32) (g : Fin 4) (l : Fin 128) (n : ℕ) (e : (g : ℕ) * 128 + l = n)
    (q : Fin 512) (hq : (q : ℕ) = p * 32 + r) :
    (shapeCast S16x32x4x128 (extractStridedSlice S512x512 ![0, 2048] (Host.dotGeneral dot_S512x2048_S2048x17552_S512x17552_1_0_0_1_n_n none (extf .f32 h bitsLt_bf16_f32)
      (shapeCast S2048x17552 w shapeCasts_S1x2048x17552_S2048x17552)) slices_S512x17552_S512x512_0_2048) shapeCasts_S512x512_S16x32x4x128 : FVec Ideal S16x32x4x128 .f32) (ix4 p r g l)
    = colAt h w q (2048 + n) := by
  pointwise
  exact colAt_eq _ _ _ _ _ _ (by dsimp only; omega) (by dsimp only; omega)

/-- The rotation's angles, one a position and frequency. -/
abbrev angles : FVec Ideal S32x16 .f32 :=
  mulf (broadcastInDim S32x16 ![0, 1] bcast_S32x1_S32x16_0_1 (broadcastInDim S32x1 ![0] bcast_S32_S32x1_0 (sitofp .f32 (addi (broadcastInDim S32 ![] bcast_S_S32 (constantI S_ 32 2048#32)) (iotaInDim S32 32 0)))))
    (broadcastInDim S32x16 ![0, 1] bcast_S1x16_S32x16_0_1 (broadcastInDim S1x16 ![1] bcast_S16_S1x16_1 (Host.powf (broadcastInDim S16 ![] bcast_S_S16 (constant S_ .f32 0x48F42400#32))
      (Host.negf (mulf (sitofp .f32 (iotaInDim S16 32 0)) (broadcastInDim S16 ![] bcast_S_S16 (constant S_ .f32 0x3D800000#32)))))))

theorem angles_at (r : Fin 32) (l : Fin 16) : angles (ix2 r l) = angle (place r) l := by
  unfold angles
  pointwise
  rfl

/-- The rotated heads of an array of heads. -/
abbrev turnedHeads (z : FVec Ideal S16x32x4x128 .f32) (a b : FVec Ideal S32x1x16 .f32) : FVec Ideal S16x32x4x128 .f32 :=
  concatenate S16x32x4x128 3 [⟨S16x32x4x32, (concatenate S16x32x4x32 3 [⟨S16x32x4x16, (subf
    (mulf (extractStridedSlice S16x32x4x16 ![0, 0, 0, 0] (extractStridedSlice S16x32x4x32 ![0, 0, 0, 0] z slices_S16x32x4x128_S16x32x4x32_0_0_0_0) slices_S16x32x4x32_S16x32x4x16_0_0_0_0)
      (broadcastInDim S16x32x4x16 ![0, 1, 2, 3] bcast_S1x32x1x16_S16x32x4x16_0_1_2_3 (broadcastInDim S1x32x1x16 ![1, 2, 3] bcast_S32x1x16_S1x32x1x16_1_2_3 a)))
    (mulf (extractStridedSlice S16x32x4x16 ![0, 0, 0, 16] (extractStridedSlice S16x32x4x32 ![0, 0, 0, 0] z slices_S16x32x4x128_S16x32x4x32_0_0_0_0) slices_S16x32x4x32_S16x32x4x16_0_0_0_16)
      (broadcastInDim S16x32x4x16 ![0, 1, 2, 3] bcast_S1x32x1x16_S16x32x4x16_0_1_2_3 (broadcastInDim S1x32x1x16 ![1, 2, 3] bcast_S32x1x16_S1x32x1x16_1_2_3 b))))⟩,
   ⟨S16x32x4x16, (addf
    (mulf (extractStridedSlice S16x32x4x16 ![0, 0, 0, 16] (extractStridedSlice S16x32x4x32 ![0, 0, 0, 0] z slices_S16x32x4x128_S16x32x4x32_0_0_0_0) slices_S16x32x4x32_S16x32x4x16_0_0_0_16)
      (broadcastInDim S16x32x4x16 ![0, 1, 2, 3] bcast_S1x32x1x16_S16x32x4x16_0_1_2_3 (broadcastInDim S1x32x1x16 ![1, 2, 3] bcast_S32x1x16_S1x32x1x16_1_2_3 a)))
    (mulf (extractStridedSlice S16x32x4x16 ![0, 0, 0, 0] (extractStridedSlice S16x32x4x32 ![0, 0, 0, 0] z slices_S16x32x4x128_S16x32x4x32_0_0_0_0) slices_S16x32x4x32_S16x32x4x16_0_0_0_0)
      (broadcastInDim S16x32x4x16 ![0, 1, 2, 3] bcast_S1x32x1x16_S16x32x4x16_0_1_2_3 (broadcastInDim S1x32x1x16 ![1, 2, 3] bcast_S32x1x16_S1x32x1x16_1_2_3 b))))⟩]
      concatenates_S16x32x4x16_S16x32x4x16_S16x32x4x32_d3)⟩,
    ⟨S16x32x4x96, (extractStridedSlice S16x32x4x96 ![0, 0, 0, 32] z slices_S16x32x4x128_S16x32x4x96_0_0_0_32)⟩] concatenates_S16x32x4x32_S16x32x4x96_S16x32x4x128_d3

theorem turned_at (z : FVec Ideal S16x32x4x128 .f32) (a b : FVec Ideal S32x1x16 .f32) (f : ℕ → EReal) (p : Fin 16) (r : Fin 32)
    (hz : ∀ (g : Fin 4) (l : Fin 128) (n : ℕ), (g : ℕ) * 128 + l = n → z (ix4 p r g l) = f n)
    (ha : ∀ (l : Fin 16) (n : ℕ), (l : ℕ) = n → a (ix3 r 0 l) = Ideal.cos (angle (place r) n))
    (hb : ∀ (l : Fin 16) (n : ℕ), (l : ℕ) = n → b (ix3 r 0 l) = Ideal.sin (angle (place r) n))
    (g : Fin 4) (l : Fin 128) (n : ℕ) (e : (g : ℕ) * 128 + l = n) : turnedHeads z a b (ix4 p r g l) = rot f (place r) n := by
  unfold turnedHeads
  pointwise
  have hn : n % 128 = l := by omega
  by_cases h1 : (l : ℕ) < 32
  · rw [dif_pos h1]
    by_cases h2 : (l : ℕ) < 16
    · rw [dif_pos h2]
      exact rot_lo (by omega) (hz _ _ _ (by omega)) (ha _ _ (by dsimp only <;> omega)) (hz _ _ _ (by dsimp only <;> omega)) (hb _ _ (by dsimp only <;> omega))
    · rw [dif_neg h2]
      exact rot_mid (by omega) (by omega) (hz _ _ _ (by dsimp only <;> omega)) (ha _ _ (by dsimp only <;> omega)) (hz _ _ _ (by dsimp only <;> omega))
        (hb _ _ (by dsimp only <;> omega))
  · rw [dif_neg h1]
    exact rot_hi (by omega) (hz _ _ _ (by dsimp only <;> omega))

theorem cos_at (r : Fin 32) (l : Fin 16) (n : ℕ) (e : (l : ℕ) = n) :
    (broadcastInDim S32x1x16 ![0, 2] bcast_S32x16_S32x1x16_0_2 (Host.cos angles) : FVec Ideal S32x1x16 .f32) (ix3 r 0 l) = Ideal.cos (angle (place r) n) := by
  subst e
  rw [← angles_at]
  generalize angles = a
  pointwise

theorem sin_at (r : Fin 32) (l : Fin 16) (n : ℕ) (e : (l : ℕ) = n) :
    (broadcastInDim S32x1x16 ![0, 2] bcast_S32x16_S32x1x16_0_2 (Host.sin angles) : FVec Ideal S32x1x16 .f32) (ix3 r 0 l) = Ideal.sin (angle (place r) n) := by
  subst e
  rw [← angles_at]
  generalize angles = a
  pointwise

theorem wide_at (x : FVec Ideal S16x32x4x128 .f32) (r j : Fin 512) :
    (truncf .bf16 (shapeCast S512x512 x shapeCasts_S16x32x4x128_S512x512) bitsLt_bf16_f32 : FVec Ideal S512x512 .bf16) (ix2 r j)
    = x (ix4 ⟨(r : ℕ) / 32, by omega⟩ ⟨(r : ℕ) % 32, by omega⟩ ⟨(j : ℕ) / 128, by omega⟩ ⟨(j : ℕ) % 128, by omega⟩) := by
  pointwise

theorem tall_at (x : FVec Ideal S16x32x4x128 .f32) (r : Fin 2048) (j : Fin 128) :
    (shapeCast S2048x128 x shapeCasts_S16x32x4x128_S2048x128 : FVec Ideal S2048x128 .f32) (ix2 r j)
    = x (ix4 ⟨(r : ℕ) / 4 / 32, by omega⟩ ⟨(r : ℕ) / 4 % 32, by omega⟩ ⟨(r : ℕ) % 4, by omega⟩ j) := by
  pointwise
  exact congrArg x (by congr 1 <;> exact Fin.ext (by dsimp only <;> omega))

variable (m : (ℓ : Loc nD τ sig) → Buf (Elt Ideal) ℓ) (c : Dev nD)

theorem wide_out : res_main_v46 m c = fun i : S512x512.Idx => keyRowS (m ((c : Thread nD τ).loc main_arg0)) (m ((c : Thread nD τ).loc main_arg1)) (i 0) (i 1) := by
  funext i
  idx_vars i
  unfold res_main_v46
  refine (wide_at _ i0 i1).trans (turned_at _ _ _ (fun n => colAt (m ((c : Thread nD τ).loc main_arg0)) (m ((c : Thread nD τ).loc main_arg1)) i0 (2048 + n)) _ _
    (fun g l n e => product_at _ _ _ _ g l n e i0 (by dsimp only; omega)) (cos_at _) (sin_at _) _ _ i1 ?_)
  dsimp only
  omega

theorem tall_out : res_main_v44 m c = unstack (R := 2048) (m := 512) (Val := Elt Ideal) (e := .f32) rfl
    fun r j => keyRowS (m ((c : Thread nD τ).loc main_arg0)) (m ((c : Thread nD τ).loc main_arg1)) r j := by
  funext i
  idx_vars i
  unfold res_main_v44
  exact (tall_at _ i0 i1).trans (turned_at _ _ _ (fun n => colAt (m ((c : Thread nD τ).loc main_arg0)) (m ((c : Thread nD τ).loc main_arg1)) ⟨(i0 : ℕ) / 4, by omega⟩ (2048 + n)) _ _
    (fun g l n e => product_at _ _ _ _ g l n e ⟨(i0 : ℕ) / 4, by omega⟩ (by dsimp only; omega)) (cos_at _) (sin_at _) _ _ _ rfl)

end Cert.KeysSampleReferenceIdeal.Layer

end
-- ==== Proof.KeysSampleFrame.lean ====
/- The call of the sample's keys runs: what each point's body leaves in the two results' blocks, and the whole run. -/
module

public import proofs.«01_k».proof.Proof.Gen.KeysSampleIdeal.Frame
public import proofs.«01_k».proof.Proof.Gen.KeysSampleIdeal.Skeleton
public import Idealize.ShloMosaic.Lib.Claim
public import proofs.«01_k».proof.Proof.KeysSampleRef

@[expose] public section

set_option maxRecDepth 16384

noncomputable section

namespace Cert.KeysSampleIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KeysSampleIdeal Cert.KeysSampleIdeal.Gen Cert.Layer

variable {F : FTy → Type} [FloatOps F]

/-- The machine's resources over this program. -/
abbrev Mach (F : FTy → Type) : Type := MT nD τ sig Unit (Elt F) ℕ (UR sig nD τ) ℕ

abbrev rectW : Rect S512x2048 := Rect.unit (s := S512x2048) ![0, 0] S512x2048.size inb_S512x2048_S512x2048_0_0
abbrev rectT : Rect S512x128 := Rect.unit (s := S512x128) ![0, 0] S512x128.size inb_S512x128_S512x128_0_0
abbrev rectO : Rect S512x512 := Rect.unit (s := S512x512) ![0, 0] S512x512.size inb_S512x512_S512x512_0_0
abbrev head0 : Rect S2048x128 := headRect 2048 512 0 inb_S2048x128_S512x128_0_0_s_4_1 spos_4_1
abbrev head1 : Rect S2048x128 := headRect 2048 512 1 inb_S2048x128_S512x128_1_0_s_4_1 spos_4_1
abbrev head2 : Rect S2048x128 := headRect 2048 512 2 inb_S2048x128_S512x128_2_0_s_4_1 spos_4_1
abbrev head3 : Rect S2048x128 := headRect 2048 512 3 inb_S2048x128_S512x128_3_0_s_4_1 spos_4_1

/-- The block of the first result after the body: the four heads, each on its rows. -/
def out5 (h : Vec F S512x2048 .bf16) (w : Vec F S512x2048 .f32) (a b c : Vec F S512x128 .f32) : Vec F S2048x128 .f32 :=
  View.canon [⟨head3, k0_pay5 (View.ld h rectW) (View.ld w rectW) (View.ld a rectT) (View.ld b rectT) (View.ld c rectT)⟩,
    ⟨head2, k0_pay4 (View.ld h rectW) (View.ld w rectW) (View.ld a rectT) (View.ld b rectT) (View.ld c rectT)⟩,
    ⟨head1, k0_pay3 (View.ld h rectW) (View.ld w rectW) (View.ld a rectT) (View.ld b rectT) (View.ld c rectT)⟩,
    ⟨head0, k0_pay2 (View.ld h rectW) (View.ld w rectW) (View.ld a rectT) (View.ld b rectT) (View.ld c rectT)⟩]

/-- The block of the second result after the body: the narrowed rows. -/
def out6 (h : Vec F S512x2048 .bf16) (w : Vec F S512x2048 .f32) (a b c : Vec F S512x128 .f32) : Vec F S512x512 .bf16 :=
  View.canon [⟨rectO, k0_pay6 (View.ld h rectW) (View.ld w rectW) (View.ld a rectT) (View.ld b rectT) (View.ld c rectT)⟩]

theorem cover6 (p : Vec F S512x512 .bf16) (y : S512x512.Idx) : ∃ pc ∈ ([⟨rectO, p⟩] : List (View.Piece (Elt F) S512x512 .bf16)), y ∈ pc.1.set :=
  View.cover_of_tiled [⟨rectO, p⟩] S512x512.size (by rfl) y

set_option maxHeartbeats 2000000 in
/-- The body's triple: its inputs stay, its two outputs end at the blocks above. -/
theorem body_runs (c : Dev nD) (E : Set ℕ) (i : grid0.Coords) (a2 : Memref sig .tc .vmem S512x2048 .bf16) (h2 : a2.IsWhole) (a3 : Memref sig .tc .vmem S512x2048 .f32) (h3 : a3.IsWhole)
    (a4 : Memref sig .tc .vmem S512x128 .f32) (h4 : a4.IsWhole) (a5 : Memref sig .tc .vmem S512x128 .f32) (h5 : a5.IsWhole) (a6 : Memref sig .tc .vmem S512x128 .f32) (h6 : a6.IsWhole)
    (a7 : Memref sig .tc .vmem S2048x128 .f32) (h7 : a7.IsWhole) (a8 : Memref sig .tc .vmem S512x512 .bf16) (h8 : a8.IsWhole)
    (x0 : Vec F S512x2048 .bf16) (x1 : Vec F S512x2048 .f32) (x2 x3 x4 : Vec F S512x128 .f32) (K : PUnit → sProp (Mach F)) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare x3
          ∗ owns (c : Thread nD τ) a6 fullShare x4 ∗ owns (c : Thread nD τ) a7 fullShare (out5 x0 x1 x2 x3 x4) ∗ owns (c : Thread nD τ) a8 fullShare (out6 x0 x1 x2 x3 x4)) -∗ K ⟨⟩))
      ⊢ wp frame (wpE (defs₀ (F := F)) Variants.none c none) E (cc0_proj_rope i a2 h2 a3 h3 a4 h4 a5 h5 a6 h6 a7 h7 a8 h8) K := by
  simp only [cc0_proj_rope_eq_skeleton]; unfold cc0_proj_rope_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon (Val := Elt F) _ _ _ (heads_cover (R := 2048) (m := 512) rfl _ _ _ _ _ _ _ _ _)).trans ?_
    rfl
  iexists _; isplitr
  swap; · iexact H6
  ipureintro
  refine (View.read_writes_eq_canon _ _ _ (cover6 _)).trans ?_
  rfl

variable (m : (ℓ : Loc nD τ sig) → Buf (Elt F) ℓ) (ρ : Dev nD → PrngReg)

/-- The call's proof data: the arrays as the call finds them, each input's block left alone, each output's block as the body leaves it. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t) (iblk m c 3 t) (iblk m c 4 t)
  Φ _ := Pipeline.ΦA spec0 c
  q _ := fullShare
  owed _ := 0

theorem starts (c : Dev nD) (w : Fin cfg0.W) : (dat m 0 c).A w = V m c (Pipeline.arrRef spec0 w) := by dsimp only [dat]

theorem after0 (c : Dev nD) (t : Fin cfg0.N) : (dat m 0 c).after 0 t = iblk m c 0 t := by dsimp only [dat]
theorem after1 (c : Dev nD) (t : Fin cfg0.N) : (dat m 0 c).after 1 t = iblk m c 1 t := by dsimp only [dat]
theorem after2 (c : Dev nD) (t : Fin cfg0.N) : (dat m 0 c).after 2 t = iblk m c 2 t := by dsimp only [dat]
theorem after3 (c : Dev nD) (t : Fin cfg0.N) : (dat m 0 c).after 3 t = iblk m c 3 t := by dsimp only [dat]
theorem after4 (c : Dev nD) (t : Fin cfg0.N) : (dat m 0 c).after 4 t = iblk m c 4 t := by dsimp only [dat]
theorem after5 (c : Dev nD) (t : Fin cfg0.N) :
    (dat m 0 c).after 5 t = out5 (iblk m c 0 t) (iblk m c 1 t) (iblk m c 2 t) (iblk m c 3 t) (iblk m c 4 t) := by dsimp only [dat]
theorem after6 (c : Dev nD) (t : Fin cfg0.N) :
    (dat m 0 c).after 6 t = out6 (iblk m c 0 t) (iblk m c 1 t) (iblk m c 2 t) (iblk m c 3 t) (iblk m c 4 t) := by dsimp only [dat]

theorem before0 (c : Dev nD) (t : Fin cfg0.N) (d) : (dat m 0 c).before 0 t d = iblk m c 0 t := before0_0_of m (dat m 0 c) (starts m c 0) (after0 m c) t d
theorem before1 (c : Dev nD) (t : Fin cfg0.N) (d) : (dat m 0 c).before 1 t d = iblk m c 1 t := before0_1_of m (dat m 0 c) (starts m c 1) (after1 m c) t d
theorem before2 (c : Dev nD) (t : Fin cfg0.N) (d) : (dat m 0 c).before 2 t d = iblk m c 2 t := before0_2_of m (dat m 0 c) (starts m c 2) (after2 m c) t d
theorem before3 (c : Dev nD) (t : Fin cfg0.N) (d) : (dat m 0 c).before 3 t d = iblk m c 3 t := before0_3_of m (dat m 0 c) (starts m c 3) (after3 m c) t d
theorem before4 (c : Dev nD) (t : Fin cfg0.N) (d) : (dat m 0 c).before 4 t d = iblk m c 4 t := before0_4_of m (dat m 0 c) (starts m c 4) (after4 m c) t d

/-- What a point's body starts from, window by window. -/
def atStart (c : Dev nD) (t : Fin cfg0.N) : sProp (Mach F) :=
  iprop((dat m 0 c).Φ t.castSucc ∗ (dat m 0 c).owesAt () t.castSucc
    ∗ (∃ d, owns (c : Thread nD τ) (st0_0 t) fullShare ((dat m 0 c).before 0 t d)) ∗ (∃ d, owns (c : Thread nD τ) (st0_1 t) fullShare ((dat m 0 c).before 1 t d))
    ∗ (∃ d, owns (c : Thread nD τ) (st0_2 t) fullShare ((dat m 0 c).before 2 t d)) ∗ (∃ d, owns (c : Thread nD τ) (st0_3 t) fullShare ((dat m 0 c).before 3 t d))
    ∗ (∃ d, owns (c : Thread nD τ) (st0_4 t) fullShare ((dat m 0 c).before 4 t d)) ∗ (∃ d, owns (c : Thread nD τ) (st0_5 t) fullShare ((dat m 0 c).before 5 t d))
    ∗ (∃ d, owns (c : Thread nD τ) (st0_6 t) fullShare ((dat m 0 c).before 6 t d)))

/-- What it ends with. -/
def atEnd (c : Dev nD) (t : Fin cfg0.N) : sProp (Mach F) :=
  iprop((dat m 0 c).Φ t.succ ∗ (dat m 0 c).owesAt () t.succ
    ∗ owns (c : Thread nD τ) (st0_0 t) fullShare ((dat m 0 c).after 0 t) ∗ owns (c : Thread nD τ) (st0_1 t) fullShare ((dat m 0 c).after 1 t)
    ∗ owns (c : Thread nD τ) (st0_2 t) fullShare ((dat m 0 c).after 2 t) ∗ owns (c : Thread nD τ) (st0_3 t) fullShare ((dat m 0 c).after 3 t)
    ∗ owns (c : Thread nD τ) (st0_4 t) fullShare ((dat m 0 c).after 4 t) ∗ owns (c : Thread nD τ) (st0_5 t) fullShare ((dat m 0 c).after 5 t)
    ∗ owns (c : Thread nD τ) (st0_6 t) fullShare ((dat m 0 c).after 6 t))

theorem point_runs (c : Dev nD) (t : Fin cfg0.N) :
    atStart m c t ⊢ wp frame (wpE (defs₀ (F := F)) Variants.none c none) Set.univ (bodyAt0 t) (fun _ => atEnd m c t) := by
  unfold atStart atEnd bodyAt0
  simp only [before0, before1, before2, before3, before4]
  rw [show (dat m 0 c).Φ t.succ = (dat m 0 c).Φ t.castSucc from rfl, show (dat m 0 c).owesAt () t.succ = (dat m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, row]
  exact triple_restated (point_runs m c t) rfl .rfl fun _ => .rfl

set_option backward.isDefEq.respectTransparency.types false in
set_option maxHeartbeats 800000 in
/-- The whole run: every array ends at what the points leave in it, and every counter at zero. -/
theorem runs : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := starts m) (hΦ := fun _ _ => rfl)

/-- The arguments end as they began, the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0) :=
  θ_run_and (frame_of m ρ (dat m) (starts m) ((θ_run defs _ _).mono (fun _ h => h.1) (runs m ρ))) ((θ_run defs _ _).mono (fun _ h => h.2) (runs m ρ))

end Cert.KeysSampleIdeal.Layer

end
-- ==== Proof.KeysSampleOut.lean ====
/- The call of the sample's keys computes what its reference does. -/
module

public import proofs.«01_k».proof.Defs
public import proofs.«01_k».proof.Proof.Gen.KeysSample.Frame
public import proofs.«01_k».proof.Proof.KeysSampleFrame
public import Idealize.ShloMosaic.Lib.StableHlo.ReadAt

@[expose] public section

set_option maxRecDepth 16384
set_option maxHeartbeats 2000000

noncomputable section

namespace Cert.KeysSampleIdeal.Layer

open Idealize.ShloMosaic Idealize.ShloMosaic.TcCoe Idealize.SL.Sem
open Idealize.ShloMosaic.Pipeline (Dat)
open Cert.KeysSampleIdeal Cert.KeysSampleIdeal.Gen Cert.Layer
open Cert.KernelIdeal.Layer (four cos_ladder neg_ladder sin_ladder from_zero)
open scoped BigOperators

section host

variable (W : Valuation τ sig (Elt Ideal))

theorem weight_at (j : Fin 17552) (k : Fin 2048) : (StableHlo.after hostOps0 W (Proc.devRef .tc main_v1) : Arr S17552x2048) (ix2 j k)
    = W (Proc.devRef .tc main_arg1) (ix3 0 k j) := by
  after_reads_at

theorem cosTab_at (r : Fin 512) (l : Fin 128) : (StableHlo.after hostOps0 W (Proc.devRef .tc main_v28) : Arr S512x128) (ix2 r l) = cosTab (place (r % 32)) l := by
  after_reads_at
  after_reads_at
  exact cos_ladder _ _

theorem negTab_at (r : Fin 512) (l : Fin 128) : (StableHlo.after hostOps0 W (Proc.devRef .tc main_v31) : Arr S512x128) (ix2 r l) = negTab (place (r % 32)) l := by
  after_reads_at
  after_reads_at
  exact neg_ladder _ _

theorem sinTab_at (r : Fin 512) (l : Fin 128) : (StableHlo.after hostOps0 W (Proc.devRef .tc main_v34) : Arr S512x128) (ix2 r l) = sinTab (place (r % 32)) l := by
  after_reads_at
  after_reads_at
  exact sin_ladder _ _

end host

/-- The rotated tile of one point. -/
theorem pay1 (v0 : Vec Ideal S512x2048 .bf16) (v2 : Vec Ideal S512x2048 .f32) (a b c : Vec Ideal S512x128 .f32) (j : S512x512.Idx) :
    k0_pay1 v0 v2 a b c j = ropeTile (m := 512) (n := 512) v0 v2 a b c (j 0) (j 1) := by
  idx_vars j
  unfold k0_pay1
  pointwise
  exact congrArg₂ (· + ·) (congrArg₂ (· + ·) (congrArg₂ (· * ·) rfl (four (fun l => a (ix2 j0 l)) j1)) (congrArg₂ (· * ·) rfl (four (fun l => b (ix2 j0 l)) j1)))
    (congrArg₂ (· * ·) rfl (four (fun l => c (ix2 j0 l)) j1))

/-- A head of a tile is 128 of its columns. -/
theorem head_at (x : FVec Ideal S512x512 .f32) (o : ℕ) (h : S512x512.Slices ![0, o] S512x128) (r : Fin 512) (l : Fin 128) (k : Fin 512) (e : (k : ℕ) = o + l) :
    extractStridedSlice S512x128 ![0, o] x h (ix2 r l) = x (ix2 r k) := by
  pointwise
  exact congrArg x (eq_ix2 (M := 512) (K := 512) _ _ _ rfl e.symm)

variable (m : (ℓ : Loc nD τ sig) → Buf (Elt Ideal) ℓ)

/-- The keys of a row, of the arguments. -/
abbrev keysOf (c : Dev nD) (r : Fin 512) (j : ℕ) : EReal := keyRowS (m ((c : Thread nD τ).loc main_arg0)) (m ((c : Thread nD τ).loc main_arg1)) r j

theorem index0 (i : grid0.Coords) :
    (cc0_transform_0 i 0 = i 0 ∧ cc0_transform_0 i 1 = 0 ∧ cc0_transform_1 i 0 = 2048 + 0 * 512 ∧ cc0_transform_1 i 1 = 0)
    ∧ (cc0_transform_2 i 0 = i 0 ∧ cc0_transform_2 i 1 = 0) ∧ (cc0_transform_3 i 0 = i 0 ∧ cc0_transform_3 i 1 = 0)
    ∧ (cc0_transform_4 i 0 = i 0 ∧ cc0_transform_4 i 1 = 0) ∧ 2048 + 0 * 512 + 512 ≤ 17552 := by
  revert i; decide +kernel

theorem index5 (i : grid0.Coords) : (cc0_transform_5 i 0 = i 0 ∧ cc0_transform_5 i 1 = 0) ∧ cc0_transform_6 i 0 = i 0 ∧ cc0_transform_6 i 1 = 0 := by
  revert i; decide +kernel

/-- What a point computes at an element of its tile: the keys of the row where the tile lies. -/
theorem tile_at (c : Dev nD) (t : Fin cfg0.N) (p : Fin 512) (q : Fin 512) (r : Fin 512) (hr : (r : ℕ) = (grid0.coords t 0 : ℕ) * 512 + p) :
    k0_pay1 (iblk m c 0 t) (iblk m c 1 t) (iblk m c 2 t) (iblk m c 3 t) (iblk m c 4 t) (ix2 p q) = keysOf m c r q := by
  refine (pay1 _ _ _ _ _ (ix2 p q)).trans ((ropeTile_eq (M := 512) (m := 512) (n := 512) (V m c main_arg0) (V m c main_v1) (V m c main_v28) (V m c main_v31) (V m c main_v34)
    _ _ _ _ _ p q r q
    (win0_0.rect_emb_val t · 0) (win0_0.rect_emb_val t · 1) (win0_1.rect_emb_val_off t · 0) (win0_1.rect_emb_val_off t · 1)
    (win0_2.rect_emb_val t · 0) (win0_2.rect_emb_val t · 1) (win0_3.rect_emb_val t · 0) (win0_3.rect_emb_val t · 1)
    (win0_4.rect_emb_val t · 0) (win0_4.rect_emb_val t · 1) hr (by omega) (by decide) (index0 (grid0.coords t))).trans ?_)
  rw [ropeAt_eq (M := 512) (n := 512) _ _ _ _ _ _ _ _ (place (r % 32)) (by decide) (by decide) (cosTab_at _ r) (negTab_at _ r) (sinTab_at _ r)]
  refine congrArg (fun z => rot z (place (r % 32)) q) (funext fun k => ?_)
  rw [V_main_arg0]
  unfold zAt rowDot colAt
  exact Finset.sum_congr rfl fun x _ => congrArg₂ (· * ·) rfl (weight_at _ _ x)

theorem reach (n : ℕ) (h : n < 1) : ∃ t : Fin cfg0.N, (grid0.coords t 0 : ℕ) = n := by
  have : ∀ n < 1, ∃ t : Fin grid0.N, (grid0.coords t 0 : ℕ) = n := by decide +kernel
  exact this n h

theorem covered5 (i : S2048x128.Idx) : ∃ t : Fin cfg0.N, (cfg0.win 5).flush t = true ∧ i ∈ ((cfg0.win 5).blk t).view.set := by
  have h0 : (i 0 : ℕ) < 2048 := (i 0).isLt
  have h1 : (i 1 : ℕ) < 128 := (i 1).isLt
  obtain ⟨t, e⟩ := reach ((i 0 : ℕ) / 2048) (by omega)
  obtain ⟨⟨e0, e1⟩, -⟩ := index5 (grid0.coords t)
  refine ⟨t, flush0_5 t, ?_⟩
  show i ∈ ((View.whole main_v35_0).slice (win0_5.rect t)).set
  rw [View.set_slice_whole, Rect.mem_set_unit]
  exact mem_tile (M := 2048) (N := 128) (m := 2048) (n := 128) i (by decide) (by decide) (e0.trans e) (e1.trans (by omega))

theorem covered6 (i : S512x512.Idx) : ∃ t : Fin cfg0.N, (cfg0.win 6).flush t = true ∧ i ∈ ((cfg0.win 6).blk t).view.set := by
  have h0 : (i 0 : ℕ) < 512 := (i 0).isLt
  have h1 : (i 1 : ℕ) < 512 := (i 1).isLt
  obtain ⟨t, e⟩ := reach ((i 0 : ℕ) / 512) (by omega)
  obtain ⟨-, e0, e1⟩ := index5 (grid0.coords t)
  refine ⟨t, flush0_6 t, ?_⟩
  show i ∈ ((View.whole main_v35_1).slice (win0_6.rect t)).set
  rw [View.set_slice_whole, Rect.mem_set_unit]
  exact mem_tile (M := 512) (N := 512) (m := 512) (n := 512) i (by decide) (by decide) (e0.trans e) (e1.trans (by omega))

/-- The call's first result: every row's four heads as rows. -/
def tall (c : Dev nD) : Arr S2048x128 := unstack (R := 2048) (m := 512) (Val := Elt Ideal) (e := .f32) rfl fun r j => keysOf m c r j

/-- Its second result: the rows. -/
def wide (c : Dev nD) : Arr S512x512 := fun i => keysOf m c (i 0) (i 1)

theorem final6 (c : Dev nD) : (dat m 0 c).arrAt 6 cfg0.N = wide m c := by
  funext i
  refine (dat m 0 c).arrAt_forall_of_cover 6 (fun i x => x = wide m c i) (fun t _ (y : S512x512.Idx) => ?_) covered6 i
  show (dat m 0 c).after 6 t y = _
  rw [after6]
  unfold out6 k0_pay6
  rw [View.canon_unit_zero zeros2, View.ld_unit_zero zeros2, View.ld_unit_zero zeros2, View.ld_unit_zero zeros2, View.ld_unit_zero zeros2, View.ld_unit_zero zeros2]
  obtain ⟨-, e0, e1⟩ := index5 (grid0.coords t)
  have E0 := (win0_6.rect_emb_val t y 0).trans (congrArg (· * 512 + (y 0 : ℕ)) e0)
  have E1 := (win0_6.rect_emb_val t y 1).trans (congrArg (· * 512 + (y 1 : ℕ)) e1)
  have ey : y = ix2 (y 0) (y 1) := eq_ix2 (M := 512) (K := 512) y _ _ rfl rfl
  refine ((congrArg _ ey).trans (tile_at m c t (y 0) (y 1) _ E0)).trans ?_
  exact congrArg (keysOf m c _) (E1.trans (by omega)).symm

theorem final5 (c : Dev nD) : (dat m 0 c).arrAt 5 cfg0.N = tall m c := by
  funext i
  refine (dat m 0 c).arrAt_forall_of_cover 5 (fun i x => x = tall m c i) (fun t _ (y : S2048x128.Idx) => ?_) covered5 i
  show (dat m 0 c).after 5 t y = _
  rw [after5]
  unfold out5
  rw [View.ld_unit_zero zeros2, View.ld_unit_zero zeros2, View.ld_unit_zero zeros2, View.ld_unit_zero zeros2, View.ld_unit_zero zeros2]
  obtain ⟨⟨e0, e1⟩, -⟩ := index5 (grid0.coords t)
  have E0 := (win0_5.rect_emb_val t y 0).trans (congrArg (· * 2048 + (y 0 : ℕ)) e0)
  have E1 := (win0_5.rect_emb_val t y 1).trans (congrArg (· * 128 + (y 1 : ℕ)) e1)
  refine (heads_canon (R := 2048) (m := 512) rfl (fun r k => k0_pay1 (iblk m c 0 t) (iblk m c 1 t) (iblk m c 2 t) (iblk m c 3 t) (iblk m c 4 t) (ix2 r k)) _ _ _ _ _ _ _ _ _
    (fun r l k e => by unfold k0_pay2; exact head_at _ _ _ r l k (e.trans (by omega))) (fun r l k e => by unfold k0_pay3; exact head_at _ _ _ r l k (e.trans (by omega)))
    (fun r l k e => by unfold k0_pay4; exact head_at _ _ _ r l k (e.trans (by omega))) (fun r l k e => by unfold k0_pay5; exact head_at _ _ _ r l k (e.trans (by omega))) y).trans ?_
  exact unstack_block (R := 2048) (m := 512) (R' := 2048) (M := 512) (e := .f32) (Val := Elt Ideal) rfl rfl _ (fun r j => keysOf m c r j) y _ _ E0 (E1.trans (by omega)) (tile_at m c t)

/-- The idealized call's run: its two results hold the keys, its arguments what they held. -/
theorem ends (ρ : Dev nD → PrngReg) : θ_run defs (onTc (τ := τ) (main (F := Ideal))) ⟨m, fun _ => 0, ρ⟩ fun r => ∀ c : Dev nD,
    r.2.mem ((c.tc : Thread nD τ).loc main_v35_0) = tall m c ∧ r.2.mem ((c.tc : Thread nD τ).loc main_v35_1) = wide m c
    ∧ r.2.mem ((c.tc : Thread nD τ).loc main_arg0) = m ((c.tc : Thread nD τ).loc main_arg0) ∧ r.2.mem ((c.tc : Thread nD τ).loc main_arg1) = m ((c.tc : Thread nD τ).loc main_arg1) :=
  (θ_run defs _ _).mono (fun _ h c => ⟨((h.1 c).1 5).trans (final5 m c), ((h.1 c).1 6).trans (final6 m c),
    ((h.1 c).1 0).trans (((dat m 0 c).arrAt_in 0 rfl _).trans ((starts m c 0).trans (V_main_arg0 m c))),
    ((h.1 c).2 main_arg1 (Pipeline.mem_restRefs_of main_arg1 (by decide) (by decide))).trans (V_main_arg1 m c)⟩) (runs m ρ)

end Cert.KeysSampleIdeal.Layer

namespace Cert.KeysSample.Layer

open Idealize.ShloMosaic Idealize.SL.Sem

variable {F : FTy → Type} [FloatOps F]

set_option maxRecDepth 65536
set_option maxHeartbeats 4000000
set_option backward.isDefEq.respectTransparency.types false
set_option backward.isDefEq.respectTransparency false

/-- The call and its idealization are one text: the host's part, -/
theorem main_eq : Cert.KeysSample.main (F := F) = Cert.KeysSampleIdeal.main (F := F) := rfl

/-- the kernel, -/
theorem kernel_eq : Cert.KeysSample.defs₀ (F := F) = Cert.KeysSampleIdeal.defs₀ (F := F) := by
  unfold Cert.KeysSample.defs₀ Cert.KeysSampleIdeal.defs₀
  refine congrArg Defs.onTc ?_
  funext l a
  obtain ⟨_ | n, h⟩ := l
  · rfl
  · exact absurd h (by omega)

/-- and the kernel with its pipeline. -/
theorem defs_eq : Cert.KeysSample.defs (F := F) = Cert.KeysSampleIdeal.defs (F := F) := congrArg (Pipeline.defs (Cert.KeysSampleIdeal.pcfgs (F := F))) kernel_eq

/-- The call terminates with its arguments unchanged and its counters at zero. -/
theorem quiet : Cert.quiescent_KeysSample (hKeysSample := Cert.KeysSample.Gen.facts) := fun m ρ _ => by
  rw [main_eq, defs_eq]
  exact Cert.KeysSampleIdeal.Layer.quiet m ρ

end Cert.KeysSample.Layer

namespace Cert.Layer

open Idealize.ShloMosaic Idealize.SL.Sem

/-- From the same arguments the two programs end with the same two results, their arguments unchanged. -/
theorem keys_sample_values : Cert.algebraic_KeysSampleIdeal_KeysSampleReferenceIdeal (hKeysSampleIdeal := Cert.KeysSampleIdeal.Gen.facts) (hKeysSampleReferenceIdeal := Cert.KeysSampleReferenceIdeal.Gen.facts) := by
  intro m g m' g' _ agree
  refine ⟨Cert.KeysSampleIdeal.Layer.tall m, Cert.KeysSampleIdeal.Layer.wide m, Cert.KeysSampleIdeal.Layer.ends m g,
    (θ_run _ _ _).mono (fun r h c => ⟨(h c).1.trans ((Cert.KeysSampleReferenceIdeal.Layer.tall_out m' c).trans ?_), (h c).2.1.trans ((Cert.KeysSampleReferenceIdeal.Layer.wide_out m' c).trans ?_),
      (h c).2.2⟩) (Cert.KeysSampleReferenceIdeal.Value.run m' g')⟩
  all_goals
    obtain ⟨a0, a1⟩ := agree c
    rw [a0, a1]
    rfl

/-- The reference terminates with its arguments unchanged; it declares no semaphore. -/
theorem keys_sample_reference_runs : Cert.quiescent_KeysSampleReferenceIdeal (hKeysSampleReferenceIdeal := Cert.KeysSampleReferenceIdeal.Gen.facts) := fun m ρ _ =>
  (θ_run _ _ _).mono (fun r h => ⟨fun c => (h c).2.2, sem_eq_zero_of_no_sems (by decide) r.2⟩) (Cert.KeysSampleReferenceIdeal.Value.run m ρ)

/-- The idealized call terminates with its arguments unchanged and its counters at zero. -/
theorem keys_sample_runs : Cert.quiescent_KeysSampleIdeal (hKeysSampleIdeal := Cert.KeysSampleIdeal.Gen.facts) := fun m ρ _ => Cert.KeysSampleIdeal.Layer.quiet m ρ

end Cert.Layer

end
-- ==== Proof.ValuesFrame.lean ====
/- The call of the prompt's values runs: what each point's body leaves in the values' block, and the whole run. -/
module

public import proofs.«01_k».proof.Proof.Gen.ValuesIdeal.Frame
public import proofs.«01_k».proof.Proof.Gen.ValuesIdeal.Skeleton
public import Idealize.ShloMosaic.Lib.Claim
public import proofs.«01_k».proof.Proof.KeysSampleOut

@[expose] public section

set_option maxRecDepth 16384

noncomputable section

namespace Cert.ValuesIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat BodyObligation)
open Cert.ValuesIdeal Cert.ValuesIdeal.Gen Cert.Layer

variable {F : FTy → Type} [FloatOps F]

/-- The machine's resources over this program. -/
abbrev Mach (F : FTy → Type) : Type := MT nD τ sig Unit (Elt F) ℕ (UR sig nD τ) ℕ

abbrev rectH : Rect S2048x2048 := Rect.unit (s := S2048x2048) ![0, 0] S2048x2048.size inb_S2048x2048_S2048x2048_0_0
abbrev rectW : Rect S512x2048 := Rect.unit (s := S512x2048) ![0, 0] S512x2048.size inb_S512x2048_S512x2048_0_0
abbrev head0 : Rect S8192x128 := headRect 8192 2048 0 inb_S8192x128_S2048x128_0_0_s_4_1 spos_4_1
abbrev head1 : Rect S8192x128 := headRect 8192 2048 1 inb_S8192x128_S2048x128_1_0_s_4_1 spos_4_1
abbrev head2 : Rect S8192x128 := headRect 8192 2048 2 inb_S8192x128_S2048x128_2_0_s_4_1 spos_4_1
abbrev head3 : Rect S8192x128 := headRect 8192 2048 3 inb_S8192x128_S2048x128_3_0_s_4_1 spos_4_1

/-- The block of the values after the body: the four heads, each on its rows. -/
def out2 (h : Vec F S2048x2048 .bf16) (w : Vec F S512x2048 .f32) : Vec F S8192x128 .f32 :=
  View.canon [⟨head3, k0_pay10 (View.ld h rectH) (View.ld w rectW)⟩, ⟨head2, k0_pay9 (View.ld h rectH) (View.ld w rectW)⟩,
    ⟨head1, k0_pay8 (View.ld h rectH) (View.ld w rectW)⟩, ⟨head0, k0_pay7 (View.ld h rectH) (View.ld w rectW)⟩]

set_option maxHeartbeats 4000000 in
/-- The body's triple: its inputs stay, the values' block ends as above, the transposed copy's block at something. -/
theorem body_runs (c : Dev nD) (E : Set ℕ) (i : grid0.Coords) (a1 : Memref sig .tc .vmem S2048x2048 .bf16) (h1 : a1.IsWhole) (a2 : Memref sig .tc .vmem S512x2048 .f32) (h2 : a2.IsWhole)
    (a3 : Memref sig .tc .vmem S8192x128 .f32) (h3 : a3.IsWhole) (a4 : Memref sig .tc .vmem S2x576x1024 .bf16) (h4 : a4.IsWhole)
    (x0 : Vec F S2048x2048 .bf16) (x1 : Vec F S512x2048 .f32) (K : PUnit → sProp (Mach F)) :
    iprop(owns (c : Thread nD τ) a1 fullShare x0 ∗ owns (c : Thread nD τ) a2 fullShare x1 ∗ (∃ d, owns (c : Thread nD τ) a3 fullShare d) ∗ (∃ d, owns (c : Thread nD τ) a4 fullShare d)
        ∗ (iprop(owns (c : Thread nD τ) a1 fullShare x0 ∗ owns (c : Thread nD τ) a2 fullShare x1 ∗ owns (c : Thread nD τ) a3 fullShare (out2 x0 x1)
          ∗ (∃ d, owns (c : Thread nD τ) a4 fullShare d)) -∗ K ⟨⟩))
      ⊢ wp frame (wpE (defs₀ (F := F)) Variants.none c none) E (cc0_proj_v i a1 h1 a2 h2 a3 h3 a4 h4) K := by
  simp only [cc0_proj_v_eq_skeleton]; unfold cc0_proj_v_skel
  simp only [k0_part1_eq_skeleton, k0_part2_eq_skeleton]
  unfold owns
  iintro ⟨⟨%f0, %e0, H0⟩, ⟨%f1, %e1, H1⟩, ⟨%d2, %f2, -, H2⟩, ⟨%d3, %f3, -, H3⟩, Hk⟩
  subst e0 e1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon (Val := Elt F) _ _ _ (heads_cover (R := 8192) (m := 2048) rfl _ _ _ _ _ _ _ _ _)).trans ?_
    rfl
  iexists _; iexists _; isplitr
  swap; · iexact H3
  ipureintro; rfl

variable (m : (ℓ : Loc nD τ sig) → Buf (Elt F) ℓ) (ρ : Dev nD → PrngReg)

/-- The call's proof data: the arrays as the call finds them, each input's block left alone, the values' block as the body leaves it; of the transposed copy nothing is said. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => iblk m c 3 t
  Φ _ := Pipeline.ΦA spec0 c
  q _ := fullShare
  owed _ := 0

/-- The window of the transposed copy. -/
def copied : Fin cfg0.W → Bool := fun w => match w with
  | ⟨3, _⟩ => true
  | _ => false

theorem starts (c : Dev nD) (w : Fin cfg0.W) : (dat m 0 c).A w = V m c (Pipeline.arrRef spec0 w) := by dsimp only [dat]

theorem after0 (c : Dev nD) (t : Fin cfg0.N) : (dat m 0 c).after 0 t = iblk m c 0 t := by dsimp only [dat]
theorem after1 (c : Dev nD) (t : Fin cfg0.N) : (dat m 0 c).after 1 t = iblk m c 1 t := by dsimp only [dat]
theorem after2 (c : Dev nD) (t : Fin cfg0.N) : (dat m 0 c).after 2 t = out2 (iblk m c 0 t) (iblk m c 1 t) := by dsimp only [dat]

theorem before0 (c : Dev nD) (t : Fin cfg0.N) (d) : (dat m 0 c).before 0 t d = iblk m c 0 t := before0_0_of m (dat m 0 c) (starts m c 0) (after0 m c) t d
theorem before1 (c : Dev nD) (t : Fin cfg0.N) (d) : (dat m 0 c).before 1 t d = iblk m c 1 t := before0_1_of m (dat m 0 c) (starts m c 1) (after1 m c) t d

/-- What a point's body starts from, window by window. -/
def atStart (c : Dev nD) (t : Fin cfg0.N) : sProp (Mach F) :=
  iprop((dat m 0 c).Φ t.castSucc ∗ (dat m 0 c).owesAt () t.castSucc
    ∗ (∃ d, owns (c : Thread nD τ) (st0_0 t) fullShare ((dat m 0 c).before 0 t d)) ∗ (∃ d, owns (c : Thread nD τ) (st0_1 t) fullShare ((dat m 0 c).before 1 t d))
    ∗ (∃ d, owns (c : Thread nD τ) (st0_2 t) fullShare ((dat m 0 c).before 2 t d)) ∗ (∃ d, owns (c : Thread nD τ) (st0_3 t) fullShare d))

/-- What it ends with. -/
def atEnd (c : Dev nD) (t : Fin cfg0.N) : sProp (Mach F) :=
  iprop((dat m 0 c).Φ t.succ ∗ (dat m 0 c).owesAt () t.succ
    ∗ owns (c : Thread nD τ) (st0_0 t) fullShare ((dat m 0 c).after 0 t) ∗ owns (c : Thread nD τ) (st0_1 t) fullShare ((dat m 0 c).after 1 t)
    ∗ owns (c : Thread nD τ) (st0_2 t) fullShare ((dat m 0 c).after 2 t) ∗ (∃ d, owns (c : Thread nD τ) (st0_3 t) fullShare d))

theorem point_runs (c : Dev nD) (t : Fin cfg0.N) :
    atStart m c t ⊢ wp frame (wpE (defs₀ (F := F)) Variants.none c none) Set.univ (bodyAt0 t) (fun _ => atEnd m c t) := by
  unfold atStart atEnd bodyAt0
  simp only [before0, before1]
  rw [show (dat m 0 c).Φ t.succ = (dat m 0 c).Φ t.castSucc from rfl, show (dat m 0 c).owesAt () t.succ = (dat m 0 c).owesAt () t.castSucc from rfl, after0, after1, after2]
  iintro ⟨HΦ, Ho, ⟨%d0, H0⟩, ⟨%d1, H1⟩, ⟨%d2, H2⟩, H3⟩
  iapply (body_runs c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ copied := fun t => by
  rw [bigSep_W0, bigSep_W0, row]
  exact triple_restated (point_runs m c t) rfl .rfl fun _ => .rfl

set_option backward.isDefEq.respectTransparency.types false in
set_option maxHeartbeats 800000 in
/-- The whole run: every array but the transposed copy ends at what the points leave in it, and every counter at zero. -/
theorem runs : θ_run defs (onTc (τ := τ) (main (F := F))) (s₀ m ρ) (fun r => (RDat.FramePost cfg0 (fun c => (dat m 0 c).toRForget copied) (V m)) r ∧ r.2.sem = fun _ => 0) :=
  Pipeline.θ_run_frame_forget (Q' := _) cfgs (dat m) (0 : Fin 1) launch0 defs₀ Variants.none copied m ρ main
    (hbody := fun c => (obligation m c).loose) (hshare := fun c => (dat m 0 c).share_full fun _ => rfl)
    (howed := fun _ _ => rfl) (V := V m) (hmain := hmain m Variants.none) (hA := starts m) (hΦ := fun _ _ => rfl)

/-- The values' array ends at what the points leave in it, the arguments as they began, the counters at zero. -/
theorem leaves : θ_run defs (onTc (τ := τ) (main (F := F))) ⟨m, fun _ => 0, ρ⟩ (fun r => (∀ c : Dev nD,
      r.2.mem ((c.tc : Thread nD τ).loc main_v2_0) = (dat m 0 c).arrAt 2 cfg0.N
      ∧ r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0) :=
  (θ_run defs _ _).mono (fun _ h => ⟨fun c => ⟨((dat m 0 c).toRForget_arrAt_iff (w := 2) rfl _ _).mp ((h.1 c).1 2),
    (((dat m 0 c).toRForget_arrAt_iff (w := 0) rfl _ _).mp ((h.1 c).1 0)).trans (((dat m 0 c).arrAt_in 0 rfl _).trans ((starts m c 0).trans (V_main_arg0 m c))),
    ((h.1 c).2 main_arg1 (Pipeline.mem_restRefs_of main_arg1 (by decide) (by decide))).trans (V_main_arg1 m c)⟩, h.2⟩) (runs m ρ)

/-- The arguments end as they began, the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (leaves m ρ)

end Cert.ValuesIdeal.Layer

end
-- ==== Proof.ValuesRef.lean ====
/- The reference of the prompt's values at an element. -/
module

public import proofs.«01_k».proof.Proof.Gen.ValuesReferenceIdeal.Run
public import proofs.«01_k».proof.Proof.ValuesFrame

@[expose] public section

set_option maxRecDepth 16384
set_option maxHeartbeats 2000000

noncomputable section

namespace Cert.ValuesReferenceIdeal.Layer

open Idealize.ShloMosaic Idealize.ShloMosaic.TcCoe
open Cert.ValuesReferenceIdeal Cert.ValuesReferenceIdeal.Gen Cert.Layer

/-- The heads of the projection's columns from 2560 on, of the normed rows and the weight. -/
abbrev heads (h : FVec Ideal S8192x2048 .bf16) (w : FVec Ideal S1x2048x17552 .f32) : FVec Ideal S32768x128 .f32 :=
  shapeCast S32768x128 (extractStridedSlice S8192x512 ![0, 2560] (Host.dotGeneral dot_S8192x2048_S2048x17552_S8192x17552_1_0_0_1_n_n none (extf .f32 h bitsLt_bf16_f32)
    (shapeCast S2048x17552 w shapeCasts_S1x2048x17552_S2048x17552)) slices_S8192x17552_S8192x512_0_2560) shapeCasts_S8192x512_S32768x128

/-- Row `4 r + g` is head `g` of row `r`. -/
theorem tall_out (h : FVec Ideal S8192x2048 .bf16) (w : FVec Ideal S1x2048x17552 .f32) :
    heads h w = unstack (R := 32768) (m := 8192) (Val := Elt Ideal) (e := .f32) rfl fun r j => colAt h w r (2560 + j) := by
  funext i
  idx_vars i
  unfold heads
  pointwise
  exact colAt_eq h w ⟨(i0 : ℕ) / 4, by omega⟩ _ (2560 + ((i0 : ℕ) % 4 * 128 + i1)) _ (by dsimp only) (by dsimp only)

end Cert.ValuesReferenceIdeal.Layer

end
-- ==== Proof.ValuesOut.lean ====
/- The call of the prompt's values computes what its reference does. -/
module

public import proofs.«01_k».proof.Defs
public import proofs.«01_k».proof.Proof.Gen.Values.Frame
public import proofs.«01_k».proof.Proof.ValuesRef
public import Idealize.ShloMosaic.Lib.StableHlo.ReadAt

@[expose] public section

set_option maxRecDepth 16384
set_option maxHeartbeats 2000000

noncomputable section

namespace Cert.ValuesIdeal.Layer

open Idealize.ShloMosaic Idealize.ShloMosaic.TcCoe Idealize.SL.Sem
open Idealize.ShloMosaic.Pipeline (Dat)
open Cert.ValuesIdeal Cert.ValuesIdeal.Gen Cert.Layer
open scoped BigOperators

theorem weight_at (W : Valuation τ sig (Elt Ideal)) (j : Fin 17552) (k : Fin 2048) : (StableHlo.after hostOps0 W (Proc.devRef .tc main_v1) : Arr S17552x2048) (ix2 j k)
    = W (Proc.devRef .tc main_arg1) (ix3 0 k j) := by
  after_reads_at

/-- The tile of one point: rows times rows of the transposed weight. -/
theorem pay6 (v0 : Vec Ideal S2048x2048 .bf16) (v1 : Vec Ideal S512x2048 .f32) (j : S2048x512.Idx) :
    k0_pay6 v0 v1 j = rowDot (M := 2048) (K := 2048) (N := 512) v0 v1 (j 0) (j 1) := by
  idx_vars j
  unfold k0_pay6
  pointwise
  rfl

/-- A head of a tile is 128 of its columns. -/
theorem head_at (x : FVec Ideal S2048x512 .f32) (o : ℕ) (h : S2048x512.Slices ![0, o] S2048x128) (r : Fin 2048) (l : Fin 128) (k : Fin 512) (e : (k : ℕ) = o + l) :
    extractStridedSlice S2048x128 ![0, o] x h (ix2 r l) = x (ix2 r k) := by
  pointwise
  exact congrArg x (eq_ix2 (M := 2048) (K := 512) _ _ _ rfl e.symm)

variable (m : (ℓ : Loc nD τ sig) → Buf (Elt Ideal) ℓ)

/-- The values of a row, of the arguments. -/
abbrev valuesOf (c : Dev nD) (r : Fin 8192) (j : ℕ) : EReal := colAt (m ((c : Thread nD τ).loc main_arg0)) (m ((c : Thread nD τ).loc main_arg1)) r (2560 + j)

theorem index (i : grid0.Coords) : (cc0_transform_0 i 0 = i 0 ∧ cc0_transform_0 i 1 = 0 ∧ cc0_transform_1 i 0 = 2560 ∧ cc0_transform_1 i 1 = 0)
    ∧ cc0_transform_2 i 0 = i 0 ∧ cc0_transform_2 i 1 = 0 := by
  revert i; decide +kernel

/-- What a point computes at an element of its tile: the values of the row where the tile lies. -/
theorem tile_at (c : Dev nD) (t : Fin cfg0.N) (p : Fin 2048) (q : Fin 512) (r : Fin 8192) (hr : (r : ℕ) = (grid0.coords t 0 : ℕ) * 2048 + p) :
    k0_pay6 (iblk m c 0 t) (iblk m c 1 t) (ix2 p q) = valuesOf m c r q := by
  obtain ⟨⟨e0, e1, e2, e3⟩, -⟩ := index (grid0.coords t)
  refine (pay6 _ _ (ix2 p q)).trans ((rowDot_tile (M := 8192) (K := 2048) (N := 17552) (m := 2048) (n := 512) (V m c main_arg0) (V m c main_v1) _ _ p q r ⟨2560 + (q : ℕ), by omega⟩
    (win0_0.rect_emb_val t · 0) (win0_0.rect_emb_val t · 1) (win0_1.rect_emb_val_off t · 0) (win0_1.rect_emb_val_off t · 1)
    e1 e3 (hr.trans (congrArg (· * 2048 + (p : ℕ)) e0.symm)) (congrArg (· + (q : ℕ)) e2.symm)).trans ?_)
  rw [V_main_arg0]
  unfold rowDot
  refine Eq.trans ?_ (colAt_eq _ _ r r (2560 + (q : ℕ)) ⟨2560 + (q : ℕ), by omega⟩ rfl rfl)
  exact Finset.sum_congr rfl fun x _ => congrArg₂ (· * ·) rfl (weight_at _ _ x)

theorem reach (n : ℕ) (h : n < 4) : ∃ t : Fin cfg0.N, (grid0.coords t 0 : ℕ) = n := by
  have : ∀ n < 4, ∃ t : Fin grid0.N, (grid0.coords t 0 : ℕ) = n := by decide +kernel
  exact this n h

theorem covered (i : S32768x128.Idx) : ∃ t : Fin cfg0.N, (cfg0.win 2).flush t = true ∧ i ∈ ((cfg0.win 2).blk t).view.set := by
  have h0 : (i 0 : ℕ) < 32768 := (i 0).isLt
  have h1 : (i 1 : ℕ) < 128 := (i 1).isLt
  obtain ⟨t, e⟩ := reach ((i 0 : ℕ) / 8192) (by omega)
  obtain ⟨-, e0, e1⟩ := index (grid0.coords t)
  refine ⟨t, flush0_2 t, ?_⟩
  show i ∈ ((View.whole main_v2_0).slice (win0_2.rect t)).set
  rw [View.set_slice_whole, Rect.mem_set_unit]
  exact mem_tile (M := 32768) (N := 128) (m := 8192) (n := 128) i (by decide) (by decide) (e0.trans e) (e1.trans (by omega))

/-- The call's result: every row's four heads as rows. -/
def tall (c : Dev nD) : Arr S32768x128 := unstack (R := 32768) (m := 8192) (Val := Elt Ideal) (e := .f32) rfl fun r j => valuesOf m c r j

theorem final (c : Dev nD) : (dat m 0 c).arrAt 2 cfg0.N = tall m c := by
  funext i
  refine (dat m 0 c).arrAt_forall_of_cover 2 (fun i x => x = tall m c i) (fun t _ (y : S8192x128.Idx) => ?_) covered i
  show (dat m 0 c).after 2 t y = _
  rw [after2]
  unfold out2
  rw [View.ld_unit_zero zeros2, View.ld_unit_zero zeros2]
  obtain ⟨-, e0, e1⟩ := index (grid0.coords t)
  have E0 := (win0_2.rect_emb_val t y 0).trans (congrArg (· * 8192 + (y 0 : ℕ)) e0)
  have E1 := (win0_2.rect_emb_val t y 1).trans (congrArg (· * 128 + (y 1 : ℕ)) e1)
  refine (heads_canon (R := 8192) (m := 2048) rfl (fun r k => k0_pay6 (iblk m c 0 t) (iblk m c 1 t) (ix2 r k)) _ _ _ _ _ _ _ _ _
    (fun r l k e => by unfold k0_pay7; exact head_at _ _ _ r l k (e.trans (by omega))) (fun r l k e => by unfold k0_pay8; exact head_at _ _ _ r l k (e.trans (by omega)))
    (fun r l k e => by unfold k0_pay9; exact head_at _ _ _ r l k (e.trans (by omega))) (fun r l k e => by unfold k0_pay10; exact head_at _ _ _ r l k (e.trans (by omega))) y).trans ?_
  exact unstack_block (R := 8192) (m := 2048) (R' := 32768) (M := 8192) (e := .f32) (Val := Elt Ideal) rfl rfl _ (fun r j => valuesOf m c r j) y _ _ E0 (E1.trans (by omega)) (tile_at m c t)

/-- The idealized call's run: its result holds the values, its arguments what they held. -/
theorem ends (ρ : Dev nD → PrngReg) : θ_run defs (onTc (τ := τ) (main (F := Ideal))) ⟨m, fun _ => 0, ρ⟩ fun r => ∀ c : Dev nD,
    r.2.mem ((c.tc : Thread nD τ).loc main_v2_0) = tall m c
    ∧ r.2.mem ((c.tc : Thread nD τ).loc main_arg0) = m ((c.tc : Thread nD τ).loc main_arg0) ∧ r.2.mem ((c.tc : Thread nD τ).loc main_arg1) = m ((c.tc : Thread nD τ).loc main_arg1) :=
  (θ_run defs _ _).mono (fun _ h c => ⟨(h.1 c).1.trans (final m c), (h.1 c).2⟩) (leaves m ρ)

end Cert.ValuesIdeal.Layer

namespace Cert.Values.Layer

open Idealize.ShloMosaic Idealize.SL.Sem

variable {F : FTy → Type} [FloatOps F]

set_option maxRecDepth 65536
set_option maxHeartbeats 4000000
set_option backward.isDefEq.respectTransparency.types false
set_option backward.isDefEq.respectTransparency false

/-- The call and its idealization are one text: the host's part, -/
theorem main_eq : Cert.Values.main (F := F) = Cert.ValuesIdeal.main (F := F) := rfl

/-- the kernel, -/
theorem kernel_eq : Cert.Values.defs₀ (F := F) = Cert.ValuesIdeal.defs₀ (F := F) := by
  unfold Cert.Values.defs₀ Cert.ValuesIdeal.defs₀
  refine congrArg Defs.onTc ?_
  funext l a
  obtain ⟨_ | n, h⟩ := l
  · rfl
  · exact absurd h (by omega)

/-- and the kernel with its pipeline. -/
theorem defs_eq : Cert.Values.defs (F := F) = Cert.ValuesIdeal.defs (F := F) := congrArg (Pipeline.defs (Cert.ValuesIdeal.pcfgs (F := F))) kernel_eq

/-- The call terminates with its arguments unchanged and its counters at zero. -/
theorem quiet : Cert.quiescent_Values (hValues := Cert.Values.Gen.facts) := fun m ρ _ => by
  rw [main_eq, defs_eq]
  exact Cert.ValuesIdeal.Layer.quiet m ρ

end Cert.Values.Layer

namespace Cert.Layer

open Idealize.ShloMosaic Idealize.SL.Sem

/-- From the same arguments the two programs end with the same result, their arguments unchanged. -/
theorem values_values : Cert.algebraic_ValuesIdeal_ValuesReferenceIdeal (hValuesIdeal := Cert.ValuesIdeal.Gen.facts) (hValuesReferenceIdeal := Cert.ValuesReferenceIdeal.Gen.facts) := by
  intro m g m' g' _ agree
  refine ⟨Cert.ValuesIdeal.Layer.tall m, Cert.ValuesIdeal.Layer.ends m g,
    (θ_run _ _ _).mono (fun r h c => ⟨(h c).1.trans ((Cert.ValuesReferenceIdeal.Layer.tall_out _ _).trans ?_), (h c).2⟩) (Cert.ValuesReferenceIdeal.Value.run m' g')⟩
  obtain ⟨a0, a1⟩ := agree c
  rw [a0, a1]
  rfl

/-- The reference terminates with its arguments unchanged; it declares no semaphore. -/
theorem values_reference_runs : Cert.quiescent_ValuesReferenceIdeal (hValuesReferenceIdeal := Cert.ValuesReferenceIdeal.Gen.facts) := fun m ρ _ =>
  (θ_run _ _ _).mono (fun r h => ⟨fun c => (h c).2, sem_eq_zero_of_no_sems (by decide) r.2⟩) (Cert.ValuesReferenceIdeal.Value.run m ρ)

/-- The idealized call terminates with its arguments unchanged and its counters at zero. -/
theorem values_runs : Cert.quiescent_ValuesIdeal (hValuesIdeal := Cert.ValuesIdeal.Gen.facts) := fun m ρ _ => Cert.ValuesIdeal.Layer.quiet m ρ

end Cert.Layer

end
-- ==== Proof.ValuesSampleFrame.lean ====
/- The call of the sample's values runs: what each point's body leaves in the values' block, and the whole run. -/
module

public import proofs.«01_k».proof.Proof.Gen.ValuesSampleIdeal.Frame
public import proofs.«01_k».proof.Proof.Gen.ValuesSampleIdeal.Skeleton
public import Idealize.ShloMosaic.Lib.Claim
public import proofs.«01_k».proof.Proof.ValuesOut

@[expose] public section

set_option maxRecDepth 16384

noncomputable section

namespace Cert.ValuesSampleIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat BodyObligation)
open Cert.ValuesSampleIdeal Cert.ValuesSampleIdeal.Gen Cert.Layer

variable {F : FTy → Type} [FloatOps F]

/-- The machine's resources over this program. -/
abbrev Mach (F : FTy → Type) : Type := MT nD τ sig Unit (Elt F) ℕ (UR sig nD τ) ℕ

abbrev rectH : Rect S512x2048 := Rect.unit (s := S512x2048) ![0, 0] S512x2048.size inb_S512x2048_S512x2048_0_0
abbrev rectW : Rect S512x2048 := Rect.unit (s := S512x2048) ![0, 0] S512x2048.size inb_S512x2048_S512x2048_0_0
abbrev head0 : Rect S2048x128 := headRect 2048 512 0 inb_S2048x128_S512x128_0_0_s_4_1 spos_4_1
abbrev head1 : Rect S2048x128 := headRect 2048 512 1 inb_S2048x128_S512x128_1_0_s_4_1 spos_4_1
abbrev head2 : Rect S2048x128 := headRect 2048 512 2 inb_S2048x128_S512x128_2_0_s_4_1 spos_4_1
abbrev head3 : Rect S2048x128 := headRect 2048 512 3 inb_S2048x128_S512x128_3_0_s_4_1 spos_4_1

/-- The block of the values after the body: the four heads, each on its rows. -/
def out2 (h : Vec F S512x2048 .bf16) (w : Vec F S512x2048 .f32) : Vec F S2048x128 .f32 :=
  View.canon [⟨head3, k0_pay6 (View.ld h rectH) (View.ld w rectW)⟩, ⟨head2, k0_pay5 (View.ld h rectH) (View.ld w rectW)⟩,
    ⟨head1, k0_pay4 (View.ld h rectH) (View.ld w rectW)⟩, ⟨head0, k0_pay3 (View.ld h rectH) (View.ld w rectW)⟩]

set_option maxHeartbeats 4000000 in
/-- The body's triple: its inputs stay, the values' block ends as above, the transposed copy's block at something. -/
theorem body_runs (c : Dev nD) (E : Set ℕ) (i : grid0.Coords) (a1 : Memref sig .tc .vmem S512x2048 .bf16) (h1 : a1.IsWhole) (a2 : Memref sig .tc .vmem S512x2048 .f32) (h2 : a2.IsWhole)
    (a3 : Memref sig .tc .vmem S2048x128 .f32) (h3 : a3.IsWhole) (a4 : Memref sig .tc .vmem S16x576x32 .bf16) (h4 : a4.IsWhole)
    (x0 : Vec F S512x2048 .bf16) (x1 : Vec F S512x2048 .f32) (K : PUnit → sProp (Mach F)) :
    iprop(owns (c : Thread nD τ) a1 fullShare x0 ∗ owns (c : Thread nD τ) a2 fullShare x1 ∗ (∃ d, owns (c : Thread nD τ) a3 fullShare d) ∗ (∃ d, owns (c : Thread nD τ) a4 fullShare d)
        ∗ (iprop(owns (c : Thread nD τ) a1 fullShare x0 ∗ owns (c : Thread nD τ) a2 fullShare x1 ∗ owns (c : Thread nD τ) a3 fullShare (out2 x0 x1)
          ∗ (∃ d, owns (c : Thread nD τ) a4 fullShare d)) -∗ K ⟨⟩))
      ⊢ wp frame (wpE (defs₀ (F := F)) Variants.none c none) E (cc0_proj_v i a1 h1 a2 h2 a3 h3 a4 h4) K := by
  simp only [cc0_proj_v_eq_skeleton]; unfold cc0_proj_v_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %e0, H0⟩, ⟨%f1, %e1, H1⟩, ⟨%d2, %f2, -, H2⟩, ⟨%d3, %f3, -, H3⟩, Hk⟩
  subst e0 e1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon (Val := Elt F) _ _ _ (heads_cover (R := 2048) (m := 512) rfl _ _ _ _ _ _ _ _ _)).trans ?_
    rfl
  iexists _; iexists _; isplitr
  swap; · iexact H3
  ipureintro; rfl

variable (m : (ℓ : Loc nD τ sig) → Buf (Elt F) ℓ) (ρ : Dev nD → PrngReg)

/-- The call's proof data: the arrays as the call finds them, each input's block left alone, the values' block as the body leaves it; of the transposed copy nothing is said. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => iblk m c 3 t
  Φ _ := Pipeline.ΦA spec0 c
  q _ := fullShare
  owed _ := 0

/-- The window of the transposed copy. -/
def copied : Fin cfg0.W → Bool := fun w => match w with
  | ⟨3, _⟩ => true
  | _ => false

theorem starts (c : Dev nD) (w : Fin cfg0.W) : (dat m 0 c).A w = V m c (Pipeline.arrRef spec0 w) := by dsimp only [dat]

theorem after0 (c : Dev nD) (t : Fin cfg0.N) : (dat m 0 c).after 0 t = iblk m c 0 t := by dsimp only [dat]
theorem after1 (c : Dev nD) (t : Fin cfg0.N) : (dat m 0 c).after 1 t = iblk m c 1 t := by dsimp only [dat]
theorem after2 (c : Dev nD) (t : Fin cfg0.N) : (dat m 0 c).after 2 t = out2 (iblk m c 0 t) (iblk m c 1 t) := by dsimp only [dat]

theorem before0 (c : Dev nD) (t : Fin cfg0.N) (d) : (dat m 0 c).before 0 t d = iblk m c 0 t := before0_0_of m (dat m 0 c) (starts m c 0) (after0 m c) t d
theorem before1 (c : Dev nD) (t : Fin cfg0.N) (d) : (dat m 0 c).before 1 t d = iblk m c 1 t := before0_1_of m (dat m 0 c) (starts m c 1) (after1 m c) t d

/-- What a point's body starts from, window by window. -/
def atStart (c : Dev nD) (t : Fin cfg0.N) : sProp (Mach F) :=
  iprop((dat m 0 c).Φ t.castSucc ∗ (dat m 0 c).owesAt () t.castSucc
    ∗ (∃ d, owns (c : Thread nD τ) (st0_0 t) fullShare ((dat m 0 c).before 0 t d)) ∗ (∃ d, owns (c : Thread nD τ) (st0_1 t) fullShare ((dat m 0 c).before 1 t d))
    ∗ (∃ d, owns (c : Thread nD τ) (st0_2 t) fullShare ((dat m 0 c).before 2 t d)) ∗ (∃ d, owns (c : Thread nD τ) (st0_3 t) fullShare d))

/-- What it ends with. -/
def atEnd (c : Dev nD) (t : Fin cfg0.N) : sProp (Mach F) :=
  iprop((dat m 0 c).Φ t.succ ∗ (dat m 0 c).owesAt () t.succ
    ∗ owns (c : Thread nD τ) (st0_0 t) fullShare ((dat m 0 c).after 0 t) ∗ owns (c : Thread nD τ) (st0_1 t) fullShare ((dat m 0 c).after 1 t)
    ∗ owns (c : Thread nD τ) (st0_2 t) fullShare ((dat m 0 c).after 2 t) ∗ (∃ d, owns (c : Thread nD τ) (st0_3 t) fullShare d))

theorem point_runs (c : Dev nD) (t : Fin cfg0.N) :
    atStart m c t ⊢ wp frame (wpE (defs₀ (F := F)) Variants.none c none) Set.univ (bodyAt0 t) (fun _ => atEnd m c t) := by
  unfold atStart atEnd bodyAt0
  simp only [before0, before1]
  rw [show (dat m 0 c).Φ t.succ = (dat m 0 c).Φ t.castSucc from rfl, show (dat m 0 c).owesAt () t.succ = (dat m 0 c).owesAt () t.castSucc from rfl, after0, after1, after2]
  iintro ⟨HΦ, Ho, ⟨%d0, H0⟩, ⟨%d1, H1⟩, ⟨%d2, H2⟩, H3⟩
  iapply (body_runs c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ copied := fun t => by
  rw [bigSep_W0, bigSep_W0, row]
  exact triple_restated (point_runs m c t) rfl .rfl fun _ => .rfl

set_option backward.isDefEq.respectTransparency.types false in
set_option maxHeartbeats 800000 in
/-- The whole run: every array but the transposed copy ends at what the points leave in it, and every counter at zero. -/
theorem runs : θ_run defs (onTc (τ := τ) (main (F := F))) (s₀ m ρ) (fun r => (RDat.FramePost cfg0 (fun c => (dat m 0 c).toRForget copied) (V m)) r ∧ r.2.sem = fun _ => 0) :=
  Pipeline.θ_run_frame_forget (Q' := _) cfgs (dat m) (0 : Fin 1) launch0 defs₀ Variants.none copied m ρ main
    (hbody := fun c => (obligation m c).loose) (hshare := fun c => (dat m 0 c).share_full fun _ => rfl)
    (howed := fun _ _ => rfl) (V := V m) (hmain := hmain m Variants.none) (hA := starts m) (hΦ := fun _ _ => rfl)

/-- The values' array ends at what the points leave in it, the arguments as they began, the counters at zero. -/
theorem leaves : θ_run defs (onTc (τ := τ) (main (F := F))) ⟨m, fun _ => 0, ρ⟩ (fun r => (∀ c : Dev nD,
      r.2.mem ((c.tc : Thread nD τ).loc main_v2_0) = (dat m 0 c).arrAt 2 cfg0.N
      ∧ r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0) :=
  (θ_run defs _ _).mono (fun _ h => ⟨fun c => ⟨((dat m 0 c).toRForget_arrAt_iff (w := 2) rfl _ _).mp ((h.1 c).1 2),
    (((dat m 0 c).toRForget_arrAt_iff (w := 0) rfl _ _).mp ((h.1 c).1 0)).trans (((dat m 0 c).arrAt_in 0 rfl _).trans ((starts m c 0).trans (V_main_arg0 m c))),
    ((h.1 c).2 main_arg1 (Pipeline.mem_restRefs_of main_arg1 (by decide) (by decide))).trans (V_main_arg1 m c)⟩, h.2⟩) (runs m ρ)

/-- The arguments end as they began, the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (leaves m ρ)

end Cert.ValuesSampleIdeal.Layer

end
-- ==== Proof.ValuesSampleRef.lean ====
/- The reference of the sample's values at an element. -/
module

public import proofs.«01_k».proof.Proof.Gen.ValuesSampleReferenceIdeal.Run
public import proofs.«01_k».proof.Proof.ValuesSampleFrame

@[expose] public section

set_option maxRecDepth 16384
set_option maxHeartbeats 2000000

noncomputable section

namespace Cert.ValuesSampleReferenceIdeal.Layer

open Idealize.ShloMosaic Idealize.ShloMosaic.TcCoe
open Cert.ValuesSampleReferenceIdeal Cert.ValuesSampleReferenceIdeal.Gen Cert.Layer

/-- The heads of the projection's columns from 2560 on, of the normed rows and the weight. -/
abbrev heads (h : FVec Ideal S512x2048 .bf16) (w : FVec Ideal S1x2048x17552 .f32) : FVec Ideal S2048x128 .f32 :=
  shapeCast S2048x128 (extractStridedSlice S512x512 ![0, 2560] (Host.dotGeneral dot_S512x2048_S2048x17552_S512x17552_1_0_0_1_n_n none (extf .f32 h bitsLt_bf16_f32)
    (shapeCast S2048x17552 w shapeCasts_S1x2048x17552_S2048x17552)) slices_S512x17552_S512x512_0_2560) shapeCasts_S512x512_S2048x128

/-- Row `4 r + g` is head `g` of row `r`. -/
theorem tall_out (h : FVec Ideal S512x2048 .bf16) (w : FVec Ideal S1x2048x17552 .f32) :
    heads h w = unstack (R := 2048) (m := 512) (Val := Elt Ideal) (e := .f32) rfl fun r j => colAt h w r (2560 + j) := by
  funext i
  idx_vars i
  unfold heads
  pointwise
  exact colAt_eq h w ⟨(i0 : ℕ) / 4, by omega⟩ _ (2560 + ((i0 : ℕ) % 4 * 128 + i1)) _ (by dsimp only) (by dsimp only)

end Cert.ValuesSampleReferenceIdeal.Layer

end
-- ==== Proof.ValuesSampleOut.lean ====
/- The call of the sample's values computes what its reference does. -/
module

public import proofs.«01_k».proof.Defs
public import proofs.«01_k».proof.Proof.Gen.ValuesSample.Frame
public import proofs.«01_k».proof.Proof.ValuesSampleRef
public import Idealize.ShloMosaic.Lib.StableHlo.ReadAt

@[expose] public section

set_option maxRecDepth 16384
set_option maxHeartbeats 2000000

noncomputable section

namespace Cert.ValuesSampleIdeal.Layer

open Idealize.ShloMosaic Idealize.ShloMosaic.TcCoe Idealize.SL.Sem
open Idealize.ShloMosaic.Pipeline (Dat)
open Cert.ValuesSampleIdeal Cert.ValuesSampleIdeal.Gen Cert.Layer
open scoped BigOperators

theorem weight_at (W : Valuation τ sig (Elt Ideal)) (j : Fin 17552) (k : Fin 2048) : (StableHlo.after hostOps0 W (Proc.devRef .tc main_v1) : Arr S17552x2048) (ix2 j k)
    = W (Proc.devRef .tc main_arg1) (ix3 0 k j) := by
  after_reads_at

/-- The tile of one point: rows times rows of the transposed weight. -/
theorem pay2 (v0 : Vec Ideal S512x2048 .bf16) (v1 : Vec Ideal S512x2048 .f32) (j : S512x512.Idx) :
    k0_pay2 v0 v1 j = rowDot (M := 512) (K := 2048) (N := 512) v0 v1 (j 0) (j 1) := by
  idx_vars j
  unfold k0_pay2
  pointwise
  rfl

/-- A head of a tile is 128 of its columns. -/
theorem head_at (x : FVec Ideal S512x512 .f32) (o : ℕ) (h : S512x512.Slices ![0, o] S512x128) (r : Fin 512) (l : Fin 128) (k : Fin 512) (e : (k : ℕ) = o + l) :
    extractStridedSlice S512x128 ![0, o] x h (ix2 r l) = x (ix2 r k) := by
  pointwise
  exact congrArg x (eq_ix2 (M := 512) (K := 512) _ _ _ rfl e.symm)

variable (m : (ℓ : Loc nD τ sig) → Buf (Elt Ideal) ℓ)

/-- The values of a row, of the arguments. -/
abbrev valuesOf (c : Dev nD) (r : Fin 512) (j : ℕ) : EReal := colAt (m ((c : Thread nD τ).loc main_arg0)) (m ((c : Thread nD τ).loc main_arg1)) r (2560 + j)

theorem index (i : grid0.Coords) : (cc0_transform_0 i 0 = i 0 ∧ cc0_transform_0 i 1 = 0 ∧ cc0_transform_1 i 0 = 2560 ∧ cc0_transform_1 i 1 = 0)
    ∧ cc0_transform_2 i 0 = i 0 ∧ cc0_transform_2 i 1 = 0 := by
  revert i; decide +kernel

/-- What a point computes at an element of its tile: the values of the row where the tile lies. -/
theorem tile_at (c : Dev nD) (t : Fin cfg0.N) (p : Fin 512) (q : Fin 512) (r : Fin 512) (hr : (r : ℕ) = (grid0.coords t 0 : ℕ) * 512 + p) :
    k0_pay2 (iblk m c 0 t) (iblk m c 1 t) (ix2 p q) = valuesOf m c r q := by
  obtain ⟨⟨e0, e1, e2, e3⟩, -⟩ := index (grid0.coords t)
  refine (pay2 _ _ (ix2 p q)).trans ((rowDot_tile (M := 512) (K := 2048) (N := 17552) (m := 512) (n := 512) (V m c main_arg0) (V m c main_v1) _ _ p q r ⟨2560 + (q : ℕ), by omega⟩
    (win0_0.rect_emb_val t · 0) (win0_0.rect_emb_val t · 1) (win0_1.rect_emb_val_off t · 0) (win0_1.rect_emb_val_off t · 1)
    e1 e3 (hr.trans (congrArg (· * 512 + (p : ℕ)) e0.symm)) (congrArg (· + (q : ℕ)) e2.symm)).trans ?_)
  rw [V_main_arg0]
  unfold rowDot
  refine Eq.trans ?_ (colAt_eq _ _ r r (2560 + (q : ℕ)) ⟨2560 + (q : ℕ), by omega⟩ rfl rfl)
  exact Finset.sum_congr rfl fun x _ => congrArg₂ (· * ·) rfl (weight_at _ _ x)

theorem reach (n : ℕ) (h : n < 1) : ∃ t : Fin cfg0.N, (grid0.coords t 0 : ℕ) = n := by
  have : ∀ n < 1, ∃ t : Fin grid0.N, (grid0.coords t 0 : ℕ) = n := by decide +kernel
  exact this n h

theorem covered (i : S2048x128.Idx) : ∃ t : Fin cfg0.N, (cfg0.win 2).flush t = true ∧ i ∈ ((cfg0.win 2).blk t).view.set := by
  have h0 : (i 0 : ℕ) < 2048 := (i 0).isLt
  have h1 : (i 1 : ℕ) < 128 := (i 1).isLt
  obtain ⟨t, e⟩ := reach ((i 0 : ℕ) / 2048) (by omega)
  obtain ⟨-, e0, e1⟩ := index (grid0.coords t)
  refine ⟨t, flush0_2 t, ?_⟩
  show i ∈ ((View.whole main_v2_0).slice (win0_2.rect t)).set
  rw [View.set_slice_whole, Rect.mem_set_unit]
  exact mem_tile (M := 2048) (N := 128) (m := 2048) (n := 128) i (by decide) (by decide) (e0.trans e) (e1.trans (by omega))

/-- The call's result: every row's four heads as rows. -/
def tall (c : Dev nD) : Arr S2048x128 := unstack (R := 2048) (m := 512) (Val := Elt Ideal) (e := .f32) rfl fun r j => valuesOf m c r j

theorem final (c : Dev nD) : (dat m 0 c).arrAt 2 cfg0.N = tall m c := by
  funext i
  refine (dat m 0 c).arrAt_forall_of_cover 2 (fun i x => x = tall m c i) (fun t _ (y : S2048x128.Idx) => ?_) covered i
  show (dat m 0 c).after 2 t y = _
  rw [after2]
  unfold out2
  rw [View.ld_unit_zero zeros2, View.ld_unit_zero zeros2]
  obtain ⟨-, e0, e1⟩ := index (grid0.coords t)
  have E0 := (win0_2.rect_emb_val t y 0).trans (congrArg (· * 2048 + (y 0 : ℕ)) e0)
  have E1 := (win0_2.rect_emb_val t y 1).trans (congrArg (· * 128 + (y 1 : ℕ)) e1)
  refine (heads_canon (R := 2048) (m := 512) rfl (fun r k => k0_pay2 (iblk m c 0 t) (iblk m c 1 t) (ix2 r k)) _ _ _ _ _ _ _ _ _
    (fun r l k e => by unfold k0_pay3; exact head_at _ _ _ r l k (e.trans (by omega))) (fun r l k e => by unfold k0_pay4; exact head_at _ _ _ r l k (e.trans (by omega)))
    (fun r l k e => by unfold k0_pay5; exact head_at _ _ _ r l k (e.trans (by omega))) (fun r l k e => by unfold k0_pay6; exact head_at _ _ _ r l k (e.trans (by omega))) y).trans ?_
  exact unstack_block (R := 2048) (m := 512) (R' := 2048) (M := 512) (e := .f32) (Val := Elt Ideal) rfl rfl _ (fun r j => valuesOf m c r j) y _ _ E0 (E1.trans (by omega)) (tile_at m c t)

/-- The idealized call's run: its result holds the values, its arguments what they held. -/
theorem ends (ρ : Dev nD → PrngReg) : θ_run defs (onTc (τ := τ) (main (F := Ideal))) ⟨m, fun _ => 0, ρ⟩ fun r => ∀ c : Dev nD,
    r.2.mem ((c.tc : Thread nD τ).loc main_v2_0) = tall m c
    ∧ r.2.mem ((c.tc : Thread nD τ).loc main_arg0) = m ((c.tc : Thread nD τ).loc main_arg0) ∧ r.2.mem ((c.tc : Thread nD τ).loc main_arg1) = m ((c.tc : Thread nD τ).loc main_arg1) :=
  (θ_run defs _ _).mono (fun _ h c => ⟨(h.1 c).1.trans (final m c), (h.1 c).2⟩) (leaves m ρ)

end Cert.ValuesSampleIdeal.Layer

namespace Cert.ValuesSample.Layer

open Idealize.ShloMosaic Idealize.SL.Sem

variable {F : FTy → Type} [FloatOps F]

set_option maxRecDepth 65536
set_option maxHeartbeats 4000000
set_option backward.isDefEq.respectTransparency.types false
set_option backward.isDefEq.respectTransparency false

/-- The call and its idealization are one text: the host's part, -/
theorem main_eq : Cert.ValuesSample.main (F := F) = Cert.ValuesSampleIdeal.main (F := F) := rfl

/-- the kernel, -/
theorem kernel_eq : Cert.ValuesSample.defs₀ (F := F) = Cert.ValuesSampleIdeal.defs₀ (F := F) := by
  unfold Cert.ValuesSample.defs₀ Cert.ValuesSampleIdeal.defs₀
  refine congrArg Defs.onTc ?_
  funext l a
  obtain ⟨_ | n, h⟩ := l
  · rfl
  · exact absurd h (by omega)

/-- and the kernel with its pipeline. -/
theorem defs_eq : Cert.ValuesSample.defs (F := F) = Cert.ValuesSampleIdeal.defs (F := F) := congrArg (Pipeline.defs (Cert.ValuesSampleIdeal.pcfgs (F := F))) kernel_eq

/-- The call terminates with its arguments unchanged and its counters at zero. -/
theorem quiet : Cert.quiescent_ValuesSample (hValuesSample := Cert.ValuesSample.Gen.facts) := fun m ρ _ => by
  rw [main_eq, defs_eq]
  exact Cert.ValuesSampleIdeal.Layer.quiet m ρ

end Cert.ValuesSample.Layer

namespace Cert.Layer

open Idealize.ShloMosaic Idealize.SL.Sem

/-- From the same arguments the two programs end with the same result, their arguments unchanged. -/
theorem values_sample_values : Cert.algebraic_ValuesSampleIdeal_ValuesSampleReferenceIdeal (hValuesSampleIdeal := Cert.ValuesSampleIdeal.Gen.facts) (hValuesSampleReferenceIdeal := Cert.ValuesSampleReferenceIdeal.Gen.facts) := by
  intro m g m' g' _ agree
  refine ⟨Cert.ValuesSampleIdeal.Layer.tall m, Cert.ValuesSampleIdeal.Layer.ends m g,
    (θ_run _ _ _).mono (fun r h c => ⟨(h c).1.trans ((Cert.ValuesSampleReferenceIdeal.Layer.tall_out _ _).trans ?_), (h c).2⟩) (Cert.ValuesSampleReferenceIdeal.Value.run m' g')⟩
  obtain ⟨a0, a1⟩ := agree c
  rw [a0, a1]
  rfl

/-- The reference terminates with its arguments unchanged; it declares no semaphore. -/
theorem values_sample_reference_runs : Cert.quiescent_ValuesSampleReferenceIdeal (hValuesSampleReferenceIdeal := Cert.ValuesSampleReferenceIdeal.Gen.facts) := fun m ρ _ =>
  (θ_run _ _ _).mono (fun r h => ⟨fun c => (h c).2, sem_eq_zero_of_no_sems (by decide) r.2⟩) (Cert.ValuesSampleReferenceIdeal.Value.run m ρ)

/-- The idealized call terminates with its arguments unchanged and its counters at zero. -/
theorem values_sample_runs : Cert.quiescent_ValuesSampleIdeal (hValuesSampleIdeal := Cert.ValuesSampleIdeal.Gen.facts) := fun m ρ _ => Cert.ValuesSampleIdeal.Layer.quiet m ρ

end Cert.Layer

end
-- ==== Proof.HeadWeightsOut.lean ====
/- The call of the indexer's head weights computes what its reference does. -/
module

public import proofs.«01_k».proof.Defs
public import proofs.«01_k».proof.Proof.Gen.HeadWeights.Frame
public import proofs.«01_k».proof.Proof.Gen.HeadWeightsIdeal.Frame
public import proofs.«01_k».proof.Proof.Gen.HeadWeightsIdeal.Value
public import proofs.«01_k».proof.Proof.Gen.HeadWeightsReferenceIdeal.Run
public import proofs.«01_k».proof.Proof.ValuesSampleOut

@[expose] public section

set_option maxRecDepth 16384
set_option maxHeartbeats 2000000

noncomputable section

namespace Cert.Layer

open Idealize.ShloMosaic

/-- The factor of the head weights: one over the roots of the number of heads and of their width, as rounded. -/
def factor : EReal := (Scalar.ofBits .f32 0x3CB504F3#32 : Ideal .f32)

end Cert.Layer

namespace Cert.HeadWeightsIdeal.Layer

open Idealize.ShloMosaic Idealize.ShloMosaic.TcCoe Idealize.SL.Sem
open Idealize.ShloMosaic.Pipeline (Dat)
open Cert.HeadWeightsIdeal Cert.HeadWeightsIdeal.Gen Cert.Layer
open scoped BigOperators

theorem weight_at (W : Valuation τ sig (Elt Ideal)) (j : Fin 17552) (k : Fin 2048) : (StableHlo.after hostOps0 W (Proc.devRef .tc main_v1) : Arr S17552x2048) (ix2 j k)
    = W (Proc.devRef .tc main_arg1) (ix3 0 k j) := by
  after_reads_at

/-- The tile of one point: rows times rows of the transposed weight, times the factor. -/
theorem pay1 (v0 : Vec Ideal S2048x2048 .bf16) (v1 : Vec Ideal S128x2048 .f32) (j : S2048x128.Idx) :
    k0_pay1 v0 v1 j = rowDot (M := 2048) (K := 2048) (N := 128) v0 v1 (j 0) (j 1) * factor := by
  idx_vars j
  unfold k0_pay1
  pointwise
  rfl

variable (m : (ℓ : Loc nD τ sig) → Buf (Elt Ideal) ℓ)

/-- The call's result, of the arguments. -/
def weights (c : Dev nD) : Arr S8192x128 := fun i =>
  colAt (m ((c : Thread nD τ).loc main_arg0)) (m ((c : Thread nD τ).loc main_arg1)) (i 0) (5248 + (i 1 : ℕ)) * factor

theorem index (i : grid0.Coords) : (cc0_transform_0 i 0 = i 0 ∧ cc0_transform_0 i 1 = 0 ∧ cc0_transform_1 i 0 = 5248 ∧ cc0_transform_1 i 1 = 0)
    ∧ cc0_transform_2 i 0 = i 0 ∧ cc0_transform_2 i 1 = 0 := by
  revert i; decide +kernel

/-- What a point computes at an element of its tile: the weights of the row where the tile lies. -/
theorem tile_at (c : Dev nD) (t : Fin cfg0.N) (p : Fin 2048) (q : Fin 128) (r : Fin 8192) (hr : (r : ℕ) = (grid0.coords t 0 : ℕ) * 2048 + p) :
    rowDot (M := 2048) (K := 2048) (N := 128) (iblk m c 0 t) (iblk m c 1 t) p q
      = colAt (m ((c : Thread nD τ).loc main_arg0)) (m ((c : Thread nD τ).loc main_arg1)) r (5248 + (q : ℕ)) := by
  obtain ⟨⟨e0, e1, e2, e3⟩, -⟩ := index (grid0.coords t)
  refine ((rowDot_tile (M := 8192) (K := 2048) (N := 17552) (m := 2048) (n := 128) (V m c main_arg0) (V m c main_v1) _ _ p q r ⟨5248 + (q : ℕ), by omega⟩
    (win0_0.rect_emb_val t · 0) (win0_0.rect_emb_val t · 1) (win0_1.rect_emb_val_off t · 0) (win0_1.rect_emb_val_off t · 1)
    e1 e3 (hr.trans (congrArg (· * 2048 + (p : ℕ)) e0.symm)) (congrArg (· + (q : ℕ)) e2.symm)).trans ?_)
  rw [V_main_arg0]
  unfold rowDot
  refine Eq.trans ?_ (colAt_eq _ _ r r (5248 + (q : ℕ)) ⟨5248 + (q : ℕ), by omega⟩ rfl rfl)
  exact Finset.sum_congr rfl fun x _ => congrArg₂ (· * ·) rfl (weight_at _ _ x)

theorem reach (n : ℕ) (h : n < 4) : ∃ t : Fin cfg0.N, (grid0.coords t 0 : ℕ) = n := by
  have : ∀ n < 4, ∃ t : Fin grid0.N, (grid0.coords t 0 : ℕ) = n := by decide +kernel
  exact this n h

theorem covered (i : S8192x128.Idx) : ∃ t : Fin cfg0.N, (cfg0.win 2).flush t = true ∧ i ∈ ((cfg0.win 2).blk t).view.set := by
  have h0 : (i 0 : ℕ) < 8192 := (i 0).isLt
  have h1 : (i 1 : ℕ) < 128 := (i 1).isLt
  obtain ⟨t, e⟩ := reach ((i 0 : ℕ) / 2048) (by omega)
  obtain ⟨-, e0, e1⟩ := index (grid0.coords t)
  refine ⟨t, flush0_2 t, ?_⟩
  show i ∈ ((View.whole main_v2).slice (win0_2.rect t)).set
  rw [View.set_slice_whole, Rect.mem_set_unit]
  exact mem_tile (M := 8192) (N := 128) (m := 2048) (n := 128) i (by decide) (by decide) (e0.trans e) (e1.trans (by omega))

theorem final (c : Dev nD) : (dats m 0 c).arrAt 2 cfg0.N = weights m c := by
  funext i
  refine (dats m 0 c).arrAt_forall_of_cover 2 (fun i x => x = weights m c i) (fun t _ (y : S2048x128.Idx) => ?_) covered i
  show (dats m 0 c).after 2 t y = _
  rw [after0_2]
  unfold out0_2
  rw [View.canon_unit_zero zeros2, View.ld_unit_zero zeros2, View.ld_unit_zero zeros2]
  obtain ⟨-, e0, e1⟩ := index (grid0.coords t)
  have h0 : (y 0 : ℕ) < 2048 := (y 0).isLt
  have h : (grid0.coords t 0 : ℕ) < 4 := (grid0.coords t 0).isLt
  have E0 := (win0_2.rect_emb_val t y 0).trans (congrArg (· * 2048 + (y 0 : ℕ)) e0)
  have E1 := (win0_2.rect_emb_val t y 1).trans (congrArg (· * 128 + (y 1 : ℕ)) e1)
  refine (pay1 _ _ y).trans ((congrArg (· * factor) (tile_at m c t (y 0) (y 1) ⟨(grid0.coords t 0 : ℕ) * 2048 + y 0, by omega⟩ rfl)).trans ?_)
  exact congrArg (weights m c) (eq_ix2 (M := 8192) (K := 128) _ ⟨(grid0.coords t 0 : ℕ) * 2048 + y 0, by omega⟩ (y 1) E0 (E1.trans (by omega))).symm

end Cert.HeadWeightsIdeal.Layer

namespace Cert.HeadWeightsReferenceIdeal.Layer

open Idealize.ShloMosaic Idealize.ShloMosaic.TcCoe
open Cert.HeadWeightsReferenceIdeal Cert.HeadWeightsReferenceIdeal.Gen Cert.Layer

/-- The reference at an element: a column of the projection times the factor. -/
theorem out (h : FVec Ideal S8192x2048 .bf16) (w : FVec Ideal S1x2048x17552 .f32) (i : S8192x128.Idx) :
    mulf (extractStridedSlice S8192x128 ![0, 5248] (Host.dotGeneral dot_S8192x2048_S2048x17552_S8192x17552_1_0_0_1_n_n none (extf .f32 h bitsLt_bf16_f32)
      (shapeCast S2048x17552 w shapeCasts_S1x2048x17552_S2048x17552)) slices_S8192x17552_S8192x128_0_5248)
      (broadcastInDim S8192x128 ![] bcast_S_S8192x128 (constant S_ .f32 0x3CB504F3#32)) i = colAt h w (i 0) (5248 + (i 1 : ℕ)) * factor := by
  idx_vars i
  pointwise
  refine congrArg₂ (· * ·) ?_ rfl
  exact colAt_eq h w i0 i0 (5248 + (i1 : ℕ)) ⟨5248 + (i1 : ℕ), by omega⟩ rfl rfl

end Cert.HeadWeightsReferenceIdeal.Layer

namespace Cert.Layer

open Idealize.ShloMosaic Idealize.SL.Sem

/-- From the same arguments the two programs end with the same result, their arguments unchanged. -/
theorem head_weights_values : Cert.algebraic_HeadWeightsIdeal_HeadWeightsReferenceIdeal (hHeadWeightsIdeal := Cert.HeadWeightsIdeal.Gen.facts)
    (hHeadWeightsReferenceIdeal := Cert.HeadWeightsReferenceIdeal.Gen.facts) := by
  intro m g m' g' _ agree
  refine ⟨Cert.HeadWeightsIdeal.Layer.weights m,
    (θ_run _ _ _).mono (fun r h c => ⟨(h c).1.trans (Cert.HeadWeightsIdeal.Layer.final m c), (h c).2⟩) (Cert.HeadWeightsIdeal.Value.run_blocks m g),
    (θ_run _ _ _).mono (fun r h c => ⟨(h c).1.trans ((funext (Cert.HeadWeightsReferenceIdeal.Layer.out _ _)).trans ?_), (h c).2⟩) (Cert.HeadWeightsReferenceIdeal.Value.run m' g')⟩
  obtain ⟨a0, a1⟩ := agree c
  rw [a0, a1]
  rfl

/-- The reference terminates with its arguments unchanged; it declares no semaphore. -/
theorem head_weights_reference_runs : Cert.quiescent_HeadWeightsReferenceIdeal (hHeadWeightsReferenceIdeal := Cert.HeadWeightsReferenceIdeal.Gen.facts) := fun m ρ _ =>
  (θ_run _ _ _).mono (fun r h => ⟨fun c => (h c).2, sem_eq_zero_of_no_sems (by decide) r.2⟩) (Cert.HeadWeightsReferenceIdeal.Value.run m ρ)

end Cert.Layer

end
-- ==== Proof.HgrnSum.lean ====
/- The state of a head renewed by thirty-two rows: decayed by the rows' product of factors, given as base-two logarithms, and added to. -/
module

public import proofs.«01_k».proof.Proof.HeadWeightsOut

@[expose] public section

set_option maxRecDepth 16384
set_option maxHeartbeats 2000000

noncomputable section

namespace Cert.Layer

open Idealize.ShloMosaic
open scoped BigOperators

/-- The running sum of thirty-two numbers. -/
def upTo (f : Fin 32 → EReal) (i : Fin 32) : EReal := ∑ j : Fin 32, if j ≤ i then f j else 0

/-- A row of a batch's block of thirty-two. -/
abbrev rowOf (b : Fin 16) (s : Fin 32) : Fin 512 := ⟨32 * b + s, by omega⟩
/-- A column of a head. -/
abbrev colOf (h : Fin 16) (d : Fin 128) : Fin 2048 := ⟨128 * h + d, by omega⟩

/-- A number below the top, what is left of it after taking it away, and what is left of that, add up to the number. -/
theorem left_over (x : EReal) (h : x < ⊤) : x + (x - x) + ((x - x) - (x - x)) = x := by
  induction x with
  | bot => rfl
  | top => exact absurd h (lt_irrefl _)
  | coe r => rw [← EReal.coe_sub, ← EReal.coe_sub, sub_self, sub_self, EReal.coe_zero, add_zero, add_zero]

/-- The word compare of two places. -/
theorem at_most : ∀ i j : Fin 32, IntOp.cmpi .sge (BitVec.ofNat 32 (i : ℕ)) (BitVec.ofNat 32 (j : ℕ)) = if j ≤ i then 1#1 else 0#1 := by decide +kernel

/-- A power of two is the base-two exponential. -/
theorem pow_two (x : EReal) : Ideal.pow ((2 : ℝ) : EReal) x = Ideal.exp2 x := by
  induction x with
  | bot => show (if (2 : ℝ) < 0 then (⊥ : EReal) else if 1 < (2 : ℝ) then 0 else if (2 : ℝ) = 1 then 1 else ⊤) = 0
           norm_num
  | top => show (if (2 : ℝ) < 0 then (⊥ : EReal) else if 1 < (2 : ℝ) then ⊤ else if (2 : ℝ) = 1 then 1 else 0) = ⊤
           norm_num
  | coe r => rfl

/-- The bits of the number two. -/
theorem two_bits : Ideal.ofBits .f32 0x40000000#32 = ((2 : ℝ) : EReal) := by
  simp [Ideal.ofBits, Ideal.ieee, -EReal.coe_mul]; norm_num

/-- Adding up from the left is the sum. -/
theorem foldl_sum {n : ℕ} (g : Fin n → EReal) (l : List (Fin n)) (a : EReal) : l.foldl (fun r k => r + g k) a = a + (l.map g).sum := by
  induction l generalizing a with
  | nil => simp
  | cons k l ih => rw [List.foldl_cons, ih, List.map_cons, List.sum_cons, add_assoc]

/-- A window that ends at a number, of which only the numbers that are there count. -/
def pick (f : Fin 32 → EReal) (i n : Fin 32) : EReal := if h : 31 ≤ (i : ℕ) + n then f ⟨i + n - 31, by omega⟩ else 0

/-- A window's places, turned round by where it ends. -/
theorem turned : ∀ i n : Fin 32, (31 ≤ (i : ℕ) + n → ((i + 1 + n : Fin 32) : ℕ) = i + n - 31) ∧ (i + 1 + n ≤ i ↔ 31 ≤ (i : ℕ) + n) := by decide +kernel

/-- A window adds up the numbers up to where it ends. -/
theorem sum_pick (f : Fin 32 → EReal) (i : Fin 32) : ∑ n, pick f i n = upTo f i := by
  refine Fintype.sum_equiv (Equiv.addLeft (i + 1)) _ _ fun n => ?_
  obtain ⟨e, l⟩ := turned i n
  show pick f i n = if i + 1 + n ≤ i then f (i + 1 + n) else 0
  unfold pick
  by_cases c : 31 ≤ (i : ℕ) + n
  · rw [dif_pos c, if_pos (l.mpr c)]
    exact congrArg f (Fin.ext (e c).symm)
  · rw [dif_neg c, if_neg fun z => c (l.mp z)]

/-- What a head's state becomes, at an element: the state decayed by all the rows, plus every row's key times value, decayed by the rows after it. -/
def renewedAt (lf kk vv : Arr ⟨2, ![512, 2048]⟩) (S : Arr ⟨5, ![1, 16, 16, 128, 128]⟩) (b h : Fin 16) (d v : Fin 128) : EReal :=
  S (ix5 0 b h d v) * Ideal.exp2 (upTo (fun j => lf (ix2 (rowOf b j) (colOf h d))) 31)
    + ∑ s : Fin 32, vv (ix2 (rowOf b s) (colOf h v)) * (kk (ix2 (rowOf b s) (colOf h d))
      * Ideal.exp2 (upTo (fun j => lf (ix2 (rowOf b j) (colOf h d))) 31 - upTo (fun j => lf (ix2 (rowOf b j) (colOf h d))) s))

end Cert.Layer

end
-- ==== Proof.HgrnRef.lean ====
/- The reference of the recurrence's state, at an element. -/
module

public import proofs.«01_k».proof.Proof.HgrnSum
public import proofs.«01_k».proof.Proof.Gen.HgrnSampleReferenceIdeal.Run

@[expose] public section

set_option maxRecDepth 16384
set_option maxHeartbeats 2000000

noncomputable section

namespace Cert.HgrnSampleReferenceIdeal.Layer

open Idealize.ShloMosaic Idealize.ShloMosaic.TcCoe
open Cert.HgrnSampleReferenceIdeal Cert.HgrnSampleReferenceIdeal.Gen Cert.Layer
open scoped BigOperators

/-- The window's shape: thirty-two rows of one column. -/
abbrev Win : Shape := ⟨4, ![1, 1, 32, 1]⟩

/-- Where each of the window's rows stands. -/
theorem win_at : ∀ n : Fin 32, (Win.rowMajor.symm n 0 : ℕ) = 0 ∧ (Win.rowMajor.symm n 1 : ℕ) = 0 ∧ (Win.rowMajor.symm n 2 : ℕ) = n ∧ (Win.rowMajor.symm n 3 : ℕ) = 0 := by
  decide +kernel

/-- The running sum down the rows, as the reference makes it. -/
theorem running (x : Arr S16x16x32x128) (e : Arr S_) (he : ∀ i, e i = 0) (hw : S16x16x32x128.ReduceWindows ![1, 1, 32, 1] ![1, 1, 1, 1] ![0, 0, 31, 0] ![0, 0, 0, 0] S16x16x32x128) (hu : 0 < S_.numel)
    (b h : Fin 16) (i : Fin 32) (d : Fin 128) :
    Host.reduceWindowAdd (F := Ideal) (φ := .f32) ![1, 1, 32, 1] ![1, 1, 1, 1] ![0, 0, 31, 0] ![0, 0, 0, 0] x e hw hu (ix4 b h i d) = upTo (fun j => x (ix4 b h j d)) i := by
  unfold Host.reduceWindowAdd
  rw [he, Ideal.hostReduceWindowAdd_def]
  unfold Ideal.hostReduceWindowAdd Host.reduceWindow
  dsimp only
  refine (foldl_sum (n := Win.numel) _ _ _).trans ((zero_add _).trans ((Fin.sum_univ_def _).symm.trans ((Finset.sum_congr rfl fun (n : Fin 32) _ => ?_).trans (sum_pick (fun j => x (ix4 b h j d)) i))))
  obtain ⟨w0, w1, w2, w3⟩ := win_at n
  unfold pick
  have hb := b.isLt
  have hh := h.isLt
  have hd := d.isLt
  have hi := i.isLt
  have hn := n.isLt
  by_cases c : 31 ≤ (i : ℕ) + n
  · rw [dif_pos c, dif_pos]
    · refine congrArg x (funext fun a => Fin.ext ?_)
      match a with
      | ⟨0, _⟩ => show (b : ℕ) * 1 + (Win.rowMajor.symm n 0 : ℕ) - 0 = b; omega
      | ⟨1, _⟩ => show (h : ℕ) * 1 + (Win.rowMajor.symm n 1 : ℕ) - 0 = h; omega
      | ⟨2, _⟩ => show (i : ℕ) * 1 + (Win.rowMajor.symm n 2 : ℕ) - 31 = i + n - 31; omega
      | ⟨3, _⟩ => show (d : ℕ) * 1 + (Win.rowMajor.symm n 3 : ℕ) - 0 = d; omega
    · intro a
      match a with
      | ⟨0, _⟩ => show 0 ≤ (b : ℕ) * 1 + (Win.rowMajor.symm n 0 : ℕ) ∧ (b : ℕ) * 1 + (Win.rowMajor.symm n 0 : ℕ) - 0 < 16; omega
      | ⟨1, _⟩ => show 0 ≤ (h : ℕ) * 1 + (Win.rowMajor.symm n 1 : ℕ) ∧ (h : ℕ) * 1 + (Win.rowMajor.symm n 1 : ℕ) - 0 < 16; omega
      | ⟨2, _⟩ => show 31 ≤ (i : ℕ) * 1 + (Win.rowMajor.symm n 2 : ℕ) ∧ (i : ℕ) * 1 + (Win.rowMajor.symm n 2 : ℕ) - 31 < 32; omega
      | ⟨3, _⟩ => show 0 ≤ (d : ℕ) * 1 + (Win.rowMajor.symm n 3 : ℕ) ∧ (d : ℕ) * 1 + (Win.rowMajor.symm n 3 : ℕ) - 0 < 128; omega
  · rw [dif_neg c, dif_neg]
    intro z
    have z2 : 31 ≤ (i : ℕ) * 1 + (Win.rowMajor.symm n 2 : ℕ) := (z 2).1
    omega

/-- A batch's rows of a head, of the stacked rows. -/
theorem rows_at (lf : Vec Ideal S512x2048 .f32) (b h : Fin 16) (s : Fin 32) (d : Fin 128) (h1) (h2) :
    transpose S16x16x32x128 [0, 2, 1, 3] (shapeCast S16x32x16x128 lf h1) h2 (ix4 b h s d) = lf (ix2 (rowOf b s) (colOf h d)) := by
  pointwise
  exact congrArg lf (eq_ix2 (M := 512) (K := 2048) _ _ _ (Nat.add_right_cancel_iff.mpr (Nat.mul_comm _ _)) (Nat.add_right_cancel_iff.mpr (Nat.mul_comm _ _)))

/-- The reference's running sums of a head's rows. -/
theorem sum_at (lf : Vec Ideal S512x2048 .f32) (b h : Fin 16) (s : Fin 32) (d : Fin 128) :
    Host.reduceWindowAdd (F := Ideal) (φ := .f32) ![1, 1, 32, 1] ![1, 1, 1, 1] ![0, 0, 31, 0] ![0, 0, 0, 0]
      (transpose S16x16x32x128 [0, 2, 1, 3] (shapeCast S16x32x16x128 lf shapeCasts_S512x2048_S16x32x16x128) transposes_S16x32x16x128_S16x16x32x128_0_2_1_3)
      (broadcastInDim S_ ![] bcast_S_S_ (constant S_ .f32 0x00000000#32)) reduceWindows_S16x16x32x128_S16x16x32x128_w1s1p0_0_w1s1p0_0_w32s1p31_0_w1s1p0_0 h_S_ (ix4 b h s d)
      = upTo (fun j => lf (ix2 (rowOf b j) (colOf h d))) s :=
  (running _ _ (fun i => by pointwise) _ _ b h s d).trans (congrArg (fun f => upTo f s) (funext fun j => rows_at lf b h j d _ _))

/-- The reference at an element, of its running sums. -/
theorem value_at (kk : Vec Ideal S512x2048 .f32) (vv : Vec Ideal S512x2048 .bf16) (S : Vec Ideal S1x16x16x128x128 .f32) (C : FVec Ideal S16x16x32x128 .f32) (b h : Fin 16) (d v : Fin 128) :
    (addf (mulf (broadcastInDim S16x16x128x128 ![0, 1, 2, 3] bcast_S16x16x128x1_S16x16x128x128_0_1_2_3 (broadcastInDim S16x16x128x1 ![0, 1, 2] bcast_S16x16x128_S16x16x128x1_0_1_2
      (Host.powf (broadcastInDim S16x16x128 ![] bcast_S_S16x16x128 (constant S_ .f32 0x40000000#32)) (shapeCast S16x16x128 (extractStridedSlice S16x16x1x128 ![0, 0, 31, 0] C slices_S16x16x32x128_S16x16x1x128_0_0_31_0) shapeCasts_S16x16x1x128_S16x16x128))))
        (shapeCast S16x16x128x128 S shapeCasts_S1x16x16x128x128_S16x16x128x128))
      (Host.dotGeneral dot_S16x16x32x128_S16x16x32x128_S16x16x128x128_2_2_3_3_01_01 none
        (mulf (transpose S16x16x32x128 [0, 2, 1, 3] (shapeCast S16x32x16x128 kk shapeCasts_S512x2048_S16x32x16x128) transposes_S16x32x16x128_S16x16x32x128_0_2_1_3)
          (Host.powf (broadcastInDim S16x16x32x128 ![] bcast_S_S16x16x32x128 (constant S_ .f32 0x40000000#32))
            (subf (broadcastInDim S16x16x32x128 ![0, 1, 2, 3] bcast_S16x16x1x128_S16x16x32x128_0_1_2_3 (extractStridedSlice S16x16x1x128 ![0, 0, 31, 0] C slices_S16x16x32x128_S16x16x1x128_0_0_31_0)) C)))
        (transpose S16x16x32x128 [0, 2, 1, 3] (shapeCast S16x32x16x128 (extf .f32 vv bitsLt_bf16_f32) shapeCasts_S512x2048_S16x32x16x128) transposes_S16x32x16x128_S16x16x32x128_0_2_1_3)) : FVec Ideal S16x16x128x128 .f32) (ix4 b h d v)
      = S (ix5 0 b h d v) * Ideal.exp2 (C (ix4 b h 31 d)) + ∑ s : Fin 32, vv (ix2 (rowOf b s) (colOf h v)) * (kk (ix2 (rowOf b s) (colOf h d)) * Ideal.exp2 (C (ix4 b h 31 d) - C (ix4 b h s d))) := by
  pointwise
  rw [two_bits, pow_two, mul_comm]
  refine congrArg₂ (· + ·) rfl (Finset.sum_congr rfl fun s _ => ?_)
  rw [pow_two, mul_comm]
  exact congrArg₂ (· * ·) (congrArg vv (eq_ix2 (M := 512) (K := 2048) _ _ _ (Nat.add_right_cancel_iff.mpr (Nat.mul_comm _ _)) (Nat.add_right_cancel_iff.mpr (Nat.mul_comm _ _))))
    (congrArg₂ (· * ·) (congrArg kk (eq_ix2 (M := 512) (K := 2048) _ _ _ (Nat.add_right_cancel_iff.mpr (Nat.mul_comm _ _)) (Nat.add_right_cancel_iff.mpr (Nat.mul_comm _ _)))) rfl)

end Cert.HgrnSampleReferenceIdeal.Layer

end
-- ==== Proof.HgrnHeld.lean ====
/- Sixteen heads' states, held side by side and renewed one after the other. -/
module

public import proofs.«01_k».proof.Proof.HgrnRef
public import proofs.«01_k».proof.Proof.Gen.HgrnSampleIdeal.Frame
public import proofs.«01_k».proof.Proof.Gen.HgrnSampleIdeal.Value
public import Idealize.ShloMosaic.Lib.WholeRead
import Idealize.ShloMosaic.Lib.Tactic

@[expose] public section

set_option maxRecDepth 16384
set_option maxHeartbeats 2000000

noncomputable section

namespace Cert.HgrnSampleIdeal.Layer

open Idealize.ShloMosaic Idealize.ShloMosaic.TcCoe Idealize.SL.Sem
open Cert.HgrnSampleIdeal Cert.HgrnSampleIdeal.Gen Cert.Layer

theorem inb3 (h : Fin 16) : ∀ a : Fin 3, (![(h : ℕ), 0, 0] : Fin 3 → ℕ) a + S1x128x128.size a ≤ S16x128x128.size a := by revert h; decide +kernel
theorem inb4 (h : Fin 16) : ∀ a : Fin 4, (![0, (h : ℕ), 0, 0] : Fin 4 → ℕ) a + S1x1x128x128.size a ≤ S1x16x128x128.size a := by revert h; decide +kernel
theorem inb2 (h : Fin 16) : ∀ a : Fin 2, (![0, 128 * (h : ℕ)] : Fin 2 → ℕ) a + S32x128.size a ≤ S32x2048.size a := by revert h; decide +kernel
theorem slices2 (h : Fin 16) : S32x2048.Slices ![0, 128 * (h : ℕ)] S32x128 := by revert h; decide +kernel

/-- A head's place in the sixteen states held. -/
abbrev held (h : Fin 16) : Rect S16x128x128 := Rect.unit ![(h : ℕ), 0, 0] S1x128x128.size (inb3 h)
/-- A head's place in a block of states. -/
abbrev place4 (h : Fin 16) : Rect S1x16x128x128 := Rect.unit ![0, (h : ℕ), 0, 0] S1x1x128x128.size (inb4 h)
/-- A head's columns in a block of rows. -/
abbrev cols (h : Fin 16) : Rect S32x2048 := Rect.unit ![0, 128 * (h : ℕ)] S32x128.size (inb2 h)

/-- The heads, the last first. -/
abbrev heads : List (Fin 16) := [15, 14, 13, 12, 11, 10, 9, 8, 7, 6, 5, 4, 3, 2, 1, 0]

theorem mem_heads (h : Fin 16) : h ∈ heads := by revert h; decide

theorem held_disjoint {h k : Fin 16} (n : h ≠ k) : Disjoint (held h).set (held k).toLoadRect.set := by
  refine Rect.unit_disjoint 0 ?_
  have : (h : ℕ) ≠ k := fun e => n (Fin.ext e)
  show (h : ℕ) + 1 ≤ k ∨ (k : ℕ) + 1 ≤ h
  omega

variable (v : View sig .tc .vmem S16x128x128 .f32) (start : Fin 16 → Vec Ideal S1x128x128 .f32) (step : Fin 16 → Vec Ideal S1x128x128 .f32 → Vec Ideal S1x128x128 .f32)

/-- What is stored in the states held once the heads of a list have been renewed, the first of the list last. -/
def renewed : List (Fin 16) → List (View.Piece (Elt Ideal) S16x128x128 .f32)
  | [] => heads.map fun h => ⟨held h, start h⟩
  | h :: l => ⟨held h, step h (v.readCov (renewed l) (held h).toLoadRect)⟩ :: renewed l

theorem read_map (l : List (Fin 16)) (h : Fin 16) (i : h ∈ l) :
    v.readCov (l.map fun h => (⟨held h, start h⟩ : View.Piece (Elt Ideal) S16x128x128 .f32)) (held h).toLoadRect = start h := by
  induction l with
  | nil => exact absurd i (List.not_mem_nil)
  | cons k l ih =>
    rw [List.map_cons]
    rcases eq_or_ne k h with e | n
    · subst e; exact View.readCov_cons_toLoadRect v _ _ _
    · rw [View.readCov_cons_of_disjoint v _ _ _ (held_disjoint n)]
      exact ih ((List.mem_cons.mp i).resolve_left n.symm)

theorem read_start (l : List (Fin 16)) (h : Fin 16) (i : h ∉ l) : v.readCov (renewed v start step l) (held h).toLoadRect = start h := by
  induction l with
  | nil => exact read_map v start heads h (mem_heads h)
  | cons k l ih =>
    unfold renewed
    rw [View.readCov_cons_of_disjoint v _ _ _ (held_disjoint fun e => i (List.mem_cons.mpr (.inl e.symm)))]
    exact ih fun j => i (List.mem_cons_of_mem _ j)

theorem read_renewed (l : List (Fin 16)) (h : Fin 16) (i : h ∈ l) (d : l.Nodup) :
    v.readCov (renewed v start step l) (held h).toLoadRect = step h (start h) := by
  induction l with
  | nil => exact absurd i (List.not_mem_nil)
  | cons k l ih =>
    obtain ⟨d1, d2⟩ := List.nodup_cons.mp d
    unfold renewed
    rcases eq_or_ne k h with e | n
    · subst e
      rw [View.readCov_cons_toLoadRect, read_start v start step l k d1]
    · rw [View.readCov_cons_of_disjoint v _ _ _ (held_disjoint n)]
      exact ih ((List.mem_cons.mp i).resolve_left n.symm) d2

/-- Stores at disjoint places, one for each of a list: what is held at one's place is what was stored there. -/
theorem canon_map {ι : Type} [DecidableEq ι] {s : Shape} {e : EltTy} (R : ι → Rect s) (D : ∀ h k, h ≠ k → Disjoint (R h).set (R k).set)
    (f : ∀ h, (R h).shape.Idx → Elt Ideal e) (l : List ι) (h : ι) (i : h ∈ l) (x : (R h).shape.Idx) :
    View.canon (l.map fun h => (⟨R h, f h⟩ : View.Piece (Elt Ideal) s e)) ((R h).emb x) = f h x := by
  induction l with
  | nil => exact absurd i (List.not_mem_nil)
  | cons k l ih =>
    rw [List.map_cons]
    rcases eq_or_ne k h with e | n
    · subst e; exact View.canon_cons_emb (R k) (f k) _ x
    · exact (View.canon_cons_of_not_mem _ _ (Finset.disjoint_right.mp (D k h n) ((R h).toLoadRect.idx_mem x))).trans (ih ((List.mem_cons.mp i).resolve_left n.symm))

theorem place4_disjoint (h k : Fin 16) (n : h ≠ k) : Disjoint (place4 h).set (place4 k).set := by
  refine Rect.unit_disjoint 1 ?_
  have : (h : ℕ) ≠ k := fun e => n (Fin.ext e)
  show (h : ℕ) + 1 ≤ k ∨ (k : ℕ) + 1 ≤ h
  omega

end Cert.HgrnSampleIdeal.Layer

end
-- ==== Proof.HgrnTile.lean ====
/- What the recurrence's call computes of a head's block, at an element. -/
module

public import proofs.«01_k».proof.Proof.HgrnHeld

@[expose] public section

set_option maxRecDepth 16384
set_option maxHeartbeats 2000000

noncomputable section

namespace Cert.HgrnSampleIdeal.Layer

open Idealize.ShloMosaic Idealize.ShloMosaic.TcCoe Idealize.SL.Sem
open Cert.HgrnSampleIdeal Cert.HgrnSampleIdeal.Gen Cert.Layer
open scoped BigOperators

/-- A state held, which is held transposed, renewed. -/
theorem renew_at (g kk : Vec Ideal S32x128 .f32) (vv : Vec Ideal S32x128 .bf16) (st : Vec Ideal S1x128x128 .f32) (a d : Fin 128) :
    k0_pay206 (k0_pay142 (k0_pay46 vv)) (k0_pay204 g (k0_pay141 st)) (k0_pay205 g kk) (ix3 0 a d)
      = st (ix3 0 a d) * Ideal.exp2 (g (ix2 31 d)) + ∑ s : Fin 32, vv (ix2 s a) * (kk (ix2 s d) * Ideal.exp2 (g (ix2 31 d) - g (ix2 s d))) := by
  unfold k0_pay206 k0_pay204 k0_pay205 k0_pay203 k0_pay142 k0_pay141 k0_pay46
  pointwise
  rfl

/-- The running sums, made as a product with a triangle of ones in three parts: the numbers, what is left of them, and what is left of that. -/
theorem sums_at (x : Vec Ideal S32x2048 .f32) (o : ℕ) (h : S32x2048.Slices ![0, o] S32x128) (i : Fin 32) (d : Fin 128) (k : Fin 2048) (e : (k : ℕ) = o + d)
    (u : ∀ j : Fin 32, x (ix2 j k) < ⊤) :
    extractStridedSlice S32x128 ![0, o] (k0_pay44 (F := Ideal) k0_pay38 x) h (ix2 i d) = upTo (fun j => x (ix2 j k)) i := by
  unfold k0_pay44 k0_pay38
  pointwise
  rw [← Finset.sum_add_distrib, ← Finset.sum_add_distrib]
  refine Finset.sum_congr rfl fun j _ => ?_
  have ej : (⟨o + (d : ℕ), e ▸ k.isLt⟩ : Fin 2048) = k := Fin.ext e.symm
  rw [at_most, ej]
  by_cases c : j ≤ i
  · rw [if_pos c, if_pos c]
    exact left_over _ (u j)
  · rw [if_neg c, if_neg c]
    show (0 : EReal) + 0 + 0 = 0
    rw [add_zero, add_zero]

/-- A state stored is the state held, transposed back. -/
theorem stored_at (s : Vec Ideal S1x128x128 .f32) (d v : Fin 128) : k0_pay20 s (ix4 0 0 d v) = s (ix3 0 v d) := by
  unfold k0_pay20
  pointwise

/-- A state is held transposed. -/
theorem held_at (s : Vec Ideal S1x1x128x128 .f32) (d v : Fin 128) : k0_pay6 s (ix3 0 v d) = s (ix4 0 0 d v) := by
  unfold k0_pay6
  pointwise
end Cert.HgrnSampleIdeal.Layer

end
-- ==== Proof.HgrnStore.lean ====
/- What the recurrence's call leaves in its second result's block: of every head the state it read, decayed and added to. -/
module

public import proofs.«01_k».proof.Proof.HgrnTile
public import Idealize.ShloMosaic.Lib.WholeRead
import Idealize.ShloMosaic.Lib.Tactic

@[expose] public section

set_option maxRecDepth 16384
set_option maxHeartbeats 2000000

noncomputable section

namespace Cert.HgrnSampleIdeal.Layer

open Idealize.ShloMosaic Idealize.ShloMosaic.TcCoe Idealize.SL.Sem
open Cert.HgrnSampleIdeal Cert.HgrnSampleIdeal.Gen Cert.Layer

section point

variable (c : Dev nD) (t : Fin cfg0.N) (x1 x2 : Vec Ideal S32x2048 .f32) (x3 : Vec Ideal S32x2048 .bf16) (x6 : Vec Ideal S1x16x128x128 .f32)

/-- The state a head starts from, as it is held. -/
def start0 (h : Fin 16) : Vec Ideal S1x128x128 .f32 :=
  k0_pay6 (View.readAt (Elt Ideal) (ms0_6 t).view (place4 h).toLoadRect ((hs0_6 t).unread x6))

/-- The running sums of a head's logarithms. -/
def sums (h : Fin 16) : FVec Ideal S32x128 .f32 :=
  extractStridedSlice S32x128 ![0, 128 * (h : ℕ)] (k0_pay44 k0_pay38 (View.readAt (Elt Ideal) (ms0_1 t).view (Rect.unit k0_off1 S32x2048.size k0_off1_inb).toLoadRect ((hs0_1 t).unread x1))) (slices2 h)

/-- A head's state, decayed and added to. -/
def step0 (h : Fin 16) (s : Vec Ideal S1x128x128 .f32) : Vec Ideal S1x128x128 .f32 :=
  k0_pay206 (k0_pay142 (k0_pay46 (View.readAt (Elt Ideal) (ms0_3 t).view (cols h).toLoadRect ((hs0_3 t).unread x3))))
    (k0_pay204 (sums t x1 h) (k0_pay141 s))
    (k0_pay205 (sums t x1 h) (View.readAt (Elt Ideal) (ms0_2 t).view (cols h).toLoadRect ((hs0_2 t).unread x2)))

theorem held_pieces : kernelRun0_A.sl.HS0_32 c (ms0_1 t) (hs0_1 t) (ms0_2 t) (hs0_2 t) (ms0_3 t) (hs0_3 t) (ms0_6 t) (hs0_6 t) scM0_0 x1 x2 x3 x6
    = renewed scM0_0.view (start0 t x6) (step0 t x1 x2 x3) heads := by
  sl_kernel_rfl

end point

variable (m : (ℓ : Loc nD τ sig) → Buf (Elt Ideal) ℓ)

theorem out_pieces (c : Dev nD) (t : Fin cfg0.N) : (outsAt0 m c t).2 = VO0_8.read (Elt Ideal) (VO0_8.writes (Elt Ideal) VO0_8.junk (heads.map fun h =>
    ⟨place4 h, k0_pay20 (scM0_0.view.readCov (kernelRun0_A.sl.HS0_32 c (ms0_1 t) (hs0_1 t) (ms0_2 t) (hs0_2 t) (ms0_3 t) (hs0_3 t) (ms0_6 t) (hs0_6 t) scM0_0
      (iblk m c 1 t) (iblk m c 2 t) (iblk m c 3 t) (iblk m c 6 t)) (held h).toLoadRect)⟩)) := by
  sl_kernel_rfl

/-- A head of the block stored: the state read, renewed. -/
theorem out_at (c : Dev nD) (t : Fin cfg0.N) (h : Fin 16) (x : S1x1x128x128.Idx) :
    (outsAt0 m c t).2 ((place4 h).emb x) = k0_pay20 (step0 t (iblk m c 1 t) (iblk m c 2 t) (iblk m c 3 t) h (start0 t (iblk m c 6 t) h)) x := by
  rw [out_pieces, View.read_writes_junk_eq_canon, canon_map place4 place4_disjoint _ heads h (mem_heads h), held_pieces, read_renewed _ _ _ heads h (mem_heads h) (by decide)]

end Cert.HgrnSampleIdeal.Layer

end
-- ==== Proof.HgrnOut.lean ====
/- The call of the sample's recurrence leaves the states its reference computes. -/
module

public import proofs.«01_k».proof.Defs
public import proofs.«01_k».proof.Proof.HgrnStore
public import proofs.«01_k».proof.Proof.Gen.HgrnSample.Frame
public import proofs.«01_k».proof.Proof.Gen.Pre_logarithms_below
public import Idealize.ShloMosaic.Lib.StableHlo.ReadAt

@[expose] public section

set_option maxRecDepth 16384
set_option maxHeartbeats 2000000

noncomputable section

namespace Cert.HgrnSampleIdeal.Layer

open Idealize.ShloMosaic Idealize.ShloMosaic.TcCoe Idealize.SL.Sem
open Idealize.ShloMosaic.Pipeline (Dat)
open Cert.HgrnSampleIdeal Cert.HgrnSampleIdeal.Gen Cert.Layer
open scoped BigOperators

/-- Every logarithm is below the top. -/
def Below (lf : Vec Ideal S512x2048 .f32) : Prop := ∀ i, lf i < ⊤

section point

variable (t : Fin cfg0.N) (x1 x2 : Vec Ideal S32x2048 .f32) (x3 : Vec Ideal S32x2048 .bf16) (x6 : Vec Ideal S1x16x128x128 .f32)

/-- A head's state before and after its rows, of the blocks read. -/
theorem step_at (h : Fin 16) (d v : Fin 128) (u : ∀ (s : Fin 32) (k : Fin 2048), x1 (ix2 s k) < ⊤) :
    k0_pay20 (step0 t x1 x2 x3 h (start0 t x6 h)) (ix4 0 0 d v)
      = x6 (ix4 0 h d v) * Ideal.exp2 (upTo (fun j => x1 (ix2 j (colOf h d))) 31)
        + ∑ s : Fin 32, x3 (ix2 s (colOf h v)) * (x2 (ix2 s (colOf h d)) * Ideal.exp2 (upTo (fun j => x1 (ix2 j (colOf h d))) 31 - upTo (fun j => x1 (ix2 j (colOf h d))) s)) := by
  have e1 : ∀ (s : Fin 32) (k : Fin 2048), View.readAt (Elt Ideal) (ms0_1 t).view (Rect.unit k0_off1 S32x2048.size k0_off1_inb).toLoadRect ((hs0_1 t).unread x1) (ix2 s k) = x1 (ix2 s k) := fun s k =>
    ((hs0_1 t).readAt_unread x1 _ _).trans (congrArg x1 (eq_ix2 (M := 32) (K := 2048) _ _ _ (show 0 + 1 * (s : ℕ) = s by omega) (show 0 + 1 * (k : ℕ) = k by omega)))
  have e2 : ∀ (s : Fin 32) (k : Fin 128), View.readAt (Elt Ideal) (ms0_2 t).view (cols h).toLoadRect ((hs0_2 t).unread x2) (ix2 s k) = x2 (ix2 s (colOf h k)) := fun s k =>
    ((hs0_2 t).readAt_unread x2 _ _).trans (congrArg x2 (eq_ix2 (M := 32) (K := 2048) _ _ _ (show 0 + 1 * (s : ℕ) = s by omega) (show 128 * (h : ℕ) + 1 * (k : ℕ) = 128 * h + k by omega)))
  have e3 : ∀ (s : Fin 32) (k : Fin 128), View.readAt (Elt Ideal) (ms0_3 t).view (cols h).toLoadRect ((hs0_3 t).unread x3) (ix2 s k) = x3 (ix2 s (colOf h k)) := fun s k =>
    ((hs0_3 t).readAt_unread x3 _ _).trans (congrArg x3 (eq_ix2 (M := 32) (K := 2048) _ _ _ (show 0 + 1 * (s : ℕ) = s by omega) (show 128 * (h : ℕ) + 1 * (k : ℕ) = 128 * h + k by omega)))
  have e6 : start0 t x6 h (ix3 0 v d) = x6 (ix4 0 h d v) := (held_at _ d v).trans (((hs0_6 t).readAt_unread x6 _ _).trans (congrArg x6 (funext fun a => Fin.ext (by
    match a with
    | ⟨0, _⟩ => rfl
    | ⟨1, _⟩ => show (h : ℕ) + 1 * 0 = h; omega
    | ⟨2, _⟩ => show 0 + 1 * (d : ℕ) = d; omega
    | ⟨3, _⟩ => show 0 + 1 * (v : ℕ) = v; omega))))
  have eg : ∀ i : Fin 32, sums t x1 h (ix2 i d) = upTo (fun j => x1 (ix2 j (colOf h d))) i := fun i =>
    (sums_at _ _ (slices2 h) i d (colOf h d) rfl (fun j => by rw [e1]; exact u j _)).trans (congrArg (fun f => upTo f i) (funext fun j => e1 j _))
  refine (stored_at _ d v).trans ((renew_at _ _ _ _ v d).trans ?_)
  rw [e6, eg]
  refine congrArg₂ (· + ·) rfl (Finset.sum_congr rfl fun s _ => ?_)
  rw [e2, e3, eg]

end point

theorem state_at (W : Valuation τ sig (Elt Ideal)) (b h : Fin 16) (d v : Fin 128) : (StableHlo.after hostOps0 W (Proc.devRef .tc main_v2) : Arr S16x16x128x128) (ix4 b h d v)
    = W (Proc.devRef .tc main_arg6) (ix5 0 b h d v) := by
  after_reads_at

variable (m : (ℓ : Loc nD τ sig) → Buf (Elt Ideal) ℓ)

/-- The call's states, of the arguments. -/
def states (c : Dev nD) : Arr S16x16x128x128 := fun i =>
  renewedAt (m ((c : Thread nD τ).loc main_arg1)) (m ((c : Thread nD τ).loc main_arg2)) (m ((c : Thread nD τ).loc main_arg3)) (m ((c : Thread nD τ).loc main_arg6)) (i 0) (i 1) (i 2) (i 3)

theorem index (i : grid0.Coords) : (cc0_transform_1 i 0 = i 0 ∧ cc0_transform_1 i 1 = 0 ∧ cc0_transform_2 i 0 = i 0 ∧ cc0_transform_2 i 1 = 0 ∧ cc0_transform_3 i 0 = i 0 ∧ cc0_transform_3 i 1 = 0)
    ∧ (cc0_transform_6 i 0 = i 0 ∧ cc0_transform_6 i 1 = 0 ∧ cc0_transform_6 i 2 = 0 ∧ cc0_transform_6 i 3 = 0)
    ∧ cc0_transform_8 i 0 = i 0 ∧ cc0_transform_8 i 1 = 0 ∧ cc0_transform_8 i 2 = 0 ∧ cc0_transform_8 i 3 = 0 := by
  revert i; decide +kernel

theorem logs_at (c : Dev nD) (t : Fin cfg0.N) (b : Fin 16) (hb : (b : ℕ) = (grid0.coords t 0 : ℕ)) (s : Fin 32) (k : Fin 2048) :
    (iblk m c 1 t : Arr S32x2048) (ix2 s k) = m ((c : Thread nD τ).loc main_arg1) (ix2 (rowOf b s) k) := by
  obtain ⟨⟨e0, e1, -⟩, -⟩ := index (grid0.coords t)
  rw [← V_main_arg1 m c]
  exact congrArg (V m c main_arg1) (eq_ix2 (M := 512) (K := 2048) _ _ _ ((win0_1.rect_emb_val t (ix2 s k) 0).trans ((congrArg (· * 32 + (s : ℕ)) e0).trans (by dsimp only; omega)))
    ((win0_1.rect_emb_val t (ix2 s k) 1).trans ((congrArg (· * 2048 + (k : ℕ)) e1).trans (by omega))))

theorem keys_at (c : Dev nD) (t : Fin cfg0.N) (b : Fin 16) (hb : (b : ℕ) = (grid0.coords t 0 : ℕ)) (s : Fin 32) (k : Fin 2048) :
    (iblk m c 2 t : Arr S32x2048) (ix2 s k) = m ((c : Thread nD τ).loc main_arg2) (ix2 (rowOf b s) k) := by
  obtain ⟨⟨-, -, e0, e1, -⟩, -⟩ := index (grid0.coords t)
  rw [← V_main_arg2 m c]
  exact congrArg (V m c main_arg2) (eq_ix2 (M := 512) (K := 2048) _ _ _ ((win0_2.rect_emb_val t (ix2 s k) 0).trans ((congrArg (· * 32 + (s : ℕ)) e0).trans (by dsimp only; omega)))
    ((win0_2.rect_emb_val t (ix2 s k) 1).trans ((congrArg (· * 2048 + (k : ℕ)) e1).trans (by omega))))

theorem vals_at (c : Dev nD) (t : Fin cfg0.N) (b : Fin 16) (hb : (b : ℕ) = (grid0.coords t 0 : ℕ)) (s : Fin 32) (k : Fin 2048) :
    (iblk m c 3 t : Arr S32x2048) (ix2 s k) = m ((c : Thread nD τ).loc main_arg3) (ix2 (rowOf b s) k) := by
  obtain ⟨⟨-, -, -, -, e0, e1⟩, -⟩ := index (grid0.coords t)
  rw [← V_main_arg3 m c]
  exact congrArg (V m c main_arg3) (eq_ix2 (M := 512) (K := 2048) _ _ _ ((win0_3.rect_emb_val t (ix2 s k) 0).trans ((congrArg (· * 32 + (s : ℕ)) e0).trans (by dsimp only; omega)))
    ((win0_3.rect_emb_val t (ix2 s k) 1).trans ((congrArg (· * 2048 + (k : ℕ)) e1).trans (by omega))))

theorem olds_at (c : Dev nD) (t : Fin cfg0.N) (b : Fin 16) (hb : (b : ℕ) = (grid0.coords t 0 : ℕ)) (h : Fin 16) (d v : Fin 128) :
    (iblk m c 6 t : Arr S1x16x128x128) (ix4 0 h d v) = m ((c : Thread nD τ).loc main_arg6) (ix5 0 b h d v) := by
  obtain ⟨-, ⟨e0, e1, e2, e3⟩, -⟩ := index (grid0.coords t)
  refine Eq.trans (congrArg (V m c main_v2) (funext fun a => Fin.ext ?_)) (state_at _ b h d v)
  match a with
  | ⟨0, _⟩ => exact (win0_6.rect_emb_val t (ix4 0 h d v) 0).trans ((congrArg (· * 1 + 0) e0).trans (by dsimp only; exact (by omega : (grid0.coords t 0 : ℕ) * 1 + 0 = b)))
  | ⟨1, _⟩ => exact (win0_6.rect_emb_val t (ix4 0 h d v) 1).trans ((congrArg (· * 16 + (h : ℕ)) e1).trans (by dsimp only; exact (by omega : 0 * 16 + (h : ℕ) = h)))
  | ⟨2, _⟩ => exact (win0_6.rect_emb_val t (ix4 0 h d v) 2).trans ((congrArg (· * 128 + (d : ℕ)) e2).trans (by dsimp only; exact (by omega : 0 * 128 + (d : ℕ) = d)))
  | ⟨3, _⟩ => exact (win0_6.rect_emb_val t (ix4 0 h d v) 3).trans ((congrArg (· * 128 + (v : ℕ)) e3).trans (by dsimp only; exact (by omega : 0 * 128 + (v : ℕ) = v)))

/-- What a point leaves in its block of the states. -/
theorem block_at (c : Dev nD) (t : Fin cfg0.N) (b : Fin 16) (hb : (b : ℕ) = (grid0.coords t 0 : ℕ)) (u : Below (m ((c : Thread nD τ).loc main_arg1))) (h : Fin 16) (d v : Fin 128) :
    (outsAt0 m c t).2 (ix4 0 h d v) = renewedAt (m ((c : Thread nD τ).loc main_arg1)) (m ((c : Thread nD τ).loc main_arg2)) (m ((c : Thread nD τ).loc main_arg3)) (m ((c : Thread nD τ).loc main_arg6)) b h d v := by
  have ei : (ix4 0 h d v : S1x16x128x128.Idx) = (place4 h).emb (ix4 0 0 d v) := funext fun a => Fin.ext (by
    match a with
    | ⟨0, _⟩ => rfl
    | ⟨1, _⟩ => show (h : ℕ) = h + 1 * 0; omega
    | ⟨2, _⟩ => show (d : ℕ) = 0 + 1 * (d : ℕ); omega
    | ⟨3, _⟩ => show (v : ℕ) = 0 + 1 * (v : ℕ); omega)
  refine (congrArg _ ei).trans ((out_at m c t h (ix4 0 0 d v)).trans ((step_at t _ _ _ _ h d v (fun s k => ?_)).trans ?_))
  · rw [logs_at m c t b hb]; exact u _
  · unfold renewedAt
    rw [olds_at m c t b hb]
    simp only [logs_at m c t b hb, keys_at m c t b hb, vals_at m c t b hb]

theorem reach (n : ℕ) (h : n < 16) : ∃ t : Fin cfg0.N, (grid0.coords t 0 : ℕ) = n := by
  have : ∀ n < 16, ∃ t : Fin grid0.N, (grid0.coords t 0 : ℕ) = n := by decide +kernel
  exact this n h

theorem covered (i : S16x16x128x128.Idx) : ∃ t : Fin cfg0.N, (cfg0.win 8).flush t = true ∧ i ∈ ((cfg0.win 8).blk t).view.set := by
  have h0 : (i 0 : ℕ) < 16 := (i 0).isLt
  have h1 : (i 1 : ℕ) < 16 := (i 1).isLt
  have h2 : (i 2 : ℕ) < 128 := (i 2).isLt
  have h3 : (i 3 : ℕ) < 128 := (i 3).isLt
  obtain ⟨t, e⟩ := reach (i 0 : ℕ) h0
  obtain ⟨-, -, e0, e1, e2, e3⟩ := index (grid0.coords t)
  refine ⟨t, flush0_8 t, ?_⟩
  show i ∈ ((View.whole main_v3_1).slice (win0_8.rect t)).set
  rw [View.set_slice_whole, Rect.mem_set_unit]
  intro a
  match a with
  | ⟨0, _⟩ => show cc0_transform_8 (grid0.coords t) 0 * 1 ≤ (i 0 : ℕ) ∧ (i 0 : ℕ) < cc0_transform_8 (grid0.coords t) 0 * 1 + 1; omega
  | ⟨1, _⟩ => show cc0_transform_8 (grid0.coords t) 1 * 16 ≤ (i 1 : ℕ) ∧ (i 1 : ℕ) < cc0_transform_8 (grid0.coords t) 1 * 16 + 16; omega
  | ⟨2, _⟩ => show cc0_transform_8 (grid0.coords t) 2 * 128 ≤ (i 2 : ℕ) ∧ (i 2 : ℕ) < cc0_transform_8 (grid0.coords t) 2 * 128 + 128; omega
  | ⟨3, _⟩ => show cc0_transform_8 (grid0.coords t) 3 * 128 ≤ (i 3 : ℕ) ∧ (i 3 : ℕ) < cc0_transform_8 (grid0.coords t) 3 * 128 + 128; omega

theorem final (c : Dev nD) (u : Below (m ((c : Thread nD τ).loc main_arg1))) : (dats m 0 c).arrAt 8 cfg0.N = states m c := by
  funext i
  refine (dats m 0 c).arrAt_forall_of_cover 8 (fun i x => x = states m c i) (fun t _ (y : S1x16x128x128.Idx) => ?_) covered i
  show (dats m 0 c).after 8 t y = _
  rw [after0_8]
  obtain ⟨-, -, e0, e1, e2, e3⟩ := index (grid0.coords t)
  have y0 : (y 0 : ℕ) < 1 := (y 0).isLt
  have E0 := (win0_8.rect_emb_val t y 0).trans (congrArg (· * 1 + (y 0 : ℕ)) e0)
  have E1 := (win0_8.rect_emb_val t y 1).trans (congrArg (· * 16 + (y 1 : ℕ)) e1)
  have E2 := (win0_8.rect_emb_val t y 2).trans (congrArg (· * 128 + (y 2 : ℕ)) e2)
  have E3 := (win0_8.rect_emb_val t y 3).trans (congrArg (· * 128 + (y 3 : ℕ)) e3)
  have hb : (grid0.coords t 0 : ℕ) < 16 := (grid0.coords t 0).isLt
  have ey : y = ix4 0 (y 1) (y 2) (y 3) := funext fun a => Fin.ext (by
    match a with
    | ⟨0, _⟩ => show (y 0 : ℕ) = 0; omega
    | ⟨1, _⟩ => rfl
    | ⟨2, _⟩ => rfl
    | ⟨3, _⟩ => rfl)
  refine ((congrArg _ ey).trans (block_at m c t ⟨(grid0.coords t 0 : ℕ), hb⟩ rfl u (y 1) (y 2) (y 3))).trans ?_
  refine congrArg (states m c) (a₁ := ix4 ⟨(grid0.coords t 0 : ℕ), hb⟩ (y 1) (y 2) (y 3)) (funext fun a => Fin.ext ?_)
  match a with
  | ⟨0, _⟩ => exact (E0.trans (show (grid0.coords t 0 : ℕ) * 1 + (y 0 : ℕ) = (grid0.coords t 0 : ℕ) by omega)).symm
  | ⟨1, _⟩ => exact (E1.trans (show 0 * 16 + (y 1 : ℕ) = (y 1 : ℕ) by omega)).symm
  | ⟨2, _⟩ => exact (E2.trans (show 0 * 128 + (y 2 : ℕ) = (y 2 : ℕ) by omega)).symm
  | ⟨3, _⟩ => exact (E3.trans (show 0 * 128 + (y 3 : ℕ) = (y 3 : ℕ) by omega)).symm

end Cert.HgrnSampleIdeal.Layer

namespace Cert.HgrnSampleReferenceIdeal.Layer

open Idealize.ShloMosaic Idealize.ShloMosaic.TcCoe
open Cert.HgrnSampleReferenceIdeal Cert.HgrnSampleReferenceIdeal.Gen Cert.Layer

/-- The reference at an element, of the arguments. -/
theorem out (lf kk : Vec Ideal S512x2048 .f32) (vv : Vec Ideal S512x2048 .bf16) (S : Vec Ideal S1x16x16x128x128 .f32) (C : FVec Ideal S16x16x32x128 .f32)
    (hC : ∀ (b h : Fin 16) (s : Fin 32) (d : Fin 128), C (ix4 b h s d) = upTo (fun j => lf (ix2 (rowOf b j) (colOf h d))) s) (b h : Fin 16) (d v : Fin 128) :
    (addf (mulf (broadcastInDim S16x16x128x128 ![0, 1, 2, 3] bcast_S16x16x128x1_S16x16x128x128_0_1_2_3 (broadcastInDim S16x16x128x1 ![0, 1, 2] bcast_S16x16x128_S16x16x128x1_0_1_2
      (Host.powf (broadcastInDim S16x16x128 ![] bcast_S_S16x16x128 (constant S_ .f32 0x40000000#32)) (shapeCast S16x16x128 (extractStridedSlice S16x16x1x128 ![0, 0, 31, 0] C slices_S16x16x32x128_S16x16x1x128_0_0_31_0) shapeCasts_S16x16x1x128_S16x16x128))))
        (shapeCast S16x16x128x128 S shapeCasts_S1x16x16x128x128_S16x16x128x128))
      (Host.dotGeneral dot_S16x16x32x128_S16x16x32x128_S16x16x128x128_2_2_3_3_01_01 none
        (mulf (transpose S16x16x32x128 [0, 2, 1, 3] (shapeCast S16x32x16x128 kk shapeCasts_S512x2048_S16x32x16x128) transposes_S16x32x16x128_S16x16x32x128_0_2_1_3)
          (Host.powf (broadcastInDim S16x16x32x128 ![] bcast_S_S16x16x32x128 (constant S_ .f32 0x40000000#32))
            (subf (broadcastInDim S16x16x32x128 ![0, 1, 2, 3] bcast_S16x16x1x128_S16x16x32x128_0_1_2_3 (extractStridedSlice S16x16x1x128 ![0, 0, 31, 0] C slices_S16x16x32x128_S16x16x1x128_0_0_31_0)) C)))
        (transpose S16x16x32x128 [0, 2, 1, 3] (shapeCast S16x32x16x128 (extf .f32 vv bitsLt_bf16_f32) shapeCasts_S512x2048_S16x32x16x128) transposes_S16x32x16x128_S16x16x32x128_0_2_1_3)) : FVec Ideal S16x16x128x128 .f32) (ix4 b h d v)
      = renewedAt lf kk vv S b h d v := by
  refine (value_at kk vv S C b h d v).trans ?_
  unfold renewedAt
  simp only [hC]

end Cert.HgrnSampleReferenceIdeal.Layer

namespace Cert.Layer

open Idealize.ShloMosaic Idealize.SL.Sem

/-- What the precondition says: every logarithm is below the top. -/
theorem below_top [Cert.Pre_logarithms_below.Facts] (a0 : FVec Ideal ⟨2, ![512, 2048]⟩ .bf16) (a1 a2 : FVec Ideal ⟨2, ![512, 2048]⟩ .f32) (a3 a4 : FVec Ideal ⟨2, ![512, 2048]⟩ .bf16) (a5 : FVec Ideal ⟨2, ![1, 128]⟩ .f32)
    (a6 : FVec Ideal ⟨5, ![1, 16, 16, 128, 128]⟩ .f32) (h : Cert.Pre_logarithms_below.fn (F := Ideal) a0 a1 a2 a3 a4 a5 a6 = fun _ => 1#1) (i : (⟨2, ![512, 2048]⟩ : Shape).Idx) :
    (a1 i : EReal) < ⊤ := by
  have e : Ideal.cmp .olt (a1 i) (Ideal.ofBits .f32 0x7F800000#32) = 1#1 := congrFun h i
  have top : Ideal.ofBits .f32 0x7F800000#32 = ⊤ := by simp [Ideal.ofBits, Ideal.ieee]
  rw [top] at e
  by_contra n
  have z : Ideal.cmp .olt (a1 i) ⊤ = BitVec.ofBool (decide ((a1 i : EReal) < ⊤)) := rfl
  rw [z, decide_eq_false n] at e
  exact absurd e (by decide)

/-- From the same arguments, the logarithms below the top, the two programs end with the same states, their arguments unchanged. -/
theorem hgrn_sample_values : Cert.algebraic_HgrnSampleIdeal_HgrnSampleReferenceIdeal_pre_logarithms_below (hHgrnSampleIdeal := Cert.HgrnSampleIdeal.Gen.facts)
    (hHgrnSampleReferenceIdeal := Cert.HgrnSampleReferenceIdeal.Gen.facts) (hPre_logarithms_below := Cert.Pre_logarithms_below.Gen.facts) := by
  intro m g m' g' pre agree
  refine ⟨Cert.HgrnSampleIdeal.Layer.states m,
    (θ_run _ _ _).mono (fun r h c => ⟨(h c).2.1.trans (Cert.HgrnSampleIdeal.Layer.final m c (fun i => below_top _ _ _ _ _ _ _ (pre c) i)), (h c).2.2⟩) (Cert.HgrnSampleIdeal.Value.run_blocks m g),
    (θ_run _ _ _).mono (fun r h c => ⟨(h c).1.trans (funext fun i => ?_), (h c).2⟩) (Cert.HgrnSampleReferenceIdeal.Value.run m' g')⟩
  obtain ⟨-, a1, a2, a3, -, -, a6⟩ := agree c
  have ei : i = ix4 (i 0) (i 1) (i 2) (i 3) := funext fun a => match a with | ⟨0, _⟩ => rfl | ⟨1, _⟩ => rfl | ⟨2, _⟩ => rfl | ⟨3, _⟩ => rfl
  refine (congrArg _ ei).trans ((Cert.HgrnSampleReferenceIdeal.Layer.out _ _ _ _ _ (Cert.HgrnSampleReferenceIdeal.Layer.sum_at _) (i 0) (i 1) (i 2) (i 3)).trans ?_)
  rw [a1, a2, a3, a6]
  rfl

/-- The reference terminates with its arguments unchanged; it declares no semaphore. -/
theorem hgrn_sample_reference_runs : Cert.quiescent_HgrnSampleReferenceIdeal (hHgrnSampleReferenceIdeal := Cert.HgrnSampleReferenceIdeal.Gen.facts) := fun m ρ _ =>
  (θ_run _ _ _).mono (fun r h => ⟨fun c => (h c).2, sem_eq_zero_of_no_sems (by decide) r.2⟩) (Cert.HgrnSampleReferenceIdeal.Value.run m ρ)

end Cert.Layer

end
-- ==== Proof.lean ====
module

public import proofs.«01_k».proof.Proof.HgrnOut
public import proofs.«01_k».proof.Proof.HeadWeightsOut
public import proofs.«01_k».proof.Proof.MlpSampleOut
public import proofs.«01_k».proof.Proof.MlpOut
public import proofs.«01_k».proof.Proof.MergeOut
public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Value

@[expose] public section

noncomputable section

namespace Cert.Proof

open Idealize.ShloMosaic Idealize.SL.Sem Cert.Kernel

/-- The reference terminates with its arguments unchanged; it declares no semaphore. -/
theorem reference_runs : Cert.quiescent_ReferenceIdeal (hReferenceIdeal := Cert.ReferenceIdeal.Gen.facts) := fun m ρ _ =>
  (θ_run _ _ _).mono (fun r h => ⟨fun c => (h c).2.2.2.2.2.2.2.2.2.2.2.2.2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Mlp.Gen.facts, Cert.MlpIdeal.Gen.facts, Cert.MlpReferenceIdeal.Gen.facts,
  Cert.MlpSample.Gen.facts, Cert.MlpSampleIdeal.Gen.facts, Cert.MlpSampleReferenceIdeal.Gen.facts,
  Cert.Keys.Gen.facts, Cert.KeysIdeal.Gen.facts, Cert.KeysReferenceIdeal.Gen.facts,
  Cert.KeysSample.Gen.facts, Cert.KeysSampleIdeal.Gen.facts, Cert.KeysSampleReferenceIdeal.Gen.facts,
  Cert.Values.Gen.facts, Cert.ValuesIdeal.Gen.facts, Cert.ValuesReferenceIdeal.Gen.facts,
  Cert.ValuesSample.Gen.facts, Cert.ValuesSampleIdeal.Gen.facts, Cert.ValuesSampleReferenceIdeal.Gen.facts,
  Cert.HeadWeights.Gen.facts, Cert.HeadWeightsIdeal.Gen.facts, Cert.HeadWeightsReferenceIdeal.Gen.facts,
  Cert.HgrnSample.Gen.facts, Cert.HgrnSampleIdeal.Gen.facts, Cert.HgrnSampleReferenceIdeal.Gen.facts, Cert.Pre_logarithms_below.Gen.facts,
  fun m ρ _ => Cert.Kernel.Gen.frame m ρ, fun m ρ _ => Cert.KernelIdeal.Gen.frame m ρ, reference_runs,
  fun m ρ _ => Cert.Merge.Gen.frame m ρ, fun m ρ _ => Cert.MergeIdeal.Gen.frame m ρ, Cert.Layer.merge_reference_runs,
  fun m ρ _ => Cert.Mlp.Gen.frame m ρ, fun m ρ _ => Cert.MlpIdeal.Gen.frame m ρ, Cert.Layer.mlp_reference_runs,
  fun m ρ _ => Cert.MlpSample.Gen.frame m ρ, fun m ρ _ => Cert.MlpSampleIdeal.Gen.frame m ρ, Cert.Layer.mlp_sample_reference_runs,
  Cert.Keys.Layer.quiet, Cert.Layer.keys_runs, Cert.Layer.keys_reference_runs,
  Cert.KeysSample.Layer.quiet, Cert.Layer.keys_sample_runs, Cert.Layer.keys_sample_reference_runs,
  Cert.Values.Layer.quiet, Cert.Layer.values_runs, Cert.Layer.values_reference_runs,
  Cert.ValuesSample.Layer.quiet, Cert.Layer.values_sample_runs, Cert.Layer.values_sample_reference_runs,
  fun m ρ _ => Cert.HeadWeights.Gen.frame m ρ, fun m ρ _ => Cert.HeadWeightsIdeal.Gen.frame m ρ, Cert.Layer.head_weights_reference_runs,
  fun m ρ _ => Cert.HgrnSample.Gen.frame m ρ, fun m ρ _ => Cert.HgrnSampleIdeal.Gen.frame m ρ, fun m ρ _ => Cert.HgrnSampleIdeal.Gen.frame m ρ,
  Cert.Layer.hgrn_sample_reference_runs, fun m ρ _ => Cert.Layer.hgrn_sample_reference_runs m ρ trivial,
  trivial, Cert.Layer.values, trivial, Cert.Layer.merge_values, trivial, Cert.Layer.mlp_values, trivial, Cert.Layer.mlp_sample_values,
  trivial, Cert.Layer.keys_values, trivial, Cert.Layer.keys_sample_values, trivial, Cert.Layer.values_values, trivial, Cert.Layer.values_sample_values,
  trivial, Cert.Layer.head_weights_values, trivial, Cert.Layer.hgrn_sample_values⟩

end Cert.Proof

end
